-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4x3840 : Shape := ⟨3, ![6, 4, 3840]⟩
abbrev S8x32x512 : Shape := ⟨3, ![8, 32, 512]⟩
abbrev S24x128 : Shape := ⟨2, ![24, 128]⟩
abbrev S4096x3840 : Shape := ⟨2, ![4096, 3840]⟩
abbrev S3840 : Shape := ⟨1, ![3840]⟩
abbrev S3840x30720 : Shape := ⟨2, ![3840, 30720]⟩
abbrev S30720 : Shape := ⟨1, ![30720]⟩
abbrev S15360x3840 : Shape := ⟨2, ![15360, 3840]⟩
abbrev S1x3840 : Shape := ⟨2, ![1, 3840]⟩
abbrev S1x30720 : Shape := ⟨2, ![1, 30720]⟩
abbrev S6x4x15360 : Shape := ⟨3, ![6, 4, 15360]⟩
abbrev S8x3840x512 : Shape := ⟨3, ![8, 3840, 512]⟩
abbrev S6x512x3840 : Shape := ⟨3, ![6, 512, 3840]⟩
abbrev S24x3840 : Shape := ⟨2, ![24, 3840]⟩
abbrev S32x3840 : Shape := ⟨2, ![32, 3840]⟩
abbrev S60x24x256 : Shape := ⟨3, ![60, 24, 256]⟩
abbrev S_ : Shape := ⟨0, ![]⟩
abbrev S8 : Shape := ⟨1, ![8]⟩
abbrev S6 : Shape := ⟨1, ![6]⟩
abbrev S7 : Shape := ⟨1, ![7]⟩
abbrev S1 : Shape := ⟨1, ![1]⟩
abbrev S1x3840x256 : Shape := ⟨3, ![1, 3840, 256]⟩
abbrev S3840x256 : Shape := ⟨2, ![3840, 256]⟩
abbrev S1x512x3840 : Shape := ⟨3, ![1, 512, 3840]⟩
abbrev S512x3840 : Shape := ⟨2, ![512, 3840]⟩
abbrev S1x32x512 : Shape := ⟨3, ![1, 32, 512]⟩
abbrev S32x512 : Shape := ⟨2, ![32, 512]⟩
abbrev S24x1 : Shape := ⟨2, ![24, 1]⟩
abbrev S24 : Shape := ⟨1, ![24]⟩
abbrev S8x3840 : Shape := ⟨2, ![8, 3840]⟩
abbrev S4x3840 : Shape := ⟨2, ![4, 3840]⟩
abbrev S1x4x3840 : Shape := ⟨3, ![1, 4, 3840]⟩
abbrev S1x3840x512 : Shape := ⟨3, ![1, 3840, 512]⟩
abbrev S3840x512 : Shape := ⟨2, ![3840, 512]⟩
abbrev S24x512 : Shape := ⟨2, ![24, 512]⟩
abbrev S24x256 : Shape := ⟨2, ![24, 256]⟩
abbrev S1x256 : Shape := ⟨2, ![1, 256]⟩
abbrev S1x24x256 : Shape := ⟨3, ![1, 24, 256]⟩
abbrev S8x512 : Shape := ⟨2, ![8, 512]⟩
abbrev S4x512 : Shape := ⟨2, ![4, 512]⟩
abbrev S1x4x512 : Shape := ⟨3, ![1, 4, 512]⟩

abbrev nBuf : Space → Nat
  | .hbm => 25
  | .vmem => 23
  | .smem => 0
  | _ => 0

abbrev bufTy : (tb : Table) → Fin (tcTables nBuf tb) → BufTy
  | .hbm, ⟨0, _⟩ => ⟨S6x4x3840, .bf16⟩
  | .hbm, ⟨1, _⟩ => ⟨S8x32x512, .fp8e4m3⟩
  | .hbm, ⟨2, _⟩ => ⟨S24x128, .f32⟩
  | .hbm, ⟨3, _⟩ => ⟨S4096x3840, .fp8e4m3⟩
  | .hbm, ⟨4, _⟩ => ⟨S3840, .f32⟩
  | .hbm, ⟨5, _⟩ => ⟨S3840, .f32⟩
  | .hbm, ⟨6, _⟩ => ⟨S3840, .f32⟩
  | .hbm, ⟨7, _⟩ => ⟨S3840x30720, .fp8e4m3⟩
  | .hbm, ⟨8, _⟩ => ⟨S30720, .f32⟩
  | .hbm, ⟨9, _⟩ => ⟨S15360x3840, .fp8e4m3⟩
  | .hbm, ⟨10, _⟩ => ⟨S3840, .f32⟩
  | .hbm, ⟨11, _⟩ => ⟨S3840, .f32⟩
  | .hbm, ⟨12, _⟩ => ⟨S1x3840, .f32⟩
  | .hbm, ⟨13, _⟩ => ⟨S1x3840, .f32⟩
  | .hbm, ⟨14, _⟩ => ⟨S1x3840, .f32⟩
  | .hbm, ⟨15, _⟩ => ⟨S1x30720, .f32⟩
  | .hbm, ⟨16, _⟩ => ⟨S1x3840, .f32⟩
  | .hbm, ⟨17, _⟩ => ⟨S1x3840, .f32⟩
  | .hbm, ⟨18, _⟩ => ⟨S6x4x3840, .bf16⟩
  | .hbm, ⟨19, _⟩ => ⟨S6x4x3840, .f32⟩
  | .hbm, ⟨20, _⟩ => ⟨S6x4x3840, .f32⟩
  | .hbm, ⟨21, _⟩ => ⟨S6x4x3840, .fp8e4m3⟩
  | .hbm, ⟨22, _⟩ => ⟨S24x128, .f32⟩
  | .hbm, ⟨23, _⟩ => ⟨S6x4x15360, .fp8e4m3⟩
  | .hbm, ⟨24, _⟩ => ⟨S24x128, .f32⟩
  | .local _ .vmem, ⟨0, _⟩ => ⟨S6x4x3840, .bf16⟩
  | .local _ .vmem, ⟨1, _⟩ => ⟨S8x32x512, .fp8e4m3⟩
  | .local _ .vmem, ⟨2, _⟩ => ⟨S24x128, .f32⟩
  | .local _ .vmem, ⟨3, _⟩ => ⟨S1x3840, .f32⟩
  | .local _ .vmem, ⟨4, _⟩ => ⟨S1x3840, .f32⟩
  | .local _ .vmem, ⟨5, _⟩ => ⟨S1x3840, .f32⟩
  | .local _ .vmem, ⟨6, _⟩ => ⟨S1x30720, .f32⟩
  | .local _ .vmem, ⟨7, _⟩ => ⟨S1x3840, .f32⟩
  | .local _ .vmem, ⟨8, _⟩ => ⟨S1x3840, .f32⟩
  | .local _ .vmem, ⟨9, _⟩ => ⟨S8x3840x512, .fp8e4m3⟩
  | .local _ .vmem, ⟨10, _⟩ => ⟨S6x512x3840, .fp8e4m3⟩
  | .local _ .vmem, ⟨11, _⟩ => ⟨S24x3840, .f32⟩
  | .local _ .vmem, ⟨12, _⟩ => ⟨S32x3840, .f32⟩
  | .local _ .vmem, ⟨13, _⟩ => ⟨S32x3840, .fp8e4m3⟩
  | .local _ .vmem, ⟨14, _⟩ => ⟨S60x24x256, .f32⟩
  | .local _ .vmem, ⟨15, _⟩ => ⟨S24x128, .f32⟩
  | .local _ .vmem, ⟨16, _⟩ => ⟨S6x4x3840, .bf16⟩
  | .local _ .vmem, ⟨17, _⟩ => ⟨S6x4x3840, .f32⟩
  | .local _ .vmem, ⟨18, _⟩ => ⟨S6x4x3840, .f32⟩
  | .local _ .vmem, ⟨19, _⟩ => ⟨S6x4x3840, .fp8e4m3⟩
  | .local _ .vmem, ⟨20, _⟩ => ⟨S24x128, .f32⟩
  | .local _ .vmem, ⟨21, _⟩ => ⟨S6x4x15360, .fp8e4m3⟩
  | .local _ .vmem, ⟨22, _⟩ => ⟨S24x128, .f32⟩
  | _, _ => ⟨S6x4x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c15360_i32 : BitVec 32 := 15360#32
  c15360_i32
def k0_off1 (c0_i32 : BitVec 32) : Fin 1 → Nat :=
  let c8_i32 : BitVec 32 := 8#32
  let v0 : BitVec 32 := Scalar.remsi c0_i32 c8_i32
  ![v0.toNat]
def k0_off2 (c0_i32 : BitVec 32) : Fin 3 → Nat :=
  let c8_i32 : BitVec 32 := 8#32
  let v0 : BitVec 32 := Scalar.remsi c0_i32 c8_i32
  let c0_i32_1 : BitVec 32 := 0#32
  let c0_i32_2 : BitVec 32 := 0#32
  ![v0.toNat, 0, 0]
def k0_off3 (c0_i32 : BitVec 32) : Fin 3 → Nat :=
  let c8_i32 : BitVec 32 := 8#32
  let v0 : BitVec 32 := Scalar.remsi c0_i32 c8_i32
  let c0_i32_4 : BitVec 32 := 0#32
  let c256_i32 : BitVec 32 := 256#32
  ![v0.toNat, 0, 256]
def k0_mult3 : BitVec 32 :=
  let c256_i32_7 : BitVec 32 := 256#32
  c256_i32_7
def k0_mult4 : BitVec 32 :=
  let c15616_i32 : BitVec 32 := 15616#32
  c15616_i32
def k0_mult5 : BitVec 32 :=
  let c512_i32 : BitVec 32 := 512#32
  c512_i32
def k0_mult6 : BitVec 32 :=
  let c15872_i32 : BitVec 32 := 15872#32
  c15872_i32
def k0_mult7 : BitVec 32 :=
  let c768_i32 : BitVec 32 := 768#32
  c768_i32
def k0_mult8 : BitVec 32 :=
  let c16128_i32 : BitVec 32 := 16128#32
  c16128_i32
def k0_mult9 : BitVec 32 :=
  let c1024_i32 : BitVec 32 := 1024#32
  c1024_i32
def k0_mult10 : BitVec 32 :=
  let c16384_i32 : BitVec 32 := 16384#32
  c16384_i32
def k0_mult11 : BitVec 32 :=
  let c1280_i32 : BitVec 32 := 1280#32
  c1280_i32
def k0_mult12 : BitVec 32 :=
  let c16640_i32 : BitVec 32 := 16640#32
  c16640_i32
def k0_mult13 : BitVec 32 :=
  let c1536_i32 : BitVec 32 := 1536#32
  c1536_i32
def k0_mult14 : BitVec 32 :=
  let c16896_i32 : BitVec 32 := 16896#32
  c16896_i32
def k0_mult15 : BitVec 32 :=
  let c1792_i32 : BitVec 32 := 1792#32
  c1792_i32
def k0_mult16 : BitVec 32 :=
  let c17152_i32 : BitVec 32 := 17152#32
  c17152_i32
def k0_mult17 : BitVec 32 :=
  let c0_i32_60 : BitVec 32 := 0#32
  c0_i32_60
def k0_mult18 : BitVec 32 :=
  let c512_i32_66 : BitVec 32 := 512#32
  c512_i32_66
def k0_mult19 : BitVec 32 :=
  let c1024_i32_72 : BitVec 32 := 1024#32
  c1024_i32_72
def k0_mult20 : BitVec 32 :=
  let c1536_i32_78 : BitVec 32 := 1536#32
  c1536_i32_78
def k0_mult21 : BitVec 32 :=
  let c2048_i32 : BitVec 32 := 2048#32
  c2048_i32
def k0_mult22 : BitVec 32 :=
  let c2560_i32 : BitVec 32 := 2560#32
  c2560_i32
@[reducible] def k0_t1_loop : Scf.Loop 32 :=
  let c0_i32_96 : BitVec 32 := 0#32
  let c8_i32_97 : BitVec 32 := 8#32
  let v150 : BitVec 32 := Scalar.addi c0_i32_96 c8_i32_97
  let c1_i32_98 : BitVec 32 := 1#32
  ⟨c0_i32_96, v150, c1_i32_98⟩
def k0_mult23 (k0_t1 : Fin k0_t1_loop.trips) : BitVec 32 :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c512_i32_208 : BitVec 32 := 512#32
  let v340 : BitVec 32 := Scalar.muli v338 c512_i32_208
  v340
def k0_off4 (k0_t1 : Fin k0_t1_loop.trips) : Fin 1 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_207 : BitVec 32 := 6#32
  let v339 : BitVec 32 := Scalar.remsi v338 c6_i32_207
  ![v339.toNat]
def k0_off5 (k0_t1 : Fin k0_t1_loop.trips) : Fin 3 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_207 : BitVec 32 := 6#32
  let v339 : BitVec 32 := Scalar.remsi v338 c6_i32_207
  let c0_i32_209 : BitVec 32 := 0#32
  let c0_i32_210 : BitVec 32 := 0#32
  ![v339.toNat, 0, 0]
def k0_off6 (k0_t1 : Fin k0_t1_loop.trips) : Fin 2 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c512_i32_208 : BitVec 32 := 512#32
  let v340 : BitVec 32 := Scalar.muli v338 c512_i32_208
  let v341 : BitVec 32 := v340
  let c0_i32_211 : BitVec 32 := 0#32
  ![v341.toNat, 0]
def k0_off7 (k0_t1 : Fin k0_t1_loop.trips) : Fin 3 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let v348 : Index := Scalar.indexCast v338
  let c0_214 : Index := 0#32
  let c0_215 : Index := 0#32
  ![v348.toNat, 0, 0]
def k0_off8 (k0_t1 : Fin k0_t1_loop.trips) : Fin 3 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_207 : BitVec 32 := 6#32
  let v339 : BitVec 32 := Scalar.remsi v338 c6_i32_207
  let v351 : Index := Scalar.indexCast v339
  let c0_216 : Index := 0#32
  let c0_217 : Index := 0#32
  ![v351.toNat, 0, 0]
def k0_cond1 (k0_t1 : Fin k0_t1_loop.trips) : BitVec 1 :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_221 : BitVec 32 := 6#32
  let v359 : BitVec 32 := Scalar.addi v338 c6_i32_221
  let c8_i32_222 : BitVec 32 := 8#32
  let v360 : BitVec 1 := Scalar.cmpi .slt v359 c8_i32_222
  let v361 : BitVec 32 := Scalar.extui v360
  let c0_i32_223 : BitVec 32 := 0#32
  let v362 : BitVec 1 := Scalar.cmpi .ne v361 c0_i32_223
  v362

def k0_mult24 (k0_t1 : Fin k0_t1_loop.trips) : BitVec 32 :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_227 : BitVec 32 := 6#32
  let v367 : BitVec 32 := Scalar.addi v338 c6_i32_227
  let c512_i32_228 : BitVec 32 := 512#32
  let v368 : BitVec 32 := Scalar.muli v367 c512_i32_228
  v368
def k0_off9 (k0_t1 : Fin k0_t1_loop.trips) : Fin 1 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_207 : BitVec 32 := 6#32
  let v339 : BitVec 32 := Scalar.remsi v338 c6_i32_207
  ![v339.toNat]
def k0_off10 (k0_t1 : Fin k0_t1_loop.trips) : Fin 3 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_207 : BitVec 32 := 6#32
  let v339 : BitVec 32 := Scalar.remsi v338 c6_i32_207
  let c0_i32_229 : BitVec 32 := 0#32
  let c0_i32_230 : BitVec 32 := 0#32
  ![v339.toNat, 0, 0]
def k0_off11 (k0_t1 : Fin k0_t1_loop.trips) : Fin 2 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_227 : BitVec 32 := 6#32
  let v367 : BitVec 32 := Scalar.addi v338 c6_i32_227
  let c512_i32_228 : BitVec 32 := 512#32
  let v368 : BitVec 32 := Scalar.muli v367 c512_i32_228
  let v369 : BitVec 32 := v368
  let c0_i32_231 : BitVec 32 := 0#32
  ![v369.toNat, 0]
def k0_cond2 (k0_t1 : Fin k0_t1_loop.trips) : BitVec 1 :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_224 : BitVec 32 := 6#32
  let v363 : BitVec 32 := Scalar.addi v338 c6_i32_224
  let c8_i32_225 : BitVec 32 := 8#32
  let v364 : BitVec 1 := Scalar.cmpi .sge v363 c8_i32_225
  let v365 : BitVec 32 := Scalar.extui v364
  let c0_i32_226 : BitVec 32 := 0#32
  let v366 : BitVec 1 := Scalar.cmpi .ne v365 c0_i32_226
  v366

def k0_mult25 (k0_t1 : Fin k0_t1_loop.trips) : BitVec 32 :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_227 : BitVec 32 := 6#32
  let v367 : BitVec 32 := Scalar.addi v338 c6_i32_227
  let c8_i32_228 : BitVec 32 := 8#32
  let v368 : BitVec 32 := Scalar.subi v367 c8_i32_228
  let c512_i32_229 : BitVec 32 := 512#32
  let v369 : BitVec 32 := Scalar.muli v368 c512_i32_229
  v369
def k0_off12 (k0_t1 : Fin k0_t1_loop.trips) : Fin 1 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_207 : BitVec 32 := 6#32
  let v339 : BitVec 32 := Scalar.remsi v338 c6_i32_207
  ![v339.toNat]
def k0_off13 (k0_t1 : Fin k0_t1_loop.trips) : Fin 3 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_207 : BitVec 32 := 6#32
  let v339 : BitVec 32 := Scalar.remsi v338 c6_i32_207
  let c0_i32_230 : BitVec 32 := 0#32
  let c0_i32_231 : BitVec 32 := 0#32
  ![v339.toNat, 0, 0]
def k0_off14 (k0_t1 : Fin k0_t1_loop.trips) : Fin 2 → Nat :=
  let c0_i32_206 : BitVec 32 := 0#32
  let c0_i32_96 : BitVec 32 := 0#32
  let c1_i32_98 : BitVec 32 := 1#32
  let arg43 : BitVec 32 := Scf.iv c0_i32_96 c1_i32_98 k0_t1
  let c1_i32_205 : BitVec 32 := 1#32
  let v337 : BitVec 32 := Scalar.muli arg43 c1_i32_205
  let v338 : BitVec 32 := Scalar.addi c0_i32_206 v337
  let c6_i32_227 : BitVec 32 := 6#32
  let v367 : BitVec 32 := Scalar.addi v338 c6_i32_227
  let c8_i32_228 : BitVec 32 := 8#32
  let v368 : BitVec 32 := Scalar.subi v367 c8_i32_228
  let c512_i32_229 : BitVec 32 := 512#32
  let v369 : BitVec 32 := Scalar.muli v368 c512_i32_229
  let v370 : BitVec 32 := v369
  let c0_i32_232 : BitVec 32 := 0#32
  ![v370.toNat, 0]
@[reducible] def k0_t2_loop : Scf.Loop 32 :=
  let c0_i32_152 : BitVec 32 := 0#32
  let c60_i32 : BitVec 32 := 60#32
  let v251 : BitVec 32 := Scalar.addi c0_i32_152 c60_i32
  let c1_i32_153 : BitVec 32 := 1#32
  ⟨c0_i32_152, v251, c1_i32_153⟩
def k0_mult26 (k0_t2 : Fin k0_t2_loop.trips) : BitVec 32 :=
  let c0_i32_210 : BitVec 32 := 0#32
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c256_i32_209 : BitVec 32 := 256#32
  let v341 : BitVec 32 := Scalar.muli v338 c256_i32_209
  let v342 : BitVec 32 := Scalar.addi c0_i32_210 v341
  v342
def k0_mult27 (k0_t2 : Fin k0_t2_loop.trips) : BitVec 32 :=
  let c15360_i32_212 : BitVec 32 := 15360#32
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c256_i32_211 : BitVec 32 := 256#32
  let v344 : BitVec 32 := Scalar.muli v338 c256_i32_211
  let v345 : BitVec 32 := Scalar.addi c15360_i32_212 v344
  v345
def k0_off15 (k0_t2 : Fin k0_t2_loop.trips) : Fin 1 → Nat :=
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_208 : BitVec 32 := 8#32
  let v340 : BitVec 32 := Scalar.remsi v338 c8_i32_208
  ![v340.toNat]
def k0_off16 (k0_t2 : Fin k0_t2_loop.trips) : Fin 3 → Nat :=
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_208 : BitVec 32 := 8#32
  let v340 : BitVec 32 := Scalar.remsi v338 c8_i32_208
  let c0_i32_213 : BitVec 32 := 0#32
  let c0_i32_214 : BitVec 32 := 0#32
  ![v340.toNat, 0, 0]
def k0_off17 (k0_t2 : Fin k0_t2_loop.trips) (c0_i32_210 : BitVec 32) : Fin 2 → Nat :=
  let c0_i32_215 : BitVec 32 := 0#32
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c256_i32_209 : BitVec 32 := 256#32
  let v341 : BitVec 32 := Scalar.muli v338 c256_i32_209
  let v342 : BitVec 32 := Scalar.addi c0_i32_210 v341
  let v343 : BitVec 32 := v342
  ![0, v343.toNat]
def k0_off18 (k0_t2 : Fin k0_t2_loop.trips) : Fin 3 → Nat :=
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_208 : BitVec 32 := 8#32
  let v340 : BitVec 32 := Scalar.remsi v338 c8_i32_208
  let c0_i32_216 : BitVec 32 := 0#32
  let c256_i32_217 : BitVec 32 := 256#32
  ![v340.toNat, 0, 256]
def k0_off19 (k0_t2 : Fin k0_t2_loop.trips) : Fin 3 → Nat :=
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_207 : BitVec 32 := 8#32
  let v339 : BitVec 32 := Scalar.remsi v338 c8_i32_207
  let v358 : Index := Scalar.indexCast v339
  let c0_221 : Index := 0#32
  let c0_222 : Index := 0#32
  ![v358.toNat, 0, 0]
def k0_mult28 (k0_t2 : Fin k0_t2_loop.trips) : BitVec 32 :=
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c256_i32_226 : BitVec 32 := 256#32
  let v366 : BitVec 32 := Scalar.muli v338 c256_i32_226
  v366
def k0_off20 (k0_t2 : Fin k0_t2_loop.trips) : Fin 2 → Nat :=
  let c0_227 : Index := 0#32
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c256_i32_226 : BitVec 32 := 256#32
  let v366 : BitVec 32 := Scalar.muli v338 c256_i32_226
  let v367 : BitVec 32 := v366
  let v369 : Index := Scalar.indexCast v367
  ![0, v369.toNat]
def k0_off21 (k0_t2 : Fin k0_t2_loop.trips) : Fin 2 → Nat :=
  let c0_229 : Index := 0#32
  let c15360_i32_228 : BitVec 32 := 15360#32
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c256_i32_226 : BitVec 32 := 256#32
  let v366 : BitVec 32 := Scalar.muli v338 c256_i32_226
  let v367 : BitVec 32 := v366
  let v374 : BitVec 32 := Scalar.addi c15360_i32_228 v367
  let v375 : Index := Scalar.indexCast v374
  ![0, v375.toNat]
def k0_off22 (k0_t2 : Fin k0_t2_loop.trips) : Fin 3 → Nat :=
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let v393 : Index := Scalar.indexCast v338
  let c0_234 : Index := 0#32
  let c0_235 : Index := 0#32
  ![v393.toNat, 0, 0]
def k0_cond3 (k0_t2 : Fin k0_t2_loop.trips) : BitVec 1 :=
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_240 : BitVec 32 := 8#32
  let v407 : BitVec 32 := Scalar.addi v338 c8_i32_240
  let c60_i32_241 : BitVec 32 := 60#32
  let v408 : BitVec 1 := Scalar.cmpi .slt v407 c60_i32_241
  let v409 : BitVec 32 := Scalar.extui v408
  let c0_i32_242 : BitVec 32 := 0#32
  let v410 : BitVec 1 := Scalar.cmpi .ne v409 c0_i32_242
  v410

def k0_mult29 (k0_t2 : Fin k0_t2_loop.trips) : BitVec 32 :=
  let c0_i32_246 : BitVec 32 := 0#32
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_243 : BitVec 32 := 8#32
  let v411 : BitVec 32 := Scalar.addi v338 c8_i32_243
  let c256_i32_245 : BitVec 32 := 256#32
  let v413 : BitVec 32 := Scalar.muli v411 c256_i32_245
  let v414 : BitVec 32 := Scalar.addi c0_i32_246 v413
  v414
def k0_mult30 (k0_t2 : Fin k0_t2_loop.trips) : BitVec 32 :=
  let c15360_i32_248 : BitVec 32 := 15360#32
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_243 : BitVec 32 := 8#32
  let v411 : BitVec 32 := Scalar.addi v338 c8_i32_243
  let c256_i32_247 : BitVec 32 := 256#32
  let v416 : BitVec 32 := Scalar.muli v411 c256_i32_247
  let v417 : BitVec 32 := Scalar.addi c15360_i32_248 v416
  v417
def k0_off23 (k0_t2 : Fin k0_t2_loop.trips) : Fin 1 → Nat :=
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_243 : BitVec 32 := 8#32
  let v411 : BitVec 32 := Scalar.addi v338 c8_i32_243
  let c8_i32_244 : BitVec 32 := 8#32
  let v412 : BitVec 32 := Scalar.remsi v411 c8_i32_244
  ![v412.toNat]
def k0_off24 (k0_t2 : Fin k0_t2_loop.trips) : Fin 3 → Nat :=
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_243 : BitVec 32 := 8#32
  let v411 : BitVec 32 := Scalar.addi v338 c8_i32_243
  let c8_i32_244 : BitVec 32 := 8#32
  let v412 : BitVec 32 := Scalar.remsi v411 c8_i32_244
  let c0_i32_249 : BitVec 32 := 0#32
  let c0_i32_250 : BitVec 32 := 0#32
  ![v412.toNat, 0, 0]
def k0_off25 (k0_t2 : Fin k0_t2_loop.trips) (c0_i32_246 : BitVec 32) : Fin 2 → Nat :=
  let c0_i32_251 : BitVec 32 := 0#32
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_243 : BitVec 32 := 8#32
  let v411 : BitVec 32 := Scalar.addi v338 c8_i32_243
  let c256_i32_245 : BitVec 32 := 256#32
  let v413 : BitVec 32 := Scalar.muli v411 c256_i32_245
  let v414 : BitVec 32 := Scalar.addi c0_i32_246 v413
  let v415 : BitVec 32 := v414
  ![0, v415.toNat]
def k0_off26 (k0_t2 : Fin k0_t2_loop.trips) : Fin 3 → Nat :=
  let c0_i32_206 : BitVec 32 := 0#32
  let c0_i32_152 : BitVec 32 := 0#32
  let c1_i32_153 : BitVec 32 := 1#32
  let arg43 : BitVec 32 := Scf.iv c0_i32_152 c1_i32_153 k0_t2
  let c1_i32_205 : BitVec 32 := 1#32
  let v337 : BitVec 32 := Scalar.muli arg43 c1_i32_205
  let v338 : BitVec 32 := Scalar.addi c0_i32_206 v337
  let c8_i32_243 : BitVec 32 := 8#32
  let v411 : BitVec 32 := Scalar.addi v338 c8_i32_243
  let c8_i32_244 : BitVec 32 := 8#32
  let v412 : BitVec 32 := Scalar.remsi v411 c8_i32_244
  let c0_i32_252 : BitVec 32 := 0#32
  let c256_i32_253 : BitVec 32 := 256#32
  ![v412.toNat, 0, 256]
@[reducible] def k0_t3_loop : Scf.Loop 32 :=
  let c0_i32_168 : BitVec 32 := 0#32
  let c30_i32 : BitVec 32 := 30#32
  let v275 : BitVec 32 := Scalar.addi c0_i32_168 c30_i32
  let c1_i32_169 : BitVec 32 := 1#32
  ⟨c0_i32_168, v275, c1_i32_169⟩
def k0_off27 (k0_t3 : Fin k0_t3_loop.trips) : Fin 3 → Nat :=
  let c2_i32_209 : BitVec 32 := 2#32
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let v341 : BitVec 32 := Scalar.muli c2_i32_209 v338
  let v342 : Index := Scalar.indexCast v341
  let c0_210 : Index := 0#32
  let c0_211 : Index := 0#32
  ![v342.toNat, 0, 0]
def k0_off28 (k0_t3 : Fin k0_t3_loop.trips) : Fin 3 → Nat :=
  let c2_i32_212 : BitVec 32 := 2#32
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let v345 : BitVec 32 := Scalar.muli c2_i32_212 v338
  let c1_i32_213 : BitVec 32 := 1#32
  let v346 : BitVec 32 := Scalar.addi v345 c1_i32_213
  let v347 : Index := Scalar.indexCast v346
  let c0_214 : Index := 0#32
  let c0_215 : Index := 0#32
  ![v347.toNat, 0, 0]
def k0_mult31 (k0_t3 : Fin k0_t3_loop.trips) : BitVec 32 :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_224 : BitVec 32 := 512#32
  let v368 : BitVec 32 := Scalar.muli v338 c512_i32_224
  v368
def k0_off29 (k0_t3 : Fin k0_t3_loop.trips) : Fin 3 → Nat :=
  let c0_225 : Index := 0#32
  let c0_226 : Index := 0#32
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_224 : BitVec 32 := 512#32
  let v368 : BitVec 32 := Scalar.muli v338 c512_i32_224
  let v369 : BitVec 32 := v368
  let v370 : Index := Scalar.indexCast v369
  ![0, 0, v370.toNat]
def k0_mult32 (k0_t3 : Fin k0_t3_loop.trips) : BitVec 32 :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_227 : BitVec 32 := 512#32
  let v375 : BitVec 32 := Scalar.muli v338 c512_i32_227
  v375
def k0_off30 (k0_t3 : Fin k0_t3_loop.trips) : Fin 3 → Nat :=
  let c1_228 : Index := 1#32
  let c0_229 : Index := 0#32
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_227 : BitVec 32 := 512#32
  let v375 : BitVec 32 := Scalar.muli v338 c512_i32_227
  let v376 : BitVec 32 := v375
  let v377 : Index := Scalar.indexCast v376
  ![1, 0, v377.toNat]
def k0_mult33 (k0_t3 : Fin k0_t3_loop.trips) : BitVec 32 :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_230 : BitVec 32 := 512#32
  let v382 : BitVec 32 := Scalar.muli v338 c512_i32_230
  v382
def k0_off31 (k0_t3 : Fin k0_t3_loop.trips) : Fin 3 → Nat :=
  let c2_231 : Index := 2#32
  let c0_232 : Index := 0#32
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_230 : BitVec 32 := 512#32
  let v382 : BitVec 32 := Scalar.muli v338 c512_i32_230
  let v383 : BitVec 32 := v382
  let v384 : Index := Scalar.indexCast v383
  ![2, 0, v384.toNat]
def k0_mult34 (k0_t3 : Fin k0_t3_loop.trips) : BitVec 32 :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_233 : BitVec 32 := 512#32
  let v389 : BitVec 32 := Scalar.muli v338 c512_i32_233
  v389
def k0_off32 (k0_t3 : Fin k0_t3_loop.trips) : Fin 3 → Nat :=
  let c3_234 : Index := 3#32
  let c0_235 : Index := 0#32
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_233 : BitVec 32 := 512#32
  let v389 : BitVec 32 := Scalar.muli v338 c512_i32_233
  let v390 : BitVec 32 := v389
  let v391 : Index := Scalar.indexCast v390
  ![3, 0, v391.toNat]
def k0_mult35 (k0_t3 : Fin k0_t3_loop.trips) : BitVec 32 :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_236 : BitVec 32 := 512#32
  let v396 : BitVec 32 := Scalar.muli v338 c512_i32_236
  v396
def k0_off33 (k0_t3 : Fin k0_t3_loop.trips) : Fin 3 → Nat :=
  let c4_237 : Index := 4#32
  let c0_238 : Index := 0#32
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_236 : BitVec 32 := 512#32
  let v396 : BitVec 32 := Scalar.muli v338 c512_i32_236
  let v397 : BitVec 32 := v396
  let v398 : Index := Scalar.indexCast v397
  ![4, 0, v398.toNat]
def k0_mult36 (k0_t3 : Fin k0_t3_loop.trips) : BitVec 32 :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_239 : BitVec 32 := 512#32
  let v403 : BitVec 32 := Scalar.muli v338 c512_i32_239
  v403
def k0_off34 (k0_t3 : Fin k0_t3_loop.trips) : Fin 3 → Nat :=
  let c5_240 : Index := 5#32
  let c0_241 : Index := 0#32
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_239 : BitVec 32 := 512#32
  let v403 : BitVec 32 := Scalar.muli v338 c512_i32_239
  let v404 : BitVec 32 := v403
  let v405 : Index := Scalar.indexCast v404
  ![5, 0, v405.toNat]
def k0_mult37 (k0_t3 : Fin k0_t3_loop.trips) : BitVec 32 :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_242 : BitVec 32 := 512#32
  let v409 : BitVec 32 := Scalar.muli v338 c512_i32_242
  v409
def k0_off35 (k0_t3 : Fin k0_t3_loop.trips) : Fin 1 → Nat :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c8_i32_207 : BitVec 32 := 8#32
  let v339 : BitVec 32 := Scalar.addi v338 c8_i32_207
  let c6_i32_208 : BitVec 32 := 6#32
  let v340 : BitVec 32 := Scalar.remsi v339 c6_i32_208
  ![v340.toNat]
def k0_off36 (k0_t3 : Fin k0_t3_loop.trips) : Fin 3 → Nat :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c8_i32_207 : BitVec 32 := 8#32
  let v339 : BitVec 32 := Scalar.addi v338 c8_i32_207
  let c6_i32_208 : BitVec 32 := 6#32
  let v340 : BitVec 32 := Scalar.remsi v339 c6_i32_208
  let c0_i32_243 : BitVec 32 := 0#32
  let c0_i32_244 : BitVec 32 := 0#32
  ![v340.toNat, 0, 0]
def k0_off37 (k0_t3 : Fin k0_t3_loop.trips) : Fin 2 → Nat :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c512_i32_242 : BitVec 32 := 512#32
  let v409 : BitVec 32 := Scalar.muli v338 c512_i32_242
  let v410 : BitVec 32 := v409
  let c0_i32_245 : BitVec 32 := 0#32
  ![v410.toNat, 0]
def k0_off38 (k0_t3 : Fin k0_t3_loop.trips) : Fin 3 → Nat :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c8_i32_207 : BitVec 32 := 8#32
  let v339 : BitVec 32 := Scalar.addi v338 c8_i32_207
  let c6_i32_208 : BitVec 32 := 6#32
  let v340 : BitVec 32 := Scalar.remsi v339 c6_i32_208
  let v417 : Index := Scalar.indexCast v340
  let c0_248 : Index := 0#32
  let c0_249 : Index := 0#32
  ![v417.toNat, 0, 0]
def k0_cond4 (k0_t3 : Fin k0_t3_loop.trips) : BitVec 1 :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c6_i32_253 : BitVec 32 := 6#32
  let v425 : BitVec 32 := Scalar.addi v338 c6_i32_253
  let c30_i32_254 : BitVec 32 := 30#32
  let v426 : BitVec 1 := Scalar.cmpi .slt v425 c30_i32_254
  let v427 : BitVec 32 := Scalar.extui v426
  let c0_i32_255 : BitVec 32 := 0#32
  let v428 : BitVec 1 := Scalar.cmpi .ne v427 c0_i32_255
  v428

def k0_mult38 (k0_t3 : Fin k0_t3_loop.trips) : BitVec 32 :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c6_i32_256 : BitVec 32 := 6#32
  let v429 : BitVec 32 := Scalar.addi v338 c6_i32_256
  let c512_i32_257 : BitVec 32 := 512#32
  let v430 : BitVec 32 := Scalar.muli v429 c512_i32_257
  v430
def k0_off39 (k0_t3 : Fin k0_t3_loop.trips) : Fin 1 → Nat :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c8_i32_207 : BitVec 32 := 8#32
  let v339 : BitVec 32 := Scalar.addi v338 c8_i32_207
  let c6_i32_208 : BitVec 32 := 6#32
  let v340 : BitVec 32 := Scalar.remsi v339 c6_i32_208
  ![v340.toNat]
def k0_off40 (k0_t3 : Fin k0_t3_loop.trips) : Fin 3 → Nat :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c8_i32_207 : BitVec 32 := 8#32
  let v339 : BitVec 32 := Scalar.addi v338 c8_i32_207
  let c6_i32_208 : BitVec 32 := 6#32
  let v340 : BitVec 32 := Scalar.remsi v339 c6_i32_208
  let c0_i32_258 : BitVec 32 := 0#32
  let c0_i32_259 : BitVec 32 := 0#32
  ![v340.toNat, 0, 0]
def k0_off41 (k0_t3 : Fin k0_t3_loop.trips) : Fin 2 → Nat :=
  let c0_i32_206 : BitVec 32 := 0#32
  let c0_i32_168 : BitVec 32 := 0#32
  let c1_i32_169 : BitVec 32 := 1#32
  let arg43 : BitVec 32 := Scf.iv c0_i32_168 c1_i32_169 k0_t3
  let c1_i32_205 : BitVec 32 := 1#32
  let v337 : BitVec 32 := Scalar.muli arg43 c1_i32_205
  let v338 : BitVec 32 := Scalar.addi c0_i32_206 v337
  let c6_i32_256 : BitVec 32 := 6#32
  let v429 : BitVec 32 := Scalar.addi v338 c6_i32_256
  let c512_i32_257 : BitVec 32 := 512#32
  let v430 : BitVec 32 := Scalar.muli v429 c512_i32_257
  let v431 : BitVec 32 := v430
  let c0_i32_260 : BitVec 32 := 0#32
  ![v431.toNat, 0]
abbrev stage0_0 : Fin 1 → Memref sig .tc .vmem S6x4x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S6x4x3840 : Shape := ⟨3, ![6, 4, 3840]⟩
abbrev S8x32x512 : Shape := ⟨3, ![8, 32, 512]⟩
abbrev S24x128 : Shape := ⟨2, ![24, 128]⟩
abbrev S4096x3840 : Shape := ⟨2, ![4096, 3840]⟩
abbrev S3840 : Shape := ⟨1, ![3840]⟩
abbrev S3840x30720 : Shape := ⟨2, ![3840, 30720]⟩
abbrev S30720 : Shape := ⟨1, ![30720]⟩
abbrev S15360x3840 : Shape := ⟨2, ![15360, 3840]⟩
abbrev S6x4x15360 : Shape := ⟨3, ![6, 4, 15360]⟩
abbrev S8x24x512 : Shape := ⟨3, ![8, 24, 512]⟩
abbrev S24x8x512 : Shape := ⟨3, ![24, 8, 512]⟩
abbrev S24x4096 : Shape := ⟨2, ![24, 4096]⟩
abbrev S24x1 : Shape := ⟨2, ![24, 1]⟩
abbrev S24 : Shape := ⟨1, ![24]⟩
abbrev S24x3840 : Shape := ⟨2, ![24, 3840]⟩
abbrev S1x3840 : Shape := ⟨2, ![1, 3840]⟩
abbrev S24x30720 : Shape := ⟨2, ![24, 30720]⟩
abbrev S1x30720 : Shape := ⟨2, ![1, 30720]⟩
abbrev S24x15360 : Shape := ⟨2, ![24, 15360]⟩

abbrev nBuf : Space → Nat
  | .hbm => 19
  | .vmem => 19
  | .smem => 0
  | _ => 0

abbrev bufTy : (tb : Table) → Fin (tcTables nBuf tb) → BufTy
  | .hbm, ⟨0, _⟩ => ⟨S6x4x3840, .bf16⟩
  | .hbm, ⟨1, _⟩ => ⟨S8x32x512, .fp8e4m3⟩
  | .hbm, ⟨2, _⟩ => ⟨S24x128, .f32⟩
  | .hbm, ⟨3, _⟩ => ⟨S4096x3840, .fp8e4m3⟩
  | .hbm, ⟨4, _⟩ => ⟨S3840, .f32⟩
  | .hbm, ⟨5, _⟩ => ⟨S3840, .f32⟩
  | .hbm, ⟨6, _⟩ => ⟨S3840, .f32⟩
  | .hbm, ⟨7, _⟩ => ⟨S3840x30720, .fp8e4m3⟩
  | .hbm, ⟨8, _⟩ => ⟨S30720, .f32⟩
  | .hbm, ⟨9, _⟩ => ⟨S15360x3840, .fp8e4m3⟩
  | .hbm, ⟨10, _⟩ => ⟨S3840, .f32⟩
  | .hbm, ⟨11, _⟩ => ⟨S3840, .f32⟩
  | .hbm, ⟨12, _⟩ => ⟨S6x4x3840, .bf16⟩
  | .hbm, ⟨13, _⟩ => ⟨S6x4x3840, .f32⟩
  | .hbm, ⟨14, _⟩ => ⟨S6x4x3840, .f32⟩
  | .hbm, ⟨15, _⟩ => ⟨S6x4x3840, .fp8e4m3⟩
  | .hbm, ⟨16, _⟩ => ⟨S24x128, .f32⟩
  | .hbm, ⟨17, _⟩ => ⟨S6x4x15360, .fp8e4m3⟩
  | .hbm, ⟨18, _⟩ => ⟨S24x128, .f32⟩
  | .local _ .vmem, ⟨0, _⟩ => ⟨S6x4x3840, .bf16⟩
  | .local _ .vmem, ⟨1, _⟩ => ⟨S8x32x512, .fp8e4m3⟩
  | .local _ .vmem, ⟨2, _⟩ => ⟨S24x128, .f32⟩
  | .local _ .vmem, ⟨3, _⟩ => ⟨S4096x3840, .fp8e4m3⟩
  | .local _ .vmem, ⟨4, _⟩ => ⟨S3840, .f32⟩
  | .local _ .vmem, ⟨5, _⟩ => ⟨S3840, .f32⟩
  | .local _ .vmem, ⟨6, _⟩ => ⟨S3840, .f32⟩
  | .local _ .vmem, ⟨7, _⟩ => ⟨S3840x30720, .fp8e4m3⟩
  | .local _ .vmem, ⟨8, _⟩ => ⟨S30720, .f32⟩
  | .local _ .vmem, ⟨9, _⟩ => ⟨S15360x3840, .fp8e4m3⟩
  | .local _ .vmem, ⟨10, _⟩ => ⟨S3840, .f32⟩
  | .local _ .vmem, ⟨11, _⟩ => ⟨S3840, .f32⟩
  | .local _ .vmem, ⟨12, _⟩ => ⟨S6x4x3840, .bf16⟩
  | .local _ .vmem, ⟨13, _⟩ => ⟨S6x4x3840, .f32⟩
  | .local _ .vmem, ⟨14, _⟩ => ⟨S6x4x3840, .f32⟩
  | .local _ .vmem, ⟨15, _⟩ => ⟨S6x4x3840, .fp8e4m3⟩
  | .local _ .vmem, ⟨16, _⟩ => ⟨S24x128, .f32⟩
  | .local _ .vmem, ⟨17, _⟩ => ⟨S6x4x15360, .fp8e4m3⟩
  | .local _ .vmem, ⟨18, _⟩ => ⟨S24x128, .f32⟩
  | _, _ => ⟨S6x4x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S6x4x3840 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x3840 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3840 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3840x30720 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S30720 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S15360x3840 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3840 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3840 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x4x3840 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x4x3840 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x4x3840 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x4x3840 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S24x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x4x15360 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S24x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.Kernel.Ring.lean ====
/-
  The weight ring of the down projection: thirty blocks of 512 rows of the weight stay in HBM and pass through the six
  slots of one VMEM buffer, block `j` in slot `(j + 2) mod 6`, each slot with its own DMA semaphore. This module names
  the blocks, the slots and the semaphores, proves that the slices the kernel's body prints are these names, and states
  the pieces a proof about the ring holds: a block at home, a slot held, a slot's counter at zero, a slot in flight.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Ring.Trips
public import Idealize.ShloMosaic.Lib.Batch
public import Idealize.ShloMosaic.Lib.Affine
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The kernel's own buffers -/

/-- The gate and up projections' weight in HBM, the gate's 15360 columns first. -/
abbrev guM : Memref sig .tc .hbm S3840x30720 .fp8e4m3 := Memref.whole main_arg7
/-- The scale rows and norm rows in HBM that the feed-forward block reads before the down projection. -/
abbrev pfwM : Memref sig .tc .hbm S1x3840 .f32 := Memref.whole main_v2
abbrev sguM : Memref sig .tc .hbm S1x30720 .f32 := Memref.whole main_v3
/-- The down projection's weight in HBM. -/
abbrev wM : Memref sig .tc .hbm S15360x3840 .fp8e4m3 := Memref.whole main_arg9
/-- Its scale row in HBM. -/
abbrev sdnM : Memref sig .tc .hbm S1x3840 .f32 := Memref.whole main_v4
/-- The last norm's weight row in HBM. -/
abbrev powM : Memref sig .tc .hbm S1x3840 .f32 := Memref.whole main_v5
/-- The output projection's weight in HBM, its scale row and the norm row after it. -/
abbrev woM : Memref sig .tc .hbm S4096x3840 .fp8e4m3 := Memref.whole main_arg3
abbrev soM : Memref sig .tc .hbm S1x3840 .f32 := Memref.whole main_v0
abbrev pawM : Memref sig .tc .hbm S1x3840 .f32 := Memref.whole main_v1
/-- The seven results in HBM. -/
abbrev oM : Memref sig .tc .hbm S6x4x3840 .f32 := Memref.whole main_v6_1
abbrev hidM : Memref sig .tc .hbm S6x4x3840 .bf16 := Memref.whole main_v6_0
abbrev dM : Memref sig .tc .hbm S6x4x3840 .f32 := Memref.whole main_v6_2
abbrev codM : Memref sig .tc .hbm S6x4x15360 .fp8e4m3 := Memref.whole main_v6_5
abbrev sclM : Memref sig .tc .hbm S24x128 .f32 := Memref.whole main_v6_6
abbrev fcM : Memref sig .tc .hbm S6x4x3840 .fp8e4m3 := Memref.whole main_v6_3
abbrev fsM : Memref sig .tc .hbm S24x128 .f32 := Memref.whole main_v6_4
/-- The six rows in VMEM. -/
abbrev soV : Memref sig .tc .vmem S1x3840 .f32 := Memref.whole cc0_scratch0
abbrev pawV : Memref sig .tc .vmem S1x3840 .f32 := Memref.whole cc0_scratch1
/-- The residual. -/
abbrev xresV : Memref sig .tc .vmem S24x3840 .f32 := Memref.whole cc0_scratch8
abbrev pfwV : Memref sig .tc .vmem S1x3840 .f32 := Memref.whole cc0_scratch2
abbrev sguV : Memref sig .tc .vmem S1x30720 .f32 := Memref.whole cc0_scratch3
abbrev sdnV : Memref sig .tc .vmem S1x3840 .f32 := Memref.whole cc0_scratch4
abbrev powV : Memref sig .tc .vmem S1x3840 .f32 := Memref.whole cc0_scratch5
/-- The gate and up ring's eight slots. -/
abbrev wa : Memref sig .tc .vmem S8x3840x512 .fp8e4m3 := Memref.whole cc0_scratch6
/-- The down ring's six slots. -/
abbrev wb : Memref sig .tc .vmem S6x512x3840 .fp8e4m3 := Memref.whole cc0_scratch7
/-- The accumulator. -/
abbrev oacc : Memref sig .tc .vmem S32x3840 .f32 := Memref.whole cc0_scratch9
/-- The quantised input of the gate and up projections, padded with eight rows of zeros. -/
abbrev fq : Memref sig .tc .vmem S32x3840 .fp8e4m3 := Memref.whole cc0_scratch10
/-- The activations, sixty slices of 256 columns. -/
abbrev actV : Memref sig .tc .vmem S60x24x256 .f32 := Memref.whole cc0_scratch11
/-- The running maximum of the activations, lane by lane; after the gate and up loop, the rows' maximum, one value in all lanes. -/
abbrev amax : Memref sig .tc .vmem S24x128 .f32 := Memref.whole cc0_scratch12
/-- The seven results in VMEM. -/
abbrev oV : Memref sig .tc .vmem S6x4x3840 .f32 := Memref.whole cc0_scratch14
abbrev hidV : Memref sig .tc .vmem S6x4x3840 .bf16 := Memref.whole cc0_scratch13
abbrev dV : Memref sig .tc .vmem S6x4x3840 .f32 := Memref.whole cc0_scratch15
abbrev fcV : Memref sig .tc .vmem S6x4x3840 .fp8e4m3 := Memref.whole cc0_scratch16
abbrev fsV : Memref sig .tc .vmem S24x128 .f32 := Memref.whole cc0_scratch17
abbrev codV : Memref sig .tc .vmem S6x4x15360 .fp8e4m3 := Memref.whole cc0_scratch18
abbrev sclV : Memref sig .tc .vmem S24x128 .f32 := Memref.whole cc0_scratch19

/-! ## Canonical names: block `b` of the weight, slot `s` of the ring, slot `s`'s semaphore -/

abbrev grpOff (b : Fin 30) : Fin 2 → Nat := ![512 * b.val, 0]
theorem grpOff_inb (b : Fin 30) : ∀ a, grpOff b a + S512x3840.size a ≤ S15360x3840.size a := by
  have := b.isLt; intro a; fin_cases a
  · show 512 * b.val + 512 ≤ 15360; omega
  · show 0 + 3840 ≤ 3840; omega
abbrev slotOff (s : Fin 6) : Fin 3 → Nat := ![s.val, 0, 0]
theorem slotOff_inb (s : Fin 6) : ∀ a, slotOff s a + S1x512x3840.size a ≤ S6x512x3840.size a := by
  have := s.isLt; intro a; fin_cases a
  · show s.val + 1 ≤ 6; omega
  · show 0 + 512 ≤ 512; omega
  · show 0 + 3840 ≤ 3840; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Block `b` of the weight, as the body slices it. -/
def grp (b : Fin 30) : Memref sig .tc .hbm S512x3840 .fp8e4m3 :=
  wM.slice (Rect.unit (s := S15360x3840) (grpOff b) S512x3840.size (grpOff_inb b)) (fun _ => rfl)
/-- Slot `s` of the ring, as the body slices and squeezes it. -/
def rslot (s : Fin 6) : Memref sig .tc .vmem S512x3840 .fp8e4m3 :=
  (wb.slice (Rect.unit (s := S6x512x3840) (slotOff s) S1x512x3840.size (slotOff_inb s)) (fun _ => rfl)).squeeze S512x3840 squeezes_S1x512x3840_S512x3840
/-- Slot `s`'s DMA semaphore. -/
def csm (s : Fin 6) : DmaSems sig S_ := (cc0_scratch22.slice (Rect.unit (s := S6) (semOff s) S1.size (semOff_inb s))).squeeze S_ squeezes_S1_S_

instance (s : Fin 6) : ClosedOff (slotOff s) := ⟨slotOff s, rfl⟩
instance (b : Fin 30) : ClosedOff (grpOff b) := ⟨grpOff b, rfl⟩

/-! ## The trips' offsets in closed form -/

theorem trips_eq : k0_t3_loop.trips = 30 := by decide

theorem trip_lt (k : Fin k0_t3_loop.trips) : k.val < 30 := Nat.lt_of_lt_of_eq k.isLt trips_eq

/-- Slot `(k + 2) mod 6`: the one that trip `k` reads. -/
abbrev slK (k : ℕ) : Fin 6 := Ring.sl 6 (k + 2)

theorem off11_eq : ∀ k : Fin k0_t3_loop.trips, k0_off35 k = semOff (slK k.val) := by decide +kernel
theorem off12_eq : ∀ k : Fin k0_t3_loop.trips, k0_off36 k = slotOff (slK k.val) := by decide +kernel
theorem off13_eq : ∀ k : Fin k0_t3_loop.trips, k0_off37 k = grpOff (Ring.bk 30 k.val) := by decide +kernel
theorem off14_eq : ∀ k : Fin k0_t3_loop.trips, k0_off38 k = slotOff (slK k.val) := by decide +kernel
theorem off15_eq : ∀ k : Fin k0_t3_loop.trips, k0_off39 k = semOff (slK k.val) := by decide +kernel
theorem off16_eq : ∀ k : Fin k0_t3_loop.trips, k0_off40 k = slotOff (slK k.val) := by decide +kernel
theorem off17_eq : ∀ k : Fin k0_t3_loop.trips, k.val + 6 < 30 → k0_off41 k = grpOff (Ring.bk 30 (k.val + 6)) := by decide +kernel
theorem cond1_iff : ∀ k : Fin k0_t3_loop.trips, k0_cond4 k = 1#1 ↔ k.val + 6 < 30 := by decide +kernel

theorem off3_eq : ∀ k : Fin k0_t3_loop.trips, k0_off27 k = ![2 * k.val, 0, 0] := by decide +kernel
theorem off4_eq : ∀ k : Fin k0_t3_loop.trips, k0_off28 k = ![2 * k.val + 1, 0, 0] := by decide +kernel
theorem off5_eq : ∀ k : Fin k0_t3_loop.trips, k0_off29 k = ![0, 0, 512 * k.val] := by decide +kernel
theorem off6_eq : ∀ k : Fin k0_t3_loop.trips, k0_off30 k = ![1, 0, 512 * k.val] := by decide +kernel
theorem off7_eq : ∀ k : Fin k0_t3_loop.trips, k0_off31 k = ![2, 0, 512 * k.val] := by decide +kernel
theorem off8_eq : ∀ k : Fin k0_t3_loop.trips, k0_off32 k = ![3, 0, 512 * k.val] := by decide +kernel
theorem off9_eq : ∀ k : Fin k0_t3_loop.trips, k0_off33 k = ![4, 0, 512 * k.val] := by decide +kernel
theorem off10_eq : ∀ k : Fin k0_t3_loop.trips, k0_off34 k = ![5, 0, 512 * k.val] := by decide +kernel

instance (k : Fin k0_t3_loop.trips) : ClosedOff (k0_off36 k) := ⟨slotOff (slK k.val), off12_eq k⟩
instance (k : Fin k0_t3_loop.trips) : ClosedOff (k0_off38 k) := ⟨slotOff (slK k.val), off14_eq k⟩
instance (k : Fin k0_t3_loop.trips) : ClosedOff (k0_off40 k) := ⟨slotOff (slK k.val), off16_eq k⟩
instance (k : Fin k0_t3_loop.trips) : ClosedOff (k0_off27 k) := ⟨_, off3_eq k⟩
instance (k : Fin k0_t3_loop.trips) : ClosedOff (k0_off28 k) := ⟨_, off4_eq k⟩
instance (k : Fin k0_t3_loop.trips) : ClosedOff (k0_off29 k) := ⟨_, off5_eq k⟩
instance (k : Fin k0_t3_loop.trips) : ClosedOff (k0_off30 k) := ⟨_, off6_eq k⟩
instance (k : Fin k0_t3_loop.trips) : ClosedOff (k0_off31 k) := ⟨_, off7_eq k⟩
instance (k : Fin k0_t3_loop.trips) : ClosedOff (k0_off32 k) := ⟨_, off8_eq k⟩
instance (k : Fin k0_t3_loop.trips) : ClosedOff (k0_off33 k) := ⟨_, off9_eq k⟩
instance (k : Fin k0_t3_loop.trips) : ClosedOff (k0_off34 k) := ⟨_, off10_eq k⟩

/-! ### The printed slices are the canonical names -/

theorem csm_congr {off : Fin 1 → Nat} {s : Fin 6} (e : off = semOff s) (hh) :
    (cc0_scratch22.slice (Rect.unit (s := S6) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 6} (e : off = slotOff s) (hh hs) :
    (wb.slice (Rect.unit (s := S6x512x3840) off S1x512x3840.size hh) hs).squeeze S512x3840 squeezes_S1x512x3840_S512x3840 = rslot s :=
  congrArg (fun M : Memref sig .tc .vmem S1x512x3840 .fp8e4m3 => M.squeeze S512x3840 squeezes_S1x512x3840_S512x3840) (Memref.slice_unit_congr _ e _ _ _ _)
theorem grp_congr {off : Fin 2 → Nat} {b : Fin 30} (e : off = grpOff b) (hh hs) :
    wM.slice (Rect.unit (s := S15360x3840) off S512x3840.size hh) hs = grp b :=
  Memref.slice_unit_congr _ e _ _ _ (fun _ => rfl)

/-! The prologue's blocks 0 to 5 go to slots 2, 3, 4, 5, 0, 1. -/

@[sl_canon] theorem semL0 (hh) : (cc0_scratch22.slice (Rect.unit (s := S6) ![2] S1.size hh)).squeeze S_ squeezes_S1_S_ = csm 2 := csm_congr (by decide) _
@[sl_canon] theorem semL1 (hh) : (cc0_scratch22.slice (Rect.unit (s := S6) ![3] S1.size hh)).squeeze S_ squeezes_S1_S_ = csm 3 := csm_congr (by decide) _
@[sl_canon] theorem semL2 (hh) : (cc0_scratch22.slice (Rect.unit (s := S6) ![4] S1.size hh)).squeeze S_ squeezes_S1_S_ = csm 4 := csm_congr (by decide) _
@[sl_canon] theorem semL3 (hh) : (cc0_scratch22.slice (Rect.unit (s := S6) ![5] S1.size hh)).squeeze S_ squeezes_S1_S_ = csm 5 := csm_congr (by decide) _
@[sl_canon] theorem semL4 (hh) : (cc0_scratch22.slice (Rect.unit (s := S6) ![0] S1.size hh)).squeeze S_ squeezes_S1_S_ = csm 0 := csm_congr (by decide) _
@[sl_canon] theorem semL5 (hh) : (cc0_scratch22.slice (Rect.unit (s := S6) ![1] S1.size hh)).squeeze S_ squeezes_S1_S_ = csm 1 := csm_congr (by decide) _
@[sl_canon] theorem slotL0 (hh hs) : (wb.slice (Rect.unit (s := S6x512x3840) ![2, 0, 0] S1x512x3840.size hh) hs).squeeze S512x3840 squeezes_S1x512x3840_S512x3840 = rslot 2 := rslot_congr (by decide) _ _
@[sl_canon] theorem slotL1 (hh hs) : (wb.slice (Rect.unit (s := S6x512x3840) ![3, 0, 0] S1x512x3840.size hh) hs).squeeze S512x3840 squeezes_S1x512x3840_S512x3840 = rslot 3 := rslot_congr (by decide) _ _
@[sl_canon] theorem slotL2 (hh hs) : (wb.slice (Rect.unit (s := S6x512x3840) ![4, 0, 0] S1x512x3840.size hh) hs).squeeze S512x3840 squeezes_S1x512x3840_S512x3840 = rslot 4 := rslot_congr (by decide) _ _
@[sl_canon] theorem slotL3 (hh hs) : (wb.slice (Rect.unit (s := S6x512x3840) ![5, 0, 0] S1x512x3840.size hh) hs).squeeze S512x3840 squeezes_S1x512x3840_S512x3840 = rslot 5 := rslot_congr (by decide) _ _
@[sl_canon] theorem slotL4 (hh hs) : (wb.slice (Rect.unit (s := S6x512x3840) ![0, 0, 0] S1x512x3840.size hh) hs).squeeze S512x3840 squeezes_S1x512x3840_S512x3840 = rslot 0 := rslot_congr (by decide) _ _
@[sl_canon] theorem slotL5 (hh hs) : (wb.slice (Rect.unit (s := S6x512x3840) ![1, 0, 0] S1x512x3840.size hh) hs).squeeze S512x3840 squeezes_S1x512x3840_S512x3840 = rslot 1 := rslot_congr (by decide) _ _
@[sl_canon] theorem grpL0 (hh hs) : wM.slice (Rect.unit (s := S15360x3840) ![0, 0] S512x3840.size hh) hs = grp 0 := grp_congr (by decide) _ _
@[sl_canon] theorem grpL1 (hh hs) : wM.slice (Rect.unit (s := S15360x3840) ![512, 0] S512x3840.size hh) hs = grp 1 := grp_congr (by decide) _ _
@[sl_canon] theorem grpL2 (hh hs) : wM.slice (Rect.unit (s := S15360x3840) ![1024, 0] S512x3840.size hh) hs = grp 2 := grp_congr (by decide) _ _
@[sl_canon] theorem grpL3 (hh hs) : wM.slice (Rect.unit (s := S15360x3840) ![1536, 0] S512x3840.size hh) hs = grp 3 := grp_congr (by decide) _ _
@[sl_canon] theorem grpL4 (hh hs) : wM.slice (Rect.unit (s := S15360x3840) ![2048, 0] S512x3840.size hh) hs = grp 4 := grp_congr (by decide) _ _
@[sl_canon] theorem grpL5 (hh hs) : wM.slice (Rect.unit (s := S15360x3840) ![2560, 0] S512x3840.size hh) hs = grp 5 := grp_congr (by decide) _ _

/-- Trip `k`: slot and semaphore `(k + 2) mod 6`, block `k` waited for, block `k + 6` issued. -/
@[sl_canon] theorem semW (k : Fin k0_t3_loop.trips) (hh) :
    (cc0_scratch22.slice (Rect.unit (s := S6) (k0_off35 k) S1.size hh)).squeeze S_ squeezes_S1_S_ = csm (slK k.val) := csm_congr (off11_eq k) _
@[sl_canon] theorem slotW (k : Fin k0_t3_loop.trips) (hh hs) :
    (wb.slice (Rect.unit (s := S6x512x3840) (k0_off36 k) S1x512x3840.size hh) hs).squeeze S512x3840 squeezes_S1x512x3840_S512x3840 = rslot (slK k.val) := rslot_congr (off12_eq k) _ _
@[sl_canon] theorem grpW (k : Fin k0_t3_loop.trips) (hh hs) :
    wM.slice (Rect.unit (s := S15360x3840) (k0_off37 k) S512x3840.size hh) hs = grp (Ring.bk 30 k.val) := grp_congr (off13_eq k) _ _
@[sl_canon] theorem semI (k : Fin k0_t3_loop.trips) (hh) :
    (cc0_scratch22.slice (Rect.unit (s := S6) (k0_off39 k) S1.size hh)).squeeze S_ squeezes_S1_S_ = csm (slK k.val) := csm_congr (off15_eq k) _
@[sl_canon] theorem slotI (k : Fin k0_t3_loop.trips) (hh hs) :
    (wb.slice (Rect.unit (s := S6x512x3840) (k0_off40 k) S1x512x3840.size hh) hs).squeeze S512x3840 squeezes_S1x512x3840_S512x3840 = rslot (slK k.val) := rslot_congr (off16_eq k) _ _
@[sl_canon] theorem grpI (k : Fin k0_t3_loop.trips) (hk : k.val + 6 < 30) (hh hs) :
    wM.slice (Rect.unit (s := S15360x3840) (k0_off41 k) S512x3840.size hh) hs = grp (Ring.bk 30 (k.val + 6)) := grp_congr (off17_eq k hk) _ _

/-! ## The pieces: a block at home, a slot held, a slot's counter, a slot in flight -/

section Pieces
variable (c : Dev nD) (XW : Buf (Elt F) (wM.view.loc (c : Thread nD τ)))

abbrev cellP (s : Fin 6) : sProp 𝕄 := semVal ((c : Thread nD τ), SemLoc.dma (csm s).sem) 0
abbrev slotP (s : Fin 6) (f : Buf (Elt F) ((rslot s).view.loc (c : Thread nD τ))) : sProp 𝕄 :=
  (rslot s).view.loc (c : Thread nD τ) ↦[(rslot s).view.set]{fullShare} f
/-- Block `b` AT HOME: held on its elements at the weight's contents. -/
abbrev homeP (b : Fin 30) : sProp 𝕄 := (grp b).view.loc (c : Thread nD τ) ↦[(grp b).view.set]{fullShare} XW
/-- Block `b`'s words as a slot's payload. -/
abbrev payload (b : Fin 30) : S512x3840.Idx → Elt F .fp8e4m3 := ReadAs.same.apply ((grp b).view.read (Elt F) XW)
/-- What block `b`'s transfer leaves in slot `s` over prior contents `f`: the block, written whole. -/
abbrev landed (s : Fin 6) (b : Fin 30) (f : Buf (Elt F) ((rslot s).view.loc (c : Thread nD τ))) : Buf (Elt F) ((rslot s).view.loc (c : Thread nD τ)) :=
  (rslot s).view.writes (Elt F) f [⟨Rect.whole S512x3840, payload c XW b⟩]
/-- Slot `s` IN FLIGHT with block `b`, issued over `f`. -/
abbrev flightP (s : Fin 6) (b : Fin 30) (f : Buf (Elt F) ((rslot s).view.loc (c : Thread nD τ))) : sProp 𝕄 :=
  Transfers.Flight countersEmb (c : Thread nD τ) (SemLoc.dma (csm s).sem) () 61440 iprop(slotP c s (landed c XW s b f) ∗ homeP c XW b)

/-- A slot free, its counter at zero. -/
def freeP (s : Fin 6) : sProp 𝕄 := iprop(cellP c s ∗ ∃ f, slotP c s f)
/-- A slot in flight with a block, over anything. -/
def inflP (s : Fin 6) (b : Fin 30) : sProp 𝕄 := iprop(∃ f, flightP c XW s b f)
/-- The slot that carries block `p`, before the trip that waits for it. -/
def roleP (p : ℕ) : sProp 𝕄 := Ring.roleAt (freeP (F := F) c (slK p)) (inflP c XW (slK p)) p

/-- Trip `k`'s homes: block `k + 6` (about to go out) beside the rest. -/
theorem homes_here (k : ℕ) (hk : k + 6 < 30) :
    bigSep (Ring.homeSet 6 k) (homeP c XW) = iprop(homeP c XW (Ring.bk 30 (k + 6)) ∗ bigSep ((Ring.homeSet 6 k).erase (Ring.bk 30 (k + 6))) (homeP c XW)) := by
  conv_lhs => rw [Ring.homeSet_out 6 k hk, bigSep_insert (Ring.bkL_not_mem_erase 6 k)]
  rfl
/-- Trip `k + 1`'s homes: block `k` (just back) beside that rest. -/
theorem homes_next (k : ℕ) (hk : k + 6 < 30) :
    bigSep (Ring.homeSet 6 (k + 1)) (homeP c XW) = iprop(homeP c XW (Ring.bk 30 k) ∗ bigSep ((Ring.homeSet 6 k).erase (Ring.bk 30 (k + 6))) (homeP c XW)) := by
  conv_lhs => rw [Ring.homeSet_succ 6 k hk, bigSep_insert (Ring.bk_not_mem_erase 6 k (by omega) (by decide))]
  rfl
/-- In the last six trips nothing goes out: block `k` comes back beside the homes before. -/
theorem homes_tail (k : ℕ) (hk : 30 ≤ k + 6) (hp : k < 30) :
    bigSep (Ring.homeSet 6 (k + 1)) (homeP c XW) = iprop(homeP c XW (Ring.bk 30 k) ∗ bigSep (Ring.homeSet 6 k) (homeP c XW)) := by
  conv_lhs => rw [Ring.homeSet_succ_tail 6 k hk hp, bigSep_insert (Ring.bk_not_mem_homeSet 6 k hp (by decide))]
  rfl

omit [FloatOps F] in
theorem slK_add6 (k : ℕ) : slK (k + 6) = slK k := by
  show Ring.sl 6 (k + 6 + 2) = Ring.sl 6 (k + 2)
  rw [show k + 6 + 2 = k + 2 + 6 from by omega, Ring.sl_add]

end Pieces

end Cert.Proof.Kernel

end
-- ==== Proof.Kernel.RingA.lean ====
/-
  The weight ring of the gate and up projections: sixty pairs of column blocks of the weight, 256 gate columns and 256 up
  columns each, stay in HBM and pass through the eight slots of one VMEM buffer, pair `j` in slot `j mod 8`, the gate's
  columns in the slot's left half and the up's in its right. Both copies of a pair signal the slot's one DMA semaphore.
  This module names the blocks, the halves and the semaphores, proves that the slices the kernel's body prints are these
  names, and states the pieces a proof about the ring holds.
-/
module

public import proofs.«01_k».proof.Proof.Kernel.Ring

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Canonical names -/

abbrev gwOff (b : Fin 60) (u : Fin 2) : Fin 2 → Nat := ![0, 15360 * u.val + 256 * b.val]
theorem gwOff_inb (b : Fin 60) (u : Fin 2) : ∀ a, gwOff b u a + S3840x256.size a ≤ S3840x30720.size a := by
  have := b.isLt; have := u.isLt; intro a; fin_cases a
  · show 0 + 3840 ≤ 3840; omega
  · show 15360 * u.val + 256 * b.val + 256 ≤ 30720; omega
abbrev awOff (s : Fin 8) (u : Fin 2) : Fin 3 → Nat := ![s.val, 0, 256 * u.val]
theorem awOff_inb (s : Fin 8) (u : Fin 2) : ∀ a, awOff s u a + S1x3840x256.size a ≤ S8x3840x512.size a := by
  have := s.isLt; have := u.isLt; intro a; fin_cases a
  · show s.val + 1 ≤ 8; omega
  · show 0 + 3840 ≤ 3840; omega
  · show 256 * u.val + 256 ≤ 512; omega
abbrev aslotOff (s : Fin 8) : Fin 3 → Nat := ![s.val, 0, 0]
theorem aslotOff_inb (s : Fin 8) : ∀ a, aslotOff s a + S1x3840x512.size a ≤ S8x3840x512.size a := by
  have := s.isLt; intro a; fin_cases a
  · show s.val + 1 ≤ 8; omega
  · show 0 + 3840 ≤ 3840; omega
  · show 0 + 512 ≤ 512; omega
abbrev asemOff (s : Fin 8) : Fin 1 → Nat := ![s.val]
theorem asemOff_inb (s : Fin 8) : ∀ a, asemOff s a + S1.size a ≤ S8.size a := by
  have := s.isLt; intro a; fin_cases a; show s.val + 1 ≤ 8; omega

/-- Half `u` of pair `b`: 256 columns of the weight, the gate's at `u = 0`, the up's at `u = 1`. -/
def gw (b : Fin 60) (u : Fin 2) : Memref sig .tc .hbm S3840x256 .fp8e4m3 :=
  guM.slice (Rect.unit (s := S3840x30720) (gwOff b u) S3840x256.size (gwOff_inb b u)) (fun _ => rfl)
/-- Half `u` of slot `s`. -/
def aw (s : Fin 8) (u : Fin 2) : Memref sig .tc .vmem S3840x256 .fp8e4m3 :=
  (wa.slice (Rect.unit (s := S8x3840x512) (awOff s u) S1x3840x256.size (awOff_inb s u)) (fun _ => rfl)).squeeze S3840x256 squeezes_S1x3840x256_S3840x256
/-- Slot `s` whole. -/
def aslot (s : Fin 8) : Memref sig .tc .vmem S1x3840x512 .fp8e4m3 :=
  wa.slice (Rect.unit (s := S8x3840x512) (aslotOff s) S1x3840x512.size (aslotOff_inb s)) (fun _ => rfl)
/-- Slot `s`'s DMA semaphore. -/
def asm (s : Fin 8) : DmaSems sig S_ := (cc0_scratch21.slice (Rect.unit (s := S8) (asemOff s) S1.size (asemOff_inb s))).squeeze S_ squeezes_S1_S_

instance (s : Fin 8) (u : Fin 2) : ClosedOff (awOff s u) := ⟨awOff s u, rfl⟩
instance (b : Fin 60) (u : Fin 2) : ClosedOff (gwOff b u) := ⟨gwOff b u, rfl⟩
instance (s : Fin 8) : ClosedOff (aslotOff s) := ⟨aslotOff s, rfl⟩

/-! ## The trips' offsets in closed form -/

theorem trips1_eq : k0_t2_loop.trips = 60 := by decide
theorem trip1_lt (k : Fin k0_t2_loop.trips) : k.val < 60 := Nat.lt_of_lt_of_eq k.isLt trips1_eq

/-- Slot `k mod 8`: the one that trip `k` reads. -/
abbrev slA (k : ℕ) : Fin 8 := Ring.sl 8 k

theorem aoff6_eq : ∀ k : Fin k0_t2_loop.trips, k0_off15 k = asemOff (slA k.val) := by decide +kernel
theorem aoff7_eq : ∀ k : Fin k0_t2_loop.trips, k0_off16 k = awOff (slA k.val) 0 := by decide +kernel
theorem aoff8_eq0 : ∀ k : Fin k0_t2_loop.trips, k0_off17 k 0#32 = gwOff (Ring.bk 60 k.val) 0 := by decide +kernel
theorem aoff8_eq1 : ∀ k : Fin k0_t2_loop.trips, k0_off17 k 15360#32 = gwOff (Ring.bk 60 k.val) 1 := by decide +kernel
theorem aoff9_eq : ∀ k : Fin k0_t2_loop.trips, k0_off18 k = awOff (slA k.val) 1 := by decide +kernel
theorem aoff10_eq : ∀ k : Fin k0_t2_loop.trips, k0_off19 k = aslotOff (slA k.val) := by decide +kernel
theorem aoff11_eq : ∀ k : Fin k0_t2_loop.trips, k0_off20 k = ![0, 256 * k.val] := by decide +kernel
theorem aoff12_eq : ∀ k : Fin k0_t2_loop.trips, k0_off21 k = ![0, 15360 + 256 * k.val] := by decide +kernel
theorem aoff13_eq : ∀ k : Fin k0_t2_loop.trips, k0_off22 k = ![k.val, 0, 0] := by decide +kernel
theorem aoff14_eq : ∀ k : Fin k0_t2_loop.trips, k0_off23 k = asemOff (slA k.val) := by decide +kernel
theorem aoff15_eq : ∀ k : Fin k0_t2_loop.trips, k0_off24 k = awOff (slA k.val) 0 := by decide +kernel
theorem aoff16_eq0 : ∀ k : Fin k0_t2_loop.trips, k.val + 8 < 60 → k0_off25 k 0#32 = gwOff (Ring.bk 60 (k.val + 8)) 0 := by decide +kernel
theorem aoff16_eq1 : ∀ k : Fin k0_t2_loop.trips, k.val + 8 < 60 → k0_off25 k 15360#32 = gwOff (Ring.bk 60 (k.val + 8)) 1 := by decide +kernel
theorem aoff17_eq : ∀ k : Fin k0_t2_loop.trips, k0_off26 k = awOff (slA k.val) 1 := by decide +kernel
theorem acond_iff : ∀ k : Fin k0_t2_loop.trips, k0_cond3 k = 1#1 ↔ k.val + 8 < 60 := by decide +kernel

instance (k : Fin k0_t2_loop.trips) : ClosedOff (k0_off16 k) := ⟨_, aoff7_eq k⟩
instance (k : Fin k0_t2_loop.trips) : ClosedOff (k0_off18 k) := ⟨_, aoff9_eq k⟩
instance (k : Fin k0_t2_loop.trips) : ClosedOff (k0_off19 k) := ⟨_, aoff10_eq k⟩
instance (k : Fin k0_t2_loop.trips) : ClosedOff (k0_off20 k) := ⟨_, aoff11_eq k⟩
instance (k : Fin k0_t2_loop.trips) : ClosedOff (k0_off21 k) := ⟨_, aoff12_eq k⟩
instance (k : Fin k0_t2_loop.trips) : ClosedOff (k0_off22 k) := ⟨_, aoff13_eq k⟩
instance (k : Fin k0_t2_loop.trips) : ClosedOff (k0_off24 k) := ⟨_, aoff15_eq k⟩
instance (k : Fin k0_t2_loop.trips) : ClosedOff (k0_off26 k) := ⟨_, aoff17_eq k⟩

/-! ### The printed slices are the canonical names -/

theorem asm_congr {off : Fin 1 → Nat} {s : Fin 8} (e : off = asemOff s) (hh) :
    (cc0_scratch21.slice (Rect.unit (s := S8) off S1.size hh)).squeeze S_ squeezes_S1_S_ = asm s :=
  congrArg (fun A : DmaSems sig S1 => A.squeeze S_ squeezes_S1_S_) (SemArray.slice_unit_congr _ e _ _)
theorem aw_congr {off : Fin 3 → Nat} {s : Fin 8} {u : Fin 2} (e : off = awOff s u) (hh hs) :
    (wa.slice (Rect.unit (s := S8x3840x512) off S1x3840x256.size hh) hs).squeeze S3840x256 squeezes_S1x3840x256_S3840x256 = aw s u :=
  congrArg (fun M : Memref sig .tc .vmem S1x3840x256 .fp8e4m3 => M.squeeze S3840x256 squeezes_S1x3840x256_S3840x256) (Memref.slice_unit_congr _ e _ _ _ _)
theorem gw_congr {off : Fin 2 → Nat} {b : Fin 60} {u : Fin 2} (e : off = gwOff b u) (hh hs) :
    guM.slice (Rect.unit (s := S3840x30720) off S3840x256.size hh) hs = gw b u :=
  Memref.slice_unit_congr _ e _ _ _ (fun _ => rfl)

/-! The prologue's pairs 0 to 7 go to slots 0 to 7. -/

@[sl_canon] theorem asmL0 (hh) : (cc0_scratch21.slice (Rect.unit (s := S8) ![0] S1.size hh)).squeeze S_ squeezes_S1_S_ = asm 0 := asm_congr (by decide) _
@[sl_canon] theorem awL0 (hh hs) : (wa.slice (Rect.unit (s := S8x3840x512) ![0, 0, 0] S1x3840x256.size hh) hs).squeeze S3840x256 squeezes_S1x3840x256_S3840x256 = aw 0 0 := aw_congr (by decide) _ _
@[sl_canon] theorem awR0 (hh hs) : (wa.slice (Rect.unit (s := S8x3840x512) ![0, 0, 256] S1x3840x256.size hh) hs).squeeze S3840x256 squeezes_S1x3840x256_S3840x256 = aw 0 1 := aw_congr (by decide) _ _
@[sl_canon] theorem gwL0 (hh hs) : guM.slice (Rect.unit (s := S3840x30720) ![0, 0] S3840x256.size hh) hs = gw 0 0 := gw_congr (by decide) _ _
@[sl_canon] theorem gwR0 (hh hs) : guM.slice (Rect.unit (s := S3840x30720) ![0, 15360] S3840x256.size hh) hs = gw 0 1 := gw_congr (by decide) _ _
@[sl_canon] theorem asmL1 (hh) : (cc0_scratch21.slice (Rect.unit (s := S8) ![1] S1.size hh)).squeeze S_ squeezes_S1_S_ = asm 1 := asm_congr (by decide) _
@[sl_canon] theorem awL1 (hh hs) : (wa.slice (Rect.unit (s := S8x3840x512) ![1, 0, 0] S1x3840x256.size hh) hs).squeeze S3840x256 squeezes_S1x3840x256_S3840x256 = aw 1 0 := aw_congr (by decide) _ _
@[sl_canon] theorem awR1 (hh hs) : (wa.slice (Rect.unit (s := S8x3840x512) ![1, 0, 256] S1x3840x256.size hh) hs).squeeze S3840x256 squeezes_S1x3840x256_S3840x256 = aw 1 1 := aw_congr (by decide) _ _
@[sl_canon] theorem gwL1 (hh hs) : guM.slice (Rect.unit (s := S3840x30720) ![0, 256] S3840x256.size hh) hs = gw 1 0 := gw_congr (by decide) _ _
@[sl_canon] theorem gwR1 (hh hs) : guM.slice (Rect.unit (s := S3840x30720) ![0, 15616] S3840x256.size hh) hs = gw 1 1 := gw_congr (by decide) _ _
@[sl_canon] theorem asmL2 (hh) : (cc0_scratch21.slice (Rect.unit (s := S8) ![2] S1.size hh)).squeeze S_ squeezes_S1_S_ = asm 2 := asm_congr (by decide) _
@[sl_canon] theorem awL2 (hh hs) : (wa.slice (Rect.unit (s := S8x3840x512) ![2, 0, 0] S1x3840x256.size hh) hs).squeeze S3840x256 squeezes_S1x3840x256_S3840x256 = aw 2 0 := aw_congr (by decide) _ _
@[sl_canon] theorem awR2 (hh hs) : (wa.slice (Rect.unit (s := S8x3840x512) ![2, 0, 256] S1x3840x256.size hh) hs).squeeze S3840x256 squeezes_S1x3840x256_S3840x256 = aw 2 1 := aw_congr (by decide) _ _
@[sl_canon] theorem gwL2 (hh hs) : guM.slice (Rect.unit (s := S3840x30720) ![0, 512] S3840x256.size hh) hs = gw 2 0 := gw_congr (by decide) _ _
@[sl_canon] theorem gwR2 (hh hs) : guM.slice (Rect.unit (s := S3840x30720) ![0, 15872] S3840x256.size hh) hs = gw 2 1 := gw_congr (by decide) _ _
@[sl_canon] theorem asmL3 (hh) : (cc0_scratch21.slice (Rect.unit (s := S8) ![3] S1.size hh)).squeeze S_ squeezes_S1_S_ = asm 3 := asm_congr (by decide) _
@[sl_canon] theorem awL3 (hh hs) : (wa.slice (Rect.unit (s := S8x3840x512) ![3, 0, 0] S1x3840x256.size hh) hs).squeeze S3840x256 squeezes_S1x3840x256_S3840x256 = aw 3 0 := aw_congr (by decide) _ _
@[sl_canon] theorem awR3 (hh hs) : (wa.slice (Rect.unit (s := S8x3840x512) ![3, 0, 256] S1x3840x256.size hh) hs).squeeze S3840x256 squeezes_S1x3840x256_S3840x256 = aw 3 1 := aw_congr (by decide) _ _
@[sl_canon] theorem gwL3 (hh hs) : guM.slice (Rect.unit (s := S3840x30720) ![0, 768] S3840x256.size hh) hs = gw 3 0 := gw_congr (by decide) _ _
@[sl_canon] theorem gwR3 (hh hs) : guM.slice (Rect.unit (s := S3840x30720) ![0, 16128] S3840x256.size hh) hs = gw 3 1 := gw_congr (by decide) _ _
@[sl_canon] theorem asmL4 (hh) : (cc0_scratch21.slice (Rect.unit (s := S8) ![4] S1.size hh)).squeeze S_ squeezes_S1_S_ = asm 4 := asm_congr (by decide) _
@[sl_canon] theorem awL4 (hh hs) : (wa.slice (Rect.unit (s := S8x3840x512) ![4, 0, 0] S1x3840x256.size hh) hs).squeeze S3840x256 squeezes_S1x3840x256_S3840x256 = aw 4 0 := aw_congr (by decide) _ _
@[sl_canon] theorem awR4 (hh hs) : (wa.slice (Rect.unit (s := S8x3840x512) ![4, 0, 256] S1x3840x256.size hh) hs).squeeze S3840x256 squeezes_S1x3840x256_S3840x256 = aw 4 1 := aw_congr (by decide) _ _
@[sl_canon] theorem gwL4 (hh hs) : guM.slice (Rect.unit (s := S3840x30720) ![0, 1024] S3840x256.size hh) hs = gw 4 0 := gw_congr (by decide) _ _
@[sl_canon] theorem gwR4 (hh hs) : guM.slice (Rect.unit (s := S3840x30720) ![0, 16384] S3840x256.size hh) hs = gw 4 1 := gw_congr (by decide) _ _
@[sl_canon] theorem asmL5 (hh) : (cc0_scratch21.slice (Rect.unit (s := S8) ![5] S1.size hh)).squeeze S_ squeezes_S1_S_ = asm 5 := asm_congr (by decide) _
@[sl_canon] theorem awL5 (hh hs) : (wa.slice (Rect.unit (s := S8x3840x512) ![5, 0, 0] S1x3840x256.size hh) hs).squeeze S3840x256 squeezes_S1x3840x256_S3840x256 = aw 5 0 := aw_congr (by decide) _ _
@[sl_canon] theorem awR5 (hh hs) : (wa.slice (Rect.unit (s := S8x3840x512) ![5, 0, 256] S1x3840x256.size hh) hs).squeeze S3840x256 squeezes_S1x3840x256_S3840x256 = aw 5 1 := aw_congr (by decide) _ _
@[sl_canon] theorem gwL5 (hh hs) : guM.slice (Rect.unit (s := S3840x30720) ![0, 1280] S3840x256.size hh) hs = gw 5 0 := gw_congr (by decide) _ _
@[sl_canon] theorem gwR5 (hh hs) : guM.slice (Rect.unit (s := S3840x30720) ![0, 16640] S3840x256.size hh) hs = gw 5 1 := gw_congr (by decide) _ _
@[sl_canon] theorem asmL6 (hh) : (cc0_scratch21.slice (Rect.unit (s := S8) ![6] S1.size hh)).squeeze S_ squeezes_S1_S_ = asm 6 := asm_congr (by decide) _
@[sl_canon] theorem awL6 (hh hs) : (wa.slice (Rect.unit (s := S8x3840x512) ![6, 0, 0] S1x3840x256.size hh) hs).squeeze S3840x256 squeezes_S1x3840x256_S3840x256 = aw 6 0 := aw_congr (by decide) _ _
@[sl_canon] theorem awR6 (hh hs) : (wa.slice (Rect.unit (s := S8x3840x512) ![6, 0, 256] S1x3840x256.size hh) hs).squeeze S3840x256 squeezes_S1x3840x256_S3840x256 = aw 6 1 := aw_congr (by decide) _ _
@[sl_canon] theorem gwL6 (hh hs) : guM.slice (Rect.unit (s := S3840x30720) ![0, 1536] S3840x256.size hh) hs = gw 6 0 := gw_congr (by decide) _ _
@[sl_canon] theorem gwR6 (hh hs) : guM.slice (Rect.unit (s := S3840x30720) ![0, 16896] S3840x256.size hh) hs = gw 6 1 := gw_congr (by decide) _ _
@[sl_canon] theorem asmL7 (hh) : (cc0_scratch21.slice (Rect.unit (s := S8) ![7] S1.size hh)).squeeze S_ squeezes_S1_S_ = asm 7 := asm_congr (by decide) _
@[sl_canon] theorem awL7 (hh hs) : (wa.slice (Rect.unit (s := S8x3840x512) ![7, 0, 0] S1x3840x256.size hh) hs).squeeze S3840x256 squeezes_S1x3840x256_S3840x256 = aw 7 0 := aw_congr (by decide) _ _
@[sl_canon] theorem awR7 (hh hs) : (wa.slice (Rect.unit (s := S8x3840x512) ![7, 0, 256] S1x3840x256.size hh) hs).squeeze S3840x256 squeezes_S1x3840x256_S3840x256 = aw 7 1 := aw_congr (by decide) _ _
@[sl_canon] theorem gwL7 (hh hs) : guM.slice (Rect.unit (s := S3840x30720) ![0, 1792] S3840x256.size hh) hs = gw 7 0 := gw_congr (by decide) _ _
@[sl_canon] theorem gwR7 (hh hs) : guM.slice (Rect.unit (s := S3840x30720) ![0, 17152] S3840x256.size hh) hs = gw 7 1 := gw_congr (by decide) _ _

/-- Trip `k`: slot and semaphore `k mod 8`, pair `k` waited for, pair `k + 8` issued. -/
@[sl_canon] theorem asmW (k : Fin k0_t2_loop.trips) (hh) :
    (cc0_scratch21.slice (Rect.unit (s := S8) (k0_off15 k) S1.size hh)).squeeze S_ squeezes_S1_S_ = asm (slA k.val) := asm_congr (aoff6_eq k) _
@[sl_canon] theorem awW0 (k : Fin k0_t2_loop.trips) (hh hs) :
    (wa.slice (Rect.unit (s := S8x3840x512) (k0_off16 k) S1x3840x256.size hh) hs).squeeze S3840x256 squeezes_S1x3840x256_S3840x256 = aw (slA k.val) 0 := aw_congr (aoff7_eq k) _ _
@[sl_canon] theorem awW1 (k : Fin k0_t2_loop.trips) (hh hs) :
    (wa.slice (Rect.unit (s := S8x3840x512) (k0_off18 k) S1x3840x256.size hh) hs).squeeze S3840x256 squeezes_S1x3840x256_S3840x256 = aw (slA k.val) 1 := aw_congr (aoff9_eq k) _ _
@[sl_canon] theorem gwW0 (k : Fin k0_t2_loop.trips) (hh hs) :
    guM.slice (Rect.unit (s := S3840x30720) (k0_off17 k 0#32) S3840x256.size hh) hs = gw (Ring.bk 60 k.val) 0 := gw_congr (aoff8_eq0 k) _ _
@[sl_canon] theorem gwW1 (k : Fin k0_t2_loop.trips) (hh hs) :
    guM.slice (Rect.unit (s := S3840x30720) (k0_off17 k 15360#32) S3840x256.size hh) hs = gw (Ring.bk 60 k.val) 1 := gw_congr (aoff8_eq1 k) _ _
@[sl_canon] theorem asmI (k : Fin k0_t2_loop.trips) (hh) :
    (cc0_scratch21.slice (Rect.unit (s := S8) (k0_off23 k) S1.size hh)).squeeze S_ squeezes_S1_S_ = asm (slA k.val) := asm_congr (aoff14_eq k) _
@[sl_canon] theorem awI0 (k : Fin k0_t2_loop.trips) (hh hs) :
    (wa.slice (Rect.unit (s := S8x3840x512) (k0_off24 k) S1x3840x256.size hh) hs).squeeze S3840x256 squeezes_S1x3840x256_S3840x256 = aw (slA k.val) 0 := aw_congr (aoff15_eq k) _ _
@[sl_canon] theorem awI1 (k : Fin k0_t2_loop.trips) (hh hs) :
    (wa.slice (Rect.unit (s := S8x3840x512) (k0_off26 k) S1x3840x256.size hh) hs).squeeze S3840x256 squeezes_S1x3840x256_S3840x256 = aw (slA k.val) 1 := aw_congr (aoff17_eq k) _ _
@[sl_canon] theorem gwI0 (k : Fin k0_t2_loop.trips) (hk : k.val + 8 < 60) (hh hs) :
    guM.slice (Rect.unit (s := S3840x30720) (k0_off25 k 0#32) S3840x256.size hh) hs = gw (Ring.bk 60 (k.val + 8)) 0 := gw_congr (aoff16_eq0 k hk) _ _
@[sl_canon] theorem gwI1 (k : Fin k0_t2_loop.trips) (hk : k.val + 8 < 60) (hh hs) :
    guM.slice (Rect.unit (s := S3840x30720) (k0_off25 k 15360#32) S3840x256.size hh) hs = gw (Ring.bk 60 (k.val + 8)) 1 := gw_congr (aoff16_eq1 k hk) _ _

/-! ## The pieces -/

section Pieces
variable (c : Dev nD) (XG : Buf (Elt F) (guM.view.loc (c : Thread nD τ)))

abbrev acellP (s : Fin 8) : sProp 𝕄 := semVal ((c : Thread nD τ), SemLoc.dma (asm s).sem) 0
/-- Half `u` of slot `s`, held. -/
abbrev awP (s : Fin 8) (u : Fin 2) (f : Buf (Elt F) ((aw s u).view.loc (c : Thread nD τ))) : sProp 𝕄 :=
  (aw s u).view.loc (c : Thread nD τ) ↦[(aw s u).view.set]{fullShare} f
/-- Slot `s`, held. -/
abbrev aslotP (s : Fin 8) (f : Buf (Elt F) ((aslot s).view.loc (c : Thread nD τ))) : sProp 𝕄 :=
  (aslot s).view.loc (c : Thread nD τ) ↦[(aslot s).view.set]{fullShare} f
/-- Half `u` of pair `b` at home. -/
abbrev gwP (b : Fin 60) (u : Fin 2) : sProp 𝕄 := (gw b u).view.loc (c : Thread nD τ) ↦[(gw b u).view.set]{fullShare} XG
/-- Pair `b` at home. -/
def ahomeP (b : Fin 60) : sProp 𝕄 := iprop(gwP c XG b 0 ∗ gwP c XG b 1)
/-- Half `u` of pair `b` as a payload. -/
abbrev apay (b : Fin 60) (u : Fin 2) : S3840x256.Idx → Elt F .fp8e4m3 := ReadAs.same.apply ((gw b u).view.read (Elt F) XG)
/-- What its transfer leaves in half `u` of slot `s`. -/
abbrev aland (s : Fin 8) (b : Fin 60) (u : Fin 2) : Buf (Elt F) ((aw s u).view.loc (c : Thread nD τ)) :=
  (aw s u).view.writes (Elt F) (aw s u).view.junk [⟨Rect.whole S3840x256, apay c XG b u⟩]
/-- The two deliveries of pair `b` into slot `s`: the half landed, the columns back. -/
abbrev adeliv (s : Fin 8) (b : Fin 60) (u : Fin 2) : sProp 𝕄 := iprop(awP c s u (aland c XG s b u) ∗ gwP c XG b u)
instance adeliv_storable (s : Fin 8) (b : Fin 60) (u : Fin 2) : Storable (upEmb : UEmb _ 𝕄) (adeliv c XG s b u) := by
  dsimp only [adeliv]
  have h1 : Storable (upEmb : UEmb _ 𝕄) (awP c s u (aland c XG s b u)) := by dsimp only [awP]; infer_instance
  have h2 : Storable (upEmb : UEmb _ 𝕄) (gwP c XG b u) := by
    have h (X : Buf (Elt F) ((gw b u).view.loc (c : Thread nD τ))) : Storable (upEmb : UEmb _ 𝕄) ((gw b u).view.loc (c : Thread nD τ) ↦[(gw b u).view.set]{fullShare} X) := by infer_instance
    exact h XG
  infer_instance
/-- Slot `s` in flight with pair `b`: both copies issued, neither waited for. -/
abbrev ainflP (s : Fin 8) (b : Fin 60) : sProp 𝕄 :=
  Transfers.Batch countersEmb (c : Thread nD τ) (SemLoc.dma (asm s).sem) () 30720 (adeliv c XG s b) 2 0
/-- A slot free, its counter at zero. -/
def afreeP (s : Fin 8) : sProp 𝕄 := iprop(acellP c s ∗ ∃ f, aslotP c s f)
/-- The slot that carries pair `p`, before the trip that waits for it. -/
def aroleP (p : ℕ) : sProp 𝕄 := Ring.roleAt (afreeP (F := F) c (slA p)) (ainflP c XG (slA p)) p

theorem ahomes_here (k : ℕ) (hk : k + 8 < 60) :
    bigSep (Ring.homeSet 8 k) (ahomeP c XG) = iprop(ahomeP c XG (Ring.bk 60 (k + 8)) ∗ bigSep ((Ring.homeSet 8 k).erase (Ring.bk 60 (k + 8))) (ahomeP c XG)) := by
  conv_lhs => rw [Ring.homeSet_out 8 k hk, bigSep_insert (Ring.bkL_not_mem_erase 8 k)]
  rfl
theorem ahomes_next (k : ℕ) (hk : k + 8 < 60) :
    bigSep (Ring.homeSet 8 (k + 1)) (ahomeP c XG) = iprop(ahomeP c XG (Ring.bk 60 k) ∗ bigSep ((Ring.homeSet 8 k).erase (Ring.bk 60 (k + 8))) (ahomeP c XG)) := by
  conv_lhs => rw [Ring.homeSet_succ 8 k hk, bigSep_insert (Ring.bk_not_mem_erase 8 k (by omega) (by decide))]
  rfl
theorem ahomes_tail (k : ℕ) (hk : 60 ≤ k + 8) (hp : k < 60) :
    bigSep (Ring.homeSet 8 (k + 1)) (ahomeP c XG) = iprop(ahomeP c XG (Ring.bk 60 k) ∗ bigSep (Ring.homeSet 8 k) (ahomeP c XG)) := by
  conv_lhs => rw [Ring.homeSet_succ_tail 8 k hk hp, bigSep_insert (Ring.bk_not_mem_homeSet 8 k hp (by decide))]
  rfl

omit [FloatOps F] in
theorem slA_add8 (k : ℕ) : slA (k + 8) = slA k := Ring.sl_add 8 k

end Pieces

end Cert.Proof.Kernel

end
-- ==== Proof.Kernel.TripA.lean ====
/-
  One trip of the gate and up projections' loop, at a symbolic trip number: wait for both halves of pair `k`, multiply the
  quantised input with the pair, take the gated activation of 256 columns, store it, fold its magnitudes into the running
  maximum, and issue pair `k + 8` into the slot that was read. The invariant says what the activation buffer and the
  running maximum hold before each trip.
-/
module

public import proofs.«01_k».proof.Proof.Kernel.RingA
public import Idealize.ShloMosaic.Lib.Writes
public import Idealize.ShloMosaic.Lib.WritesUnit
public import Idealize.ShloMosaic.Lib.VecWindow
public import Idealize.ShloMosaic.Lib.Pipeline.Value
public import Idealize.ShloMosaic.Lib.PointwiseCore

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section TripA

variable (c : Dev nD) (XG : Buf (Elt F) (guM.view.loc (c : Thread nD τ)))
  (FQ : fq.view.ty.Contents (Elt F)) (FS : fsV.view.ty.Contents (Elt F)) (SG : sguV.view.ty.Contents (Elt F))
  (arg0 : Memref sig .tc .vmem S6x4x3840 .bf16) (harg0 : arg0.IsWhole) (arg1 : Memref sig .tc .vmem S8x32x512 .fp8e4m3) (harg1 : arg1.IsWhole)
  (arg2 : Memref sig .tc .vmem S24x128 .f32) (harg2 : arg2.IsWhole)

/-- A whole buffer held at given contents. -/
abbrev held (b : Ref sig .tc) (f : b.ty.Contents (Elt F)) : sProp 𝕄 :=
  (Memref.whole b).view.loc (c : Thread nD τ) ↦{fullShare} f

/-! ## A slot is its two halves -/

abbrev AW (s : Fin 8) (u : Fin 2) : Finset S8x3840x512.Idx := (Rect.unit (s := S8x3840x512) (awOff s u) S1x3840x256.size (awOff_inb s u)).set
abbrev AS (s : Fin 8) : Finset S8x3840x512.Idx := (Rect.unit (s := S8x3840x512) (aslotOff s) S1x3840x512.size (aslotOff_inb s)).set
omit [FloatOps F] in
theorem aw_set (s : Fin 8) (u : Fin 2) : (aw s u : Memref sig .tc .vmem _ _).view.set = AW s u := (View.set_reshape _ _).trans (View.set_slice_whole _ _)
omit [FloatOps F] in
theorem aslot_set (s : Fin 8) : (aslot s : Memref sig .tc .vmem _ _).view.set = AS s := View.set_slice_whole _ _
theorem mem_AW (s : Fin 8) (u : Fin 2) (y : S8x3840x512.Idx) : y ∈ AW s u ↔ (y 0).val = s.val ∧ (y 2).val / 256 = u.val := by
  rw [Rect.mem_set_unit]
  have h1 : (y 1).val < 3840 := (y 1).isLt
  constructor
  · intro H
    have a0 : s.val ≤ (y 0).val ∧ (y 0).val < s.val + 1 := H 0
    have a2 : 256 * u.val ≤ (y 2).val ∧ (y 2).val < 256 * u.val + 256 := H 2
    omega
  · intro H i; fin_cases i
    · show s.val ≤ (y 0).val ∧ (y 0).val < s.val + 1; omega
    · show 0 ≤ (y 1).val ∧ (y 1).val < 0 + 3840; omega
    · show 256 * u.val ≤ (y 2).val ∧ (y 2).val < 256 * u.val + 256; omega
theorem mem_AS (s : Fin 8) (y : S8x3840x512.Idx) : y ∈ AS s ↔ (y 0).val = s.val := by
  rw [Rect.mem_set_unit]
  have h1 : (y 1).val < 3840 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3840; omega
    · show 0 ≤ (y 2).val ∧ (y 2).val < 0 + 512; omega
theorem AW_disjoint (s : Fin 8) : Disjoint (AW s 0) (AW s 1) := by
  rw [Finset.disjoint_left]; intro y hy hy'; rw [mem_AW] at hy hy'
  have := hy.2; have := hy'.2; simp at *; omega
theorem AW_union (s : Fin 8) : AW s 0 ∪ AW s 1 = AS s := by
  ext y; rw [Finset.mem_union, mem_AW, mem_AW, mem_AS]
  have h2 : (y 2).val < 512 := (y 2).isLt
  have e0 : ((0 : Fin 2)).val = 0 := rfl
  have e1 : ((1 : Fin 2)).val = 1 := rfl
  rw [e0, e1]; omega

omit [FloatOps F] in
theorem awP_eq (s : Fin 8) (u : Fin 2) (f) : awP c s u f = (((c : Thread nD τ).loc cc0_scratch6) ↦[AW s u]{fullShare} f : sProp 𝕄) :=
  congrArg (fun S => (_ ↦[S]{fullShare} f : sProp 𝕄)) (aw_set s u)
omit [FloatOps F] in
theorem aslotP_eq (s : Fin 8) (f) : aslotP c s f = (((c : Thread nD τ).loc cc0_scratch6) ↦[AS s]{fullShare} f : sProp 𝕄) :=
  congrArg (fun S => (_ ↦[S]{fullShare} f : sProp 𝕄)) (aslot_set s)

/-- A slot splits into its halves; -/
theorem aslot_split (s : Fin 8) (f : Buf (Elt F) ((aslot s).view.loc (c : Thread nD τ))) :
    aslotP c s f ⊢ iprop(awP c s 0 f ∗ awP c s 1 f) := by
  refine (entails_of_eq (aslotP_eq c s f)).trans ?_
  rw [← AW_union]
  refine (pointsTo_union (AW_disjoint s)).1.trans ?_
  iintro ⟨H0, H1⟩
  isplitl [H0]
  · iapply (entails_of_eq (awP_eq c s 0 f).symm); iexact H0
  · iapply (entails_of_eq (awP_eq c s 1 f).symm); iexact H1
/-- two halves join to a slot, whatever each holds. -/
theorem aslot_join (s : Fin 8) (f0 f1 : wa.view.ty.Contents (Elt F)) :
    iprop(awP c s 0 f0 ∗ awP c s 1 f1) ⊢ (iprop(∃ g : wa.view.ty.Contents (Elt F), aslotP c s g ∗ ⌜(aw s 0).view.read (Elt F) g = (aw s 0).view.read (Elt F) f0 ∧ (aw s 1).view.read (Elt F) g = (aw s 1).view.read (Elt F) f1⌝) : sProp 𝕄) := by
  iintro ⟨H0, H1⟩
  ihave H0' := (entails_of_eq (awP_eq c s 0 f0)) $$ H0
  ihave H1' := (entails_of_eq (awP_eq c s 1 f1)) $$ H1
  ihave H2 := (pointsTo_join (Ix := Unit) (Name := ℕ) (U := UU nD τ) (Lvl := ℕ) (ℓ := (c : Thread nD τ).loc cc0_scratch6) (q := fullShare) (f := f0) (g := f1) (AW_disjoint s)) $$ [H0' H1']
  · isplitl [H0'] <;> iassumption
  iexists ((AW s 1).piecewise f1 f0 : wa.view.ty.Contents (Elt F))
  isplitl [H2]
  · iapply (entails_of_eq (aslotP_eq c s _).symm)
    rw [← AW_union]
    iexact H2
  ipureintro
  refine ⟨View.read_congr (fun i hi => ?_), View.read_congr (fun i hi => ?_)⟩
  · rw [aw_set] at hi
    exact Finset.piecewise_eq_of_notMem _ _ _ (Finset.disjoint_left.1 (AW_disjoint s) hi)
  · rw [aw_set] at hi
    exact Finset.piecewise_eq_of_mem _ _ _ hi

/-! ## What a trip computes -/

/-- Pair `k` of the weight as the trip loads it: the gate's 256 columns, then the up's. -/
def slabA (k : ℕ) : Vec F S1x3840x512 .fp8e4m3 := fun i =>
  if h : (i 2).val < 256 then apay c XG (Ring.bk 60 k) 0 (fun a => match a with | ⟨0, _⟩ => i 1 | ⟨1, _⟩ => ⟨(i 2).val, h⟩)
  else apay c XG (Ring.bk 60 k) 1 (fun a => match a with
    | ⟨0, _⟩ => i 1 | ⟨1, _⟩ => ⟨(i 2).val - 256, by have h2 : (i 2).val < 512 := (i 2).isLt; show _ < 256; omega⟩)

/-- A half of a slot, read at one place. -/
theorem aw_read (s : Fin 8) (u : Fin 2) (g : wa.view.ty.Contents (Elt F)) (x : S3840x256.Idx) (y : S8x3840x512.Idx)
    (h0 : (y 0).val = s.val) (h1 : (y 1).val = (x 0).val) (h2 : (y 2).val = 256 * u.val + (x 1).val) :
    (aw s u).view.read (Elt F) g x = g y := by
  have e : (aw s u).view.read (Elt F) g = shapeCast S3840x256 (s := S1x3840x256) (wa.view.readAt (Elt F) (Rect.unit (s := S8x3840x512) (awOff s u) S1x3840x256.size (awOff_inb s u)).toLoadRect g) (by decide) := rfl
  rw [e]
  refine (shapeCast_apply _ _ x (fun a => match a with | ⟨0, _⟩ => ⟨0, Nat.one_pos⟩ | ⟨1, _⟩ => x 0 | ⟨2, _⟩ => x 1) ?_).trans ?_
  · rw [Shape.rowMajor_val_three, Shape.rowMajor_val_two]
    show (0 * 3840 + (x 0).val) * 256 + (x 1).val = (x 0).val * 256 + (x 1).val
    omega
  · rw [View.readAt_apply, View.read_whole]
    refine congrArg g (funext fun a => Fin.ext ?_)
    match a with
    | ⟨0, _⟩ => show s.val + 1 * 0 = (y 0).val; omega
    | ⟨1, _⟩ => show 0 + 1 * (x 0).val = (y 1).val; omega
    | ⟨2, _⟩ => show 256 * u.val + 1 * (x 1).val = (y 2).val; omega

/-- A load of the slot that pair `k` landed in reads the pair. -/
theorem load_slotA (k : Fin k0_t2_loop.trips) (g : wa.view.ty.Contents (Elt F))
    (hg0 : (aw (slA k.val) 0).view.read (Elt F) g = apay c XG (Ring.bk 60 k.val) 0)
    (hg1 : (aw (slA k.val) 1).view.read (Elt F) g = apay c XG (Ring.bk 60 k.val) 1) :
    View.readAt (Elt F) wa.view (Rect.unit (s := S8x3840x512) (k0_off19 k) S1x3840x512.size (k0_off19_inb k)).toLoadRect g = slabA c XG k.val := by
  rw [View.readAt_unit_congr wa.view (aoff10_eq k) _ (aslotOff_inb _) g]
  funext i
  have hi0 : (i 0).val < 1 := (i 0).isLt
  have hi2 : (i 2).val < 512 := (i 2).isLt
  rw [View.readAt_apply, View.read_whole]
  unfold slabA
  split
  · rename_i h
    rw [← hg0]
    refine (aw_read _ 0 g _ _ ?_ ?_ ?_).symm
    · show (slA k.val).val + 1 * (i 0).val = (slA k.val).val; omega
    · show 0 + 1 * (i 1).val = (i 1).val; omega
    · show 0 + 1 * (i 2).val = 256 * 0 + (i 2).val; omega
  · rename_i h
    rw [← hg1]
    refine (aw_read _ 1 g _ _ ?_ ?_ ?_).symm
    · show (slA k.val).val + 1 * (i 0).val = (slA k.val).val; omega
    · show 0 + 1 * (i 1).val = (i 1).val; omega
    · show 0 + 1 * (i 2).val = 256 * 1 + ((i 2).val - 256); omega

/-- The input's scale, one column. -/
abbrev fsOf : Vec F S24x1 .f32 := fsV.view.readAt (Elt F) (Rect.unit (s := S24x128) ![0, 0] S24x1.size inb_S24x128_S24x1_0_0).toLoadRect FS
/-- The gate's and the up's scales of trip `k`. -/
abbrev sgOf (k : Fin k0_t2_loop.trips) : Vec F S1x256 .f32 := sguV.view.readAt (Elt F) (Rect.unit (s := S1x30720) (k0_off20 k) S1x256.size (k0_off20_inb k)).toLoadRect SG
abbrev suOf (k : Fin k0_t2_loop.trips) : Vec F S1x256 .f32 := sguV.view.readAt (Elt F) (Rect.unit (s := S1x30720) (k0_off21 k) S1x256.size (k0_off21_inb k)).toLoadRect SG

/-- The activation of trip `k`, 24 rows of 256 columns. -/
def gact (k : Fin k0_t2_loop.trips) : FVec F S24x256 .f32 :=
  k0_pay32 (k0_pay1 FQ (slabA c XG k.val) (fsOf FS)) (k0_pay2 FQ (slabA c XG k.val) (fsOf FS)) (sgOf SG k) (suOf SG k)

/-- The running maximum before trip `k`, lane by lane. -/
def lanesAt : ℕ → FVec F S24x128 .f32
  | 0 => k0_pay31 (F := F) (k0_pay30 (F := F))
  | k + 1 => if h : k < k0_t2_loop.trips then
      k0_pay34 (k0_pay1 FQ (slabA c XG k) (fsOf FS)) (k0_pay2 FQ (slabA c XG k) (fsOf FS)) (sgOf SG ⟨k, h⟩) (suOf SG ⟨k, h⟩) (lanesAt k)
    else lanesAt k

theorem lanes_succ (k : Fin k0_t2_loop.trips) :
    lanesAt c XG FQ FS SG (k.val + 1) = k0_pay34 (k0_pay1 FQ (slabA c XG k.val) (fsOf FS)) (k0_pay2 FQ (slabA c XG k.val) (fsOf FS)) (sgOf SG k) (suOf SG k) (lanesAt c XG FQ FS SG k.val) := by
  rw [lanesAt, dif_pos k.isLt]

/-- All the activations: slice `q` is trip `q`'s. -/
def actAll : S60x24x256.Idx → Elt F .f32 := fun i =>
  gact c XG FQ FS SG (Fin.cast trips1_eq.symm (i 0)) (fun a => match a with | ⟨0, _⟩ => i 1 | ⟨1, _⟩ => i 2)

/-- The first `k` slices are stored. -/
def ActTo (k : ℕ) (f : cc0_scratch11.ty.Contents (Elt F)) : Prop :=
  ∀ i : S60x24x256.Idx, (i 0).val < k → f i = actAll c XG FQ FS SG i

/-- Trip `k`'s store extends the stored slices by one. -/
theorem act_step (k : Fin k0_t2_loop.trips) (f : cc0_scratch11.ty.Contents (Elt F)) (hf : ActTo c XG FQ FS SG k.val f)
    (w : Vec F S1x3840x512 .fp8e4m3) (hw : w = slabA c XG k.val) :
    ActTo c XG FQ FS SG (k.val + 1) (actV.view.writes (Elt F) f
      [⟨Rect.unit (s := S60x24x256) (k0_off22 k) S1x24x256.size (k0_off22_inb k),
        k0_pay33 (k0_pay1 FQ w (fsOf FS)) (k0_pay2 FQ w (fsOf FS)) (sgOf SG k) (suOf SG k)⟩]) := by
  subst hw
  intro i hi
  have hi1 : (i 1).val < 24 := (i 1).isLt
  have hi2 : (i 2).val < 256 := (i 2).isLt
  refine Eq.trans (congrFun (View.read_whole cc0_scratch11 _).symm i) ?_
  rw [View.read_writes_cons_unit _ _ _ _ _ _ (aoff13_eq k)]
  split
  · rename_i h
    have h0 : k.val ≤ (i 0).val ∧ (i 0).val < k.val + 1 := h 0
    have hk : Fin.cast trips1_eq.symm (i 0) = k := Fin.ext (by show (i 0).val = k.val; omega)
    have e : ∀ (a : FVec F S24x512 .f32) (b : FVec F S24x256 .f32) (p q : Vec F S1x256 .f32),
        k0_pay33 a b p q = shapeCast S1x24x256 (k0_pay32 a b p q) shapeCasts_S24x256_S1x24x256 := fun _ _ _ _ => rfl
    unfold actAll
    rw [hk, e]
    unfold gact
    refine shapeCast_apply _ _ _ _ ?_
    rw [Shape.rowMajor_val_three, Shape.rowMajor_val_two, Rect.unitLocal_val, Rect.unitLocal_val, Rect.unitLocal_val]
    show (i 1).val * 256 + (i 2).val = (((i 0).val - k.val) * 24 + ((i 1).val - 0)) * 256 + ((i 2).val - 0)
    have : (i 0).val - k.val = 0 := by omega
    rw [this]; omega
  · rename_i h
    refine hf i (Nat.lt_of_not_le fun hle => h fun a => ?_)
    match a with
    | ⟨0, _⟩ => show k.val ≤ (i 0).val ∧ (i 0).val < k.val + 1; omega
    | ⟨1, _⟩ => show 0 ≤ (i 1).val ∧ (i 1).val < 0 + 24; omega
    | ⟨2, _⟩ => show 0 ≤ (i 2).val ∧ (i 2).val < 0 + 256; omega

/-- Storing the maximum whole. -/
theorem amax_store (f : amax.view.ty.Contents (Elt F)) (w : Vec F S24x128 .f32) :
    amax.view.writes (Elt F) f [⟨Rect.unit ![0, 0] S24x128.size inb_S24x128_S24x128_0_0, w⟩] = w :=
  (View.read_whole cc0_scratch12 _).symm.trans (View.read_writes_full amax.view f inb_S24x128_S24x128_0_0 w [])
/-- Loading it whole. -/
theorem amax_load (f : amax.view.ty.Contents (Elt F)) :
    amax.view.readAt (Elt F) (Rect.unit (s := S24x128) ![0, 0] S24x128.size inb_S24x128_S24x128_0_0).toLoadRect f = f :=
  (View.readAt_full _ _ _).trans (View.read_whole cc0_scratch12 f)
/-- Loading the quantised input whole. -/
theorem fq_load (f : fq.view.ty.Contents (Elt F)) :
    fq.view.readAt (Elt F) (Rect.unit (s := S32x3840) ![0, 0] S32x3840.size inb_S32x3840_S32x3840_0_0).toLoadRect f = f :=
  (View.readAt_full _ _ _).trans (View.read_whole cc0_scratch10 f)

/-- Trip `k`'s store into the maximum. -/
theorem amax_step (k : Fin k0_t2_loop.trips) (f : amax.view.ty.Contents (Elt F)) (w : Vec F S1x3840x512 .fp8e4m3)
    (hf : f = lanesAt c XG FQ FS SG k.val) (hw : w = slabA c XG k.val) :
    amax.view.writes (Elt F) f [⟨Rect.unit ![0, 0] S24x128.size inb_S24x128_S24x128_0_0,
        k0_pay34 (k0_pay1 FQ w (fsOf FS)) (k0_pay2 FQ w (fsOf FS)) (sgOf SG k) (suOf SG k)
          (amax.view.readAt (Elt F) (Rect.unit (s := S24x128) ![0, 0] S24x128.size inb_S24x128_S24x128_0_0).toLoadRect f)⟩]
      = lanesAt c XG FQ FS SG (k.val + 1) := by
  rw [amax_store, amax_load, hf, hw, lanes_succ]

/-! ## One trip -/

abbrev tripA (v247 : FVec F S24x128 .f32)
    (k : Fin k0_t2_loop.trips) : Prog (TpuEff nD τ sig (Elt F) Λ₀ .tc) Unit :=
  k0_t2_body (F := F) arg0 harg0 arg1 harg1 arg2 harg2 woM (Memref.isWhole_whole _) soM (Memref.isWhole_whole _) pawM (Memref.isWhole_whole _)
    pfwM (Memref.isWhole_whole _) guM (Memref.isWhole_whole _) sguM (Memref.isWhole_whole _)
    wM (Memref.isWhole_whole _) sdnM (Memref.isWhole_whole _) powM (Memref.isWhole_whole _)
    hidM (Memref.isWhole_whole _) oM (Memref.isWhole_whole _) dM (Memref.isWhole_whole _) fcM (Memref.isWhole_whole _) fsM (Memref.isWhole_whole _)
    codM (Memref.isWhole_whole _) sclM (Memref.isWhole_whole _)
    soV (Memref.isWhole_whole _) pawV (Memref.isWhole_whole _) pfwV (Memref.isWhole_whole _) sguV (Memref.isWhole_whole _) sdnV (Memref.isWhole_whole _) powV (Memref.isWhole_whole _)
    wa (Memref.isWhole_whole _) wb (Memref.isWhole_whole _) xresV (Memref.isWhole_whole _) oacc (Memref.isWhole_whole _) fq (Memref.isWhole_whole _)
    actV (Memref.isWhole_whole _) amax (Memref.isWhole_whole _) hidV (Memref.isWhole_whole _) oV (Memref.isWhole_whole _) dV (Memref.isWhole_whole _)
    fcV (Memref.isWhole_whole _) fsV (Memref.isWhole_whole _) codV (Memref.isWhole_whole _) sclV (Memref.isWhole_whole _)
    cc0_scratch20 cc0_scratch21 cc0_scratch22 cc0_scratch23 v247 k ()

/-- What the trips hold before trip `k`, the slots apart. -/
abbrev heldA (k : ℕ) : sProp 𝕄 :=
  iprop(held c cc0_scratch10 FQ ∗ held c cc0_scratch17 FS ∗ held c cc0_scratch3 SG
    ∗ (∃ f, held c cc0_scratch11 f ∗ ⌜ActTo c XG FQ FS SG k f⌝)
    ∗ (∃ f, held c cc0_scratch12 f ∗ ⌜f = lanesAt c XG FQ FS SG k⌝) ∗ ∃ W, owes (c : Thread nD τ) 0 W)

variable (v247 : FVec F S24x128 .f32)

/-- A trip that issues nothing. -/
theorem tripA_last (k : Fin k0_t2_loop.trips) (hk : ¬ k.val + 8 < 60) :
    iprop(heldA c XG FQ FS SG k.val ∗ ainflP c XG (slA k.val) (Ring.bk 60 k.val))
    ⊢ wp frame (wpE (defs₀ (F := F)) 𝒱₀ (c : Thread nD τ) none) Set.univ (tripA arg0 harg0 arg1 harg1 arg2 harg2 v247 k)
        (fun _ => iprop(heldA c XG FQ FS SG (k.val + 1) ∗ ahomeP c XG (Ring.bk 60 k.val) ∗ afreeP c (slA k.val))) := by
  have hc : ¬ k0_cond3 k = 1#1 := fun h => hk ((acond_iff k).1 h)
  unfold afreeP ahomeP
  iintro ⟨⟨HQ, HS, HG, ⟨%fa, HA, %hA⟩, ⟨%fm, HM, %hM⟩, ⟨%W, HW⟩⟩, HB⟩
  dsimp only [tripA]
  sl_unfold [k0_t2_body]
  sl_exec
  ihave HJ := (aslot_join c (slA k.val) _ _) $$ [HB_dst0 HB_dst1]
  · isplitl [HB_dst0]; · iexact HB_dst0
    iexact HB_dst1
  icases HJ with ⟨%g, HJ, %hg⟩
  have hv := load_slotA c XG k g (hg.1.trans (View.read_writes_whole _ _ _)) (hg.2.trans (View.read_writes_whole _ _ _))
  sl_exec
  sl_step
  have er : tripA_last.sl.r c XG FQ FS k = k0_pay1 FQ (slabA c XG k.val) (fsOf FS) := by
    delta tripA_last.sl.r; rw [fq_load]
  have er1 : tripA_last.sl.r_1 c XG FQ FS k = k0_pay2 FQ (slabA c XG k.val) (fsOf FS) := by
    delta tripA_last.sl.r_1; rw [fq_load]
  have ea := act_step c XG FQ FS SG k fa hA _ rfl
  have em := amax_step c XG FQ FS SG k fm _ hM rfl
  rw [← er, ← er1] at ea em
  isplitl [HQ HS HG HA HM HW]
  · isplitl [HQ]; · iexact HQ
    isplitl [HS]; · iexact HS
    isplitl [HG]; · iexact HG
    isplitl [HA]
    · iexists _; isplitl [HA]; · iexact HA
      ipureintro; exact ea
    isplitl [HM]
    · iexists _; isplitl [HM]; · iexact HM
      ipureintro; exact em
    iexists _; iexact HW
  isplitl [HB_src0 HB_src1]
  · isplitl [HB_src0]; · iexact HB_src0
    iexact HB_src1
  isplitl [HB]; · iexact HB
  iexists g; iexact HJ

/-- A trip that issues pair `k + 8`. -/
theorem tripA_issue (k : Fin k0_t2_loop.trips) (hk : k.val + 8 < 60) :
    iprop(heldA c XG FQ FS SG k.val ∗ ahomeP c XG (Ring.bk 60 (k.val + 8)) ∗ ainflP c XG (slA k.val) (Ring.bk 60 k.val))
    ⊢ wp frame (wpE (defs₀ (F := F)) 𝒱₀ (c : Thread nD τ) none) Set.univ (tripA arg0 harg0 arg1 harg1 arg2 harg2 v247 k)
        (fun _ => iprop(heldA c XG FQ FS SG (k.val + 1) ∗ ahomeP c XG (Ring.bk 60 k.val) ∗ ainflP c XG (slA k.val) (Ring.bk 60 (k.val + 8)))) := by
  have hc : k0_cond3 k = 1#1 := (acond_iff k).2 hk
  unfold ahomeP
  iintro ⟨⟨HQ, HS, HG, ⟨%fa, HA, %hA⟩, ⟨%fm, HM, %hM⟩, ⟨%W, HW⟩⟩, ⟨Hg0, Hg1⟩, HB⟩
  dsimp only [tripA]
  sl_unfold [k0_t2_body]
  sl_exec
  ihave HJ := (aslot_join c (slA k.val) _ _) $$ [HB_dst0 HB_dst1]
  · isplitl [HB_dst0]; · iexact HB_dst0
    iexact HB_dst1
  icases HJ with ⟨%g, HJ, %hg⟩
  have hv := load_slotA c XG k g (hg.1.trans (View.read_writes_whole _ _ _)) (hg.2.trans (View.read_writes_whole _ _ _))
  haveI : ∀ t, Storable (upEmb : UEmb _ 𝕄) (adeliv c XG (slA k.val) (Ring.bk 60 (k.val + 8)) t) := adeliv_storable c XG _ _
  imod (Transfers.batch_alloc' countersEmb (c : Thread nD τ) () 30720 (adeliv c XG (slA k.val) (Ring.bk 60 (k.val + 8))) (sm := SemLoc.dma (asm (slA k.val)).sem) (E := Set.univ)) $$ HB with HN
  sl_exec
  ihave HS2 := (aslot_split c (slA k.val) g) $$ HJ
  icases HS2 with ⟨HJ0, HJ1⟩
  sl_exec
  sl_step
  have er : tripA_issue.sl.r c XG FQ FS k = k0_pay1 FQ (slabA c XG k.val) (fsOf FS) := by
    delta tripA_issue.sl.r; rw [fq_load]
  have er1 : tripA_issue.sl.r_1 c XG FQ FS k = k0_pay2 FQ (slabA c XG k.val) (fsOf FS) := by
    delta tripA_issue.sl.r_1; rw [fq_load]
  have ea := act_step c XG FQ FS SG k fa hA _ rfl
  have em := amax_step c XG FQ FS SG k fm _ hM rfl
  rw [← er, ← er1] at ea em
  isplitl [HQ HS HG HA HM HW]
  · isplitl [HQ]; · iexact HQ
    isplitl [HS]; · iexact HS
    isplitl [HG]; · iexact HG
    isplitl [HA]
    · iexists _; isplitl [HA]; · iexact HA
      ipureintro; exact ea
    isplitl [HM]
    · iexists _; isplitl [HM]; · iexact HM
      ipureintro; exact em
    iexists _; iexact HW
  isplitl [HB_src0 HB_src1]
  · isplitl [HB_src0]; · iexact HB_src0
    iexact HB_src1
  iexact HN

/-! ## The loop's invariant -/

/-- Before trip `k`: the activations and the maximum so far, pairs `k + 8` and on and those before `k` at home, and the
    eight slots with pairs `k` to `k + 7`, or free past the last. -/
abbrev invA (k : ℕ) : sProp 𝕄 :=
  iprop(heldA c XG FQ FS SG k ∗ bigSep (Ring.homeSet 8 k) (ahomeP c XG)
    ∗ aroleP c XG k ∗ aroleP c XG (k + 1) ∗ aroleP c XG (k + 2) ∗ aroleP c XG (k + 3) ∗ aroleP c XG (k + 4) ∗ aroleP c XG (k + 5) ∗ aroleP c XG (k + 6) ∗ aroleP c XG (k + 7))

theorem aroleP_lt (k : ℕ) (hk : k < 60) : aroleP c XG k = ainflP c XG (slA k) (Ring.bk 60 k) := Ring.roleAt_of_lt _ _ _ hk
theorem aroleP_ge (k : ℕ) (hk : 60 ≤ k) : aroleP c XG k = afreeP c (slA k) := Ring.roleAt_of_le _ _ _ hk

/-- The role after next round, in flight. -/
theorem arole_in (k : ℕ) (hk : k + 8 < 60) : ainflP c XG (slA k) (Ring.bk 60 (k + 8)) = aroleP c XG (k + 8) := by
  rw [aroleP_lt c XG (k + 8) hk, slA_add8]
/-- The role after next round, free. -/
theorem arole_free (k : ℕ) (hk : ¬ k + 8 < 60) : afreeP c (slA k) = aroleP c XG (k + 8) := by
  rw [aroleP_ge c XG (k + 8) (by omega), slA_add8]

theorem tripA_step (k : Fin k0_t2_loop.trips) :
    invA c XG FQ FS SG k.val ⊢ wp frame (wpE (defs₀ (F := F)) 𝒱₀ (c : Thread nD τ) none) Set.univ
      (tripA arg0 harg0 arg1 harg1 arg2 harg2 v247 k) (fun _ => invA c XG FQ FS SG (k.val + 1)) := by
  have hk60 := trip1_lt k
  have e : k.val + 1 + 7 = k.val + 8 := by omega
  unfold invA
  rw [aroleP_lt c XG k.val hk60]
  by_cases hk : k.val + 8 < 60
  · rw [ahomes_here c XG k.val hk, ahomes_next c XG k.val hk]
    rw [e, ← arole_in c XG k.val hk]
    iintro ⟨HH, ⟨Hg, Hr⟩, H0, H1, H2, H3, H4, H5, H6, H7⟩
    iapply (wp_wand_r Idealize.ShloMosaic.frame (wpE (defs₀ (F := F)) 𝒱₀ (c : Thread nD τ) none) Set.univ)
    isplitl [HH Hg H0]
    · iapply (tripA_issue c XG FQ FS SG arg0 harg0 arg1 harg1 arg2 harg2 v247 k hk)
      isplitl [HH]; · iexact HH
      isplitl [Hg]; · iexact Hg
      iexact H0
    · iintro %_ ⟨HH, Hg, H8⟩
      isplitl [HH]; · iexact HH
      isplitl [Hg Hr]; · isplitl [Hg] <;> iassumption
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · rw [ahomes_tail c XG k.val (by omega) hk60]
    rw [e, ← arole_free c XG k.val hk]
    iintro ⟨HH, Hh, H0, H1, H2, H3, H4, H5, H6, H7⟩
    iapply (wp_wand_r Idealize.ShloMosaic.frame (wpE (defs₀ (F := F)) 𝒱₀ (c : Thread nD τ) none) Set.univ)
    isplitl [HH H0]
    · iapply (tripA_last c XG FQ FS SG arg0 harg0 arg1 harg1 arg2 harg2 v247 k hk)
      isplitl [HH]; · iexact HH
      iexact H0
    · iintro %_ ⟨HH, Hg, H8⟩
      isplitl [HH]; · iexact HH
      isplitl [Hg Hh]; · isplitl [Hg] <;> iassumption
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

end TripA

end Cert.Proof.Kernel

end
-- ==== Proof.Kernel.Trip.lean ====
/-
  One trip of the down projection's loop, at a symbolic trip number: quantise 512 activation columns, store the six row
  groups of codes, wait for block `k` of the weight, add the product to the accumulator, and issue block `k + 6` into the
  slot that was read. The invariant says what the accumulator and the codes' array hold before each trip.
-/
module

public import proofs.«01_k».proof.Proof.Kernel.TripA
public import Idealize.ShloMosaic.Lib.Writes
public import Idealize.ShloMosaic.Lib.WritesUnit
public import Idealize.ShloMosaic.Lib.VecWindow
public import Idealize.ShloMosaic.Lib.Pipeline.Value
public import Idealize.ShloMosaic.Lib.PointwiseCore

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip

variable (c : Dev nD) (XW : Buf (Elt F) (wM.view.loc (c : Thread nD τ)))
  (arg0 : Memref sig .tc .vmem S6x4x3840 .bf16) (harg0 : arg0.IsWhole) (arg1 : Memref sig .tc .vmem S8x32x512 .fp8e4m3) (harg1 : arg1.IsWhole)
  (arg2 : Memref sig .tc .vmem S24x128 .f32) (harg2 : arg2.IsWhole)
  (g0 : actV.view.ty.Contents (Elt F))
  (gm : Buf (Elt F) (amax.view.loc (c : Thread nD τ)))
  (v247 : FVec F S24x128 .f32)

/-- The codes trip `k` makes: 24 rows of 512 columns, padded with eight rows of zeros. -/
def codes (k : Fin k0_t3_loop.trips) : FVec F S32x512 .fp8e4m3 :=
  k0_pay3 (actV.view.readAt (Elt F) (Rect.unit (s := S60x24x256) (k0_off27 k) S1x24x256.size (k0_off27_inb k)).toLoadRect g0)
    (actV.view.readAt (Elt F) (Rect.unit (s := S60x24x256) (k0_off28 k) S1x24x256.size (k0_off28_inb k)).toLoadRect g0)
    (amax.view.readAt (Elt F) (Rect.unit (s := S24x128) ![0, 0] S24x1.size inb_S24x128_S24x1_0_0).toLoadRect gm)

/-- Block `k` of the weight as the trip loads it. -/
def slab (k : ℕ) : Vec F S1x512x3840 .fp8e4m3 := shapeCast S1x512x3840 (payload c XW (Ring.bk 30 k)) (by decide)

/-- The accumulator before trip `k`. -/
def acc : ℕ → Vec F S32x3840 .f32
  | 0 => k0_pay38 (F := F)
  | k + 1 => if h : k < k0_t3_loop.trips then k0_pay39 (codes c g0 gm ⟨k, h⟩) (acc k) (slab c XW k) else acc k

abbrev tripG (k : Fin k0_t3_loop.trips) : Prog (TpuEff nD τ sig (Elt F) Λ₀ .tc) Unit :=
  k0_t3_body (F := F) arg0 harg0 arg1 harg1 arg2 harg2 woM (Memref.isWhole_whole _) soM (Memref.isWhole_whole _) pawM (Memref.isWhole_whole _)
    pfwM (Memref.isWhole_whole _) guM (Memref.isWhole_whole _) sguM (Memref.isWhole_whole _)
    wM (Memref.isWhole_whole _) sdnM (Memref.isWhole_whole _) powM (Memref.isWhole_whole _)
    hidM (Memref.isWhole_whole _) oM (Memref.isWhole_whole _) dM (Memref.isWhole_whole _) fcM (Memref.isWhole_whole _) fsM (Memref.isWhole_whole _)
    codM (Memref.isWhole_whole _) sclM (Memref.isWhole_whole _)
    soV (Memref.isWhole_whole _) pawV (Memref.isWhole_whole _) pfwV (Memref.isWhole_whole _) sguV (Memref.isWhole_whole _) sdnV (Memref.isWhole_whole _) powV (Memref.isWhole_whole _)
    wa (Memref.isWhole_whole _) wb (Memref.isWhole_whole _) xresV (Memref.isWhole_whole _) oacc (Memref.isWhole_whole _) fq (Memref.isWhole_whole _)
    actV (Memref.isWhole_whole _) amax (Memref.isWhole_whole _) hidV (Memref.isWhole_whole _) oV (Memref.isWhole_whole _) dV (Memref.isWhole_whole _)
    fcV (Memref.isWhole_whole _) fsV (Memref.isWhole_whole _) codV (Memref.isWhole_whole _) sclV (Memref.isWhole_whole _)
    cc0_scratch20 cc0_scratch21 cc0_scratch22 cc0_scratch23 v247 k ()

/-- The activation's buffer. -/
abbrev actP : sProp 𝕄 := held c cc0_scratch11 g0

/-- The codes' array: element `(b, r, q)` is row `4 b + r`, column `q mod 512` of trip `q / 512`'s codes. -/
def codesAll : S6x4x15360.Idx → Elt F .fp8e4m3 := fun i =>
  codes c g0 gm (Fin.cast trips_eq.symm ⟨(i 2).val / 512, Nat.div_lt_of_lt_mul (i 2).isLt⟩)
    (fun a => match a with
      | ⟨0, _⟩ => ⟨4 * (i 0).val + (i 1).val, by have h0 : (i 0).val < 6 := (i 0).isLt; have h1 : (i 1).val < 4 := (i 1).isLt; show _ < 32; omega⟩
      | ⟨1, _⟩ => ⟨(i 2).val % 512, Nat.mod_lt _ (by decide)⟩)

/-- The first `512 k` columns of the codes' array are stored. -/
def CodesTo (k : ℕ) (f : cc0_scratch18.ty.Contents (Elt F)) : Prop :=
  ∀ i : S6x4x15360.Idx, (i 2).val < 512 * k → f i = codesAll c g0 gm i

/-- A row group of the codes, at an index. -/
theorem pieceOf_apply (o : ℕ) (v : FVec F S32x512 .fp8e4m3) (h) (x : S1x4x512.Idx) (y : S32x512.Idx)
    (h0 : (y 0).val = o + (x 1).val) (h1 : (y 1).val = (x 2).val) :
    shapeCast S1x4x512 (extractStridedSlice S4x512 ![o, 0] v h) shapeCasts_S4x512_S1x4x512 x = v y := by
  refine (shapeCast_apply _ _ x (fun a => match a with | ⟨0, _⟩ => x 1 | ⟨1, _⟩ => x 2) ?_).trans (extractStridedSlice_apply _ _ _ _ y ?_)
  · have hx : (x 0).val < 1 := (x 0).isLt
    rw [Shape.rowMajor_val_three, Shape.rowMajor_val_two]
    show (x 1).val * 512 + (x 2).val = ((x 0).val * 4 + (x 1).val) * 512 + (x 2).val
    omega
  · intro a
    match a with
    | ⟨0, _⟩ => exact h0
    | ⟨1, _⟩ => exact h1.trans (Nat.zero_add _).symm

/-- Row group `b` of trip `k`'s codes is its part of the codes' array. -/
theorem piece_hit (k : Fin k0_t3_loop.trips) (b o : ℕ) (ho : o = 4 * b) (i : S6x4x15360.Idx) (hs)
    (h : ∀ a, (![b, 0, 512 * k.val] : Fin 3 → ℕ) a ≤ (i a).val ∧ (i a).val < (![b, 0, 512 * k.val] : Fin 3 → ℕ) a + S1x4x512.size a) :
    shapeCast S1x4x512 (extractStridedSlice S4x512 ![o, 0] (codes c g0 gm k) hs) shapeCasts_S4x512_S1x4x512
        (Rect.unitLocal (s := S6x4x15360) (off := ![b, 0, 512 * k.val]) (size := S1x4x512.size) i h)
      = codesAll c g0 gm i := by
  have h0 : b ≤ (i 0).val ∧ (i 0).val < b + 1 := h 0
  have h2 : 512 * k.val ≤ (i 2).val ∧ (i 2).val < 512 * k.val + 512 := h 2
  have hk : Fin.cast trips_eq.symm (⟨(i 2).val / 512, Nat.div_lt_of_lt_mul (i 2).isLt⟩ : Fin 30) = k :=
    Fin.ext (by show (i 2).val / 512 = k.val; omega)
  unfold codesAll
  rw [hk]
  refine pieceOf_apply o _ _ _ _ ?_ ?_
  · rw [Rect.unitLocal_val]
    show 4 * (i 0).val + (i 1).val = o + ((i 1).val - 0)
    omega
  · rw [Rect.unitLocal_val]
    show (i 2).val % 512 = (i 2).val - 512 * k.val
    omega

/-- Trip `k`'s six stores extend the stored columns by 512. -/
theorem codes_step (k : Fin k0_t3_loop.trips) (f : cc0_scratch18.ty.Contents (Elt F)) (hf : CodesTo c g0 gm k.val f) :
    CodesTo c g0 gm (k.val + 1) (codV.view.writes (Elt F) f
      [⟨Rect.unit (s := S6x4x15360) (k0_off34 k) S1x4x512.size (k0_off34_inb k), k0_pay9 (codes c g0 gm k)⟩,
       ⟨Rect.unit (s := S6x4x15360) (k0_off33 k) S1x4x512.size (k0_off33_inb k), k0_pay8 (codes c g0 gm k)⟩,
       ⟨Rect.unit (s := S6x4x15360) (k0_off32 k) S1x4x512.size (k0_off32_inb k), k0_pay7 (codes c g0 gm k)⟩,
       ⟨Rect.unit (s := S6x4x15360) (k0_off31 k) S1x4x512.size (k0_off31_inb k), k0_pay6 (codes c g0 gm k)⟩,
       ⟨Rect.unit (s := S6x4x15360) (k0_off30 k) S1x4x512.size (k0_off30_inb k), k0_pay5 (codes c g0 gm k)⟩,
       ⟨Rect.unit (s := S6x4x15360) (k0_off29 k) S1x4x512.size (k0_off29_inb k),
        shapeCast S1x4x512 (extractStridedSlice S4x512 ![0, 0] (codes c g0 gm k) slices_S32x512_o0_0_S4x512) shapeCasts_S4x512_S1x4x512⟩]) := by
  intro i hi
  refine Eq.trans (congrFun (View.read_whole cc0_scratch18 _).symm i) ?_
  rw [View.read_writes_cons_unit _ _ _ _ _ _ (off10_eq k)]; split; · exact piece_hit c g0 gm k 5 20 rfl i _ _
  rw [View.read_writes_cons_unit _ _ _ _ _ _ (off9_eq k)]; split; · exact piece_hit c g0 gm k 4 16 rfl i _ _
  rw [View.read_writes_cons_unit _ _ _ _ _ _ (off8_eq k)]; split; · exact piece_hit c g0 gm k 3 12 rfl i _ _
  rw [View.read_writes_cons_unit _ _ _ _ _ _ (off7_eq k)]; split; · exact piece_hit c g0 gm k 2 8 rfl i _ _
  rw [View.read_writes_cons_unit _ _ _ _ _ _ (off6_eq k)]; split; · exact piece_hit c g0 gm k 1 4 rfl i _ _
  rw [View.read_writes_cons_unit _ _ _ _ _ _ (off5_eq k)]; split; · exact piece_hit c g0 gm k 0 0 rfl i _ _
  rename_i h5 h4 h3 h2 h1 h0
  refine hf i (Nat.lt_of_not_le fun hle => ?_)
  have hi0 : (i 0).val < 6 := (i 0).isLt
  have hi1 : (i 1).val < 4 := (i 1).isLt
  have box : ∀ b : ℕ, b = (i 0).val → ∀ a, (![b, 0, 512 * k.val] : Fin 3 → ℕ) a ≤ (i a).val ∧ (i a).val < (![b, 0, 512 * k.val] : Fin 3 → ℕ) a + S1x4x512.size a := by
    intro b hb a
    match a with
    | ⟨0, _⟩ => show b ≤ (i 0).val ∧ (i 0).val < b + 1; omega
    | ⟨1, _⟩ => show 0 ≤ (i 1).val ∧ (i 1).val < 0 + 4; omega
    | ⟨2, _⟩ => show 512 * k.val ≤ (i 2).val ∧ (i 2).val < 512 * k.val + 512; omega
  have : (i 0).val = 0 ∨ (i 0).val = 1 ∨ (i 0).val = 2 ∨ (i 0).val = 3 ∨ (i 0).val = 4 ∨ (i 0).val = 5 := by omega
  rcases this with e | e | e | e | e | e
  · exact h0 (box 0 e.symm)
  · exact h1 (box 1 e.symm)
  · exact h2 (box 2 e.symm)
  · exact h3 (box 3 e.symm)
  · exact h4 (box 4 e.symm)
  · exact h5 (box 5 e.symm)

/-- A load of the slot that block `k` landed in reads the block. -/
theorem load_slot (k : Fin k0_t3_loop.trips) (f : wb.view.ty.Contents (Elt F))
    (hf : (rslot (slK k.val)).view.read (Elt F) f = payload c XW (Ring.bk 30 k.val)) :
    View.readAt (Elt F) wb.view (Rect.unit (s := S6x512x3840) (k0_off38 k) S1x512x3840.size (k0_off38_inb k)).toLoadRect f = slab c XW k.val := by
  rw [View.readAt_unit_congr wb.view (off14_eq k) _ (slotOff_inb _) f, slab, ← hf]
  exact ((shapeCast_comp _ shapeCasts_S1x512x3840_S512x3840 _).trans (shapeCast_id _ _)).symm

/-- Storing the accumulator whole. -/
theorem oacc_store (f : oacc.view.ty.Contents (Elt F)) (w : Vec F S32x3840 .f32) :
    oacc.view.writes (Elt F) f [⟨Rect.unit ![0, 0] S32x3840.size inb_S32x3840_S32x3840_0_0, w⟩] = w :=
  (View.read_whole cc0_scratch9 _).symm.trans (View.read_writes_full oacc.view f inb_S32x3840_S32x3840_0_0 w [])

/-- Loading it whole. -/
theorem oacc_load (f : oacc.view.ty.Contents (Elt F)) :
    oacc.view.readAt (Elt F) (Rect.unit (s := S32x3840) ![0, 0] S32x3840.size inb_S32x3840_S32x3840_0_0).toLoadRect f = f :=
  (View.readAt_full _ _ _).trans (View.read_whole cc0_scratch9 f)

/-- One trip's sum. -/
theorem acc_succ (k : Fin k0_t3_loop.trips) :
    acc c XW g0 gm (k.val + 1) = k0_pay39 (codes c g0 gm k) (acc c XW g0 gm k.val) (slab c XW k.val) := by
  rw [acc, dif_pos k.isLt]

/-- Trip `k`'s store into the accumulator. -/
theorem oacc_step (k : Fin k0_t3_loop.trips) (f : oacc.view.ty.Contents (Elt F)) (v : Vec F S1x512x3840 .fp8e4m3)
    (hf : f = acc c XW g0 gm k.val) (hv : v = slab c XW k.val) :
    oacc.view.writes (Elt F) f [⟨Rect.unit ![0, 0] S32x3840.size inb_S32x3840_S32x3840_0_0,
        k0_pay39 (codes c g0 gm k)
          (oacc.view.readAt (Elt F) (Rect.unit (s := S32x3840) ![0, 0] S32x3840.size inb_S32x3840_S32x3840_0_0).toLoadRect f) v⟩]
      = acc c XW g0 gm (k.val + 1) := by
  rw [oacc_store, oacc_load, hf, hv, acc_succ]

/-! ## One trip -/

/-- What the trips hold before trip `k`, the slots apart. -/
abbrev heldAt (k : ℕ) : sProp 𝕄 :=
  iprop(actP c g0 ∗ held c cc0_scratch12 gm ∗ (∃ f, held c cc0_scratch9 f ∗ ⌜f = acc c XW g0 gm k⌝)
    ∗ (∃ f, held c cc0_scratch18 f ∗ ⌜CodesTo c g0 gm k f⌝) ∗ ∃ W, owes (c : Thread nD τ) 0 W)

omit [FloatOps F] in
theorem writes_writes {sp : Space} {s : Shape} {e : EltTy} (v : View sig .tc sp s e) (f : v.ty.Contents (Elt F)) (p q : View.Piece (Elt F) s e) :
    v.writes (Elt F) (v.writes (Elt F) f [p]) [q] = v.writes (Elt F) f [q, p] := rfl

/-- A flight issued over a slot that another block had landed in is a flight over something. -/
theorem infl_of_flight (s : Fin 6) (b b' : Fin 30) (f : Buf (Elt F) ((rslot s).view.loc (c : Thread nD τ))) (w : S512x3840.Idx → Elt F .fp8e4m3)
    (hw : w = payload c XW b') :
    Transfers.Flight countersEmb (c : Thread nD τ) (SemLoc.dma (csm s).sem) () 61440
      iprop(slotP c s ((rslot s).view.writes (Elt F) f [⟨Rect.whole S512x3840, w⟩, ⟨Rect.whole S512x3840, payload c XW b⟩]) ∗ homeP c XW b')
      ⊢ inflP c XW s b' := by
  subst hw
  unfold inflP
  iintro H
  iexists (landed c XW s b f)
  unfold flightP landed
  rw [writes_writes]
  iexact H

/-- A trip that issues block `k + 6`. -/
theorem trip_issue (k : Fin k0_t3_loop.trips) (hk : k.val + 6 < 30) :
    iprop(heldAt c XW g0 gm k.val ∗ homeP c XW (Ring.bk 30 (k.val + 6)) ∗ inflP c XW (slK k.val) (Ring.bk 30 k.val))
    ⊢ wp frame (wpE (defs₀ (F := F)) 𝒱₀ (c : Thread nD τ) none) Set.univ (tripG arg0 harg0 arg1 harg1 arg2 harg2 v247 k)
        (fun _ => iprop(heldAt c XW g0 gm (k.val + 1) ∗ homeP c XW (Ring.bk 30 k.val) ∗ inflP c XW (slK k.val) (Ring.bk 30 (k.val + 6)))) := by
  have hc : k0_cond4 k = 1#1 := (cond1_iff k).2 hk
  conv_lhs => unfold inflP
  iintro ⟨⟨HA, Hm, ⟨%f12, HO, %hO⟩, ⟨%f16, HC, %hC⟩, ⟨%W, HW⟩⟩, Hg, ⟨%f0, HF0⟩⟩
  dsimp only [tripG]
  sl_unfold [k0_t3_body]
  sl_exec
  sl_step
  have er : trip_issue.sl.r c g0 gm k = codes c g0 gm k := by delta trip_issue.sl.r codes; rfl
  have e0 : trip_issue.sl.r_1 c g0 gm k = shapeCast S1x4x512 (extractStridedSlice S4x512 ![0, 0] (codes c g0 gm k) slices_S32x512_o0_0_S4x512) shapeCasts_S4x512_S1x4x512 := by
    rw [← er]; delta trip_issue.sl.r_1; rfl
  have e1 : trip_issue.sl.v380 c g0 gm k = k0_pay5 (codes c g0 gm k) := by rw [← er]; delta trip_issue.sl.v380; rfl
  have e2 : trip_issue.sl.v387 c g0 gm k = k0_pay6 (codes c g0 gm k) := by rw [← er]; delta trip_issue.sl.v387; rfl
  have e3 : trip_issue.sl.v394 c g0 gm k = k0_pay7 (codes c g0 gm k) := by rw [← er]; delta trip_issue.sl.v394; rfl
  have e4 : trip_issue.sl.v401 c g0 gm k = k0_pay8 (codes c g0 gm k) := by rw [← er]; delta trip_issue.sl.v401; rfl
  have e5 : trip_issue.sl.v408 c g0 gm k = k0_pay9 (codes c g0 gm k) := by rw [← er]; delta trip_issue.sl.v408; rfl
  have ev : trip_issue.sl.v418 c XW k = slab c XW k.val := load_slot c XW k _ (View.read_writes_whole _ _ _)
  have eo := oacc_step c XW g0 gm k f12 (trip_issue.sl.v418 c XW k) hO ev
  rw [← er] at eo
  have ec := codes_step c g0 gm k f16 hC
  rw [← e0, ← e1, ← e2, ← e3, ← e4, ← e5] at ec
  isplitl [HA Hm HO HC HW]
  · isplitl [HA]; · iexact HA
    isplitl [Hm]; · iexact Hm
    isplitl [HO]
    · iexists _; isplitl [HO]; · iexact HO
      ipureintro; exact eo
    isplitl [HC]
    · iexists _; isplitl [HC]; · iexact HC
      ipureintro; exact ec
    iexists _; iexact HW
  isplitl [HF0_src]; · iexact HF0_src
  iapply (infl_of_flight c XW (slK k.val) (Ring.bk 30 k.val) (Ring.bk 30 (k.val + 6)) (rslot (slK k.val)).view.junk (trip_issue.sl.dma19 c XW k) rfl)
  iexact HF0

/-- A trip that issues nothing. -/
theorem trip_last (k : Fin k0_t3_loop.trips) (hk : ¬ k.val + 6 < 30) :
    iprop(heldAt c XW g0 gm k.val ∗ inflP c XW (slK k.val) (Ring.bk 30 k.val))
    ⊢ wp frame (wpE (defs₀ (F := F)) 𝒱₀ (c : Thread nD τ) none) Set.univ (tripG arg0 harg0 arg1 harg1 arg2 harg2 v247 k)
        (fun _ => iprop(heldAt c XW g0 gm (k.val + 1) ∗ homeP c XW (Ring.bk 30 k.val) ∗ freeP c (slK k.val))) := by
  have hc : ¬ k0_cond4 k = 1#1 := fun h => hk ((cond1_iff k).1 h)
  unfold inflP freeP
  iintro ⟨⟨HA, Hm, ⟨%f12, HO, %hO⟩, ⟨%f16, HC, %hC⟩, ⟨%W, HW⟩⟩, ⟨%f0, HF0⟩⟩
  dsimp only [tripG]
  sl_unfold [k0_t3_body]
  sl_exec
  sl_step
  have er : trip_last.sl.r c g0 gm k = codes c g0 gm k := by delta trip_last.sl.r codes; rfl
  have e0 : trip_last.sl.r_1 c g0 gm k = shapeCast S1x4x512 (extractStridedSlice S4x512 ![0, 0] (codes c g0 gm k) slices_S32x512_o0_0_S4x512) shapeCasts_S4x512_S1x4x512 := by
    rw [← er]; delta trip_last.sl.r_1; rfl
  have e1 : trip_last.sl.v380 c g0 gm k = k0_pay5 (codes c g0 gm k) := by rw [← er]; delta trip_last.sl.v380; rfl
  have e2 : trip_last.sl.v387 c g0 gm k = k0_pay6 (codes c g0 gm k) := by rw [← er]; delta trip_last.sl.v387; rfl
  have e3 : trip_last.sl.v394 c g0 gm k = k0_pay7 (codes c g0 gm k) := by rw [← er]; delta trip_last.sl.v394; rfl
  have e4 : trip_last.sl.v401 c g0 gm k = k0_pay8 (codes c g0 gm k) := by rw [← er]; delta trip_last.sl.v401; rfl
  have e5 : trip_last.sl.v408 c g0 gm k = k0_pay9 (codes c g0 gm k) := by rw [← er]; delta trip_last.sl.v408; rfl
  have ev : trip_last.sl.v418 c XW k = slab c XW k.val := load_slot c XW k _ (View.read_writes_whole _ _ _)
  have eo := oacc_step c XW g0 gm k f12 (trip_last.sl.v418 c XW k) hO ev
  rw [← er] at eo
  have ec := codes_step c g0 gm k f16 hC
  rw [← e0, ← e1, ← e2, ← e3, ← e4, ← e5] at ec
  isplitl [HA Hm HO HC HW]
  · isplitl [HA]; · iexact HA
    isplitl [Hm]; · iexact Hm
    isplitl [HO]
    · iexists _; isplitl [HO]; · iexact HO
      ipureintro; exact eo
    isplitl [HC]
    · iexists _; isplitl [HC]; · iexact HC
      ipureintro; exact ec
    iexists _; iexact HW
  isplitl [HF0_src]; · iexact HF0_src
  isplitl [HF0]; · iexact HF0
  iexists _; iexact HF0_dst

/-! ## The loop's invariant -/

/-- Before trip `k`: the sum so far, the codes so far, blocks `k + 6` and on and those before `k` at home, and the six
    slots with blocks `k` to `k + 5`, or free past the last. -/
abbrev invAt (k : ℕ) : sProp 𝕄 :=
  iprop(heldAt c XW g0 gm k ∗ bigSep (Ring.homeSet 6 k) (homeP c XW)
    ∗ roleP c XW k ∗ roleP c XW (k + 1) ∗ roleP c XW (k + 2) ∗ roleP c XW (k + 3) ∗ roleP c XW (k + 4) ∗ roleP c XW (k + 5))

theorem roleP_lt (k : ℕ) (hk : k < 30) : roleP c XW k = inflP c XW (slK k) (Ring.bk 30 k) := Ring.roleAt_of_lt _ _ _ hk
theorem roleP_ge (k : ℕ) (hk : 30 ≤ k) : roleP c XW k = freeP c (slK k) := Ring.roleAt_of_le _ _ _ hk

/-- The role after next round, in flight. -/
theorem role_in (k : ℕ) (hk : k + 6 < 30) : inflP c XW (slK k) (Ring.bk 30 (k + 6)) = roleP c XW (k + 6) := by
  rw [roleP_lt c XW (k + 6) hk, slK_add6]
/-- The role after next round, free. -/
theorem role_free (k : ℕ) (hk : ¬ k + 6 < 30) : freeP c (slK k) = roleP c XW (k + 6) := by
  rw [roleP_ge c XW (k + 6) (by omega), slK_add6]

theorem trip_step (k : Fin k0_t3_loop.trips) :
    invAt c XW g0 gm k.val ⊢ wp frame (wpE (defs₀ (F := F)) 𝒱₀ (c : Thread nD τ) none) Set.univ
      (tripG arg0 harg0 arg1 harg1 arg2 harg2 v247 k) (fun _ => invAt c XW g0 gm (k.val + 1)) := by
  have hk30 := trip_lt k
  unfold invAt
  rw [roleP_lt c XW k.val hk30]
  by_cases hk : k.val + 6 < 30
  · rw [homes_here c XW k.val hk, homes_next c XW k.val hk]
    have e : k.val + 1 + 5 = k.val + 6 := by omega
    rw [e, ← role_in c XW k.val hk]
    iintro ⟨HH, ⟨Hg, Hr⟩, H0, H1, H2, H3, H4, H5⟩
    iapply (wp_wand_r Idealize.ShloMosaic.frame (wpE (defs₀ (F := F)) 𝒱₀ (c : Thread nD τ) none) Set.univ)
    isplitl [HH Hg H0]
    · iapply (trip_issue c XW arg0 harg0 arg1 harg1 arg2 harg2 g0 gm v247 k hk)
      isplitl [HH]; · iexact HH
      isplitl [Hg]; · iexact Hg
      iexact H0
    · iintro %_ ⟨HH, Hg, H6⟩
      isplitl [HH]; · iexact HH
      isplitl [Hg Hr]; · isplitl [Hg] <;> iassumption
      isplitl [H1]; · iexact H1
      isplitl [H2]; · iexact H2
      isplitl [H3]; · iexact H3
      isplitl [H4]; · iexact H4
      isplitl [H5]; · iexact H5
      iexact H6
  · rw [homes_tail c XW k.val (by omega) hk30]
    have e : k.val + 1 + 5 = k.val + 6 := by omega
    rw [e, ← role_free c XW k.val hk]
    iintro ⟨HH, Hh, H0, H1, H2, H3, H4, H5⟩
    iapply (wp_wand_r Idealize.ShloMosaic.frame (wpE (defs₀ (F := F)) 𝒱₀ (c : Thread nD τ) none) Set.univ)
    isplitl [HH H0]
    · iapply (trip_last c XW arg0 harg0 arg1 harg1 arg2 harg2 g0 gm v247 k hk)
      isplitl [HH]; · iexact HH
      iexact H0
    · iintro %_ ⟨HH, Hg, H6⟩
      isplitl [HH]; · iexact HH
      isplitl [Hg Hh]; · isplitl [Hg] <;> iassumption
      isplitl [H1]; · iexact H1
      isplitl [H2]; · iexact H2
      isplitl [H3]; · iexact H3
      isplitl [H4]; · iexact H4
      isplitl [H5]; · iexact H5
      iexact H6

end Trip

end Cert.Proof.Kernel

end
-- ==== Proof.Kernel.RingO.lean ====
/-
  The weight ring of the output projection: eight blocks of 512 rows of its weight pass through the same six slots as the
  down projection's, block `j` in slot `j mod 6`. When block `j + 6` is past the last, the trip issues block `j - 2` of the
  down projection's weight instead, so the loop ends with that projection's first six blocks in flight. This module names
  the blocks, proves that the slices the kernel's body prints are these names, and states what the slots hold.
-/
module

public import proofs.«01_k».proof.Proof.Kernel.Trip

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Block `b` of the output projection's weight -/

abbrev ogrpOff (b : Fin 8) : Fin 2 → Nat := ![512 * b.val, 0]
theorem ogrpOff_inb (b : Fin 8) : ∀ a, ogrpOff b a + S512x3840.size a ≤ S4096x3840.size a := by
  have := b.isLt; intro a; fin_cases a
  · show 512 * b.val + 512 ≤ 4096; omega
  · show 0 + 3840 ≤ 3840; omega
def ogrp (b : Fin 8) : Memref sig .tc .hbm S512x3840 .fp8e4m3 :=
  woM.slice (Rect.unit (s := S4096x3840) (ogrpOff b) S512x3840.size (ogrpOff_inb b)) (fun _ => rfl)
instance (b : Fin 8) : ClosedOff (ogrpOff b) := ⟨ogrpOff b, rfl⟩

/-! ## The trips' offsets in closed form -/

theorem trips0_eq : k0_t1_loop.trips = 8 := by decide
theorem trip0_lt (k : Fin k0_t1_loop.trips) : k.val < 8 := Nat.lt_of_lt_of_eq k.isLt trips0_eq

/-- Slot `k mod 6`: the one that trip `k` reads. -/
abbrev slO (k : ℕ) : Fin 6 := Ring.sl 6 k

theorem ooff4_eq : ∀ k : Fin k0_t1_loop.trips, k0_off4 k = semOff (slO k.val) := by decide +kernel
theorem ooff5_eq : ∀ k : Fin k0_t1_loop.trips, k0_off5 k = slotOff (slO k.val) := by decide +kernel
theorem ooff6_eq : ∀ k : Fin k0_t1_loop.trips, k0_off6 k = ogrpOff (Ring.bk 8 k.val) := by decide +kernel
theorem ooff7_eq : ∀ k : Fin k0_t1_loop.trips, k0_off7 k = ![k.val, 0, 0] := by decide +kernel
theorem ooff8_eq : ∀ k : Fin k0_t1_loop.trips, k0_off8 k = slotOff (slO k.val) := by decide +kernel
theorem ooff9_eq : ∀ k : Fin k0_t1_loop.trips, k0_off9 k = semOff (slO k.val) := by decide +kernel
theorem ooff10_eq : ∀ k : Fin k0_t1_loop.trips, k0_off10 k = slotOff (slO k.val) := by decide +kernel
theorem ooff11_eq : ∀ k : Fin k0_t1_loop.trips, k.val + 6 < 8 → k0_off11 k = ogrpOff (Ring.bk 8 (k.val + 6)) := by decide +kernel
theorem ooff12_eq : ∀ k : Fin k0_t1_loop.trips, k0_off12 k = semOff (slO k.val) := by decide +kernel
theorem ooff13_eq : ∀ k : Fin k0_t1_loop.trips, k0_off13 k = slotOff (slO k.val) := by decide +kernel
theorem ooff14_eq : ∀ k : Fin k0_t1_loop.trips, ¬ k.val + 6 < 8 → k0_off14 k = grpOff (Ring.bk 30 (k.val - 2)) := by decide +kernel
theorem ocond_iff : ∀ k : Fin k0_t1_loop.trips, k0_cond1 k = 1#1 ↔ k.val + 6 < 8 := by decide +kernel
theorem ocond2_iff : ∀ k : Fin k0_t1_loop.trips, k0_cond2 k = 1#1 ↔ ¬ k.val + 6 < 8 := by decide +kernel

instance (k : Fin k0_t1_loop.trips) : ClosedOff (k0_off5 k) := ⟨slotOff (slO k.val), ooff5_eq k⟩
instance (k : Fin k0_t1_loop.trips) : ClosedOff (k0_off7 k) := ⟨_, ooff7_eq k⟩
instance (k : Fin k0_t1_loop.trips) : ClosedOff (k0_off8 k) := ⟨slotOff (slO k.val), ooff8_eq k⟩
instance (k : Fin k0_t1_loop.trips) : ClosedOff (k0_off10 k) := ⟨slotOff (slO k.val), ooff10_eq k⟩
instance (k : Fin k0_t1_loop.trips) : ClosedOff (k0_off13 k) := ⟨slotOff (slO k.val), ooff13_eq k⟩

/-! ### The printed slices are the canonical names -/

theorem ogrp_congr {off : Fin 2 → Nat} {b : Fin 8} (e : off = ogrpOff b) (hh hs) :
    woM.slice (Rect.unit (s := S4096x3840) off S512x3840.size hh) hs = ogrp b :=
  Memref.slice_unit_congr _ e _ _ _ (fun _ => rfl)
@[sl_canon] theorem ogrpL0 (hh hs) : woM.slice (Rect.unit (s := S4096x3840) ![0, 0] S512x3840.size hh) hs = ogrp 0 := ogrp_congr (by decide) _ _
@[sl_canon] theorem ogrpL1 (hh hs) : woM.slice (Rect.unit (s := S4096x3840) ![512, 0] S512x3840.size hh) hs = ogrp 1 := ogrp_congr (by decide) _ _
@[sl_canon] theorem ogrpL2 (hh hs) : woM.slice (Rect.unit (s := S4096x3840) ![1024, 0] S512x3840.size hh) hs = ogrp 2 := ogrp_congr (by decide) _ _
@[sl_canon] theorem ogrpL3 (hh hs) : woM.slice (Rect.unit (s := S4096x3840) ![1536, 0] S512x3840.size hh) hs = ogrp 3 := ogrp_congr (by decide) _ _
@[sl_canon] theorem ogrpL4 (hh hs) : woM.slice (Rect.unit (s := S4096x3840) ![2048, 0] S512x3840.size hh) hs = ogrp 4 := ogrp_congr (by decide) _ _
@[sl_canon] theorem ogrpL5 (hh hs) : woM.slice (Rect.unit (s := S4096x3840) ![2560, 0] S512x3840.size hh) hs = ogrp 5 := ogrp_congr (by decide) _ _

@[sl_canon] theorem osemW (k : Fin k0_t1_loop.trips) (hh) :
    (cc0_scratch22.slice (Rect.unit (s := S6) (k0_off4 k) S1.size hh)).squeeze S_ squeezes_S1_S_ = csm (slO k.val) := csm_congr (ooff4_eq k) _
@[sl_canon] theorem oslotW (k : Fin k0_t1_loop.trips) (hh hs) :
    (wb.slice (Rect.unit (s := S6x512x3840) (k0_off5 k) S1x512x3840.size hh) hs).squeeze S512x3840 squeezes_S1x512x3840_S512x3840 = rslot (slO k.val) := rslot_congr (ooff5_eq k) _ _
@[sl_canon] theorem ogrpW (k : Fin k0_t1_loop.trips) (hh hs) :
    woM.slice (Rect.unit (s := S4096x3840) (k0_off6 k) S512x3840.size hh) hs = ogrp (Ring.bk 8 k.val) := ogrp_congr (ooff6_eq k) _ _
@[sl_canon] theorem osemI (k : Fin k0_t1_loop.trips) (hh) :
    (cc0_scratch22.slice (Rect.unit (s := S6) (k0_off9 k) S1.size hh)).squeeze S_ squeezes_S1_S_ = csm (slO k.val) := csm_congr (ooff9_eq k) _
@[sl_canon] theorem oslotI (k : Fin k0_t1_loop.trips) (hh hs) :
    (wb.slice (Rect.unit (s := S6x512x3840) (k0_off10 k) S1x512x3840.size hh) hs).squeeze S512x3840 squeezes_S1x512x3840_S512x3840 = rslot (slO k.val) := rslot_congr (ooff10_eq k) _ _
@[sl_canon] theorem ogrpI (k : Fin k0_t1_loop.trips) (hk : k.val + 6 < 8) (hh hs) :
    woM.slice (Rect.unit (s := S4096x3840) (k0_off11 k) S512x3840.size hh) hs = ogrp (Ring.bk 8 (k.val + 6)) := ogrp_congr (ooff11_eq k hk) _ _
@[sl_canon] theorem osemD (k : Fin k0_t1_loop.trips) (hh) :
    (cc0_scratch22.slice (Rect.unit (s := S6) (k0_off12 k) S1.size hh)).squeeze S_ squeezes_S1_S_ = csm (slO k.val) := csm_congr (ooff12_eq k) _
@[sl_canon] theorem oslotD (k : Fin k0_t1_loop.trips) (hh hs) :
    (wb.slice (Rect.unit (s := S6x512x3840) (k0_off13 k) S1x512x3840.size hh) hs).squeeze S512x3840 squeezes_S1x512x3840_S512x3840 = rslot (slO k.val) := rslot_congr (ooff13_eq k) _ _
@[sl_canon] theorem ogrpD (k : Fin k0_t1_loop.trips) (hk : ¬ k.val + 6 < 8) (hh hs) :
    wM.slice (Rect.unit (s := S15360x3840) (k0_off14 k) S512x3840.size hh) hs = grp (Ring.bk 30 (k.val - 2)) := grp_congr (ooff14_eq k hk) _ _

/-! ## The pieces -/

section Pieces
variable (c : Dev nD) (XO : Buf (Elt F) (woM.view.loc (c : Thread nD τ))) (XW : Buf (Elt F) (wM.view.loc (c : Thread nD τ)))

/-- Block `b` at home. -/
abbrev ohomeP (b : Fin 8) : sProp 𝕄 := (ogrp b).view.loc (c : Thread nD τ) ↦[(ogrp b).view.set]{fullShare} XO
/-- Block `b`'s words as a slot's payload. -/
abbrev opayload (b : Fin 8) : S512x3840.Idx → Elt F .fp8e4m3 := ReadAs.same.apply ((ogrp b).view.read (Elt F) XO)
/-- What block `b`'s transfer leaves in slot `s`. -/
abbrev olanded (s : Fin 6) (b : Fin 8) (f : Buf (Elt F) ((rslot s).view.loc (c : Thread nD τ))) : Buf (Elt F) ((rslot s).view.loc (c : Thread nD τ)) :=
  (rslot s).view.writes (Elt F) f [⟨Rect.whole S512x3840, opayload c XO b⟩]
/-- Slot `s` in flight with block `b`, issued over `f`; -/
abbrev oflightP (s : Fin 6) (b : Fin 8) (f : Buf (Elt F) ((rslot s).view.loc (c : Thread nD τ))) : sProp 𝕄 :=
  Transfers.Flight countersEmb (c : Thread nD τ) (SemLoc.dma (csm s).sem) () 61440 iprop(slotP c s (olanded c XO s b f) ∗ ohomeP c XO b)
/-- over anything. -/
def oinflP (s : Fin 6) (b : Fin 8) : sProp 𝕄 := iprop(∃ f, oflightP c XO s b f)
/-- The slot that carries the `p`-th block of the two weights' eight and thirty, in their order. -/
def oroleP (p : ℕ) : sProp 𝕄 := if p < 8 then oinflP c XO (slO p) (Ring.bk 8 p) else inflP c XW (slO p) (Ring.bk 30 (p - 8))
/-- The down projection's blocks at home before trip `k`. -/
abbrev dset (k : ℕ) : Finset (Fin 30) := Finset.univ.filter (fun b => k ≤ b.val + 2)

theorem oroleP_lt (p : ℕ) (h : p < 8) : oroleP c XO XW p = oinflP c XO (slO p) (Ring.bk 8 p) := if_pos h
theorem oroleP_ge (p : ℕ) (h : ¬ p < 8) : oroleP c XO XW p = inflP c XW (slO p) (Ring.bk 30 (p - 8)) := if_neg h

theorem ohomes_here (k : ℕ) (hk : k + 6 < 8) :
    bigSep (Ring.homeSet 6 k) (ohomeP c XO) = iprop(ohomeP c XO (Ring.bk 8 (k + 6)) ∗ bigSep ((Ring.homeSet 6 k).erase (Ring.bk 8 (k + 6))) (ohomeP c XO)) := by
  conv_lhs => rw [Ring.homeSet_out 6 k hk, bigSep_insert (Ring.bkL_not_mem_erase 6 k)]
  rfl
theorem ohomes_next (k : ℕ) (hk : k + 6 < 8) :
    bigSep (Ring.homeSet 6 (k + 1)) (ohomeP c XO) = iprop(ohomeP c XO (Ring.bk 8 k) ∗ bigSep ((Ring.homeSet 6 k).erase (Ring.bk 8 (k + 6))) (ohomeP c XO)) := by
  conv_lhs => rw [Ring.homeSet_succ 6 k hk, bigSep_insert (Ring.bk_not_mem_erase 6 k (by omega) (by decide))]
  rfl
theorem ohomes_tail (k : ℕ) (hk : 8 ≤ k + 6) (hp : k < 8) :
    bigSep (Ring.homeSet 6 (k + 1)) (ohomeP c XO) = iprop(ohomeP c XO (Ring.bk 8 k) ∗ bigSep (Ring.homeSet 6 k) (ohomeP c XO)) := by
  conv_lhs => rw [Ring.homeSet_succ_tail 6 k hk hp, bigSep_insert (Ring.bk_not_mem_homeSet 6 k hp (by decide))]
  rfl

theorem dset_same (k : ℕ) (hk : k + 6 < 8) : dset (k + 1) = dset k := by
  ext b; simp only [dset, Finset.mem_filter, Finset.mem_univ, true_and]; omega
theorem dset_out (k : ℕ) (hk : 8 ≤ k + 6) (hp : k < 8) : dset k = insert (Ring.bk 30 (k - 2)) (dset (k + 1)) := by
  have : ∀ j : Fin 8, 8 ≤ j.val + 6 → dset j.val = insert (Ring.bk 30 (j.val - 2)) (dset (j.val + 1)) := by decide +kernel
  exact this ⟨k, hp⟩ hk
theorem dset_not_mem (k : ℕ) (hk : 8 ≤ k + 6) (hp : k < 8) : Ring.bk 30 (k - 2) ∉ dset (k + 1) := by
  have : ∀ j : Fin 8, 8 ≤ j.val + 6 → Ring.bk 30 (j.val - 2) ∉ dset (j.val + 1) := by decide +kernel
  exact this ⟨k, hp⟩ hk
/-- Block `k - 2` of the down projection's weight, about to go out, beside the rest. -/
theorem dhomes_out (k : ℕ) (hk : 8 ≤ k + 6) (hp : k < 8) :
    bigSep (dset k) (homeP c XW) = iprop(homeP c XW (Ring.bk 30 (k - 2)) ∗ bigSep (dset (k + 1)) (homeP c XW)) := by
  rw [dset_out k hk hp, bigSep_insert (dset_not_mem k hk hp)]
  rfl

omit [FloatOps F] in
theorem slO_add6 (k : ℕ) : slO (k + 6) = slO k := Ring.sl_add _ _

end Pieces

end Cert.Proof.Kernel

end
-- ==== Proof.Kernel.TripO.lean ====
/-
  One trip of the output projection's loop, at a symbolic trip number: wait for block `k` of the weight, add the product of
  the attention codes' tile `k` with it to the accumulator, and issue the next block into the slot that was read: block
  `k + 6` of this weight, or past its last block, block `k - 2` of the down projection's.
-/
module

public import proofs.«01_k».proof.Proof.Kernel.RingO

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section TripO

variable (c : Dev nD) (XO : Buf (Elt F) (woM.view.loc (c : Thread nD τ))) (XW : Buf (Elt F) (wM.view.loc (c : Thread nD τ)))
  (arg0 : Memref sig .tc .vmem S6x4x3840 .bf16) (harg0 : arg0.IsWhole) (arg1 : Memref sig .tc .vmem S8x32x512 .fp8e4m3) (harg1 : arg1.IsWhole)
  (arg2 : Memref sig .tc .vmem S24x128 .f32) (harg2 : arg2.IsWhole)
  (ga : Buf (Elt F) (arg1.view.loc (c : Thread nD τ)))

/-- Tile `k` of the attention's codes. -/
def aqOf (k : Fin k0_t1_loop.trips) : Vec F S1x32x512 .fp8e4m3 :=
  arg1.view.readAt (Elt F) (Rect.unit (s := S8x32x512) (k0_off7 k) S1x32x512.size (k0_off7_inb k)).toLoadRect ga

/-- Block `k` of the weight as the trip loads it. -/
def oslab (k : ℕ) : Vec F S1x512x3840 .fp8e4m3 := shapeCast S1x512x3840 (opayload c XO (Ring.bk 8 k)) (by decide)

/-- The accumulator before trip `k`. -/
def oaccAt : ℕ → Vec F S32x3840 .f32
  | 0 => k0_pay11 (F := F)
  | k + 1 => if h : k < k0_t1_loop.trips then k0_pay12 (oaccAt k) (aqOf c arg1 ga ⟨k, h⟩) (oslab c XO k) else oaccAt k

abbrev tripO (k : Fin k0_t1_loop.trips) : Prog (TpuEff nD τ sig (Elt F) Λ₀ .tc) Unit :=
  k0_t1_body (F := F) arg0 harg0 arg1 harg1 arg2 harg2 woM (Memref.isWhole_whole _) soM (Memref.isWhole_whole _) pawM (Memref.isWhole_whole _)
    pfwM (Memref.isWhole_whole _) guM (Memref.isWhole_whole _) sguM (Memref.isWhole_whole _)
    wM (Memref.isWhole_whole _) sdnM (Memref.isWhole_whole _) powM (Memref.isWhole_whole _)
    hidM (Memref.isWhole_whole _) oM (Memref.isWhole_whole _) dM (Memref.isWhole_whole _) fcM (Memref.isWhole_whole _) fsM (Memref.isWhole_whole _)
    codM (Memref.isWhole_whole _) sclM (Memref.isWhole_whole _)
    soV (Memref.isWhole_whole _) pawV (Memref.isWhole_whole _) pfwV (Memref.isWhole_whole _) sguV (Memref.isWhole_whole _) sdnV (Memref.isWhole_whole _) powV (Memref.isWhole_whole _)
    wa (Memref.isWhole_whole _) wb (Memref.isWhole_whole _) xresV (Memref.isWhole_whole _) oacc (Memref.isWhole_whole _) fq (Memref.isWhole_whole _)
    actV (Memref.isWhole_whole _) amax (Memref.isWhole_whole _) hidV (Memref.isWhole_whole _) oV (Memref.isWhole_whole _) dV (Memref.isWhole_whole _)
    fcV (Memref.isWhole_whole _) fsV (Memref.isWhole_whole _) codV (Memref.isWhole_whole _) sclV (Memref.isWhole_whole _)
    cc0_scratch20 cc0_scratch21 cc0_scratch22 cc0_scratch23 k ()

/-- The attention codes' staging buffer. -/
abbrev aqP : sProp 𝕄 := arg1.view.loc (c : Thread nD τ) ↦[arg1.view.set]{fullShare} ga

/-- A load of the slot that block `k` landed in reads the block. -/
theorem load_slotO (k : Fin k0_t1_loop.trips) (f : wb.view.ty.Contents (Elt F))
    (hf : (rslot (slO k.val)).view.read (Elt F) f = opayload c XO (Ring.bk 8 k.val)) :
    View.readAt (Elt F) wb.view (Rect.unit (s := S6x512x3840) (k0_off8 k) S1x512x3840.size (k0_off8_inb k)).toLoadRect f = oslab c XO k.val := by
  rw [View.readAt_unit_congr wb.view (ooff8_eq k) _ (slotOff_inb _) f, oslab, ← hf]
  exact ((shapeCast_comp _ shapeCasts_S1x512x3840_S512x3840 _).trans (shapeCast_id _ _)).symm

theorem oacc_succ (k : Fin k0_t1_loop.trips) :
    oaccAt c XO arg1 ga (k.val + 1) = k0_pay12 (oaccAt c XO arg1 ga k.val) (aqOf c arg1 ga k) (oslab c XO k.val) := by
  rw [oaccAt, dif_pos k.isLt]

/-- Trip `k`'s store into the accumulator. -/
theorem oaccO_step (k : Fin k0_t1_loop.trips) (f : oacc.view.ty.Contents (Elt F)) (v : Vec F S1x512x3840 .fp8e4m3)
    (hf : f = oaccAt c XO arg1 ga k.val) (hv : v = oslab c XO k.val) :
    oacc.view.writes (Elt F) f [⟨Rect.unit ![0, 0] S32x3840.size inb_S32x3840_S32x3840_0_0,
        k0_pay12 (oacc.view.readAt (Elt F) (Rect.unit (s := S32x3840) ![0, 0] S32x3840.size inb_S32x3840_S32x3840_0_0).toLoadRect f)
          (aqOf c arg1 ga k) v⟩]
      = oaccAt c XO arg1 ga (k.val + 1) := by
  rw [oacc_store, oacc_load, hf, hv, oacc_succ]

/-- What the trips hold before trip `k`, the slots apart. -/
abbrev heldO (k : ℕ) : sProp 𝕄 :=
  iprop(aqP c arg1 ga ∗ (∃ f, held c cc0_scratch9 f ∗ ⌜f = oaccAt c XO arg1 ga k⌝) ∗ ∃ W, owes (c : Thread nD τ) 0 W)

/-- A flight of this weight's block over a slot that another block had landed in. -/
theorem oinfl_of_flight (s : Fin 6) (b b' : Fin 8) (f : Buf (Elt F) ((rslot s).view.loc (c : Thread nD τ))) (w : S512x3840.Idx → Elt F .fp8e4m3)
    (hw : w = opayload c XO b') :
    Transfers.Flight countersEmb (c : Thread nD τ) (SemLoc.dma (csm s).sem) () 61440
      iprop(slotP c s ((rslot s).view.writes (Elt F) f [⟨Rect.whole S512x3840, w⟩, ⟨Rect.whole S512x3840, opayload c XO b⟩]) ∗ ohomeP c XO b')
      ⊢ oinflP c XO s b' := by
  subst hw
  unfold oinflP
  iintro H
  iexists (olanded c XO s b f)
  unfold oflightP olanded
  rw [writes_writes]
  iexact H
/-- The same of the down projection's weight's block. -/
theorem oinfl_of_flightD (s : Fin 6) (b : Fin 8) (b' : Fin 30) (f : Buf (Elt F) ((rslot s).view.loc (c : Thread nD τ))) (w : S512x3840.Idx → Elt F .fp8e4m3)
    (hw : w = payload c XW b') :
    Transfers.Flight countersEmb (c : Thread nD τ) (SemLoc.dma (csm s).sem) () 61440
      iprop(slotP c s ((rslot s).view.writes (Elt F) f [⟨Rect.whole S512x3840, w⟩, ⟨Rect.whole S512x3840, opayload c XO b⟩]) ∗ homeP c XW b')
      ⊢ inflP c XW s b' := by
  subst hw
  unfold inflP
  iintro H
  iexists (olanded c XO s b f)
  unfold flightP olanded landed
  rw [writes_writes]
  iexact H

/-- A trip that issues block `k + 6`. -/
theorem tripO_issue (k : Fin k0_t1_loop.trips) (hk : k.val + 6 < 8) :
    iprop(heldO c XO arg1 ga k.val ∗ ohomeP c XO (Ring.bk 8 (k.val + 6)) ∗ oinflP c XO (slO k.val) (Ring.bk 8 k.val))
    ⊢ wp frame (wpE (defs₀ (F := F)) 𝒱₀ (c : Thread nD τ) none) Set.univ (tripO arg0 harg0 arg1 harg1 arg2 harg2 k)
        (fun _ => iprop(heldO c XO arg1 ga (k.val + 1) ∗ ohomeP c XO (Ring.bk 8 k.val) ∗ oinflP c XO (slO k.val) (Ring.bk 8 (k.val + 6)))) := by
  have hc : k0_cond1 k = 1#1 := (ocond_iff k).2 hk
  have hc2 : ¬ k0_cond2 k = 1#1 := fun h => (ocond2_iff k).1 h hk
  conv_lhs => unfold oinflP
  iintro ⟨⟨HA, ⟨%f12, HO, %hO⟩, ⟨%W, HW⟩⟩, Hg, ⟨%f0, HF0⟩⟩
  dsimp only [tripO]
  sl_unfold [k0_t1_body]
  sl_exec
  sl_step
  have ev : tripO_issue.sl.v352 c XO k = oslab c XO k.val := load_slotO c XO k _ (View.read_writes_whole _ _ _)
  have eo := oaccO_step c XO arg1 ga k f12 (tripO_issue.sl.v352 c XO k) hO ev
  isplitl [HA HO HW]
  · isplitl [HA]; · iexact HA
    isplitl [HO]
    · iexists _; isplitl [HO]; · iexact HO
      ipureintro; exact eo
    iexists _; iexact HW
  isplitl [HF0_src]; · iexact HF0_src
  iapply (oinfl_of_flight c XO (slO k.val) (Ring.bk 8 k.val) (Ring.bk 8 (k.val + 6)) (rslot (slO k.val)).view.junk _ rfl)
  iexact HF0

/-- A trip that issues block `k - 2` of the down projection's weight. -/
theorem tripO_down (k : Fin k0_t1_loop.trips) (hk : ¬ k.val + 6 < 8) :
    iprop(heldO c XO arg1 ga k.val ∗ homeP c XW (Ring.bk 30 (k.val - 2)) ∗ oinflP c XO (slO k.val) (Ring.bk 8 k.val))
    ⊢ wp frame (wpE (defs₀ (F := F)) 𝒱₀ (c : Thread nD τ) none) Set.univ (tripO arg0 harg0 arg1 harg1 arg2 harg2 k)
        (fun _ => iprop(heldO c XO arg1 ga (k.val + 1) ∗ ohomeP c XO (Ring.bk 8 k.val) ∗ inflP c XW (slO k.val) (Ring.bk 30 (k.val - 2)))) := by
  have hc : ¬ k0_cond1 k = 1#1 := fun h => hk ((ocond_iff k).1 h)
  have hc2 : k0_cond2 k = 1#1 := (ocond2_iff k).2 hk
  conv_lhs => unfold oinflP
  iintro ⟨⟨HA, ⟨%f12, HO, %hO⟩, ⟨%W, HW⟩⟩, Hg, ⟨%f0, HF0⟩⟩
  dsimp only [tripO]
  sl_unfold [k0_t1_body]
  sl_exec
  sl_step
  have ev : tripO_down.sl.v352 c XO k = oslab c XO k.val := load_slotO c XO k _ (View.read_writes_whole _ _ _)
  have eo := oaccO_step c XO arg1 ga k f12 (tripO_down.sl.v352 c XO k) hO ev
  isplitl [HA HO HW]
  · isplitl [HA]; · iexact HA
    isplitl [HO]
    · iexists _; isplitl [HO]; · iexact HO
      ipureintro; exact eo
    iexists _; iexact HW
  isplitl [HF0_src]; · iexact HF0_src
  iapply (oinfl_of_flightD c XO XW (slO k.val) (Ring.bk 8 k.val) (Ring.bk 30 (k.val - 2)) (rslot (slO k.val)).view.junk _ rfl)
  iexact HF0

/-! ## The loop's invariant -/

/-- Before trip `k`: the sum so far, both weights' blocks at home, and the six slots. -/
abbrev invO (k : ℕ) : sProp 𝕄 :=
  iprop(heldO c XO arg1 ga k ∗ bigSep (Ring.homeSet 6 k) (ohomeP c XO) ∗ bigSep (dset k) (homeP c XW)
    ∗ oroleP c XO XW k ∗ oroleP c XO XW (k + 1) ∗ oroleP c XO XW (k + 2) ∗ oroleP c XO XW (k + 3) ∗ oroleP c XO XW (k + 4) ∗ oroleP c XO XW (k + 5))

theorem orole_in (k : ℕ) (hk : k + 6 < 8) : oinflP c XO (slO k) (Ring.bk 8 (k + 6)) = oroleP c XO XW (k + 6) := by
  rw [oroleP_lt c XO XW (k + 6) hk, slO_add6]
theorem orole_down (k : ℕ) (hk : ¬ k + 6 < 8) : inflP c XW (slO k) (Ring.bk 30 (k - 2)) = oroleP c XO XW (k + 6) := by
  rw [oroleP_ge c XO XW (k + 6) hk, slO_add6, show k + 6 - 8 = k - 2 from by omega]

theorem tripO_step (k : Fin k0_t1_loop.trips) :
    invO c XO XW arg1 ga k.val ⊢ wp frame (wpE (defs₀ (F := F)) 𝒱₀ (c : Thread nD τ) none) Set.univ
      (tripO arg0 harg0 arg1 harg1 arg2 harg2 k) (fun _ => invO c XO XW arg1 ga (k.val + 1)) := by
  have hk8 := trip0_lt k
  unfold invO
  rw [oroleP_lt c XO XW k.val hk8]
  have e : k.val + 1 + 5 = k.val + 6 := by omega
  by_cases hk : k.val + 6 < 8
  · rw [ohomes_here c XO k.val hk, ohomes_next c XO k.val hk, dset_same k.val hk]
    rw [e, ← orole_in c XO XW k.val hk]
    iintro ⟨HH, ⟨Hg, Hr⟩, Hd, H0, H1, H2, H3, H4, H5⟩
    iapply (wp_wand_r Idealize.ShloMosaic.frame (wpE (defs₀ (F := F)) 𝒱₀ (c : Thread nD τ) none) Set.univ)
    isplitl [HH Hg H0]
    · iapply (tripO_issue c XO arg0 harg0 arg1 harg1 arg2 harg2 ga k hk)
      isplitl [HH]; · iexact HH
      isplitl [Hg]; · iexact Hg
      iexact H0
    · iintro %_ ⟨HH, Hg, H6⟩
      isplitl [HH]; · iexact HH
      isplitl [Hg Hr]; · isplitl [Hg] <;> iassumption
      isplitl [Hd]; · iexact Hd
      isplitl [H1]; · iexact H1
      isplitl [H2]; · iexact H2
      isplitl [H3]; · iexact H3
      isplitl [H4]; · iexact H4
      isplitl [H5]; · iexact H5
      iexact H6
  · rw [ohomes_tail c XO k.val (by omega) hk8, dhomes_out c XW k.val (by omega) hk8]
    rw [e, ← orole_down c XO XW k.val hk]
    iintro ⟨HH, Hh, ⟨Hg, Hd⟩, H0, H1, H2, H3, H4, H5⟩
    iapply (wp_wand_r Idealize.ShloMosaic.frame (wpE (defs₀ (F := F)) 𝒱₀ (c : Thread nD τ) none) Set.univ)
    isplitl [HH Hg H0]
    · iapply (tripO_down c XO XW arg0 harg0 arg1 harg1 arg2 harg2 ga k hk)
      isplitl [HH]; · iexact HH
      isplitl [Hg]; · iexact Hg
      iexact H0
    · iintro %_ ⟨HH, Hg, H6⟩
      isplitl [HH]; · iexact HH
      isplitl [Hg Hh]; · isplitl [Hg] <;> iassumption
      isplitl [Hd]; · iexact Hd
      isplitl [H1]; · iexact H1
      isplitl [H2]; · iexact H2
      isplitl [H3]; · iexact H3
      isplitl [H4]; · iexact H4
      isplitl [H5]; · iexact H5
      iexact H6

/-! ## The loop's end -/

theorem dset_zero : dset 0 = Finset.univ := by decide
theorem dset_end : dset 8 = (Ring.homeSet 6 0 : Finset (Fin 30)) := by decide
theorem ohomes_end : bigSep (Ring.homeSet 6 8) (ohomeP c XO) = bigSep Finset.univ (ohomeP c XO) := by
  have : (Ring.homeSet 6 8 : Finset (Fin 8)) = Finset.univ := by decide
  rw [this]
/-- Past this weight's blocks the slots carry the down projection's. -/
theorem orole_next (p : ℕ) (hp : p < 30) : oroleP c XO XW (8 + p) = roleP c XW p := by
  rw [oroleP_ge c XO XW (8 + p) (by omega), roleP_lt c XW p hp, show 8 + p - 8 = p from by omega,
    show slO (8 + p) = slK p from by show Ring.sl 6 (8 + p) = Ring.sl 6 (p + 2); rw [show 8 + p = p + 2 + 6 from by omega, Ring.sl_add]]
/-- A flight issued in the prologue is the invariant's slot for its block. -/
theorem orole_of_flight (p : ℕ) (hp : p < 8) (s : Fin 6) (b : Fin 8) (hs : slO p = s) (hb : Ring.bk 8 p = b)
    (f : Buf (Elt F) ((rslot s).view.loc (c : Thread nD τ))) (w : S512x3840.Idx → Elt F .fp8e4m3) (hw : w = opayload c XO b) :
    Transfers.Flight countersEmb (c : Thread nD τ) (SemLoc.dma (csm s).sem) () 61440
      iprop(slotP c s ((rslot s).view.writes (Elt F) f [⟨Rect.whole S512x3840, w⟩]) ∗ ohomeP c XO b) ⊢ oroleP c XO XW p := by
  subst hw hs hb
  rw [oroleP_lt c XO XW p hp]
  unfold oinflP
  iintro H
  iexists f
  iexact H

/-- What the loop leaves. -/
theorem loopO_end :
    invO c XO XW arg1 ga k0_t1_loop.trips ⊢
      iprop(heldO c XO arg1 ga 8 ∗ bigSep Finset.univ (ohomeP c XO) ∗ bigSep (Ring.homeSet 6 0) (homeP c XW)
        ∗ roleP c XW 0 ∗ roleP c XW 1 ∗ roleP c XW 2 ∗ roleP c XW 3 ∗ roleP c XW 4 ∗ roleP c XW 5) := by
  rw [trips0_eq]
  unfold invO
  rw [ohomes_end, dset_end, ← orole_next c XO XW 0 (by omega), ← orole_next c XO XW 1 (by omega), ← orole_next c XO XW 2 (by omega),
    ← orole_next c XO XW 3 (by omega), ← orole_next c XO XW 4 (by omega), ← orole_next c XO XW 5 (by omega)]

end TripO

end Cert.Proof.Kernel

end
-- ==== Proof.Kernel.Body.lean ====
/-
  The kernel's body on given staging buffers: the six late copies on one semaphore, both rings' first blocks, the output
  projection, the residual's sum, the norm and the quantised input, the feed-forward block's two loops, the epilogue, and
  the seven result copies. What it leaves in each result array is named here.
-/
module

public import proofs.«01_k».proof.Proof.Kernel.TripO
public import Idealize.ShloMosaic.Lib.MixedBatch

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body

variable (c : Dev nD) (XO : Buf (Elt F) (woM.view.loc (c : Thread nD τ))) (XW : Buf (Elt F) (wM.view.loc (c : Thread nD τ)))
  (XG : Buf (Elt F) (guM.view.loc (c : Thread nD τ)))
  (XB : soM.view.ty.Contents (Elt F)) (XN : pawM.view.ty.Contents (Elt F))
  (XF : pfwM.view.ty.Contents (Elt F)) (XQ : sguM.view.ty.Contents (Elt F))
  (XS : sdnM.view.ty.Contents (Elt F)) (XP : powM.view.ty.Contents (Elt F))
  (arg0 : Memref sig .tc .vmem S6x4x3840 .bf16) (harg0 : arg0.IsWhole) (arg1 : Memref sig .tc .vmem S8x32x512 .fp8e4m3) (harg1 : arg1.IsWhole)
  (arg2 : Memref sig .tc .vmem S24x128 .f32) (harg2 : arg2.IsWhole)
  (g0 : Buf (Elt F) (arg0.view.loc (c : Thread nD τ))) (ga : Buf (Elt F) (arg1.view.loc (c : Thread nD τ)))
  (gs : Buf (Elt F) (arg2.view.loc (c : Thread nD τ)))
  (r1 r2 r3 : FVec F S24x3840 .f32)

abbrev bodyG : Prog (TpuEff nD τ sig (Elt F) Λ₀ .tc) PUnit :=
  cc0_merged_attention_layer (F := F) arg0 harg0 arg1 harg1 arg2 harg2 woM (Memref.isWhole_whole _) soM (Memref.isWhole_whole _) pawM (Memref.isWhole_whole _)
    pfwM (Memref.isWhole_whole _) guM (Memref.isWhole_whole _) sguM (Memref.isWhole_whole _)
    wM (Memref.isWhole_whole _) sdnM (Memref.isWhole_whole _) powM (Memref.isWhole_whole _)
    hidM (Memref.isWhole_whole _) oM (Memref.isWhole_whole _) dM (Memref.isWhole_whole _) fcM (Memref.isWhole_whole _) fsM (Memref.isWhole_whole _)
    codM (Memref.isWhole_whole _) sclM (Memref.isWhole_whole _)
    soV (Memref.isWhole_whole _) pawV (Memref.isWhole_whole _) pfwV (Memref.isWhole_whole _) sguV (Memref.isWhole_whole _) sdnV (Memref.isWhole_whole _) powV (Memref.isWhole_whole _)
    wa (Memref.isWhole_whole _) wb (Memref.isWhole_whole _) xresV (Memref.isWhole_whole _) oacc (Memref.isWhole_whole _) fq (Memref.isWhole_whole _)
    actV (Memref.isWhole_whole _) amax (Memref.isWhole_whole _) hidV (Memref.isWhole_whole _) oV (Memref.isWhole_whole _) dV (Memref.isWhole_whole _)
    fcV (Memref.isWhole_whole _) fsV (Memref.isWhole_whole _) codV (Memref.isWhole_whole _) sclV (Memref.isWhole_whole _)
    cc0_scratch20 cc0_scratch21 cc0_scratch22 cc0_scratch23

/-- The layer input's and the attention scale's staging buffers. -/
abbrev xP : sProp 𝕄 := arg0.view.loc (c : Thread nD τ) ↦[arg0.view.set]{fullShare} g0
abbrev asP : sProp 𝕄 := arg2.view.loc (c : Thread nD τ) ↦[arg2.view.set]{fullShare} gs

/-- Result semaphore `n`. -/
def osm (n : Fin 7) : DmaSems sig S_ :=
  (cc0_scratch23.slice (Rect.unit (s := S7) ![n.val] S1.size (by intro a; fin_cases a; show n.val + 1 ≤ 7; omega))).squeeze S_ squeezes_S1_S_
@[sl_canon] theorem osm0 (hh) : (cc0_scratch23.slice (Rect.unit (s := S7) ![0] S1.size hh)).squeeze S_ squeezes_S1_S_ = osm 0 := rfl
@[sl_canon] theorem osm1 (hh) : (cc0_scratch23.slice (Rect.unit (s := S7) ![1] S1.size hh)).squeeze S_ squeezes_S1_S_ = osm 1 := rfl
@[sl_canon] theorem osm2 (hh) : (cc0_scratch23.slice (Rect.unit (s := S7) ![2] S1.size hh)).squeeze S_ squeezes_S1_S_ = osm 2 := rfl
@[sl_canon] theorem osm3 (hh) : (cc0_scratch23.slice (Rect.unit (s := S7) ![3] S1.size hh)).squeeze S_ squeezes_S1_S_ = osm 3 := rfl
@[sl_canon] theorem osm4 (hh) : (cc0_scratch23.slice (Rect.unit (s := S7) ![4] S1.size hh)).squeeze S_ squeezes_S1_S_ = osm 4 := rfl
@[sl_canon] theorem osm5 (hh) : (cc0_scratch23.slice (Rect.unit (s := S7) ![5] S1.size hh)).squeeze S_ squeezes_S1_S_ = osm 5 := rfl
@[sl_canon] theorem osm6 (hh) : (cc0_scratch23.slice (Rect.unit (s := S7) ![6] S1.size hh)).squeeze S_ squeezes_S1_S_ = osm 6 := rfl

abbrev ocellP (n : Fin 7) : sProp 𝕄 := semVal ((c : Thread nD τ), SemLoc.dma (osm n).sem) 0
abbrev lcellP : sProp 𝕄 := semVal ((c : Thread nD τ), SemLoc.dma cc0_scratch20.sem) 0
/-- A whole buffer at anything. -/
abbrev someP (b : Ref sig .tc) : sProp 𝕄 := iprop(∃ f, held (F := F) c b f)
abbrev sslotP (s : Fin 6) : sProp 𝕄 := iprop(∃ f, slotP (F := F) c s f)

/-- What the body is handed. -/
abbrev PRE (W : Waits sig Unit) : sProp 𝕄 :=
  iprop(xP c arg0 g0 ∗ aqP c arg1 ga ∗ asP c arg2 gs
    ∗ ohomeP c XO 0 ∗ ohomeP c XO 1 ∗ ohomeP c XO 2 ∗ ohomeP c XO 3 ∗ ohomeP c XO 4 ∗ ohomeP c XO 5 ∗ bigSep (Ring.homeSet 6 0) (ohomeP c XO) ∗ bigSep Finset.univ (homeP c XW)
    ∗ ahomeP c XG 0 ∗ ahomeP c XG 1 ∗ ahomeP c XG 2 ∗ ahomeP c XG 3 ∗ ahomeP c XG 4 ∗ ahomeP c XG 5 ∗ ahomeP c XG 6 ∗ ahomeP c XG 7 ∗ bigSep (Ring.homeSet 8 0) (ahomeP c XG)
    ∗ held c main_v0 XB ∗ held c main_v1 XN ∗ held c main_v2 XF ∗ held c main_v3 XQ ∗ held c main_v4 XS ∗ held c main_v5 XP
    ∗ someP c main_v6_0 ∗ someP c main_v6_1 ∗ someP c main_v6_2 ∗ someP c main_v6_3 ∗ someP c main_v6_4 ∗ someP c main_v6_5 ∗ someP c main_v6_6
    ∗ someP c cc0_scratch0 ∗ someP c cc0_scratch1 ∗ someP c cc0_scratch2 ∗ someP c cc0_scratch3 ∗ someP c cc0_scratch4 ∗ someP c cc0_scratch5 ∗ someP c cc0_scratch8 ∗ someP c cc0_scratch9 ∗ someP c cc0_scratch10 ∗ someP c cc0_scratch11 ∗ someP c cc0_scratch12 ∗ someP c cc0_scratch13 ∗ someP c cc0_scratch14 ∗ someP c cc0_scratch15 ∗ someP c cc0_scratch16 ∗ someP c cc0_scratch17 ∗ someP c cc0_scratch18 ∗ someP c cc0_scratch19
    ∗ sslotP c 0 ∗ sslotP c 1 ∗ sslotP c 2 ∗ sslotP c 3 ∗ sslotP c 4 ∗ sslotP c 5
    ∗ cellP c 0 ∗ cellP c 1 ∗ cellP c 2 ∗ cellP c 3 ∗ cellP c 4 ∗ cellP c 5
    ∗ afreeP c 0 ∗ afreeP c 1 ∗ afreeP c 2 ∗ afreeP c 3 ∗ afreeP c 4 ∗ afreeP c 5 ∗ afreeP c 6 ∗ afreeP c 7
    ∗ lcellP c ∗ ocellP c 0 ∗ ocellP c 1 ∗ ocellP c 2 ∗ ocellP c 3 ∗ ocellP c 4 ∗ ocellP c 5 ∗ ocellP c 6
    ∗ owes (c : Thread nD τ) 0 W)

/-! ## What the body computes -/

/-- The layer's input, in rows. -/
def r1Of : FVec F S24x3840 .f32 :=
  k0_pay10 (arg0.view.readAt (Elt F) (Rect.unit (s := S6x4x3840) ![0, 0, 0] S6x4x3840.size inb_S6x4x3840_S6x4x3840_0_0_0).toLoadRect g0)
/-- The output projection's accumulator, its 24 rows that are not padding. -/
def oaOf : Vec F S24x3840 .f32 :=
  oacc.view.readAt (Elt F) (Rect.unit (s := S32x3840) ![0, 0] S24x3840.size inb_S32x3840_S24x3840_0_0).toLoadRect (oaccAt c XO arg1 ga 8)
/-- The attention codes' scale, a column. -/
def asOf : Vec F S24x1 .f32 :=
  arg2.view.readAt (Elt F) (Rect.unit (s := S24x128) ![0, 0] S24x1.size inb_S24x128_S24x1_0_0).toLoadRect gs
/-- The output projection. -/
def oOf : FVec F S6x4x3840 .f32 := k0_pay14 (oaOf c XO arg1 ga) (asOf c arg2 gs) XB
/-- The output projection divided by its root mean square; -/
def r2Of : FVec F S24x3840 .f32 := k0_pay15 (oaOf c XO arg1 ga) (asOf c arg2 gs) XB
/-- and that norm's weight plus one. -/
def r3Of : FVec F S24x3840 .f32 := k0_pay16 XN
/-- The normed input's scale, a column; -/
def fcol : FVec F S24x1 .f32 := k0_pay20 r1 r2 r3 XF
/-- its codes, padded with eight rows of zeros. -/
def fpad : FVec F S32x3840 .fp8e4m3 := k0_pay21 r1 r2 r3 XF
/-- What the gate and up projections read. -/
def fqOf : fq.view.ty.Contents (Elt F) := k0_pay22 r1 r2 r3 XF
/-- The scale in all lanes. -/
def fsOut : FVec F S24x128 .f32 := k0_pay29 (fcol XF r1 r2 r3)
/-- The codes as the result has them. -/
def fcOf : S6x4x3840.Idx → Elt F .fp8e4m3 := fun i =>
  fpad XF r1 r2 r3 (fun a => match a with
    | ⟨0, _⟩ => ⟨4 * (i 0).val + (i 1).val, by have h0 : (i 0).val < 6 := (i 0).isLt; have h1 : (i 1).val < 4 := (i 1).isLt; show _ < 32; omega⟩
    | ⟨1, _⟩ => i 2)
/-- All the activations; -/
def actOf : actV.view.ty.Contents (Elt F) := actAll c XG (fqOf XF r1 r2 r3) (fsOut XF r1 r2 r3) XQ
/-- their lane maxima; -/
def lnOf : FVec F S24x128 .f32 := lanesAt c XG (fqOf XF r1 r2 r3) (fsOut XF r1 r2 r3) XQ 60
/-- the rows' maximum, in all lanes; -/
def gmOf : FVec F S24x128 .f32 := k0_pay37 (lnOf c XG XF XQ r1 r2 r3)
/-- the rows' scale, in all lanes. -/
def sclOf : FVec F S24x128 .f32 := k0_pay36 (lnOf c XG XF XQ r1 r2 r3)
/-- The accumulator after the last trip. -/
def accF : Vec F S32x3840 .f32 := acc c XW (actOf c XG XF XQ r1 r2 r3) (gmOf c XG XF XQ r1 r2 r3) 30
/-- Its 24 rows that are not padding. -/
def v75Of : Vec F S24x3840 .f32 :=
  oacc.view.readAt (Elt F) (Rect.unit (s := S32x3840) ![0, 0] S24x3840.size inb_S32x3840_S24x3840_0_0).toLoadRect (accF c XW XG XF XQ r1 r2 r3)
/-- The scale's first lane. -/
def v76Of : Vec F S24x1 .f32 :=
  sclV.view.readAt (Elt F) (Rect.unit (s := S24x128) ![0, 0] S24x1.size inb_S24x128_S24x1_0_0).toLoadRect (sclOf c XG XF XQ r1 r2 r3)
/-- The down projection. -/
def dOf : FVec F S6x4x3840 .f32 := k0_pay41 (v75Of c XW XG XF XQ r1 r2 r3) (v76Of c XG XF XQ r1 r2 r3) XS
/-- The hidden state. -/
def hidOf : FVec F S6x4x3840 .bf16 :=
  k0_pay42 (v75Of c XW XG XF XQ r1 r2 r3) (v76Of c XG XF XQ r1 r2 r3) XS (k0_pay18 r1 r2 r3) XP
/-- The activation's codes. -/
def codOf : S6x4x15360.Idx → Elt F .fp8e4m3 := codesAll c (actOf c XG XF XQ r1 r2 r3) (gmOf c XG XF XQ r1 r2 r3)

/-- What the body hands back. -/
abbrev POST : sProp 𝕄 :=
  iprop(xP c arg0 g0 ∗ aqP c arg1 ga ∗ asP c arg2 gs
    ∗ bigSep Finset.univ (ohomeP c XO) ∗ bigSep Finset.univ (homeP c XW) ∗ bigSep Finset.univ (ahomeP c XG)
    ∗ held c main_v0 XB ∗ held c main_v1 XN ∗ held c main_v2 XF ∗ held c main_v3 XQ ∗ held c main_v4 XS ∗ held c main_v5 XP
    ∗ held c main_v6_0 (hidOf c XW XG XF XQ XS XP (r1Of c arg0 g0) (r2Of c XO XB arg1 arg2 ga gs) (r3Of XN))
    ∗ held c main_v6_1 (oOf c XO XB arg1 arg2 ga gs)
    ∗ held c main_v6_2 (dOf c XW XG XF XQ XS (r1Of c arg0 g0) (r2Of c XO XB arg1 arg2 ga gs) (r3Of XN))
    ∗ held c main_v6_3 (fcOf XF (r1Of c arg0 g0) (r2Of c XO XB arg1 arg2 ga gs) (r3Of XN))
    ∗ held c main_v6_4 (fsOut XF (r1Of c arg0 g0) (r2Of c XO XB arg1 arg2 ga gs) (r3Of XN))
    ∗ held c main_v6_5 (codOf c XG XF XQ (r1Of c arg0 g0) (r2Of c XO XB arg1 arg2 ga gs) (r3Of XN))
    ∗ held c main_v6_6 (sclOf c XG XF XQ (r1Of c arg0 g0) (r2Of c XO XB arg1 arg2 ga gs) (r3Of XN))
    ∗ someP c cc0_scratch0 ∗ someP c cc0_scratch1 ∗ someP c cc0_scratch2 ∗ someP c cc0_scratch3 ∗ someP c cc0_scratch4 ∗ someP c cc0_scratch5 ∗ someP c cc0_scratch8 ∗ someP c cc0_scratch9 ∗ someP c cc0_scratch10 ∗ someP c cc0_scratch11 ∗ someP c cc0_scratch12 ∗ someP c cc0_scratch13 ∗ someP c cc0_scratch14 ∗ someP c cc0_scratch15 ∗ someP c cc0_scratch16 ∗ someP c cc0_scratch17 ∗ someP c cc0_scratch18 ∗ someP c cc0_scratch19
    ∗ sslotP c 0 ∗ sslotP c 1 ∗ sslotP c 2 ∗ sslotP c 3 ∗ sslotP c 4 ∗ sslotP c 5
    ∗ cellP c 0 ∗ cellP c 1 ∗ cellP c 2 ∗ cellP c 3 ∗ cellP c 4 ∗ cellP c 5
    ∗ afreeP c 0 ∗ afreeP c 1 ∗ afreeP c 2 ∗ afreeP c 3 ∗ afreeP c 4 ∗ afreeP c 5 ∗ afreeP c 6 ∗ afreeP c 7
    ∗ lcellP c ∗ ocellP c 0 ∗ ocellP c 1 ∗ ocellP c 2 ∗ ocellP c 3 ∗ ocellP c 4 ∗ ocellP c 5 ∗ ocellP c 6
    ∗ ∃ W, owes (c : Thread nD τ) 0 W)

/-! ## The six late copies -/

/-- A buffer held by exactly its view's elements. -/
abbrev ownP {sp : Space} {S : Shape} {e : EltTy} (M : Memref sig .tc sp S e) (f : Buf (Elt F) (M.view.loc (c : Thread nD τ))) : sProp 𝕄 :=
  M.view.loc (c : Thread nD τ) ↦[M.view.set]{fullShare} f
omit [FloatOps F] in
theorem own_whole (b : Ref sig .tc) (f : b.ty.Contents (Elt F)) : held c b f = ownP c (Memref.whole b) f :=
  congrArg (fun S => ((Memref.whole b).view.loc (c : Thread nD τ) ↦[S]{fullShare} f : sProp 𝕄)) (View.set_whole b).symm
omit [FloatOps F] in
theorem own_storable {sp : Space} {S : Shape} {e : EltTy} (M : Memref sig .tc sp S e) (f : Buf (Elt F) (M.view.loc (c : Thread nD τ))) :
    Storable (upEmb : UEmb _ 𝕄) (ownP c M f) := by dsimp only [ownP]; infer_instance

/-- Their amounts, -/
abbrev lamts : Fin 6 → ℕ := ![480, 480, 480, 3840, 480, 480]
/-- and their deliveries over what the destinations held. -/
abbrev ldeliv (f0 : soV.view.ty.Contents (Elt F)) (f1 : pawV.view.ty.Contents (Elt F)) (f2 : pfwV.view.ty.Contents (Elt F)) (f3 : sguV.view.ty.Contents (Elt F)) (f4 : sdnV.view.ty.Contents (Elt F)) (f5 : powV.view.ty.Contents (Elt F)) : Fin 6 → sProp 𝕄
  | 0 => iprop(ownP c soV (soV.view.writes (Elt F) f0 [⟨Rect.whole _, ReadAs.same.apply (soM.view.read (Elt F) XB)⟩]) ∗ ownP c soM XB)
  | 1 => iprop(ownP c pawV (pawV.view.writes (Elt F) f1 [⟨Rect.whole _, ReadAs.same.apply (pawM.view.read (Elt F) XN)⟩]) ∗ ownP c pawM XN)
  | 2 => iprop(ownP c pfwV (pfwV.view.writes (Elt F) f2 [⟨Rect.whole _, ReadAs.same.apply (pfwM.view.read (Elt F) XF)⟩]) ∗ ownP c pfwM XF)
  | 3 => iprop(ownP c sguV (sguV.view.writes (Elt F) f3 [⟨Rect.whole _, ReadAs.same.apply (sguM.view.read (Elt F) XQ)⟩]) ∗ ownP c sguM XQ)
  | 4 => iprop(ownP c sdnV (sdnV.view.writes (Elt F) f4 [⟨Rect.whole _, ReadAs.same.apply (sdnM.view.read (Elt F) XS)⟩]) ∗ ownP c sdnM XS)
  | 5 => iprop(ownP c powV (powV.view.writes (Elt F) f5 [⟨Rect.whole _, ReadAs.same.apply (powM.view.read (Elt F) XP)⟩]) ∗ ownP c powM XP)
instance ldeliv_storable (f0 f1 f2 f3 f4 f5) : ∀ t, Storable (upEmb : UEmb _ 𝕄) (ldeliv c XB XN XF XQ XS XP f0 f1 f2 f3 f4 f5 t)
  | 0 => by haveI := own_storable c soV (soV.view.writes (Elt F) f0 [⟨Rect.whole _, ReadAs.same.apply (soM.view.read (Elt F) XB)⟩]); haveI := own_storable c soM XB; dsimp only [ldeliv]; infer_instance
  | 1 => by haveI := own_storable c pawV (pawV.view.writes (Elt F) f1 [⟨Rect.whole _, ReadAs.same.apply (pawM.view.read (Elt F) XN)⟩]); haveI := own_storable c pawM XN; dsimp only [ldeliv]; infer_instance
  | 2 => by haveI := own_storable c pfwV (pfwV.view.writes (Elt F) f2 [⟨Rect.whole _, ReadAs.same.apply (pfwM.view.read (Elt F) XF)⟩]); haveI := own_storable c pfwM XF; dsimp only [ldeliv]; infer_instance
  | 3 => by haveI := own_storable c sguV (sguV.view.writes (Elt F) f3 [⟨Rect.whole _, ReadAs.same.apply (sguM.view.read (Elt F) XQ)⟩]); haveI := own_storable c sguM XQ; dsimp only [ldeliv]; infer_instance
  | 4 => by haveI := own_storable c sdnV (sdnV.view.writes (Elt F) f4 [⟨Rect.whole _, ReadAs.same.apply (sdnM.view.read (Elt F) XS)⟩]); haveI := own_storable c sdnM XS; dsimp only [ldeliv]; infer_instance
  | 5 => by haveI := own_storable c powV (powV.view.writes (Elt F) f5 [⟨Rect.whole _, ReadAs.same.apply (powM.view.read (Elt F) XP)⟩]); haveI := own_storable c powM XP; dsimp only [ldeliv]; infer_instance

/-! ## The rings at the loops' ends -/

omit [FloatOps F] in
theorem afree_eq (s : Fin 8) : afreeP (F := F) c s = iprop(acellP c s ∗ ∃ f, aslotP (F := F) c s f) := rfl
omit [FloatOps F] in
theorem ahome_eq (b : Fin 60) : ahomeP c XG b = iprop(gwP c XG b 0 ∗ gwP c XG b 1) := rfl

/-- All the codes are stored when the loop ends. -/
theorem codes_all (g0 : actV.view.ty.Contents (Elt F)) (gm : Buf (Elt F) (amax.view.loc (c : Thread nD τ))) (f : cc0_scratch18.ty.Contents (Elt F))
    (h : CodesTo c g0 gm 30 f) : f = codesAll c g0 gm :=
  funext fun i => h i (by have : (i 2).val < 15360 := (i 2).isLt; omega)

theorem homes_end : bigSep (Ring.homeSet 6 30) (homeP c XW) = bigSep Finset.univ (homeP c XW) := by
  have : (Ring.homeSet 6 30 : Finset (Fin 30)) = Finset.univ := by decide
  rw [this]

theorem free_role (p : ℕ) (hp : 30 ≤ p) (s : Fin 6) (hs : slK p = s) : roleP c XW p ⊢ iprop(cellP c s ∗ sslotP c s) := by
  subst hs
  rw [roleP_ge c XW p hp]
  unfold freeP
  exact .rfl

/-- The trips' count is `30`, so what the loop leaves is what stands before trip `30`. -/
theorem loop_end (g0 : actV.view.ty.Contents (Elt F)) (gm : Buf (Elt F) (amax.view.loc (c : Thread nD τ))) :
    invAt c XW g0 gm k0_t3_loop.trips ⊢
      iprop(heldAt c XW g0 gm 30 ∗ bigSep Finset.univ (homeP c XW)
        ∗ (cellP c 2 ∗ sslotP c 2) ∗ (cellP c 3 ∗ sslotP c 3) ∗ (cellP c 4 ∗ sslotP c 4) ∗ (cellP c 5 ∗ sslotP c 5)
        ∗ (cellP c 0 ∗ sslotP c 0) ∗ (cellP c 1 ∗ sslotP c 1)) := by
  rw [trips_eq]
  unfold invAt
  rw [homes_end]
  iintro ⟨H, Hh, H0, H1, H2, H3, H4, H5⟩
  isplitl [H]; · iexact H
  isplitl [Hh]; · iexact Hh
  isplitl [H0]; · iapply (free_role c XW (30 + 0) (by omega) 2 rfl); iexact H0
  isplitl [H1]; · iapply (free_role c XW (30 + 1) (by omega) 3 rfl); iexact H1
  isplitl [H2]; · iapply (free_role c XW (30 + 2) (by omega) 4 rfl); iexact H2
  isplitl [H3]; · iapply (free_role c XW (30 + 3) (by omega) 5 rfl); iexact H3
  isplitl [H4]; · iapply (free_role c XW (30 + 4) (by omega) 0 rfl); iexact H4
  iapply (free_role c XW (30 + 5) (by omega) 1 rfl); iexact H5

/-- Loading back what was just stored whole. -/
theorem readCov_full {sp : Space} {s : Shape} {e : EltTy} (v : View sig .tc sp s e) {off : Fin s.rank → ℕ}
    (inb : ∀ a, off a + s.size a ≤ s.size a) (w : (Rect.unit off s.size inb).shape.Idx → Elt F e) :
    v.readCov (Val := Elt F) [⟨Rect.unit off s.size inb, w⟩] (Rect.unit off s.size inb).toLoadRect = w := by
  unfold View.readCov
  rw [View.readAt_full, View.read_writes_full]

/-- All the activations are stored when the first loop ends. -/
theorem act_all (FQ : fq.view.ty.Contents (Elt F)) (FS : fsV.view.ty.Contents (Elt F)) (SG : sguV.view.ty.Contents (Elt F)) (f : cc0_scratch11.ty.Contents (Elt F))
    (h : ActTo c XG FQ FS SG 60 f) : f = actAll c XG FQ FS SG :=
  funext fun i => h i (i 0).isLt

theorem ahomes_end : bigSep (Ring.homeSet 8 60) (ahomeP c XG) = bigSep Finset.univ (ahomeP c XG) := by
  have : (Ring.homeSet 8 60 : Finset (Fin 60)) = Finset.univ := by decide
  rw [this]

theorem afree_role (p : ℕ) (hp : 60 ≤ p) (s : Fin 8) (hs : slA p = s) : aroleP c XG p ⊢ afreeP c s := by
  subst hs
  rw [aroleP_ge c XG p hp]

theorem arole_of (p : ℕ) (hp : p < 60) (s : Fin 8) (b : Fin 60) (hs : slA p = s) (hb : Ring.bk 60 p = b) : ainflP c XG s b ⊢ aroleP c XG p := by
  subst hs hb
  rw [aroleP_lt c XG p hp]

/-- What the first loop leaves. -/
theorem loopA_end (FQ : fq.view.ty.Contents (Elt F)) (FS : fsV.view.ty.Contents (Elt F)) (SG : sguV.view.ty.Contents (Elt F)) :
    invA c XG FQ FS SG k0_t2_loop.trips ⊢
      iprop(heldA c XG FQ FS SG 60 ∗ bigSep Finset.univ (ahomeP c XG)
        ∗ afreeP c 4 ∗ afreeP c 5 ∗ afreeP c 6 ∗ afreeP c 7 ∗ afreeP c 0 ∗ afreeP c 1 ∗ afreeP c 2 ∗ afreeP c 3) := by
  rw [trips1_eq]
  unfold invA
  rw [ahomes_end]
  iintro ⟨H, Hh, H0, H1, H2, H3, H4, H5, H6, H7⟩
  isplitl [H]; · iexact H
  isplitl [Hh]; · iexact Hh
  isplitl [H0]; · iapply (afree_role c XG (60 + 0) (by omega) 4 rfl); iexact H0
  isplitl [H1]; · iapply (afree_role c XG (60 + 1) (by omega) 5 rfl); iexact H1
  isplitl [H2]; · iapply (afree_role c XG (60 + 2) (by omega) 6 rfl); iexact H2
  isplitl [H3]; · iapply (afree_role c XG (60 + 3) (by omega) 7 rfl); iexact H3
  isplitl [H4]; · iapply (afree_role c XG (60 + 4) (by omega) 0 rfl); iexact H4
  isplitl [H5]; · iapply (afree_role c XG (60 + 5) (by omega) 1 rfl); iexact H5
  isplitl [H6]; · iapply (afree_role c XG (60 + 6) (by omega) 2 rfl); iexact H6
  iapply (afree_role c XG (60 + 7) (by omega) 3 rfl); iexact H7

/-! ## The stores before the first loop -/

/-- A row group of the codes, at an index. -/
theorem fcPiece (b o : ℕ) (ho : o = 4 * b) (v : FVec F S32x3840 .fp8e4m3) (i : S6x4x3840.Idx) (hs)
    (h : ∀ a, (![b, 0, 0] : Fin 3 → ℕ) a ≤ (i a).val ∧ (i a).val < (![b, 0, 0] : Fin 3 → ℕ) a + S1x4x3840.size a) :
    shapeCast S1x4x3840 (extractStridedSlice S4x3840 ![o, 0] v hs) shapeCasts_S4x3840_S1x4x3840
        (Rect.unitLocal (s := S6x4x3840) (off := ![b, 0, 0]) (size := S1x4x3840.size) i h)
      = v (fun a => match a with
        | ⟨0, _⟩ => ⟨4 * (i 0).val + (i 1).val, by have h0 : (i 0).val < 6 := (i 0).isLt; have h1 : (i 1).val < 4 := (i 1).isLt; show _ < 32; omega⟩
        | ⟨1, _⟩ => i 2) := by
  have h0 : b ≤ (i 0).val ∧ (i 0).val < b + 1 := h 0
  refine (shapeCast_apply _ _ _ (fun a => match a with | ⟨0, _⟩ => i 1 | ⟨1, _⟩ => i 2) ?_).trans (extractStridedSlice_apply _ _ _ _ _ ?_)
  · rw [Shape.rowMajor_val_three, Shape.rowMajor_val_two, Rect.unitLocal_val, Rect.unitLocal_val, Rect.unitLocal_val]
    show (i 1).val * 3840 + (i 2).val = (((i 0).val - b) * 4 + ((i 1).val - 0)) * 3840 + ((i 2).val - 0)
    omega
  · intro a
    match a with
    | ⟨0, _⟩ => show 4 * (i 0).val + (i 1).val = o + (i 1).val; omega
    | ⟨1, _⟩ => exact (Nat.zero_add _).symm

/-- The six row groups are all the codes. -/
theorem fc_stores (v : FVec F S32x3840 .fp8e4m3) (f : fcV.view.ty.Contents (Elt F)) :
    fcV.view.writes (Elt F) f
      [⟨Rect.unit (s := S6x4x3840) ![5, 0, 0] S1x4x3840.size inb_S6x4x3840_S1x4x3840_5_0_0, k0_pay28 v⟩,
       ⟨Rect.unit (s := S6x4x3840) ![4, 0, 0] S1x4x3840.size inb_S6x4x3840_S1x4x3840_4_0_0, k0_pay27 v⟩,
       ⟨Rect.unit (s := S6x4x3840) ![3, 0, 0] S1x4x3840.size inb_S6x4x3840_S1x4x3840_3_0_0, k0_pay26 v⟩,
       ⟨Rect.unit (s := S6x4x3840) ![2, 0, 0] S1x4x3840.size inb_S6x4x3840_S1x4x3840_2_0_0, k0_pay25 v⟩,
       ⟨Rect.unit (s := S6x4x3840) ![1, 0, 0] S1x4x3840.size inb_S6x4x3840_S1x4x3840_1_0_0, k0_pay24 v⟩,
       ⟨Rect.unit (s := S6x4x3840) ![0, 0, 0] S1x4x3840.size inb_S6x4x3840_S1x4x3840_0_0_0, k0_pay23 v⟩]
      = fun i => v (fun a => match a with
        | ⟨0, _⟩ => ⟨4 * (i 0).val + (i 1).val, by have h0 : (i 0).val < 6 := (i 0).isLt; have h1 : (i 1).val < 4 := (i 1).isLt; show _ < 32; omega⟩
        | ⟨1, _⟩ => i 2) := by
  funext i
  refine Eq.trans (congrFun (View.read_whole cc0_scratch16 _).symm i) ?_
  rw [View.read_writes_cons_unit _ _ _ _ _ _ rfl]; split; · exact fcPiece 5 20 rfl v i _ _
  rw [View.read_writes_cons_unit _ _ _ _ _ _ rfl]; split; · exact fcPiece 4 16 rfl v i _ _
  rw [View.read_writes_cons_unit _ _ _ _ _ _ rfl]; split; · exact fcPiece 3 12 rfl v i _ _
  rw [View.read_writes_cons_unit _ _ _ _ _ _ rfl]; split; · exact fcPiece 2 8 rfl v i _ _
  rw [View.read_writes_cons_unit _ _ _ _ _ _ rfl]; split; · exact fcPiece 1 4 rfl v i _ _
  rw [View.read_writes_cons_unit _ _ _ _ _ _ rfl]; split; · exact fcPiece 0 0 rfl v i _ _
  rename_i h5 h4 h3 h2 h1 h0
  have n : ∀ b : ℕ, b ≤ (i 0).val → (i 0).val < b + 1 → ∀ a, (![b, 0, 0] : Fin 3 → ℕ) a ≤ (i a).val ∧ (i a).val < (![b, 0, 0] : Fin 3 → ℕ) a + S1x4x3840.size a := by
    intro b hb hb' a
    match a with
    | ⟨0, _⟩ => exact ⟨hb, hb'⟩
    | ⟨1, _⟩ => exact ⟨Nat.zero_le _, (i 1).isLt.trans_eq (Nat.zero_add _).symm⟩
    | ⟨2, _⟩ => exact ⟨Nat.zero_le _, (i 2).isLt.trans_eq (Nat.zero_add _).symm⟩
  have hi : (i 0).val < 6 := (i 0).isLt
  exfalso
  have c0 : ¬ (0 ≤ (i 0).val ∧ (i 0).val < 0 + 1) := fun h => h0 (n 0 h.1 h.2)
  have c1 : ¬ (1 ≤ (i 0).val ∧ (i 0).val < 1 + 1) := fun h => h1 (n 1 h.1 h.2)
  have c2 : ¬ (2 ≤ (i 0).val ∧ (i 0).val < 2 + 1) := fun h => h2 (n 2 h.1 h.2)
  have c3 : ¬ (3 ≤ (i 0).val ∧ (i 0).val < 3 + 1) := fun h => h3 (n 3 h.1 h.2)
  have c4 : ¬ (4 ≤ (i 0).val ∧ (i 0).val < 4 + 1) := fun h => h4 (n 4 h.1 h.2)
  have c5 : ¬ (5 ≤ (i 0).val ∧ (i 0).val < 5 + 1) := fun h => h5 (n 5 h.1 h.2)
  omega

set_option maxHeartbeats 2000000 in
theorem bodyRun (W : Waits sig Unit) (Q : PUnit → sProp 𝕄) :
    iprop(PRE c XO XW XG XB XN XF XQ XS XP arg0 arg1 arg2 g0 ga gs W ∗ (POST c XO XW XG XB XN XF XQ XS XP arg0 arg1 arg2 g0 ga gs -∗ Q ⟨⟩))
      ⊢ wp frame (wpE (defs₀ (F := F)) 𝒱₀ (c : Thread nD τ) none) Set.univ (bodyG arg0 harg0 arg1 harg1 arg2 harg2) Q := by
  iintro ⟨⟨HR, HA, HZ, Hg0, Hg1, Hg2, Hg3, Hg4, Hg5, Hoh, Hh, Ha0, Ha1, Ha2, Ha3, Ha4, Ha5, Ha6, Ha7, Hah, HB, HN, HF, HQ, HS, HP, ⟨%o0, HO0⟩, ⟨%o1, HO1⟩, ⟨%o2, HO2⟩, ⟨%o3, HO3⟩, ⟨%o4, HO4⟩, ⟨%o5, HO5⟩, ⟨%o6, HO6⟩,
    ⟨%f0, H0⟩, ⟨%f1, H1⟩, ⟨%f2, H2⟩, ⟨%f3, H3⟩, ⟨%f4, H4⟩, ⟨%f5, H5⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩,
    ⟨%s0, Hs0⟩, ⟨%s1, Hs1⟩, ⟨%s2, Hs2⟩, ⟨%s3, Hs3⟩, ⟨%s4, Hs4⟩, ⟨%s5, Hs5⟩, Hc0, Hc1, Hc2, Hc3, Hc4, Hc5,
    Hd0, Hd1, Hd2, Hd3, Hd4, Hd5, Hd6, Hd7, Hl, Hp0, Hp1, Hp2, Hp3, Hp4, Hp5, Hp6, HW⟩, Hk⟩
  ihave HB := (entails_of_eq (own_whole c main_v0 XB)) $$ HB
  ihave HN := (entails_of_eq (own_whole c main_v1 XN)) $$ HN
  ihave HF := (entails_of_eq (own_whole c main_v2 XF)) $$ HF
  ihave HQ := (entails_of_eq (own_whole c main_v3 XQ)) $$ HQ
  ihave HS := (entails_of_eq (own_whole c main_v4 XS)) $$ HS
  ihave HP := (entails_of_eq (own_whole c main_v5 XP)) $$ HP
  ihave H0 := (entails_of_eq (own_whole c cc0_scratch0 f0)) $$ H0
  ihave H1 := (entails_of_eq (own_whole c cc0_scratch1 f1)) $$ H1
  ihave H2 := (entails_of_eq (own_whole c cc0_scratch2 f2)) $$ H2
  ihave H3 := (entails_of_eq (own_whole c cc0_scratch3 f3)) $$ H3
  ihave H4 := (entails_of_eq (own_whole c cc0_scratch4 f4)) $$ H4
  ihave H5 := (entails_of_eq (own_whole c cc0_scratch5 f5)) $$ H5
  imod (Transfers.mixedBatch_alloc' (countersEmb) (c : Thread nD τ) () lamts (ldeliv c XB XN XF XQ XS XP f0 f1 f2 f3 f4 f5) (sm := .dma cc0_scratch20.sem) (E := Set.univ)) $$ Hl with HL
  ihave Hd0 := (entails_of_eq (afree_eq c 0)) $$ Hd0
  icases Hd0 with ⟨Hd0, %t0, Ht0⟩
  haveI : ∀ t, Storable (upEmb : UEmb _ 𝕄) (adeliv c XG 0 0 t) := adeliv_storable c XG _ _
  imod (Transfers.batch_alloc' countersEmb (c : Thread nD τ) () 30720 (adeliv c XG 0 0) (sm := SemLoc.dma (asm 0).sem) (E := Set.univ)) $$ Hd0 with Hd0
  ihave Ht0 := (aslot_split c 0 t0) $$ Ht0
  icases Ht0 with ⟨Ht0, Hu0⟩
  ihave Ha0 := (entails_of_eq (ahome_eq c XG 0)) $$ Ha0
  icases Ha0 with ⟨Ha0, Hb0⟩
  ihave Hd1 := (entails_of_eq (afree_eq c 1)) $$ Hd1
  icases Hd1 with ⟨Hd1, %t1, Ht1⟩
  haveI : ∀ t, Storable (upEmb : UEmb _ 𝕄) (adeliv c XG 1 1 t) := adeliv_storable c XG _ _
  imod (Transfers.batch_alloc' countersEmb (c : Thread nD τ) () 30720 (adeliv c XG 1 1) (sm := SemLoc.dma (asm 1).sem) (E := Set.univ)) $$ Hd1 with Hd1
  ihave Ht1 := (aslot_split c 1 t1) $$ Ht1
  icases Ht1 with ⟨Ht1, Hu1⟩
  ihave Ha1 := (entails_of_eq (ahome_eq c XG 1)) $$ Ha1
  icases Ha1 with ⟨Ha1, Hb1⟩
  ihave Hd2 := (entails_of_eq (afree_eq c 2)) $$ Hd2
  icases Hd2 with ⟨Hd2, %t2, Ht2⟩
  haveI : ∀ t, Storable (upEmb : UEmb _ 𝕄) (adeliv c XG 2 2 t) := adeliv_storable c XG _ _
  imod (Transfers.batch_alloc' countersEmb (c : Thread nD τ) () 30720 (adeliv c XG 2 2) (sm := SemLoc.dma (asm 2).sem) (E := Set.univ)) $$ Hd2 with Hd2
  ihave Ht2 := (aslot_split c 2 t2) $$ Ht2
  icases Ht2 with ⟨Ht2, Hu2⟩
  ihave Ha2 := (entails_of_eq (ahome_eq c XG 2)) $$ Ha2
  icases Ha2 with ⟨Ha2, Hb2⟩
  ihave Hd3 := (entails_of_eq (afree_eq c 3)) $$ Hd3
  icases Hd3 with ⟨Hd3, %t3, Ht3⟩
  haveI : ∀ t, Storable (upEmb : UEmb _ 𝕄) (adeliv c XG 3 3 t) := adeliv_storable c XG _ _
  imod (Transfers.batch_alloc' countersEmb (c : Thread nD τ) () 30720 (adeliv c XG 3 3) (sm := SemLoc.dma (asm 3).sem) (E := Set.univ)) $$ Hd3 with Hd3
  ihave Ht3 := (aslot_split c 3 t3) $$ Ht3
  icases Ht3 with ⟨Ht3, Hu3⟩
  ihave Ha3 := (entails_of_eq (ahome_eq c XG 3)) $$ Ha3
  icases Ha3 with ⟨Ha3, Hb3⟩
  ihave Hd4 := (entails_of_eq (afree_eq c 4)) $$ Hd4
  icases Hd4 with ⟨Hd4, %t4, Ht4⟩
  haveI : ∀ t, Storable (upEmb : UEmb _ 𝕄) (adeliv c XG 4 4 t) := adeliv_storable c XG _ _
  imod (Transfers.batch_alloc' countersEmb (c : Thread nD τ) () 30720 (adeliv c XG 4 4) (sm := SemLoc.dma (asm 4).sem) (E := Set.univ)) $$ Hd4 with Hd4
  ihave Ht4 := (aslot_split c 4 t4) $$ Ht4
  icases Ht4 with ⟨Ht4, Hu4⟩
  ihave Ha4 := (entails_of_eq (ahome_eq c XG 4)) $$ Ha4
  icases Ha4 with ⟨Ha4, Hb4⟩
  ihave Hd5 := (entails_of_eq (afree_eq c 5)) $$ Hd5
  icases Hd5 with ⟨Hd5, %t5, Ht5⟩
  haveI : ∀ t, Storable (upEmb : UEmb _ 𝕄) (adeliv c XG 5 5 t) := adeliv_storable c XG _ _
  imod (Transfers.batch_alloc' countersEmb (c : Thread nD τ) () 30720 (adeliv c XG 5 5) (sm := SemLoc.dma (asm 5).sem) (E := Set.univ)) $$ Hd5 with Hd5
  ihave Ht5 := (aslot_split c 5 t5) $$ Ht5
  icases Ht5 with ⟨Ht5, Hu5⟩
  ihave Ha5 := (entails_of_eq (ahome_eq c XG 5)) $$ Ha5
  icases Ha5 with ⟨Ha5, Hb5⟩
  ihave Hd6 := (entails_of_eq (afree_eq c 6)) $$ Hd6
  icases Hd6 with ⟨Hd6, %t6, Ht6⟩
  haveI : ∀ t, Storable (upEmb : UEmb _ 𝕄) (adeliv c XG 6 6 t) := adeliv_storable c XG _ _
  imod (Transfers.batch_alloc' countersEmb (c : Thread nD τ) () 30720 (adeliv c XG 6 6) (sm := SemLoc.dma (asm 6).sem) (E := Set.univ)) $$ Hd6 with Hd6
  ihave Ht6 := (aslot_split c 6 t6) $$ Ht6
  icases Ht6 with ⟨Ht6, Hu6⟩
  ihave Ha6 := (entails_of_eq (ahome_eq c XG 6)) $$ Ha6
  icases Ha6 with ⟨Ha6, Hb6⟩
  ihave Hd7 := (entails_of_eq (afree_eq c 7)) $$ Hd7
  icases Hd7 with ⟨Hd7, %t7, Ht7⟩
  haveI : ∀ t, Storable (upEmb : UEmb _ 𝕄) (adeliv c XG 7 7 t) := adeliv_storable c XG _ _
  imod (Transfers.batch_alloc' countersEmb (c : Thread nD τ) () 30720 (adeliv c XG 7 7) (sm := SemLoc.dma (asm 7).sem) (E := Set.univ)) $$ Hd7 with Hd7
  ihave Ht7 := (aslot_split c 7 t7) $$ Ht7
  icases Ht7 with ⟨Ht7, Hu7⟩
  ihave Ha7 := (entails_of_eq (ahome_eq c XG 7)) $$ Ha7
  icases Ha7 with ⟨Ha7, Hb7⟩
  sl_exec
  ihave H0 := (entails_of_eq (own_whole c cc0_scratch0 _).symm) $$ HL_dst0
  ihave HB := (entails_of_eq (own_whole c main_v0 XB).symm) $$ HL_src0
  ihave H1 := (entails_of_eq (own_whole c cc0_scratch1 _).symm) $$ HL_dst1
  ihave HN := (entails_of_eq (own_whole c main_v1 XN).symm) $$ HL_src1
  ihave H2 := (entails_of_eq (own_whole c cc0_scratch2 _).symm) $$ HL_dst2
  ihave HF := (entails_of_eq (own_whole c main_v2 XF).symm) $$ HL_src2
  ihave H3 := (entails_of_eq (own_whole c cc0_scratch3 _).symm) $$ HL_dst3
  ihave HQ := (entails_of_eq (own_whole c main_v3 XQ).symm) $$ HL_src3
  ihave H4 := (entails_of_eq (own_whole c cc0_scratch4 _).symm) $$ HL_dst4
  ihave HS := (entails_of_eq (own_whole c main_v4 XS).symm) $$ HL_src4
  ihave H5 := (entails_of_eq (own_whole c cc0_scratch5 _).symm) $$ HL_dst5
  ihave HP := (entails_of_eq (own_whole c main_v5 XP).symm) $$ HL_src5
  have e0 : (Memref.whole cc0_scratch0).view.writes (Elt F) (Memref.whole cc0_scratch0).view.junk [⟨Rect.whole S1x3840, ReadAs.same.apply (View.read (Elt F) soM.view XB)⟩] = XB :=
    (View.read_whole cc0_scratch0 _).symm.trans (View.read_writes_whole _ _ _)
  have e1 : (Memref.whole cc0_scratch1).view.writes (Elt F) (Memref.whole cc0_scratch1).view.junk [⟨Rect.whole S1x3840, ReadAs.same.apply (View.read (Elt F) pawM.view XN)⟩] = XN :=
    (View.read_whole cc0_scratch1 _).symm.trans (View.read_writes_whole _ _ _)
  have e2 : (Memref.whole cc0_scratch2).view.writes (Elt F) (Memref.whole cc0_scratch2).view.junk [⟨Rect.whole S1x3840, ReadAs.same.apply (View.read (Elt F) pfwM.view XF)⟩] = XF :=
    (View.read_whole cc0_scratch2 _).symm.trans (View.read_writes_whole _ _ _)
  have e3 : (Memref.whole cc0_scratch3).view.writes (Elt F) (Memref.whole cc0_scratch3).view.junk [⟨Rect.whole S1x30720, ReadAs.same.apply (View.read (Elt F) sguM.view XQ)⟩] = XQ :=
    (View.read_whole cc0_scratch3 _).symm.trans (View.read_writes_whole _ _ _)
  have e4 : (Memref.whole cc0_scratch4).view.writes (Elt F) (Memref.whole cc0_scratch4).view.junk [⟨Rect.whole S1x3840, ReadAs.same.apply (View.read (Elt F) sdnM.view XS)⟩] = XS :=
    (View.read_whole cc0_scratch4 _).symm.trans (View.read_writes_whole _ _ _)
  have e5 : (Memref.whole cc0_scratch5).view.writes (Elt F) (Memref.whole cc0_scratch5).view.junk [⟨Rect.whole S1x3840, ReadAs.same.apply (View.read (Elt F) powM.view XP)⟩] = XP :=
    (View.read_whole cc0_scratch5 _).symm.trans (View.read_writes_whole _ _ _)
  have e9o : (Memref.whole cc0_scratch9).view.writes (Elt F) (Memref.whole cc0_scratch9).view.junk bodyRun.sl.H9_1 = oaccAt c XO arg1 ga 0 := by
    delta bodyRun.sl.H9_1
    exact oacc_store _ _
  sl_for (fun k _ => invO c XO XW arg1 ga k) $$ [HA H9 HW Hoh Hh Hc0 Hc1 Hc2 Hc3 Hc4 Hc5]
  · intro k a
    cases a
    exact tripO_step c XO XW arg0 harg0 arg1 harg1 arg2 harg2 ga k
  · unfold invO
    isplitl [HA H9 HW]
    · isplitl [HA]; · iexact HA
      isplitl [H9]
      · iexists _; isplitl [H9]; · iapply (entails_of_eq (congrArg (fun z => held c cc0_scratch9 z) e9o)); iexact H9
        ipureintro; rfl
      iexists _; iexact HW
    isplitl [Hoh]; · iexact Hoh
    isplitl [Hh]; · rw [dset_zero]; iexact Hh
    isplitl [Hc0]; · iapply (orole_of_flight c XO XW 0 (by omega) 0 0 rfl rfl s0 _ rfl); iexact Hc0
    isplitl [Hc1]; · iapply (orole_of_flight c XO XW 1 (by omega) 1 1 rfl rfl s1 _ rfl); iexact Hc1
    isplitl [Hc2]; · iapply (orole_of_flight c XO XW 2 (by omega) 2 2 rfl rfl s2 _ rfl); iexact Hc2
    isplitl [Hc3]; · iapply (orole_of_flight c XO XW 3 (by omega) 3 3 rfl rfl s3 _ rfl); iexact Hc3
    isplitl [Hc4]; · iapply (orole_of_flight c XO XW 4 (by omega) 4 4 rfl rfl s4 _ rfl); iexact Hc4
    iapply (orole_of_flight c XO XW 5 (by omega) 5 5 rfl rfl s5 _ rfl); iexact Hc5
  iintro %_ HI
  ihave HJ := (loopO_end c XO XW arg1 ga) $$ HI
  icases HJ with ⟨⟨HA, ⟨%fo, H9, %ho⟩, %W0, HW⟩, Hoh, Hh, Hr0, Hr1, Hr2, Hr3, Hr4, Hr5⟩
  obtain rfl := ho
  sl_exec
  have e155 : bodyRun.sl.v155 XB = XB := by
    delta bodyRun.sl.v155
    exact (congrArg (fun f => soV.view.readAt (Elt F) (Rect.unit (s := S1x3840) ![0, 0] S1x3840.size inb_S1x3840_S1x3840_0_0).toLoadRect f) e0).trans
      ((View.readAt_full _ _ _).trans (View.read_whole cc0_scratch0 XB))
  have e163 : bodyRun.sl.v163 XN = XN := by
    delta bodyRun.sl.v163
    exact (congrArg (fun f => pawV.view.readAt (Elt F) (Rect.unit (s := S1x3840) ![0, 0] S1x3840.size inb_S1x3840_S1x3840_0_0).toLoadRect f) e1).trans
      ((View.readAt_full _ _ _).trans (View.read_whole cc0_scratch1 XN))
  have e182 : bodyRun.sl.v182 XF = XF := by
    delta bodyRun.sl.v182
    exact (congrArg (fun f => pfwV.view.readAt (Elt F) (Rect.unit (s := S1x3840) ![0, 0] S1x3840.size inb_S1x3840_S1x3840_0_0).toLoadRect f) e2).trans
      ((View.readAt_full _ _ _).trans (View.read_whole cc0_scratch2 XF))
  have e162 : bodyRun.sl.v162 c arg0 g0 = r1Of c arg0 g0 := by
    delta bodyRun.sl.v162 bodyRun.sl.H8_1
    exact (View.readAt_full _ _ _).trans (View.read_writes_full xresV.view _ inb_S24x3840_S24x3840_0_0 _ _)
  have er : bodyRun.sl.r c XO XB arg1 arg2 ga gs = r2Of c XO XB arg1 arg2 ga gs := by
    delta bodyRun.sl.r
    rw [e155]
    rfl
  have er1 : bodyRun.sl.r_1 XN = r3Of XN := by
    delta bodyRun.sl.r_1
    rw [e163]
    rfl
  have e10 : (Memref.whole cc0_scratch10).view.writes (Elt F) (Memref.whole cc0_scratch10).view.junk (bodyRun.sl.H10_1 c XO XB XN XF arg0 arg1 arg2 g0 ga gs) = fqOf XF (r1Of c arg0 g0) (r2Of c XO XB arg1 arg2 ga gs) (r3Of XN) := by
    delta bodyRun.sl.H10_1
    rw [e162, er, er1, e182]
    exact (View.read_whole cc0_scratch10 _).symm.trans (View.read_writes_full fq.view _ inb_S32x3840_S32x3840_0_0 _ _)
  have e17 : (Memref.whole cc0_scratch17).view.writes (Elt F) (Memref.whole cc0_scratch17).view.junk (bodyRun.sl.H17_1 c XO XB XN XF arg0 arg1 arg2 g0 ga gs) = fsOut XF (r1Of c arg0 g0) (r2Of c XO XB arg1 arg2 ga gs) (r3Of XN) := by
    delta bodyRun.sl.H17_1 bodyRun.sl.r_2
    rw [e162, er, er1, e182]
    exact (View.read_whole cc0_scratch17 _).symm.trans (View.read_writes_full fsV.view _ inb_S24x128_S24x128_0_0 _ _)
  have e16 : (Memref.whole cc0_scratch16).view.writes (Elt F) (Memref.whole cc0_scratch16).view.junk (bodyRun.sl.H16_6 c XO XB XN XF arg0 arg1 arg2 g0 ga gs) = fcOf XF (r1Of c arg0 g0) (r2Of c XO XB arg1 arg2 ga gs) (r3Of XN) := by
    delta bodyRun.sl.H16_6 bodyRun.sl.r_3
    rw [e162, er, er1, e182]
    exact fc_stores (fpad XF (r1Of c arg0 g0) (r2Of c XO XB arg1 arg2 ga gs) (r3Of XN)) _
  have e12 : (Memref.whole cc0_scratch12).view.writes (Elt F) (Memref.whole cc0_scratch12).view.junk bodyRun.sl.H12_1 = lanesAt c XG (fqOf XF (r1Of c arg0 g0) (r2Of c XO XB arg1 arg2 ga gs) (r3Of XN)) (fsOut XF (r1Of c arg0 g0) (r2Of c XO XB arg1 arg2 ga gs) (r3Of XN)) XQ 0 := by
    delta bodyRun.sl.H12_1
    exact amax_store _ _
  sl_for (fun k _ => invA c XG (fqOf XF (r1Of c arg0 g0) (r2Of c XO XB arg1 arg2 ga gs) (r3Of XN)) (fsOut XF (r1Of c arg0 g0) (r2Of c XO XB arg1 arg2 ga gs) (r3Of XN)) XQ k) $$ [H10 H17 H3 H11 H12 HW Hah Hd0 Hd1 Hd2 Hd3 Hd4 Hd5 Hd6 Hd7]
  · intro k a
    cases a
    exact tripA_step c XG _ _ _ arg0 harg0 arg1 harg1 arg2 harg2 _ k
  · unfold invA
    isplitl [H10 H17 H3 H11 H12 HW]
    · isplitl [H10]; · iapply (entails_of_eq (congrArg (fun z => held c cc0_scratch10 z) e10)); iexact H10
      isplitl [H17]; · iapply (entails_of_eq (congrArg (fun z => held c cc0_scratch17 z) e17)); iexact H17
      isplitl [H3]; · iapply (entails_of_eq (congrArg (fun z => held c cc0_scratch3 z) e3)); iexact H3
      isplitl [H11]
      · iexists _; isplitl [H11]; · iexact H11
        ipureintro; intro i hi; exact absurd hi (Nat.not_lt_zero _)
      isplitl [H12]
      · iexists _; isplitl [H12]; · iexact H12
        ipureintro; exact e12
      iexists _; iexact HW
    isplitl [Hah]; · iexact Hah
    isplitl [Hd0]; · iapply (arole_of c XG 0 (by omega) 0 0 rfl rfl); iexact Hd0
    isplitl [Hd1]; · iapply (arole_of c XG 1 (by omega) 1 1 rfl rfl); iexact Hd1
    isplitl [Hd2]; · iapply (arole_of c XG 2 (by omega) 2 2 rfl rfl); iexact Hd2
    isplitl [Hd3]; · iapply (arole_of c XG 3 (by omega) 3 3 rfl rfl); iexact Hd3
    isplitl [Hd4]; · iapply (arole_of c XG 4 (by omega) 4 4 rfl rfl); iexact Hd4
    isplitl [Hd5]; · iapply (arole_of c XG 5 (by omega) 5 5 rfl rfl); iexact Hd5
    isplitl [Hd6]; · iapply (arole_of c XG 6 (by omega) 6 6 rfl rfl); iexact Hd6
    iapply (arole_of c XG 7 (by omega) 7 7 rfl rfl); iexact Hd7
  iintro %_ HI
  ihave HJ := (loopA_end c XG (fqOf XF (r1Of c arg0 g0) (r2Of c XO XB arg1 arg2 ga gs) (r3Of XN)) (fsOut XF (r1Of c arg0 g0) (r2Of c XO XB arg1 arg2 ga gs) (r3Of XN)) XQ) $$ HI
  icases HJ with ⟨⟨H10, H17, H3, ⟨%fa, H11, %ha⟩, ⟨%fm, H12, %hm⟩, %W1, HW⟩, Hah, Hf4, Hf5, Hf6, Hf7, Hf0, Hf1, Hf2, Hf3⟩
  obtain rfl := act_all c XG _ _ _ fa ha
  obtain rfl := hm
  sl_exec
  have e12' : (Memref.whole cc0_scratch12).view.writes (Elt F) (Memref.whole cc0_scratch12).view.junk (bodyRun.sl.H12_1_1 c XO XG XB XN XF XQ arg0 arg1 arg2 g0 ga gs) = gmOf c XG XF XQ (r1Of c arg0 g0) (r2Of c XO XB arg1 arg2 ga gs) (r3Of XN) := by
    delta bodyRun.sl.H12_1_1 bodyRun.sl.v252
    rw [amax_load]
    exact amax_store _ _
  have e19 : (Memref.whole cc0_scratch19).view.writes (Elt F) (Memref.whole cc0_scratch19).view.junk (bodyRun.sl.H19_1 c XO XG XB XN XF XQ arg0 arg1 arg2 g0 ga gs) = sclOf c XG XF XQ (r1Of c arg0 g0) (r2Of c XO XB arg1 arg2 ga gs) (r3Of XN) := by
    delta bodyRun.sl.H19_1 bodyRun.sl.v252
    rw [amax_load]
    exact (View.read_whole cc0_scratch19 _).symm.trans (View.read_writes_full sclV.view _ inb_S24x128_S24x128_0_0 _ _)
  have e9 : (Memref.whole cc0_scratch9).view.writes (Elt F) (Memref.whole cc0_scratch9).view.junk bodyRun.sl.H9_1_1 = acc c XW (actOf c XG XF XQ (r1Of c arg0 g0) (r2Of c XO XB arg1 arg2 ga gs) (r3Of XN)) (gmOf c XG XF XQ (r1Of c arg0 g0) (r2Of c XO XB arg1 arg2 ga gs) (r3Of XN)) 0 := by
    delta bodyRun.sl.H9_1_1
    exact oacc_store _ _
  sl_for (fun k _ => invAt c XW (actOf c XG XF XQ (r1Of c arg0 g0) (r2Of c XO XB arg1 arg2 ga gs) (r3Of XN)) (gmOf c XG XF XQ (r1Of c arg0 g0) (r2Of c XO XB arg1 arg2 ga gs) (r3Of XN)) k) $$ [H11 H9 H12 H18 HW Hh Hr0 Hr1 Hr2 Hr3 Hr4 Hr5]
  · intro k a
    cases a
    exact trip_step c XW arg0 harg0 arg1 harg1 arg2 harg2 _ _ _ k
  · unfold invAt
    isplitl [H11 H9 H12 H18 HW]
    · isplitl [H11]; · iexact H11
      isplitl [H12]; · iapply (entails_of_eq (congrArg (fun z => held c cc0_scratch12 z) e12')); iexact H12
      isplitl [H9]
      · iexists _; isplitl [H9]; · iapply (entails_of_eq (congrArg (fun z => held c cc0_scratch9 z) e9)); iexact H9
        ipureintro; rfl
      isplitl [H18]
      · iexists _; isplitl [H18]; · iexact H18
        ipureintro; intro i hi; exact absurd hi (Nat.not_lt_zero _)
      iexists _; iexact HW
    isplitl [Hh]; · iexact Hh
    isplitl [Hr0]; · iexact Hr0
    isplitl [Hr1]; · iexact Hr1
    isplitl [Hr2]; · iexact Hr2
    isplitl [Hr3]; · iexact Hr3
    isplitl [Hr4]; · iexact Hr4
    iexact Hr5
  iintro %_ HI
  ihave HJ := (loop_end c XW (actOf c XG XF XQ (r1Of c arg0 g0) (r2Of c XO XB arg1 arg2 ga gs) (r3Of XN)) (gmOf c XG XF XQ (r1Of c arg0 g0) (r2Of c XO XB arg1 arg2 ga gs) (r3Of XN))) $$ HI
  icases HJ with ⟨⟨H11, H12, ⟨%fb, H9, %hb⟩, ⟨%fc, H18, %hc⟩, %W2, HW⟩, Hh, ⟨Hc2, Hs2⟩, ⟨Hc3, Hs3⟩, ⟨Hc4, Hs4⟩, ⟨Hc5, Hs5⟩, ⟨Hc0, Hs0⟩, Hc1, Hs1⟩
  obtain rfl := hb
  obtain rfl := codes_all c _ _ fc hc
  sl_exec
  have e280 : bodyRun.sl.v280 XS = XS := by
    delta bodyRun.sl.v280
    exact (congrArg (fun f => sdnV.view.readAt (Elt F) (Rect.unit (s := S1x3840) ![0, 0] S1x3840.size inb_S1x3840_S1x3840_0_0).toLoadRect f) e4).trans
      ((View.readAt_full _ _ _).trans (View.read_whole cc0_scratch4 XS))
  have e288 : bodyRun.sl.v288 XP = XP := by
    delta bodyRun.sl.v288
    exact (congrArg (fun f => powV.view.readAt (Elt F) (Rect.unit (s := S1x3840) ![0, 0] S1x3840.size inb_S1x3840_S1x3840_0_0).toLoadRect f) e5).trans
      ((View.readAt_full _ _ _).trans (View.read_whole cc0_scratch5 XP))
  have e287 : bodyRun.sl.v287 c XO XB XN arg0 arg1 arg2 g0 ga gs = k0_pay18 (r1Of c arg0 g0) (r2Of c XO XB arg1 arg2 ga gs) (r3Of XN) := by
    delta bodyRun.sl.v287
    refine ((View.readAt_full _ _ _).trans (View.read_writes_full xresV.view _ inb_S24x3840_S24x3840_0_0 _ _)).trans ?_
    rw [e162, er, er1]
  have e277 : bodyRun.sl.v277 c XO XG XB XN XF XQ arg0 arg1 arg2 g0 ga gs = v76Of c XG XF XQ (r1Of c arg0 g0) (r2Of c XO XB arg1 arg2 ga gs) (r3Of XN) := by
    delta bodyRun.sl.v277
    exact congrArg (fun f => sclV.view.readAt (Elt F) (Rect.unit (s := S24x128) ![0, 0] S24x1.size inb_S24x128_S24x1_0_0).toLoadRect f) e19
  have e276 : bodyRun.sl.v276 c XO XW XG XB XN XF XQ arg0 arg1 arg2 g0 ga gs = v75Of c XW XG XF XQ (r1Of c arg0 g0) (r2Of c XO XB arg1 arg2 ga gs) (r3Of XN) := rfl
  have eO1 : View.write (Elt F) oM.view o1 (bodyRun.sl.dma9_1 c XO XB arg1 arg2 ga gs) Finset.univ = oOf c XO XB arg1 arg2 ga gs := by
    refine (View.write_whole_univ main_v6_1 _ _).trans ?_
    delta bodyRun.sl.dma9_1 bodyRun.sl.H14_1
    refine (View.read_writes_full oV.view _ inb_S6x4x3840_S6x4x3840_0_0_0 _ []).trans ?_
    rw [e155]
    rfl
  have eO2 : View.write (Elt F) dM.view o2 (bodyRun.sl.dma9_2 c XO XW XG XB XN XF XQ XS arg0 arg1 arg2 g0 ga gs f15) Finset.univ
      = dOf c XW XG XF XQ XS (r1Of c arg0 g0) (r2Of c XO XB arg1 arg2 ga gs) (r3Of XN) := by
    refine (View.write_whole_univ main_v6_2 _ _).trans ?_
    delta bodyRun.sl.dma9_2 bodyRun.sl.H15_1
    refine (View.read_writes_full dV.view f15 inb_S6x4x3840_S6x4x3840_0_0_0 _ []).trans ?_
    rw [e276, e277, e280]
    rfl
  have eO3 : View.write (Elt F) fcM.view o3 (bodyRun.sl.dma9_3 c XO XB XN XF arg0 arg1 arg2 g0 ga gs) Finset.univ = fcOf XF (r1Of c arg0 g0) (r2Of c XO XB arg1 arg2 ga gs) (r3Of XN) := by
    refine (View.write_whole_univ main_v6_3 _ _).trans ?_
    delta bodyRun.sl.dma9_3
    rw [e16]
    exact View.read_whole cc0_scratch16 _
  have eO4 : View.write (Elt F) fsM.view o4 (bodyRun.sl.dma9_4 c XO XB XN XF arg0 arg1 arg2 g0 ga gs) Finset.univ = fsOut XF (r1Of c arg0 g0) (r2Of c XO XB arg1 arg2 ga gs) (r3Of XN) := by
    refine (View.write_whole_univ main_v6_4 _ _).trans ?_
    delta bodyRun.sl.dma9_4
    exact View.read_whole cc0_scratch17 _
  have eO5 : View.write (Elt F) codM.view o5 (bodyRun.sl.dma9_5 c XO XG XB XN XF XQ arg0 arg1 arg2 g0 ga gs) Finset.univ = codOf c XG XF XQ (r1Of c arg0 g0) (r2Of c XO XB arg1 arg2 ga gs) (r3Of XN) :=
    View.write_whole_univ main_v6_5 _ _
  have eO6 : View.write (Elt F) sclM.view o6 (bodyRun.sl.dma9_6 c XO XG XB XN XF XQ arg0 arg1 arg2 g0 ga gs) Finset.univ = sclOf c XG XF XQ (r1Of c arg0 g0) (r2Of c XO XB arg1 arg2 ga gs) (r3Of XN) :=
    (View.write_whole_univ main_v6_6 _ _).trans e19
  have eO0 : View.write (Elt F) hidM.view o0 (bodyRun.sl.dma9_7 c XO XW XG XB XN XF XQ XS XP arg0 arg1 arg2 g0 ga gs f13) Finset.univ
      = hidOf c XW XG XF XQ XS XP (r1Of c arg0 g0) (r2Of c XO XB arg1 arg2 ga gs) (r3Of XN) := by
    refine (View.write_whole_univ main_v6_0 _ _).trans ?_
    delta bodyRun.sl.dma9_7 bodyRun.sl.H13_1
    refine (View.read_writes_full hidV.view f13 inb_S6x4x3840_S6x4x3840_0_0_0 _ []).trans ?_
    rw [e276, e277, e280, e287, e288]
    rfl
  sl_step
  iapply Hk
  isplitl [HR]; · iexact HR
  isplitl [HA]; · iexact HA
  isplitl [HZ]; · iexact HZ
  isplitl [Hoh]; · iexact Hoh
  isplitl [Hh]; · iexact Hh
  isplitl [Hah]; · iexact Hah
  isplitl [HB]; · iexact HB
  isplitl [HN]; · iexact HN
  isplitl [HF]; · iexact HF
  isplitl [HQ]; · iexact HQ
  isplitl [HS]; · iexact HS
  isplitl [HP]; · iexact HP
  isplitl [HO0]; · iapply (entails_of_eq (congrArg (fun z => held c main_v6_0 z) eO0)); iexact HO0
  isplitl [HO1]; · iapply (entails_of_eq (congrArg (fun z => held c main_v6_1 z) eO1)); iexact HO1
  isplitl [HO2]; · iapply (entails_of_eq (congrArg (fun z => held c main_v6_2 z) eO2)); iexact HO2
  isplitl [HO3]; · iapply (entails_of_eq (congrArg (fun z => held c main_v6_3 z) eO3)); iexact HO3
  isplitl [HO4]; · iapply (entails_of_eq (congrArg (fun z => held c main_v6_4 z) eO4)); iexact HO4
  isplitl [HO5]; · iapply (entails_of_eq (congrArg (fun z => held c main_v6_5 z) eO5)); iexact HO5
  isplitl [HO6]; · iapply (entails_of_eq (congrArg (fun z => held c main_v6_6 z) eO6)); iexact HO6
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hf0]; · iexact Hf0
  isplitl [Hf1]; · iexact Hf1
  isplitl [Hf2]; · iexact Hf2
  isplitl [Hf3]; · iexact Hf3
  isplitl [Hf4]; · iexact Hf4
  isplitl [Hf5]; · iexact Hf5
  isplitl [Hf6]; · iexact Hf6
  isplitl [Hf7]; · iexact Hf7
  isplitl [HL]; · iexact HL
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  iexists _
  iexact HW

end Body

end Cert.Proof.Kernel

end
-- ==== Proof.Kernel.Run.lean ====
/-
  The run of the whole program: the launch's buffers split into what the body is handed, the body obligation, and the
  run's postcondition — the seven results at the contents the body names, the arguments unchanged, every semaphore at
  zero.
-/
module

public import proofs.«01_k».proof.Proof.Kernel.Body
public import proofs.«01_k».proof.Proof.Gen.Kernel.Frame
public import proofs.«01_k».proof.Proof.Gen.Kernel.Launch
public import proofs.«01_k».proof.Proof.Gen.Kernel.Points
public import Idealize.ShloMosaic.Lib.Pipeline.KitQuiescent

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Rounds
open Idealize.ShloMosaic.Pipeline (Dat Cfg Window BodyObligation cellOf)
local notation "𝕄" => MT nD τ sig Unit (Elt F) ℕ (UU nD τ) ℕ

section Launch

variable (m : (ℓ : Loc nD τ sig) → Buf (Elt F) ℓ) (ρ : Dev nD → PrngReg)

/-! ## The kernel's own semaphores -/

abbrev osem : Fin 22 → SemLoc sig := fun
  | 0 => .dma cc0_scratch20.sem
  | 1 => .dma (csm 0).sem
  | 2 => .dma (csm 1).sem
  | 3 => .dma (csm 2).sem
  | 4 => .dma (csm 3).sem
  | 5 => .dma (csm 4).sem
  | 6 => .dma (csm 5).sem
  | 7 => .dma (asm 0).sem
  | 8 => .dma (asm 1).sem
  | 9 => .dma (asm 2).sem
  | 10 => .dma (asm 3).sem
  | 11 => .dma (asm 4).sem
  | 12 => .dma (asm 5).sem
  | 13 => .dma (asm 6).sem
  | 14 => .dma (asm 7).sem
  | 15 => .dma (osm 0).sem
  | 16 => .dma (osm 1).sem
  | 17 => .dma (osm 2).sem
  | 18 => .dma (osm 3).sem
  | 19 => .dma (osm 4).sem
  | 20 => .dma (osm 5).sem
  | 21 => .dma (osm 6).sem
  | ⟨_ + 22, h⟩ => absurd h (Nat.not_lt.2 (Nat.le_add_left _ _))
theorem ownSemFacts : Pipeline.OwnSemFacts spec0 osem := by decide

omit [FloatOps F] in
theorem ownSems0_eq (c : Dev nD) : (Pipeline.ownSems0 (Ix := Unit) (Name := ℕ) (U := UU nD τ) (Lvl := ℕ) (Val := Elt F) (τ := τ) osem c : sProp 𝕄)
    = iprop(lcellP c ∗ cellP c 0 ∗ cellP c 1 ∗ cellP c 2 ∗ cellP c 3 ∗ cellP c 4 ∗ cellP c 5 ∗ acellP c 0 ∗ acellP c 1 ∗ acellP c 2 ∗ acellP c 3 ∗ acellP c 4 ∗ acellP c 5 ∗ acellP c 6 ∗ acellP c 7 ∗ ocellP c 0 ∗ ocellP c 1 ∗ ocellP c 2 ∗ ocellP c 3 ∗ ocellP c 4 ∗ ocellP c 5 ∗ ocellP c 6) := by
  unfold Pipeline.ownSems0
  exact bigSep_univ_eq_bigSepL [(0 : Fin 22), 1, 2, 3, 4, 5, 6, 7, 8, 9, 10, 11, 12, 13, 14, 15, 16, 17, 18, 19, 20, 21] (by decide) (by decide) _

/-! ## Element sets: the down weight's thirty blocks, its ring's six slots -/

abbrev G30 (b : Fin 30) : Finset S15360x3840.Idx := (Rect.unit (s := S15360x3840) (grpOff b) S512x3840.size (grpOff_inb b)).set
abbrev S6s (s : Fin 6) : Finset S6x512x3840.Idx := (Rect.unit (s := S6x512x3840) (slotOff s) S1x512x3840.size (slotOff_inb s)).set

omit [FloatOps F] in
theorem grp_set (b : Fin 30) : (grp b : Memref sig .tc .hbm _ _).view.set = G30 b := View.set_slice_whole _ _
omit [FloatOps F] in
theorem rslot_set (s : Fin 6) : (rslot s : Memref sig .tc .vmem _ _).view.set = S6s s := (View.set_reshape _ _).trans (View.set_slice_whole _ _)

theorem mem_G30 (b : Fin 30) (y : S15360x3840.Idx) : y ∈ G30 b ↔ (y 0).val / 512 = b.val := by
  rw [Rect.mem_set_unit]
  have h1 : (y 1).val < 3840 := (y 1).isLt
  constructor
  · intro H
    have a0 : 512 * b.val ≤ (y 0).val ∧ (y 0).val < 512 * b.val + 512 := H 0
    omega
  · intro H i; fin_cases i
    · show 512 * b.val ≤ (y 0).val ∧ (y 0).val < 512 * b.val + 512; omega
    · show 0 ≤ (y 1).val ∧ (y 1).val < 0 + 3840; omega
theorem mem_S6s (s : Fin 6) (y : S6x512x3840.Idx) : y ∈ S6s s ↔ (y 0).val = s.val := by
  rw [Rect.mem_set_unit]
  have h1 : (y 1).val < 512 := (y 1).isLt
  have h2 : (y 2).val < 3840 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 3840; omega
theorem G30_disjoint : ∀ b b' : Fin 30, b ≠ b' → Disjoint (G30 b) (G30 b') := by
  intro b b' hne; rw [Finset.disjoint_left]; intro y hy hy'; rw [mem_G30] at hy hy'; exact hne (Fin.ext (hy.symm.trans hy'))
theorem G30_cover : (Finset.univ : Finset (Fin 30)).biUnion G30 = Finset.univ := by
  ext y; simp only [Finset.mem_biUnion, Finset.mem_univ, true_and, iff_true]
  have h0 : (y 0).val < 15360 := (y 0).isLt
  exact ⟨⟨(y 0).val / 512, by omega⟩, by rw [mem_G30]⟩
theorem S6s_disjoint : ∀ s s' : Fin 6, s ≠ s' → Disjoint (S6s s) (S6s s') := by
  intro s s' hne; rw [Finset.disjoint_left]; intro y hy hy'; rw [mem_S6s] at hy hy'; exact hne (Fin.ext (hy.symm.trans hy'))
theorem S6s_cover : (Finset.univ : Finset (Fin 6)).biUnion S6s = Finset.univ := by
  ext y; simp only [Finset.mem_biUnion, Finset.mem_univ, true_and, iff_true]
  have h0 : (y 0).val < 6 := (y 0).isLt
  exact ⟨⟨(y 0).val, h0⟩, by rw [mem_S6s]⟩

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- The weight whole is its thirty blocks home. -/
theorem w_eq (c : Dev nD) (XW : Buf (Elt F) (wM.view.loc (c : Thread nD τ))) :
    (((c : Thread nD τ).loc main_arg9) ↦{fullShare} XW : sProp 𝕄) = bigSep Finset.univ (homeP c XW) := by
  rw [Ring.pointsTo_blocks (ℓ := (c : Thread nD τ).loc main_arg9) G30 G30_disjoint G30_cover]
  exact bigSep_congr fun b _ => by rw [← grp_set]; rfl
omit [FloatOps F] in
theorem slotP_eq (c : Dev nD) (s : Fin 6) (f) : slotP c s f = (((c : Thread nD τ).loc cc0_scratch7) ↦[S6s s]{fullShare} f : sProp 𝕄) :=
  congrArg (fun S => (_ ↦[S]{fullShare} f : sProp 𝕄)) (rslot_set s)
omit [FloatOps F] in
theorem slot_in (c : Dev nD) (s : Fin 6) (f) : (((c : Thread nD τ).loc cc0_scratch7) ↦[S6s s]{fullShare} f : sProp 𝕄) ⊢ sslotP c s := by
  iintro H; iexists f; iapply (entails_of_eq (slotP_eq c s f).symm); iexact H
omit [FloatOps F] in
theorem slot_out (c : Dev nD) (s : Fin 6) :
    sslotP c s ⊢ (iprop(∃ f, ((c : Thread nD τ).loc cc0_scratch7) ↦[S6s s]{fullShare} f) : sProp 𝕄) := by
  iintro ⟨%f, H⟩; iexists f; iapply (entails_of_eq (slotP_eq c s f)); iexact H
/-- The ring whole is its six slots, and back. -/
theorem buf_split (c : Dev nD) :
    iprop(∃ f : Buf (Elt F) ((c : Thread nD τ).loc cc0_scratch7), ((c : Thread nD τ).loc cc0_scratch7) ↦{fullShare} f)
      ⊢ (iprop(sslotP c 0 ∗ sslotP c 1 ∗ sslotP c 2 ∗ sslotP c 3 ∗ sslotP c 4 ∗ sslotP c 5) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch7) S6s S6s_disjoint S6s_cover f).trans (bigSep_fin6 _))) $$ H
  icases H2 with ⟨H0, H1, H2, H3, H4, H5⟩
  isplitl [H0]; · iapply (slot_in c 0 f); iexact H0
  isplitl [H1]; · iapply (slot_in c 1 f); iexact H1
  isplitl [H2]; · iapply (slot_in c 2 f); iexact H2
  isplitl [H3]; · iapply (slot_in c 3 f); iexact H3
  isplitl [H4]; · iapply (slot_in c 4 f); iexact H4
  iapply (slot_in c 5 f); iexact H5
theorem buf_join (c : Dev nD) :
    iprop(sslotP c 0 ∗ sslotP c 1 ∗ sslotP c 2 ∗ sslotP c 3 ∗ sslotP c 4 ∗ sslotP c 5)
      ⊢ (iprop(∃ f : Buf (Elt F) ((c : Thread nD τ).loc cc0_scratch7), ((c : Thread nD τ).loc cc0_scratch7) ↦{fullShare} f) : sProp 𝕄) := by
  iintro ⟨⟨%f0, H0⟩, H1, H2, H3, H4, H5⟩
  iapply (Ring.pointsTo_blocks_join_exists (ℓ := (c : Thread nD τ).loc cc0_scratch7) S6s S6s_disjoint S6s_cover f0)
  irw [bigSep_fin6]
  isplitl [H0]; · iexists f0; iapply (entails_of_eq (slotP_eq c 0 f0)); iexact H0
  isplitl [H1]; · iapply (slot_out c 1); iexact H1
  isplitl [H2]; · iapply (slot_out c 2); iexact H2
  isplitl [H3]; · iapply (slot_out c 3); iexact H3
  isplitl [H4]; · iapply (slot_out c 4); iexact H4
  iapply (slot_out c 5); iexact H5

/-! ## The output projection's weight's eight blocks -/

abbrev G8 (b : Fin 8) : Finset S4096x3840.Idx := (Rect.unit (s := S4096x3840) (ogrpOff b) S512x3840.size (ogrpOff_inb b)).set
omit [FloatOps F] in
theorem ogrp_set (b : Fin 8) : (ogrp b : Memref sig .tc .hbm _ _).view.set = G8 b := View.set_slice_whole _ _
theorem mem_G8 (b : Fin 8) (y : S4096x3840.Idx) : y ∈ G8 b ↔ (y 0).val / 512 = b.val := by
  rw [Rect.mem_set_unit]
  have h1 : (y 1).val < 3840 := (y 1).isLt
  constructor
  · intro H
    have a0 : 512 * b.val ≤ (y 0).val ∧ (y 0).val < 512 * b.val + 512 := H 0
    omega
  · intro H i; fin_cases i
    · show 512 * b.val ≤ (y 0).val ∧ (y 0).val < 512 * b.val + 512; omega
    · show 0 ≤ (y 1).val ∧ (y 1).val < 0 + 3840; omega
theorem G8_disjoint : ∀ b b' : Fin 8, b ≠ b' → Disjoint (G8 b) (G8 b') := by
  intro b b' hne; rw [Finset.disjoint_left]; intro y hy hy'; rw [mem_G8] at hy hy'; exact hne (Fin.ext (hy.symm.trans hy'))
theorem G8_cover : (Finset.univ : Finset (Fin 8)).biUnion G8 = Finset.univ := by
  ext y; simp only [Finset.mem_biUnion, Finset.mem_univ, true_and, iff_true]
  have h0 : (y 0).val < 4096 := (y 0).isLt
  exact ⟨⟨(y 0).val / 512, by omega⟩, by rw [mem_G8]⟩
/-- That weight whole is its eight blocks home; -/
theorem o_eq (c : Dev nD) (XO : Buf (Elt F) (woM.view.loc (c : Thread nD τ))) :
    (((c : Thread nD τ).loc main_arg3) ↦{fullShare} XO : sProp 𝕄) = bigSep Finset.univ (ohomeP c XO) := by
  rw [Ring.pointsTo_blocks (ℓ := (c : Thread nD τ).loc main_arg3) G8 G8_disjoint G8_cover]
  exact bigSep_congr fun b _ => by rw [← ogrp_set]; rfl
/-- at the body's entry, the first six apart from the rest. -/
theorem ohomes_zero (c : Dev nD) (XO : Buf (Elt F) (woM.view.loc (c : Thread nD τ))) :
    bigSep Finset.univ (ohomeP c XO) = iprop(ohomeP c XO 0 ∗ ohomeP c XO 1 ∗ ohomeP c XO 2 ∗ ohomeP c XO 3 ∗ ohomeP c XO 4 ∗ ohomeP c XO 5
      ∗ bigSep (Ring.homeSet 6 0) (ohomeP c XO)) := by
  have e : (Finset.univ : Finset (Fin 8)) = insert 0 (insert 1 (insert 2 (insert 3 (insert 4 (insert 5 (Ring.homeSet (NB := 8) 6 0)))))) := by
    decide
  rw [e, bigSep_insert (by decide), bigSep_insert (by decide), bigSep_insert (by decide), bigSep_insert (by decide),
    bigSep_insert (by decide), bigSep_insert (by decide)]
  rfl

/-! ## The gate and up weights' sixty pairs of blocks, their ring's eight slots -/

abbrev G60 (b : Fin 60) (u : Fin 2) : Finset S3840x30720.Idx := (Rect.unit (s := S3840x30720) (gwOff b u) S3840x256.size (gwOff_inb b u)).set
omit [FloatOps F] in
theorem gw_set (b : Fin 60) (u : Fin 2) : (gw b u : Memref sig .tc .hbm _ _).view.set = G60 b u := View.set_slice_whole _ _
theorem mem_G60 (b : Fin 60) (u : Fin 2) (y : S3840x30720.Idx) : y ∈ G60 b u ↔ (y 1).val / 256 = 60 * u.val + b.val := by
  rw [Rect.mem_set_unit]
  have h0 : (y 0).val < 3840 := (y 0).isLt
  constructor
  · intro H
    have a1 : 15360 * u.val + 256 * b.val ≤ (y 1).val ∧ (y 1).val < 15360 * u.val + 256 * b.val + 256 := H 1
    omega
  · intro H i; fin_cases i
    · show 0 ≤ (y 0).val ∧ (y 0).val < 0 + 3840; omega
    · show 15360 * u.val + 256 * b.val ≤ (y 1).val ∧ (y 1).val < 15360 * u.val + 256 * b.val + 256; omega
/-- Pair `b`'s elements. -/
abbrev GP (b : Fin 60) : Finset S3840x30720.Idx := G60 b 0 ∪ G60 b 1
theorem mem_GP (b : Fin 60) (y : S3840x30720.Idx) : y ∈ GP b ↔ (y 1).val / 256 % 60 = b.val := by
  rw [Finset.mem_union, mem_G60, mem_G60]
  have h1 : (y 1).val < 30720 := (y 1).isLt
  have hb := b.isLt
  have e0 : ((0 : Fin 2)).val = 0 := rfl
  have e1 : ((1 : Fin 2)).val = 1 := rfl
  rw [e0, e1]
  omega
theorem G60_disjoint (b : Fin 60) : Disjoint (G60 b 0) (G60 b 1) := by
  rw [Finset.disjoint_left]; intro y hy hy'
  rw [mem_G60] at hy hy'
  have e0 : ((0 : Fin 2)).val = 0 := rfl
  have e1 : ((1 : Fin 2)).val = 1 := rfl
  have := hy.symm.trans hy'
  omega
theorem GP_disjoint : ∀ b b' : Fin 60, b ≠ b' → Disjoint (GP b) (GP b') := by
  intro b b' hne; rw [Finset.disjoint_left]; intro y hy hy'; rw [mem_GP] at hy hy'; exact hne (Fin.ext (hy.symm.trans hy'))
theorem GP_cover : (Finset.univ : Finset (Fin 60)).biUnion GP = Finset.univ := by
  ext y; simp only [Finset.mem_biUnion, Finset.mem_univ, true_and, iff_true]
  exact ⟨⟨(y 1).val / 256 % 60, Nat.mod_lt _ (by decide)⟩, by rw [mem_GP]⟩
theorem AS_disjoint : ∀ s s' : Fin 8, s ≠ s' → Disjoint (AS s) (AS s') := by
  intro s s' hne; rw [Finset.disjoint_left]; intro y hy hy'; rw [mem_AS] at hy hy'; exact hne (Fin.ext (hy.symm.trans hy'))
theorem AS_cover : (Finset.univ : Finset (Fin 8)).biUnion AS = Finset.univ := by
  ext y; simp only [Finset.mem_biUnion, Finset.mem_univ, true_and, iff_true]
  have h0 : (y 0).val < 8 := (y 0).isLt
  exact ⟨⟨(y 0).val, h0⟩, by rw [mem_AS]⟩
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

omit [FloatOps F] in
theorem pair_eq (c : Dev nD) (XG : Buf (Elt F) (guM.view.loc (c : Thread nD τ))) (b : Fin 60) :
    (((c : Thread nD τ).loc main_arg7) ↦[GP b]{fullShare} XG : sProp 𝕄) = ahomeP c XG b := by
  have e : ∀ u, gwP c XG b u = (((c : Thread nD τ).loc main_arg7) ↦[G60 b u]{fullShare} XG : sProp 𝕄) := fun u =>
    congrArg (fun S => (_ ↦[S]{fullShare} XG : sProp 𝕄)) (gw_set b u)
  unfold ahomeP
  rw [e, e]
  have h := pointsTo_union (Ix := Unit) (Name := ℕ) (U := UU nD τ) (Lvl := ℕ) (ℓ := (c : Thread nD τ).loc main_arg7) (q := fullShare) (f := XG) (G60_disjoint b)
  exact h.1.antisymm h.2
/-- The gate and up weights whole are their sixty pairs home; -/
theorem gu_eq (c : Dev nD) (XG : Buf (Elt F) (guM.view.loc (c : Thread nD τ))) :
    (((c : Thread nD τ).loc main_arg7) ↦{fullShare} XG : sProp 𝕄) = bigSep Finset.univ (ahomeP c XG) := by
  rw [Ring.pointsTo_blocks (ℓ := (c : Thread nD τ).loc main_arg7) GP GP_disjoint GP_cover]
  exact bigSep_congr fun b _ => pair_eq c XG b
/-- at the body's entry, the first eight apart from the rest. -/
theorem ahomes_zero (c : Dev nD) (XG : Buf (Elt F) (guM.view.loc (c : Thread nD τ))) :
    bigSep Finset.univ (ahomeP c XG) = iprop(ahomeP c XG 0 ∗ ahomeP c XG 1 ∗ ahomeP c XG 2 ∗ ahomeP c XG 3 ∗ ahomeP c XG 4 ∗ ahomeP c XG 5 ∗ ahomeP c XG 6 ∗ ahomeP c XG 7
      ∗ bigSep (Ring.homeSet 8 0) (ahomeP c XG)) := by
  have e : (Finset.univ : Finset (Fin 60)) = insert 0 (insert 1 (insert 2 (insert 3 (insert 4 (insert 5 (insert 6 (insert 7 (Ring.homeSet (NB := 60) 8 0)))))))) := by
    decide
  rw [e, bigSep_insert (by decide), bigSep_insert (by decide), bigSep_insert (by decide), bigSep_insert (by decide), bigSep_insert (by decide), bigSep_insert (by decide), bigSep_insert (by decide), bigSep_insert (by decide)]
  rfl

/-- A slot of that ring, at anything. -/
abbrev saP (c : Dev nD) (s : Fin 8) : sProp 𝕄 := iprop(∃ f, aslotP (F := F) c s f)
omit [FloatOps F] in
theorem aslot_in (c : Dev nD) (s : Fin 8) (f) : (((c : Thread nD τ).loc cc0_scratch6) ↦[AS s]{fullShare} f : sProp 𝕄) ⊢ saP c s := by
  iintro H; iexists f; iapply (entails_of_eq (aslotP_eq c s f).symm); iexact H
omit [FloatOps F] in
theorem aslot_out (c : Dev nD) (s : Fin 8) :
    saP c s ⊢ (iprop(∃ f, ((c : Thread nD τ).loc cc0_scratch6) ↦[AS s]{fullShare} f) : sProp 𝕄) := by
  iintro ⟨%f, H⟩; iexists f; iapply (entails_of_eq (aslotP_eq c s f)); iexact H
/-- The ring whole is its eight slots, and back. -/
theorem abuf_split (c : Dev nD) :
    iprop(∃ f : Buf (Elt F) ((c : Thread nD τ).loc cc0_scratch6), ((c : Thread nD τ).loc cc0_scratch6) ↦{fullShare} f)
      ⊢ (iprop(saP c 0 ∗ saP c 1 ∗ saP c 2 ∗ saP c 3 ∗ saP c 4 ∗ saP c 5 ∗ saP c 6 ∗ saP c 7) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch6) AS AS_disjoint AS_cover f).trans (bigSep_fin8 _))) $$ H
  icases H2 with ⟨H0, H1, H2, H3, H4, H5, H6, H7⟩
  isplitl [H0]; · iapply (aslot_in c 0 f); iexact H0
  isplitl [H1]; · iapply (aslot_in c 1 f); iexact H1
  isplitl [H2]; · iapply (aslot_in c 2 f); iexact H2
  isplitl [H3]; · iapply (aslot_in c 3 f); iexact H3
  isplitl [H4]; · iapply (aslot_in c 4 f); iexact H4
  isplitl [H5]; · iapply (aslot_in c 5 f); iexact H5
  isplitl [H6]; · iapply (aslot_in c 6 f); iexact H6
  iapply (aslot_in c 7 f); iexact H7
theorem abuf_join (c : Dev nD) :
    iprop(saP c 0 ∗ saP c 1 ∗ saP c 2 ∗ saP c 3 ∗ saP c 4 ∗ saP c 5 ∗ saP c 6 ∗ saP c 7)
      ⊢ (iprop(∃ f : Buf (Elt F) ((c : Thread nD τ).loc cc0_scratch6), ((c : Thread nD τ).loc cc0_scratch6) ↦{fullShare} f) : sProp 𝕄) := by
  iintro ⟨⟨%f0, H0⟩, H1, H2, H3, H4, H5, H6, H7⟩
  iapply (Ring.pointsTo_blocks_join_exists (ℓ := (c : Thread nD τ).loc cc0_scratch6) AS AS_disjoint AS_cover f0)
  irw [bigSep_fin8]
  isplitl [H0]; · iexists f0; iapply (entails_of_eq (aslotP_eq c 0 f0)); iexact H0
  isplitl [H1]; · iapply (aslot_out c 1); iexact H1
  isplitl [H2]; · iapply (aslot_out c 2); iexact H2
  isplitl [H3]; · iapply (aslot_out c 3); iexact H3
  isplitl [H4]; · iapply (aslot_out c 4); iexact H4
  isplitl [H5]; · iapply (aslot_out c 5); iexact H5
  isplitl [H6]; · iapply (aslot_out c 6); iexact H6
  iapply (aslot_out c 7); iexact H7

/-! ## The pipeline's proof data -/

abbrev XOm (c : Dev nD) : Buf (Elt F) (woM.view.loc (c : Thread nD τ)) := Gen.V m c main_arg3
abbrev XWm (c : Dev nD) : Buf (Elt F) (wM.view.loc (c : Thread nD τ)) := Gen.V m c main_arg9
abbrev XGm (c : Dev nD) : Buf (Elt F) (guM.view.loc (c : Thread nD τ)) := Gen.V m c main_arg7
abbrev XBm (c : Dev nD) : soM.view.ty.Contents (Elt F) := Gen.V m c main_v0
abbrev XNm (c : Dev nD) : pawM.view.ty.Contents (Elt F) := Gen.V m c main_v1
abbrev XFm (c : Dev nD) : pfwM.view.ty.Contents (Elt F) := Gen.V m c main_v2
abbrev XQm (c : Dev nD) : sguM.view.ty.Contents (Elt F) := Gen.V m c main_v3
abbrev XSm (c : Dev nD) : sdnM.view.ty.Contents (Elt F) := Gen.V m c main_v4
abbrev XPm (c : Dev nD) : powM.view.ty.Contents (Elt F) := Gen.V m c main_v5

abbrev st0 (t : Fin cfg0.N) : Memref sig .tc .vmem S6x4x3840 .bf16 := win0_0.stage (cfg0.slots t 0)
abbrev hst0 (t : Fin cfg0.N) : (st0 t).IsWhole := hstage0_0 0
abbrev st1 (t : Fin cfg0.N) : Memref sig .tc .vmem S8x32x512 .fp8e4m3 := win0_1.stage (cfg0.slots t 1)
abbrev hst1 (t : Fin cfg0.N) : (st1 t).IsWhole := hstage0_1 0
abbrev st2 (t : Fin cfg0.N) : Memref sig .tc .vmem S24x128 .f32 := win0_2.stage (cfg0.slots t 2)
abbrev hst2 (t : Fin cfg0.N) : (st2 t).IsWhole := hstage0_2 0
/-- The staging buffers, holding the layer's input, the attention's codes and their scales. -/
abbrev gR (c : Dev nD) (t : Fin cfg0.N) : Buf (Elt F) ((st0 t).view.loc (c : Thread nD τ)) := (st0 t).view.rep (Gen.iblk m c 0 t)
abbrev gA (c : Dev nD) (t : Fin cfg0.N) : Buf (Elt F) ((st1 t).view.loc (c : Thread nD τ)) := (st1 t).view.rep (Gen.iblk m c 1 t)
abbrev gS (c : Dev nD) (t : Fin cfg0.N) : Buf (Elt F) ((st2 t).view.loc (c : Thread nD τ)) := (st2 t).view.rep (Gen.iblk m c 2 t)

/-- The layer's input in rows, the normed output projection, the norm's weight plus one. -/
def r1m (c : Dev nD) : FVec F S24x3840 .f32 := r1Of c (st0 t0_0) (gR m c t0_0)
def r2m (c : Dev nD) : FVec F S24x3840 .f32 := r2Of c (XOm m c) (XBm m c) (st1 t0_0) (st2 t0_0) (gA m c t0_0) (gS m c t0_0)
def r3m (c : Dev nD) : FVec F S24x3840 .f32 := r3Of (XNm m c)

/-- The seven results. -/
def hidR (c : Dev nD) : FVec F S6x4x3840 .bf16 := hidOf c (XWm m c) (XGm m c) (XFm m c) (XQm m c) (XSm m c) (XPm m c) (r1m m c) (r2m m c) (r3m m c)
def oR (c : Dev nD) : FVec F S6x4x3840 .f32 := oOf c (XOm m c) (XBm m c) (st1 t0_0) (st2 t0_0) (gA m c t0_0) (gS m c t0_0)
def dR (c : Dev nD) : FVec F S6x4x3840 .f32 := dOf c (XWm m c) (XGm m c) (XFm m c) (XQm m c) (XSm m c) (r1m m c) (r2m m c) (r3m m c)
def fcR (c : Dev nD) : S6x4x3840.Idx → Elt F .fp8e4m3 := fcOf (XFm m c) (r1m m c) (r2m m c) (r3m m c)
def fsR (c : Dev nD) : FVec F S24x128 .f32 := fsOut (XFm m c) (r1m m c) (r2m m c) (r3m m c)
def codR (c : Dev nD) : S6x4x15360.Idx → Elt F .fp8e4m3 := codOf c (XGm m c) (XFm m c) (XQm m c) (r1m m c) (r2m m c) (r3m m c)
def sclR (c : Dev nD) : FVec F S24x128 .f32 := sclOf c (XGm m c) (XFm m c) (XQm m c) (r1m m c) (r2m m c) (r3m m c)

/-- What the region holds throughout. -/
abbrev keepP (c : Dev nD) : sProp 𝕄 :=
  iprop(bigSep Finset.univ (ohomeP c (XOm m c)) ∗ bigSep Finset.univ (homeP c (XWm m c)) ∗ bigSep Finset.univ (ahomeP c (XGm m c)) ∗ held c main_v0 (XBm m c) ∗ held c main_v1 (XNm m c) ∗ held c main_v2 (XFm m c) ∗ held c main_v3 (XQm m c) ∗ held c main_v4 (XSm m c) ∗ held c main_v5 (XPm m c)
    ∗ someP c cc0_scratch0 ∗ someP c cc0_scratch1 ∗ someP c cc0_scratch2 ∗ someP c cc0_scratch3 ∗ someP c cc0_scratch4 ∗ someP c cc0_scratch5 ∗ someP c cc0_scratch8 ∗ someP c cc0_scratch9 ∗ someP c cc0_scratch10 ∗ someP c cc0_scratch11 ∗ someP c cc0_scratch12 ∗ someP c cc0_scratch13 ∗ someP c cc0_scratch14 ∗ someP c cc0_scratch15 ∗ someP c cc0_scratch16 ∗ someP c cc0_scratch17 ∗ someP c cc0_scratch18 ∗ someP c cc0_scratch19
    ∗ (sslotP c 0 ∗ sslotP c 1 ∗ sslotP c 2 ∗ sslotP c 3 ∗ sslotP c 4 ∗ sslotP c 5)
    ∗ (saP c 0 ∗ saP c 1 ∗ saP c 2 ∗ saP c 3 ∗ saP c 4 ∗ saP c 5 ∗ saP c 6 ∗ saP c 7)
    ∗ (lcellP c ∗ cellP c 0 ∗ cellP c 1 ∗ cellP c 2 ∗ cellP c 3 ∗ cellP c 4 ∗ cellP c 5 ∗ acellP c 0 ∗ acellP c 1 ∗ acellP c 2 ∗ acellP c 3 ∗ acellP c 4 ∗ acellP c 5 ∗ acellP c 6 ∗ acellP c 7 ∗ ocellP c 0 ∗ ocellP c 1 ∗ ocellP c 2 ∗ ocellP c 3 ∗ ocellP c 4 ∗ ocellP c 5 ∗ ocellP c 6))
/-- Before the body the results are anything; -/
def Φ0 (c : Dev nD) : sProp 𝕄 := iprop(keepP m c ∗ someP c main_v6_0 ∗ someP c main_v6_1 ∗ someP c main_v6_2 ∗ someP c main_v6_3 ∗ someP c main_v6_4 ∗ someP c main_v6_5 ∗ someP c main_v6_6)
/-- after it they are computed. -/
def Φ1 (c : Dev nD) : sProp 𝕄 :=
  iprop(keepP m c ∗ held c main_v6_0 (hidR m c) ∗ held c main_v6_1 (oR m c) ∗ held c main_v6_2 (dR m c) ∗ held c main_v6_3 (fcR m c) ∗ held c main_v6_4 (fsR m c) ∗ held c main_v6_5 (codR m c) ∗ held c main_v6_6 (sclR m c))

/-- What the region holds before point `n`. -/
def phiAt (c : Dev nD) : ℕ → sProp 𝕄
  | 0 => Φ0 m c
  | _ + 1 => Φ1 m c

def dats (_ : Fin 1) (c : Dev nD) : Dat τ (Elt F) Unit ℕ (UU nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
  Φ t := phiAt m c t.val
  q _ := fullShare
  owed _ := 0

theorem before_w0 (c : Dev nD) (t : Fin cfg0.N) (d) : (dats m 0 c).before 0 t d = Gen.iblk m c 0 t := by
  unfold Dat.before; rw [if_pos (fetch0_0 t)]; unfold Dat.fetched Dat.blockOf Gen.iblk; dsimp only [dats]; rfl
theorem after_w0 (c : Dev nD) (t : Fin cfg0.N) : (dats m 0 c).after 0 t = Gen.iblk m c 0 t := by dsimp only [dats]
theorem before_w1 (c : Dev nD) (t : Fin cfg0.N) (d) : (dats m 0 c).before 1 t d = Gen.iblk m c 1 t := by
  unfold Dat.before; rw [if_pos (fetch0_1 t)]; unfold Dat.fetched Dat.blockOf Gen.iblk; dsimp only [dats]; rfl
theorem after_w1 (c : Dev nD) (t : Fin cfg0.N) : (dats m 0 c).after 1 t = Gen.iblk m c 1 t := by dsimp only [dats]
theorem before_w2 (c : Dev nD) (t : Fin cfg0.N) (d) : (dats m 0 c).before 2 t d = Gen.iblk m c 2 t := by
  unfold Dat.before; rw [if_pos (fetch0_2 t)]; unfold Dat.fetched Dat.blockOf Gen.iblk; dsimp only [dats]; rfl
theorem after_w2 (c : Dev nD) (t : Fin cfg0.N) : (dats m 0 c).after 2 t = Gen.iblk m c 2 t := by dsimp only [dats]
theorem phi_pre (c : Dev nD) (t : Fin cfg0.N) : (dats m 0 c).Φ t.castSucc = Φ0 m c := by
  rw [fin_N0 t]; rfl
theorem phi_post (c : Dev nD) (t : Fin cfg0.N) : (dats m 0 c).Φ t.succ = Φ1 m c := by
  rw [fin_N0 t]; rfl

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t))
    = bodyG (st0 t) (hst0 t) (st1 t) (hst1 t) (st2 t) (hst2 t) :=
  (congrFun defs_tc _).trans rfl

theorem afree_make (c : Dev nD) (s : Fin 8) : iprop(acellP c s ∗ saP c s) ⊢ (afreeP (F := F) c s) := entails_of_eq (afree_eq c s).symm
theorem afree_open (c : Dev nD) (s : Fin 8) : afreeP (F := F) c s ⊢ iprop(acellP c s ∗ saP c s) := entails_of_eq (afree_eq c s)

set_option maxHeartbeats 1000000 in
set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, after_w0, before_w1, after_w1, before_w2, after_w2]
  rw [phi_pre, phi_post]
  unfold Dat.owesAt Pipeline.owesWithin
  rw [show (dats m 0 c).owed (Fin.castSucc t0_0) = 0 from rfl, show (dats m 0 c).owed (Fin.succ t0_0) = 0 from rfl]
  unfold owns Φ0 Φ1
  iintro ⟨⟨⟨Ho6, Hh, Ha6, HB, HN, HF, HQ, HS, HP, H0, H1, H2, H3, H4, H5, H8, H9, H10, H11, H12, H13, H14, H15, H16, H17, H18, H19, ⟨Hs0, Hs1, Hs2, Hs3, Hs4, Hs5⟩, ⟨Hx0, Hx1, Hx2, Hx3, Hx4, Hx5, Hx6, Hx7⟩,
    ⟨Hl, Hc0, Hc1, Hc2, Hc3, Hc4, Hc5, Hd0, Hd1, Hd2, Hd3, Hd4, Hd5, Hd6, Hd7, Hp0, Hp1, Hp2, Hp3, Hp4, Hp5, Hp6⟩⟩, HO0, HO1, HO2, HO3, HO4, HO5, HO6⟩, ⟨%W, -, HW⟩, ⟨%d0, %g0, %hg0, HR⟩, ⟨%d1, %g1, %hg1, HA⟩, ⟨%d2, %g2, %hg2, HZ⟩⟩
  ihave Ho7 := (entails_of_eq (ohomes_zero c (XOm m c))) $$ Ho6
  icases Ho7 with ⟨Hg0, Hg1, Hg2, Hg3, Hg4, Hg5, Hoh⟩
  ihave Ha7 := (entails_of_eq (ahomes_zero c (XGm m c))) $$ Ha6
  icases Ha7 with ⟨Ha0, Ha1, Ha2, Ha3, Ha4, Ha5, Ha6, Ha7, Hah⟩
  ihave HR' := (pointsTo_rep_entails (c : Thread nD τ) (st0 t0_0) g0 fullShare) $$ HR
  ihave HA' := (pointsTo_rep_entails (c : Thread nD τ) (st1 t0_0) g1 fullShare) $$ HA
  ihave HZ' := (pointsTo_rep_entails (c : Thread nD τ) (st2 t0_0) g2 fullShare) $$ HZ
  rw [hg0, hg1, hg2]
  sl_rw [prog_eq t0_0]
  iapply (bodyRun c (XOm m c) (XWm m c) (XGm m c) (XBm m c) (XNm m c) (XFm m c) (XQm m c) (XSm m c) (XPm m c) (st0 t0_0) (hst0 t0_0) (st1 t0_0) (hst1 t0_0) (st2 t0_0) (hst2 t0_0) (gR m c t0_0) (gA m c t0_0) (gS m c t0_0) W)
  isplitl [HR' HA' HZ' Hg0 Hg1 Hg2 Hg3 Hg4 Hg5 Hoh Hh Ha0 Ha1 Ha2 Ha3 Ha4 Ha5 Ha6 Ha7 Hah HB HN HF HQ HS HP HO0 HO1 HO2 HO3 HO4 HO5 HO6 H0 H1 H2 H3 H4 H5 H8 H9 H10 H11 H12 H13 H14 H15 H16 H17 H18 H19 Hs0 Hs1 Hs2 Hs3 Hs4 Hs5 Hc0 Hc1 Hc2 Hc3 Hc4 Hc5 Hx0 Hx1 Hx2 Hx3 Hx4 Hx5 Hx6 Hx7 Hd0 Hd1 Hd2 Hd3 Hd4 Hd5 Hd6 Hd7 Hl Hp0 Hp1 Hp2 Hp3 Hp4 Hp5 Hp6 HW]
  · isplitl [HR']; · iexact HR'
    isplitl [HA']; · iexact HA'
    isplitl [HZ']; · iexact HZ'
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hoh]; · iexact Hoh
    isplitl [Hh]; · iexact Hh
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Hah]; · iexact Hah
    isplitl [HB]; · iexact HB
    isplitl [HN]; · iexact HN
    isplitl [HF]; · iexact HF
    isplitl [HQ]; · iexact HQ
    isplitl [HS]; · iexact HS
    isplitl [HP]; · iexact HP
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hd0 Hx0]
    · iapply (afree_make c 0)
      isplitl [Hd0]; · iexact Hd0
      iexact Hx0
    isplitl [Hd1 Hx1]
    · iapply (afree_make c 1)
      isplitl [Hd1]; · iexact Hd1
      iexact Hx1
    isplitl [Hd2 Hx2]
    · iapply (afree_make c 2)
      isplitl [Hd2]; · iexact Hd2
      iexact Hx2
    isplitl [Hd3 Hx3]
    · iapply (afree_make c 3)
      isplitl [Hd3]; · iexact Hd3
      iexact Hx3
    isplitl [Hd4 Hx4]
    · iapply (afree_make c 4)
      isplitl [Hd4]; · iexact Hd4
      iexact Hx4
    isplitl [Hd5 Hx5]
    · iapply (afree_make c 5)
      isplitl [Hd5]; · iexact Hd5
      iexact Hx5
    isplitl [Hd6 Hx6]
    · iapply (afree_make c 6)
      isplitl [Hd6]; · iexact Hd6
      iexact Hx6
    isplitl [Hd7 Hx7]
    · iapply (afree_make c 7)
      isplitl [Hd7]; · iexact Hd7
      iexact Hx7
    isplitl [Hl]; · iexact Hl
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact HW
  · iintro ⟨HR, HA, HZ, Hoh, Hh, Hah, HB, HN, HF, HQ, HS, HP, HO0, HO1, HO2, HO3, HO4, HO5, HO6, H0, H1, H2, H3, H4, H5, H8, H9, H10, H11, H12, H13, H14, H15, H16, H17, H18, H19, Hs0, Hs1, Hs2, Hs3, Hs4, Hs5, Hc0, Hc1, Hc2, Hc3, Hc4, Hc5, Hf0, Hf1, Hf2, Hf3, Hf4, Hf5, Hf6, Hf7, Hl, Hp0, Hp1, Hp2, Hp3, Hp4, Hp5, Hp6, ⟨%W', HW⟩⟩
    ihave Hf0 := (afree_open c 0) $$ Hf0
    icases Hf0 with ⟨Hd0, Hx0⟩
    ihave Hf1 := (afree_open c 1) $$ Hf1
    icases Hf1 with ⟨Hd1, Hx1⟩
    ihave Hf2 := (afree_open c 2) $$ Hf2
    icases Hf2 with ⟨Hd2, Hx2⟩
    ihave Hf3 := (afree_open c 3) $$ Hf3
    icases Hf3 with ⟨Hd3, Hx3⟩
    ihave Hf4 := (afree_open c 4) $$ Hf4
    icases Hf4 with ⟨Hd4, Hx4⟩
    ihave Hf5 := (afree_open c 5) $$ Hf5
    icases Hf5 with ⟨Hd5, Hx5⟩
    ihave Hf6 := (afree_open c 6) $$ Hf6
    icases Hf6 with ⟨Hd6, Hx6⟩
    ihave Hf7 := (afree_open c 7) $$ Hf7
    icases Hf7 with ⟨Hd7, Hx7⟩
    isplitl [Hoh Hh Hah HB HN HF HQ HS HP H0 H1 H2 H3 H4 H5 H8 H9 H10 H11 H12 H13 H14 H15 H16 H17 H18 H19 Hs0 Hs1 Hs2 Hs3 Hs4 Hs5 Hx0 Hx1 Hx2 Hx3 Hx4 Hx5 Hx6 Hx7 Hl Hc0 Hc1 Hc2 Hc3 Hc4 Hc5 Hd0 Hd1 Hd2 Hd3 Hd4 Hd5 Hd6 Hd7 Hp0 Hp1 Hp2 Hp3 Hp4 Hp5 Hp6 HO0 HO1 HO2 HO3 HO4 HO5 HO6]
    · isplitl [Hoh Hh Hah HB HN HF HQ HS HP H0 H1 H2 H3 H4 H5 H8 H9 H10 H11 H12 H13 H14 H15 H16 H17 H18 H19 Hs0 Hs1 Hs2 Hs3 Hs4 Hs5 Hx0 Hx1 Hx2 Hx3 Hx4 Hx5 Hx6 Hx7 Hl Hc0 Hc1 Hc2 Hc3 Hc4 Hc5 Hd0 Hd1 Hd2 Hd3 Hd4 Hd5 Hd6 Hd7 Hp0 Hp1 Hp2 Hp3 Hp4 Hp5 Hp6]
      · isplitl [Hoh]; · iexact Hoh
        isplitl [Hh]; · iexact Hh
        isplitl [Hah]; · iexact Hah
        isplitl [HB]; · iexact HB
        isplitl [HN]; · iexact HN
        isplitl [HF]; · iexact HF
        isplitl [HQ]; · iexact HQ
        isplitl [HS]; · iexact HS
        isplitl [HP]; · iexact HP
        isplitl [H0]; · iexact H0
        isplitl [H1]; · iexact H1
        isplitl [H2]; · iexact H2
        isplitl [H3]; · iexact H3
        isplitl [H4]; · iexact H4
        isplitl [H5]; · iexact H5
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [Hs0 Hs1 Hs2 Hs3 Hs4 Hs5]
        · isplitl [Hs0]; · iexact Hs0
          isplitl [Hs1]; · iexact Hs1
          isplitl [Hs2]; · iexact Hs2
          isplitl [Hs3]; · iexact Hs3
          isplitl [Hs4]; · iexact Hs4
          iexact Hs5
        isplitl [Hx0 Hx1 Hx2 Hx3 Hx4 Hx5 Hx6 Hx7]
        · isplitl [Hx0]; · iexact Hx0
          isplitl [Hx1]; · iexact Hx1
          isplitl [Hx2]; · iexact Hx2
          isplitl [Hx3]; · iexact Hx3
          isplitl [Hx4]; · iexact Hx4
          isplitl [Hx5]; · iexact Hx5
          isplitl [Hx6]; · iexact Hx6
          iexact Hx7
        isplitl [Hl]; · iexact Hl
        isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hd0]; · iexact Hd0
        isplitl [Hd1]; · iexact Hd1
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hp0]; · iexact Hp0
        isplitl [Hp1]; · iexact Hp1
        isplitl [Hp2]; · iexact Hp2
        isplitl [Hp3]; · iexact Hp3
        isplitl [Hp4]; · iexact Hp4
        isplitl [Hp5]; · iexact Hp5
        iexact Hp6
      isplitl [HO0]; · iexact HO0
      isplitl [HO1]; · iexact HO1
      isplitl [HO2]; · iexact HO2
      isplitl [HO3]; · iexact HO3
      isplitl [HO4]; · iexact HO4
      isplitl [HO5]; · iexact HO5
      iexact HO6
    isplitl [HW]
    · iexists W'; isplitr; · ipureintro; exact fun _ _ => Or.inl trivial
      iexact HW
    isplitl [HR]
    · iexists _; isplitr; · ipureintro; exact View.read_rep _ _
      iexact HR
    isplitl [HA]
    · iexists _; isplitr; · ipureintro; exact View.read_rep _ _
      iexact HA
    iexists _; isplitr; · ipureintro; exact View.read_rep _ _
    iexact HZ

/-! ## The run -/

def intoΦ (c : Dev nD) : sProp 𝕄 :=
  iprop((bigSep Finset.univ (ohomeP c (XOm m c)) ∗ bigSep Finset.univ (homeP c (XWm m c)) ∗ bigSep Finset.univ (ahomeP c (XGm m c)) ∗ held c main_v0 (XBm m c) ∗ held c main_v1 (XNm m c) ∗ held c main_v2 (XFm m c) ∗ held c main_v3 (XQm m c) ∗ held c main_v4 (XSm m c) ∗ held c main_v5 (XPm m c)
    ∗ someP c main_v6_0 ∗ someP c main_v6_1 ∗ someP c main_v6_2 ∗ someP c main_v6_3 ∗ someP c main_v6_4 ∗ someP c main_v6_5 ∗ someP c main_v6_6) ∗ Pipeline.ownSems0 osem c)
def outOfΦ (c : Dev nD) : sProp 𝕄 :=
  iprop(held c main_arg3 (XOm m c) ∗ held c main_arg9 (XWm m c) ∗ held c main_arg7 (XGm m c) ∗ held c main_v6_0 (hidR m c) ∗ held c main_v6_1 (oR m c) ∗ held c main_v6_2 (dR m c) ∗ held c main_v6_3 (fcR m c) ∗ held c main_v6_4 (fsR m c) ∗ held c main_v6_5 (codR m c) ∗ held c main_v6_6 (sclR m c))
def restΦ (c : Dev nD) : sProp 𝕄 := iprop(held c main_arg4 (Gen.V m c main_arg4) ∗ held c main_arg5 (Gen.V m c main_arg5) ∗ held c main_arg6 (Gen.V m c main_arg6) ∗ held c main_arg8 (Gen.V m c main_arg8) ∗ held c main_arg10 (Gen.V m c main_arg10) ∗ held c main_arg11 (Gen.V m c main_arg11))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg3) = Gen.V m c main_arg3 ∧ s.mem ((c : Thread nD τ).loc main_arg9) = Gen.V m c main_arg9 ∧ s.mem ((c : Thread nD τ).loc main_arg7) = Gen.V m c main_arg7
    ∧ s.mem ((c : Thread nD τ).loc main_v6_0) = hidR m c ∧ s.mem ((c : Thread nD τ).loc main_v6_1) = oR m c ∧ s.mem ((c : Thread nD τ).loc main_v6_2) = dR m c ∧ s.mem ((c : Thread nD τ).loc main_v6_3) = fcR m c ∧ s.mem ((c : Thread nD τ).loc main_v6_4) = fsR m c ∧ s.mem ((c : Thread nD τ).loc main_v6_5) = codR m c ∧ s.mem ((c : Thread nD τ).loc main_v6_6) = sclR m c
    ∧ s.mem ((c : Thread nD τ).loc main_arg4) = Gen.V m c main_arg4 ∧ s.mem ((c : Thread nD τ).loc main_arg5) = Gen.V m c main_arg5 ∧ s.mem ((c : Thread nD τ).loc main_arg6) = Gen.V m c main_arg6 ∧ s.mem ((c : Thread nD τ).loc main_arg8) = Gen.V m c main_arg8 ∧ s.mem ((c : Thread nD τ).loc main_arg10) = Gen.V m c main_arg10 ∧ s.mem ((c : Thread nD τ).loc main_arg11) = Gen.V m c main_arg11
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option maxHeartbeats 2000000 in
set_option backward.isDefEq.respectTransparency.types false in
/-- At the compiled mesh, for any float values, from any memory with zero counters: every weakly fair execution of
    @main on the TensorCores terminates, and every final state has the results at the named contents, the arguments
    unchanged, every semaphore counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => Gen.V m c b)
    (hmain := Pipeline.hmain_prefix cfgs 0 defs₀ 𝒱₀ m main hostOps0 hostOps0_sub hostOps0_fresh main_chain)
    (hA := fun _ _ => rfl)
    (X := intoΦ m) (Y := outOfΦ m) (Z := restΦ m)
    (hX := fun c => by
      rw [unscopedRest0_eq, o_eq c (XOm m c), w_eq c (XWm m c), gu_eq c (XGm m c)]
      unfold intoΦ restΦ
      iintro ⟨⟨Ho, HA4, HA5, HA6, Hg, HA8, Hw, HA10, HA11, HB, HN, HF, HQ, HS, HP, HO0, HO1, HO2, HO3, HO4, HO5, HO6⟩, Hsem, -, -, -⟩; imodintro
      isplitl [Ho Hw Hg HB HN HF HQ HS HP HO0 HO1 HO2 HO3 HO4 HO5 HO6 Hsem]
      · isplitl [Ho Hw Hg HB HN HF HQ HS HP HO0 HO1 HO2 HO3 HO4 HO5 HO6]
        · isplitl [Ho]; · iexact Ho
          isplitl [Hw]; · iexact Hw
          isplitl [Hg]; · iexact Hg
          isplitl [HB]; · iexact HB
          isplitl [HN]; · iexact HN
          isplitl [HF]; · iexact HF
          isplitl [HQ]; · iexact HQ
          isplitl [HS]; · iexact HS
          isplitl [HP]; · iexact HP
          isplitl [HO0]; · iexists _; iexact HO0
          isplitl [HO1]; · iexists _; iexact HO1
          isplitl [HO2]; · iexists _; iexact HO2
          isplitl [HO3]; · iexists _; iexact HO3
          isplitl [HO4]; · iexists _; iexact HO4
          isplitl [HO5]; · iexists _; iexact HO5
          iexists _; iexact HO6
        iexact Hsem
      isplitl [HA4]; · iexact HA4
      isplitl [HA5]; · iexact HA5
      isplitl [HA6]; · iexact HA6
      isplitl [HA8]; · iexact HA8
      isplitl [HA10]; · iexact HA10
      iexact HA11)
    (hin := fun c => by
      rw [scopedRest0_eq, show (dats m 0 c).Φ 0 = Φ0 m c from rfl]
      unfold intoΦ Φ0; rw [ownSems0_eq]
      iintro ⟨⟨⟨Ho, Hw, Hg, HB, HN, HF, HQ, HS, HP, HO0, HO1, HO2, HO3, HO4, HO5, HO6⟩, Hsem⟩, H0, H1, H2, H3, H4, H5, H6, H7, H8, H9, H10, H11, H12, H13, H14, H15, H16, H17, H18, H19⟩
      ihave Hs := (buf_split c) $$ H7
      ihave Hx := (abuf_split c) $$ H6
      isplitl [Ho Hw Hg HB HN HF HQ HS HP H0 H1 H2 H3 H4 H5 H8 H9 H10 H11 H12 H13 H14 H15 H16 H17 H18 H19 Hs Hx Hsem]
      · isplitl [Ho]; · iexact Ho
        isplitl [Hw]; · iexact Hw
        isplitl [Hg]; · iexact Hg
        isplitl [HB]; · iexact HB
        isplitl [HN]; · iexact HN
        isplitl [HF]; · iexact HF
        isplitl [HQ]; · iexact HQ
        isplitl [HS]; · iexact HS
        isplitl [HP]; · iexact HP
        isplitl [H0]; · iexact H0
        isplitl [H1]; · iexact H1
        isplitl [H2]; · iexact H2
        isplitl [H3]; · iexact H3
        isplitl [H4]; · iexact H4
        isplitl [H5]; · iexact H5
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [Hs]; · iexact Hs
        isplitl [Hx]; · iexact Hx
        iexact Hsem
      isplitl [HO0]; · iexact HO0
      isplitl [HO1]; · iexact HO1
      isplitl [HO2]; · iexact HO2
      isplitl [HO3]; · iexact HO3
      isplitl [HO4]; · iexact HO4
      isplitl [HO5]; · iexact HO5
      iexact HO6)
    (hout := fun c => by
      rw [scopedRest0_eq, show (dats m 0 c).Φ (Fin.last cfg0.N) = Φ1 m c from by rw [← phi_post m c t0_0]; rfl, ownSems0_eq]
      unfold Φ1 outOfΦ
      iintro ⟨⟨Ho, Hw, Hg, HB, HN, HF, HQ, HS, HP, H0, H1, H2, H3, H4, H5, H8, H9, H10, H11, H12, H13, H14, H15, H16, H17, H18, H19, Hs, Hx, Hsem⟩, HO0, HO1, HO2, HO3, HO4, HO5, HO6⟩
      isplitl [Ho Hw Hg HO0 HO1 HO2 HO3 HO4 HO5 HO6]
      · isplitl [Ho]; · iapply (entails_of_eq (o_eq c (XOm m c)).symm); iexact Ho
        isplitl [Hw]; · iapply (entails_of_eq (w_eq c (XWm m c)).symm); iexact Hw
        isplitl [Hg]; · iapply (entails_of_eq (gu_eq c (XGm m c)).symm); iexact Hg
        isplitl [HO0]; · iexact HO0
        isplitl [HO1]; · iexact HO1
        isplitl [HO2]; · iexact HO2
        isplitl [HO3]; · iexact HO3
        isplitl [HO4]; · iexact HO4
        isplitl [HO5]; · iexact HO5
        iexact HO6
      isplitl [Hsem]; · iexact Hsem
      ihave H7 := (buf_join c) $$ Hs
      ihave H6 := (abuf_join c) $$ Hx
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19)
    (QY := QY m)
    (hY := fun c s' => by
      unfold outOfΦ restΦ
      iintro ⟨⟨Ho, Hw, Hg, HO0, HO1, HO2, HO3, HO4, HO5, HO6⟩, ⟨HA4, HA5, HA6, HA8, HA10, HA11⟩, HSI⟩
      icombine HSI Ho gives %h0
      icombine HSI Hw gives %h1
      icombine HSI Hg gives %h2
      icombine HSI HO0 gives %h3
      icombine HSI HO1 gives %h4
      icombine HSI HO2 gives %h5
      icombine HSI HO3 gives %h6
      icombine HSI HO4 gives %h7
      icombine HSI HO5 gives %h8
      icombine HSI HO6 gives %h9
      icombine HSI HA4 gives %h10
      icombine HSI HA5 gives %h11
      icombine HSI HA6 gives %h12
      icombine HSI HA8 gives %h13
      icombine HSI HA10 gives %h14
      icombine HSI HA11 gives %h15
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h9, Buf.eq_of_forall_mem_univ h10, Buf.eq_of_forall_mem_univ h11, Buf.eq_of_forall_mem_univ h12, Buf.eq_of_forall_mem_univ h13, Buf.eq_of_forall_mem_univ h14, Buf.eq_of_forall_mem_univ h15⟩
      iexact HSI)
    (hQ := fun _ hh hz => ⟨hh, hz⟩)

/-- The run, at the results and the arguments. -/
theorem run : θ_run defs (onTc (τ := τ) (main (F := F))) ⟨m, fun _ => 0, ρ⟩ (fun r =>
    (∀ c : Dev nD, r.2.mem ((c : Thread nD τ).loc main_v6_0) = hidR m c ∧ r.2.mem ((c : Thread nD τ).loc main_v6_1) = oR m c ∧ r.2.mem ((c : Thread nD τ).loc main_v6_2) = dR m c ∧ r.2.mem ((c : Thread nD τ).loc main_v6_3) = fcR m c ∧ r.2.mem ((c : Thread nD τ).loc main_v6_4) = fsR m c ∧ r.2.mem ((c : Thread nD τ).loc main_v6_5) = codR m c ∧ r.2.mem ((c : Thread nD τ).loc main_v6_6) = sclR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11))
    ∧ r.2.sem = fun _ => 0) :=
  (θ_run defs _ _).mono (fun _ hh => ⟨fun c => by
    obtain ⟨hw, h3, h9, h7, ho0, ho1, ho2, ho3, ho4, ho5, ho6, h4, h5, h6, h8, h10, h11⟩ := hh.1 c
    exact ⟨ho0, ho1, ho2, ho3, ho4, ho5, ho6,
      ((hw 0).trans ((dats m 0 c).arrAt_in 0 rfl _)).trans (V_main_arg0 m c),
      ((hw 1).trans ((dats m 0 c).arrAt_in 1 rfl _)).trans (V_main_arg1 m c),
      ((hw 2).trans ((dats m 0 c).arrAt_in 2 rfl _)).trans (V_main_arg2 m c),
      h3.trans (V_main_arg3 m c), h4.trans (V_main_arg4 m c), h5.trans (V_main_arg5 m c), h6.trans (V_main_arg6 m c), h7.trans (V_main_arg7 m c), h8.trans (V_main_arg8 m c), h9.trans (V_main_arg9 m c), h10.trans (V_main_arg10 m c), h11.trans (V_main_arg11 m c)⟩, hh.2⟩) (run_main m ρ)

end Launch

end Cert.Proof.Kernel

end
-- ==== Proof.KernelIdeal.Ring.lean ====
/-
  The weight ring of the down projection: thirty blocks of 512 rows of the weight stay in HBM and pass through the six
  slots of one VMEM buffer, block `j` in slot `(j + 2) mod 6`, each slot with its own DMA semaphore. This module names
  the blocks, the slots and the semaphores, proves that the slices the kernel's body prints are these names, and states
  the pieces a proof about the ring holds: a block at home, a slot held, a slot's counter at zero, a slot in flight.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Batch
public import Idealize.ShloMosaic.Lib.Affine
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The kernel's own buffers -/

/-- The gate and up projections' weight in HBM, the gate's 15360 columns first. -/
abbrev guM : Memref sig .tc .hbm S3840x30720 .fp8e4m3 := Memref.whole main_arg7
/-- The scale rows and norm rows in HBM that the feed-forward block reads before the down projection. -/
abbrev pfwM : Memref sig .tc .hbm S1x3840 .f32 := Memref.whole main_v2
abbrev sguM : Memref sig .tc .hbm S1x30720 .f32 := Memref.whole main_v3
/-- The down projection's weight in HBM. -/
abbrev wM : Memref sig .tc .hbm S15360x3840 .fp8e4m3 := Memref.whole main_arg9
/-- Its scale row in HBM. -/
abbrev sdnM : Memref sig .tc .hbm S1x3840 .f32 := Memref.whole main_v4
/-- The last norm's weight row in HBM. -/
abbrev powM : Memref sig .tc .hbm S1x3840 .f32 := Memref.whole main_v5
/-- The output projection's weight in HBM, its scale row and the norm row after it. -/
abbrev woM : Memref sig .tc .hbm S4096x3840 .fp8e4m3 := Memref.whole main_arg3
abbrev soM : Memref sig .tc .hbm S1x3840 .f32 := Memref.whole main_v0
abbrev pawM : Memref sig .tc .hbm S1x3840 .f32 := Memref.whole main_v1
/-- The seven results in HBM. -/
abbrev oM : Memref sig .tc .hbm S6x4x3840 .f32 := Memref.whole main_v6_1
abbrev hidM : Memref sig .tc .hbm S6x4x3840 .bf16 := Memref.whole main_v6_0
abbrev dM : Memref sig .tc .hbm S6x4x3840 .f32 := Memref.whole main_v6_2
abbrev codM : Memref sig .tc .hbm S6x4x15360 .fp8e4m3 := Memref.whole main_v6_5
abbrev sclM : Memref sig .tc .hbm S24x128 .f32 := Memref.whole main_v6_6
abbrev fcM : Memref sig .tc .hbm S6x4x3840 .fp8e4m3 := Memref.whole main_v6_3
abbrev fsM : Memref sig .tc .hbm S24x128 .f32 := Memref.whole main_v6_4
/-- The six rows in VMEM. -/
abbrev soV : Memref sig .tc .vmem S1x3840 .f32 := Memref.whole cc0_scratch0
abbrev pawV : Memref sig .tc .vmem S1x3840 .f32 := Memref.whole cc0_scratch1
/-- The residual. -/
abbrev xresV : Memref sig .tc .vmem S24x3840 .f32 := Memref.whole cc0_scratch8
abbrev pfwV : Memref sig .tc .vmem S1x3840 .f32 := Memref.whole cc0_scratch2
abbrev sguV : Memref sig .tc .vmem S1x30720 .f32 := Memref.whole cc0_scratch3
abbrev sdnV : Memref sig .tc .vmem S1x3840 .f32 := Memref.whole cc0_scratch4
abbrev powV : Memref sig .tc .vmem S1x3840 .f32 := Memref.whole cc0_scratch5
/-- The gate and up ring's eight slots. -/
abbrev wa : Memref sig .tc .vmem S8x3840x512 .fp8e4m3 := Memref.whole cc0_scratch6
/-- The down ring's six slots. -/
abbrev wb : Memref sig .tc .vmem S6x512x3840 .fp8e4m3 := Memref.whole cc0_scratch7
/-- The accumulator. -/
abbrev oacc : Memref sig .tc .vmem S32x3840 .f32 := Memref.whole cc0_scratch9
/-- The quantised input of the gate and up projections, padded with eight rows of zeros. -/
abbrev fq : Memref sig .tc .vmem S32x3840 .fp8e4m3 := Memref.whole cc0_scratch10
/-- The activations, sixty slices of 256 columns. -/
abbrev actV : Memref sig .tc .vmem S60x24x256 .f32 := Memref.whole cc0_scratch11
/-- The running maximum of the activations, lane by lane; after the gate and up loop, the rows' maximum, one value in all lanes. -/
abbrev amax : Memref sig .tc .vmem S24x128 .f32 := Memref.whole cc0_scratch12
/-- The seven results in VMEM. -/
abbrev oV : Memref sig .tc .vmem S6x4x3840 .f32 := Memref.whole cc0_scratch14
abbrev hidV : Memref sig .tc .vmem S6x4x3840 .bf16 := Memref.whole cc0_scratch13
abbrev dV : Memref sig .tc .vmem S6x4x3840 .f32 := Memref.whole cc0_scratch15
abbrev fcV : Memref sig .tc .vmem S6x4x3840 .fp8e4m3 := Memref.whole cc0_scratch16
abbrev fsV : Memref sig .tc .vmem S24x128 .f32 := Memref.whole cc0_scratch17
abbrev codV : Memref sig .tc .vmem S6x4x15360 .fp8e4m3 := Memref.whole cc0_scratch18
abbrev sclV : Memref sig .tc .vmem S24x128 .f32 := Memref.whole cc0_scratch19

/-! ## Canonical names: block `b` of the weight, slot `s` of the ring, slot `s`'s semaphore -/

abbrev grpOff (b : Fin 30) : Fin 2 → Nat := ![512 * b.val, 0]
theorem grpOff_inb (b : Fin 30) : ∀ a, grpOff b a + S512x3840.size a ≤ S15360x3840.size a := by
  have := b.isLt; intro a; fin_cases a
  · show 512 * b.val + 512 ≤ 15360; omega
  · show 0 + 3840 ≤ 3840; omega
abbrev slotOff (s : Fin 6) : Fin 3 → Nat := ![s.val, 0, 0]
theorem slotOff_inb (s : Fin 6) : ∀ a, slotOff s a + S1x512x3840.size a ≤ S6x512x3840.size a := by
  have := s.isLt; intro a; fin_cases a
  · show s.val + 1 ≤ 6; omega
  · show 0 + 512 ≤ 512; omega
  · show 0 + 3840 ≤ 3840; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Block `b` of the weight, as the body slices it. -/
def grp (b : Fin 30) : Memref sig .tc .hbm S512x3840 .fp8e4m3 :=
  wM.slice (Rect.unit (s := S15360x3840) (grpOff b) S512x3840.size (grpOff_inb b)) (fun _ => rfl)
/-- Slot `s` of the ring, as the body slices and squeezes it. -/
def rslot (s : Fin 6) : Memref sig .tc .vmem S512x3840 .fp8e4m3 :=
  (wb.slice (Rect.unit (s := S6x512x3840) (slotOff s) S1x512x3840.size (slotOff_inb s)) (fun _ => rfl)).squeeze S512x3840 squeezes_S1x512x3840_S512x3840
/-- Slot `s`'s DMA semaphore. -/
def csm (s : Fin 6) : DmaSems sig S_ := (cc0_scratch22.slice (Rect.unit (s := S6) (semOff s) S1.size (semOff_inb s))).squeeze S_ squeezes_S1_S_

instance (s : Fin 6) : ClosedOff (slotOff s) := ⟨slotOff s, rfl⟩
instance (b : Fin 30) : ClosedOff (grpOff b) := ⟨grpOff b, rfl⟩

/-! ## The trips' offsets in closed form -/

theorem trips_eq : k0_t3_loop.trips = 30 := by decide

theorem trip_lt (k : Fin k0_t3_loop.trips) : k.val < 30 := Nat.lt_of_lt_of_eq k.isLt trips_eq

/-- Slot `(k + 2) mod 6`: the one that trip `k` reads. -/
abbrev slK (k : ℕ) : Fin 6 := Ring.sl 6 (k + 2)

theorem off11_eq : ∀ k : Fin k0_t3_loop.trips, k0_off35 k = semOff (slK k.val) := by decide +kernel
theorem off12_eq : ∀ k : Fin k0_t3_loop.trips, k0_off36 k = slotOff (slK k.val) := by decide +kernel
theorem off13_eq : ∀ k : Fin k0_t3_loop.trips, k0_off37 k = grpOff (Ring.bk 30 k.val) := by decide +kernel
theorem off14_eq : ∀ k : Fin k0_t3_loop.trips, k0_off38 k = slotOff (slK k.val) := by decide +kernel
theorem off15_eq : ∀ k : Fin k0_t3_loop.trips, k0_off39 k = semOff (slK k.val) := by decide +kernel
theorem off16_eq : ∀ k : Fin k0_t3_loop.trips, k0_off40 k = slotOff (slK k.val) := by decide +kernel
theorem off17_eq : ∀ k : Fin k0_t3_loop.trips, k.val + 6 < 30 → k0_off41 k = grpOff (Ring.bk 30 (k.val + 6)) := by decide +kernel
theorem cond1_iff : ∀ k : Fin k0_t3_loop.trips, k0_cond4 k = 1#1 ↔ k.val + 6 < 30 := by decide +kernel

theorem off3_eq : ∀ k : Fin k0_t3_loop.trips, k0_off27 k = ![2 * k.val, 0, 0] := by decide +kernel
theorem off4_eq : ∀ k : Fin k0_t3_loop.trips, k0_off28 k = ![2 * k.val + 1, 0, 0] := by decide +kernel
theorem off5_eq : ∀ k : Fin k0_t3_loop.trips, k0_off29 k = ![0, 0, 512 * k.val] := by decide +kernel
theorem off6_eq : ∀ k : Fin k0_t3_loop.trips, k0_off30 k = ![1, 0, 512 * k.val] := by decide +kernel
theorem off7_eq : ∀ k : Fin k0_t3_loop.trips, k0_off31 k = ![2, 0, 512 * k.val] := by decide +kernel
theorem off8_eq : ∀ k : Fin k0_t3_loop.trips, k0_off32 k = ![3, 0, 512 * k.val] := by decide +kernel
theorem off9_eq : ∀ k : Fin k0_t3_loop.trips, k0_off33 k = ![4, 0, 512 * k.val] := by decide +kernel
theorem off10_eq : ∀ k : Fin k0_t3_loop.trips, k0_off34 k = ![5, 0, 512 * k.val] := by decide +kernel

instance (k : Fin k0_t3_loop.trips) : ClosedOff (k0_off36 k) := ⟨slotOff (slK k.val), off12_eq k⟩
instance (k : Fin k0_t3_loop.trips) : ClosedOff (k0_off38 k) := ⟨slotOff (slK k.val), off14_eq k⟩
instance (k : Fin k0_t3_loop.trips) : ClosedOff (k0_off40 k) := ⟨slotOff (slK k.val), off16_eq k⟩
instance (k : Fin k0_t3_loop.trips) : ClosedOff (k0_off27 k) := ⟨_, off3_eq k⟩
instance (k : Fin k0_t3_loop.trips) : ClosedOff (k0_off28 k) := ⟨_, off4_eq k⟩
instance (k : Fin k0_t3_loop.trips) : ClosedOff (k0_off29 k) := ⟨_, off5_eq k⟩
instance (k : Fin k0_t3_loop.trips) : ClosedOff (k0_off30 k) := ⟨_, off6_eq k⟩
instance (k : Fin k0_t3_loop.trips) : ClosedOff (k0_off31 k) := ⟨_, off7_eq k⟩
instance (k : Fin k0_t3_loop.trips) : ClosedOff (k0_off32 k) := ⟨_, off8_eq k⟩
instance (k : Fin k0_t3_loop.trips) : ClosedOff (k0_off33 k) := ⟨_, off9_eq k⟩
instance (k : Fin k0_t3_loop.trips) : ClosedOff (k0_off34 k) := ⟨_, off10_eq k⟩

/-! ### The printed slices are the canonical names -/

theorem csm_congr {off : Fin 1 → Nat} {s : Fin 6} (e : off = semOff s) (hh) :
    (cc0_scratch22.slice (Rect.unit (s := S6) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 6} (e : off = slotOff s) (hh hs) :
    (wb.slice (Rect.unit (s := S6x512x3840) off S1x512x3840.size hh) hs).squeeze S512x3840 squeezes_S1x512x3840_S512x3840 = rslot s :=
  congrArg (fun M : Memref sig .tc .vmem S1x512x3840 .fp8e4m3 => M.squeeze S512x3840 squeezes_S1x512x3840_S512x3840) (Memref.slice_unit_congr _ e _ _ _ _)
theorem grp_congr {off : Fin 2 → Nat} {b : Fin 30} (e : off = grpOff b) (hh hs) :
    wM.slice (Rect.unit (s := S15360x3840) off S512x3840.size hh) hs = grp b :=
  Memref.slice_unit_congr _ e _ _ _ (fun _ => rfl)

/-! The prologue's blocks 0 to 5 go to slots 2, 3, 4, 5, 0, 1. -/

@[sl_canon] theorem semL0 (hh) : (cc0_scratch22.slice (Rect.unit (s := S6) ![2] S1.size hh)).squeeze S_ squeezes_S1_S_ = csm 2 := csm_congr (by decide) _
@[sl_canon] theorem semL1 (hh) : (cc0_scratch22.slice (Rect.unit (s := S6) ![3] S1.size hh)).squeeze S_ squeezes_S1_S_ = csm 3 := csm_congr (by decide) _
@[sl_canon] theorem semL2 (hh) : (cc0_scratch22.slice (Rect.unit (s := S6) ![4] S1.size hh)).squeeze S_ squeezes_S1_S_ = csm 4 := csm_congr (by decide) _
@[sl_canon] theorem semL3 (hh) : (cc0_scratch22.slice (Rect.unit (s := S6) ![5] S1.size hh)).squeeze S_ squeezes_S1_S_ = csm 5 := csm_congr (by decide) _
@[sl_canon] theorem semL4 (hh) : (cc0_scratch22.slice (Rect.unit (s := S6) ![0] S1.size hh)).squeeze S_ squeezes_S1_S_ = csm 0 := csm_congr (by decide) _
@[sl_canon] theorem semL5 (hh) : (cc0_scratch22.slice (Rect.unit (s := S6) ![1] S1.size hh)).squeeze S_ squeezes_S1_S_ = csm 1 := csm_congr (by decide) _
@[sl_canon] theorem slotL0 (hh hs) : (wb.slice (Rect.unit (s := S6x512x3840) ![2, 0, 0] S1x512x3840.size hh) hs).squeeze S512x3840 squeezes_S1x512x3840_S512x3840 = rslot 2 := rslot_congr (by decide) _ _
@[sl_canon] theorem slotL1 (hh hs) : (wb.slice (Rect.unit (s := S6x512x3840) ![3, 0, 0] S1x512x3840.size hh) hs).squeeze S512x3840 squeezes_S1x512x3840_S512x3840 = rslot 3 := rslot_congr (by decide) _ _
@[sl_canon] theorem slotL2 (hh hs) : (wb.slice (Rect.unit (s := S6x512x3840) ![4, 0, 0] S1x512x3840.size hh) hs).squeeze S512x3840 squeezes_S1x512x3840_S512x3840 = rslot 4 := rslot_congr (by decide) _ _
@[sl_canon] theorem slotL3 (hh hs) : (wb.slice (Rect.unit (s := S6x512x3840) ![5, 0, 0] S1x512x3840.size hh) hs).squeeze S512x3840 squeezes_S1x512x3840_S512x3840 = rslot 5 := rslot_congr (by decide) _ _
@[sl_canon] theorem slotL4 (hh hs) : (wb.slice (Rect.unit (s := S6x512x3840) ![0, 0, 0] S1x512x3840.size hh) hs).squeeze S512x3840 squeezes_S1x512x3840_S512x3840 = rslot 0 := rslot_congr (by decide) _ _
@[sl_canon] theorem slotL5 (hh hs) : (wb.slice (Rect.unit (s := S6x512x3840) ![1, 0, 0] S1x512x3840.size hh) hs).squeeze S512x3840 squeezes_S1x512x3840_S512x3840 = rslot 1 := rslot_congr (by decide) _ _
@[sl_canon] theorem grpL0 (hh hs) : wM.slice (Rect.unit (s := S15360x3840) ![0, 0] S512x3840.size hh) hs = grp 0 := grp_congr (by decide) _ _
@[sl_canon] theorem grpL1 (hh hs) : wM.slice (Rect.unit (s := S15360x3840) ![512, 0] S512x3840.size hh) hs = grp 1 := grp_congr (by decide) _ _
@[sl_canon] theorem grpL2 (hh hs) : wM.slice (Rect.unit (s := S15360x3840) ![1024, 0] S512x3840.size hh) hs = grp 2 := grp_congr (by decide) _ _
@[sl_canon] theorem grpL3 (hh hs) : wM.slice (Rect.unit (s := S15360x3840) ![1536, 0] S512x3840.size hh) hs = grp 3 := grp_congr (by decide) _ _
@[sl_canon] theorem grpL4 (hh hs) : wM.slice (Rect.unit (s := S15360x3840) ![2048, 0] S512x3840.size hh) hs = grp 4 := grp_congr (by decide) _ _
@[sl_canon] theorem grpL5 (hh hs) : wM.slice (Rect.unit (s := S15360x3840) ![2560, 0] S512x3840.size hh) hs = grp 5 := grp_congr (by decide) _ _

/-- Trip `k`: slot and semaphore `(k + 2) mod 6`, block `k` waited for, block `k + 6` issued. -/
@[sl_canon] theorem semW (k : Fin k0_t3_loop.trips) (hh) :
    (cc0_scratch22.slice (Rect.unit (s := S6) (k0_off35 k) S1.size hh)).squeeze S_ squeezes_S1_S_ = csm (slK k.val) := csm_congr (off11_eq k) _
@[sl_canon] theorem slotW (k : Fin k0_t3_loop.trips) (hh hs) :
    (wb.slice (Rect.unit (s := S6x512x3840) (k0_off36 k) S1x512x3840.size hh) hs).squeeze S512x3840 squeezes_S1x512x3840_S512x3840 = rslot (slK k.val) := rslot_congr (off12_eq k) _ _
@[sl_canon] theorem grpW (k : Fin k0_t3_loop.trips) (hh hs) :
    wM.slice (Rect.unit (s := S15360x3840) (k0_off37 k) S512x3840.size hh) hs = grp (Ring.bk 30 k.val) := grp_congr (off13_eq k) _ _
@[sl_canon] theorem semI (k : Fin k0_t3_loop.trips) (hh) :
    (cc0_scratch22.slice (Rect.unit (s := S6) (k0_off39 k) S1.size hh)).squeeze S_ squeezes_S1_S_ = csm (slK k.val) := csm_congr (off15_eq k) _
@[sl_canon] theorem slotI (k : Fin k0_t3_loop.trips) (hh hs) :
    (wb.slice (Rect.unit (s := S6x512x3840) (k0_off40 k) S1x512x3840.size hh) hs).squeeze S512x3840 squeezes_S1x512x3840_S512x3840 = rslot (slK k.val) := rslot_congr (off16_eq k) _ _
@[sl_canon] theorem grpI (k : Fin k0_t3_loop.trips) (hk : k.val + 6 < 30) (hh hs) :
    wM.slice (Rect.unit (s := S15360x3840) (k0_off41 k) S512x3840.size hh) hs = grp (Ring.bk 30 (k.val + 6)) := grp_congr (off17_eq k hk) _ _

/-! ## The pieces: a block at home, a slot held, a slot's counter, a slot in flight -/

section Pieces
variable (c : Dev nD) (XW : Buf (Elt F) (wM.view.loc (c : Thread nD τ)))

abbrev cellP (s : Fin 6) : sProp 𝕄 := semVal ((c : Thread nD τ), SemLoc.dma (csm s).sem) 0
abbrev slotP (s : Fin 6) (f : Buf (Elt F) ((rslot s).view.loc (c : Thread nD τ))) : sProp 𝕄 :=
  (rslot s).view.loc (c : Thread nD τ) ↦[(rslot s).view.set]{fullShare} f
/-- Block `b` AT HOME: held on its elements at the weight's contents. -/
abbrev homeP (b : Fin 30) : sProp 𝕄 := (grp b).view.loc (c : Thread nD τ) ↦[(grp b).view.set]{fullShare} XW
/-- Block `b`'s words as a slot's payload. -/
abbrev payload (b : Fin 30) : S512x3840.Idx → Elt F .fp8e4m3 := ReadAs.same.apply ((grp b).view.read (Elt F) XW)
/-- What block `b`'s transfer leaves in slot `s` over prior contents `f`: the block, written whole. -/
abbrev landed (s : Fin 6) (b : Fin 30) (f : Buf (Elt F) ((rslot s).view.loc (c : Thread nD τ))) : Buf (Elt F) ((rslot s).view.loc (c : Thread nD τ)) :=
  (rslot s).view.writes (Elt F) f [⟨Rect.whole S512x3840, payload c XW b⟩]
/-- Slot `s` IN FLIGHT with block `b`, issued over `f`. -/
abbrev flightP (s : Fin 6) (b : Fin 30) (f : Buf (Elt F) ((rslot s).view.loc (c : Thread nD τ))) : sProp 𝕄 :=
  Transfers.Flight countersEmb (c : Thread nD τ) (SemLoc.dma (csm s).sem) () 61440 iprop(slotP c s (landed c XW s b f) ∗ homeP c XW b)

/-- A slot free, its counter at zero. -/
def freeP (s : Fin 6) : sProp 𝕄 := iprop(cellP c s ∗ ∃ f, slotP c s f)
/-- A slot in flight with a block, over anything. -/
def inflP (s : Fin 6) (b : Fin 30) : sProp 𝕄 := iprop(∃ f, flightP c XW s b f)
/-- The slot that carries block `p`, before the trip that waits for it. -/
def roleP (p : ℕ) : sProp 𝕄 := Ring.roleAt (freeP (F := F) c (slK p)) (inflP c XW (slK p)) p

/-- Trip `k`'s homes: block `k + 6` (about to go out) beside the rest. -/
theorem homes_here (k : ℕ) (hk : k + 6 < 30) :
    bigSep (Ring.homeSet 6 k) (homeP c XW) = iprop(homeP c XW (Ring.bk 30 (k + 6)) ∗ bigSep ((Ring.homeSet 6 k).erase (Ring.bk 30 (k + 6))) (homeP c XW)) := by
  conv_lhs => rw [Ring.homeSet_out 6 k hk, bigSep_insert (Ring.bkL_not_mem_erase 6 k)]
  rfl
/-- Trip `k + 1`'s homes: block `k` (just back) beside that rest. -/
theorem homes_next (k : ℕ) (hk : k + 6 < 30) :
    bigSep (Ring.homeSet 6 (k + 1)) (homeP c XW) = iprop(homeP c XW (Ring.bk 30 k) ∗ bigSep ((Ring.homeSet 6 k).erase (Ring.bk 30 (k + 6))) (homeP c XW)) := by
  conv_lhs => rw [Ring.homeSet_succ 6 k hk, bigSep_insert (Ring.bk_not_mem_erase 6 k (by omega) (by decide))]
  rfl
/-- In the last six trips nothing goes out: block `k` comes back beside the homes before. -/
theorem homes_tail (k : ℕ) (hk : 30 ≤ k + 6) (hp : k < 30) :
    bigSep (Ring.homeSet 6 (k + 1)) (homeP c XW) = iprop(homeP c XW (Ring.bk 30 k) ∗ bigSep (Ring.homeSet 6 k) (homeP c XW)) := by
  conv_lhs => rw [Ring.homeSet_succ_tail 6 k hk hp, bigSep_insert (Ring.bk_not_mem_homeSet 6 k hp (by decide))]
  rfl

omit [FloatOps F] in
theorem slK_add6 (k : ℕ) : slK (k + 6) = slK k := by
  show Ring.sl 6 (k + 6 + 2) = Ring.sl 6 (k + 2)
  rw [show k + 6 + 2 = k + 2 + 6 from by omega, Ring.sl_add]

end Pieces

end Cert.Proof.KernelIdeal

end
-- ==== Proof.KernelIdeal.RingA.lean ====
/-
  The weight ring of the gate and up projections: sixty pairs of column blocks of the weight, 256 gate columns and 256 up
  columns each, stay in HBM and pass through the eight slots of one VMEM buffer, pair `j` in slot `j mod 8`, the gate's
  columns in the slot's left half and the up's in its right. Both copies of a pair signal the slot's one DMA semaphore.
  This module names the blocks, the halves and the semaphores, proves that the slices the kernel's body prints are these
  names, and states the pieces a proof about the ring holds.
-/
module

public import proofs.«01_k».proof.Proof.KernelIdeal.Ring

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Canonical names -/

abbrev gwOff (b : Fin 60) (u : Fin 2) : Fin 2 → Nat := ![0, 15360 * u.val + 256 * b.val]
theorem gwOff_inb (b : Fin 60) (u : Fin 2) : ∀ a, gwOff b u a + S3840x256.size a ≤ S3840x30720.size a := by
  have := b.isLt; have := u.isLt; intro a; fin_cases a
  · show 0 + 3840 ≤ 3840; omega
  · show 15360 * u.val + 256 * b.val + 256 ≤ 30720; omega
abbrev awOff (s : Fin 8) (u : Fin 2) : Fin 3 → Nat := ![s.val, 0, 256 * u.val]
theorem awOff_inb (s : Fin 8) (u : Fin 2) : ∀ a, awOff s u a + S1x3840x256.size a ≤ S8x3840x512.size a := by
  have := s.isLt; have := u.isLt; intro a; fin_cases a
  · show s.val + 1 ≤ 8; omega
  · show 0 + 3840 ≤ 3840; omega
  · show 256 * u.val + 256 ≤ 512; omega
abbrev aslotOff (s : Fin 8) : Fin 3 → Nat := ![s.val, 0, 0]
theorem aslotOff_inb (s : Fin 8) : ∀ a, aslotOff s a + S1x3840x512.size a ≤ S8x3840x512.size a := by
  have := s.isLt; intro a; fin_cases a
  · show s.val + 1 ≤ 8; omega
  · show 0 + 3840 ≤ 3840; omega
  · show 0 + 512 ≤ 512; omega
abbrev asemOff (s : Fin 8) : Fin 1 → Nat := ![s.val]
theorem asemOff_inb (s : Fin 8) : ∀ a, asemOff s a + S1.size a ≤ S8.size a := by
  have := s.isLt; intro a; fin_cases a; show s.val + 1 ≤ 8; omega

/-- Half `u` of pair `b`: 256 columns of the weight, the gate's at `u = 0`, the up's at `u = 1`. -/
def gw (b : Fin 60) (u : Fin 2) : Memref sig .tc .hbm S3840x256 .fp8e4m3 :=
  guM.slice (Rect.unit (s := S3840x30720) (gwOff b u) S3840x256.size (gwOff_inb b u)) (fun _ => rfl)
/-- Half `u` of slot `s`. -/
def aw (s : Fin 8) (u : Fin 2) : Memref sig .tc .vmem S3840x256 .fp8e4m3 :=
  (wa.slice (Rect.unit (s := S8x3840x512) (awOff s u) S1x3840x256.size (awOff_inb s u)) (fun _ => rfl)).squeeze S3840x256 squeezes_S1x3840x256_S3840x256
/-- Slot `s` whole. -/
def aslot (s : Fin 8) : Memref sig .tc .vmem S1x3840x512 .fp8e4m3 :=
  wa.slice (Rect.unit (s := S8x3840x512) (aslotOff s) S1x3840x512.size (aslotOff_inb s)) (fun _ => rfl)
/-- Slot `s`'s DMA semaphore. -/
def asm (s : Fin 8) : DmaSems sig S_ := (cc0_scratch21.slice (Rect.unit (s := S8) (asemOff s) S1.size (asemOff_inb s))).squeeze S_ squeezes_S1_S_

instance (s : Fin 8) (u : Fin 2) : ClosedOff (awOff s u) := ⟨awOff s u, rfl⟩
instance (b : Fin 60) (u : Fin 2) : ClosedOff (gwOff b u) := ⟨gwOff b u, rfl⟩
instance (s : Fin 8) : ClosedOff (aslotOff s) := ⟨aslotOff s, rfl⟩

/-! ## The trips' offsets in closed form -/

theorem trips1_eq : k0_t2_loop.trips = 60 := by decide
theorem trip1_lt (k : Fin k0_t2_loop.trips) : k.val < 60 := Nat.lt_of_lt_of_eq k.isLt trips1_eq

/-- Slot `k mod 8`: the one that trip `k` reads. -/
abbrev slA (k : ℕ) : Fin 8 := Ring.sl 8 k

theorem aoff6_eq : ∀ k : Fin k0_t2_loop.trips, k0_off15 k = asemOff (slA k.val) := by decide +kernel
theorem aoff7_eq : ∀ k : Fin k0_t2_loop.trips, k0_off16 k = awOff (slA k.val) 0 := by decide +kernel
theorem aoff8_eq0 : ∀ k : Fin k0_t2_loop.trips, k0_off17 k 0#32 = gwOff (Ring.bk 60 k.val) 0 := by decide +kernel
theorem aoff8_eq1 : ∀ k : Fin k0_t2_loop.trips, k0_off17 k 15360#32 = gwOff (Ring.bk 60 k.val) 1 := by decide +kernel
theorem aoff9_eq : ∀ k : Fin k0_t2_loop.trips, k0_off18 k = awOff (slA k.val) 1 := by decide +kernel
theorem aoff10_eq : ∀ k : Fin k0_t2_loop.trips, k0_off19 k = aslotOff (slA k.val) := by decide +kernel
theorem aoff11_eq : ∀ k : Fin k0_t2_loop.trips, k0_off20 k = ![0, 256 * k.val] := by decide +kernel
theorem aoff12_eq : ∀ k : Fin k0_t2_loop.trips, k0_off21 k = ![0, 15360 + 256 * k.val] := by decide +kernel
theorem aoff13_eq : ∀ k : Fin k0_t2_loop.trips, k0_off22 k = ![k.val, 0, 0] := by decide +kernel
theorem aoff14_eq : ∀ k : Fin k0_t2_loop.trips, k0_off23 k = asemOff (slA k.val) := by decide +kernel
theorem aoff15_eq : ∀ k : Fin k0_t2_loop.trips, k0_off24 k = awOff (slA k.val) 0 := by decide +kernel
theorem aoff16_eq0 : ∀ k : Fin k0_t2_loop.trips, k.val + 8 < 60 → k0_off25 k 0#32 = gwOff (Ring.bk 60 (k.val + 8)) 0 := by decide +kernel
theorem aoff16_eq1 : ∀ k : Fin k0_t2_loop.trips, k.val + 8 < 60 → k0_off25 k 15360#32 = gwOff (Ring.bk 60 (k.val + 8)) 1 := by decide +kernel
theorem aoff17_eq : ∀ k : Fin k0_t2_loop.trips, k0_off26 k = awOff (slA k.val) 1 := by decide +kernel
theorem acond_iff : ∀ k : Fin k0_t2_loop.trips, k0_cond3 k = 1#1 ↔ k.val + 8 < 60 := by decide +kernel

instance (k : Fin k0_t2_loop.trips) : ClosedOff (k0_off16 k) := ⟨_, aoff7_eq k⟩
instance (k : Fin k0_t2_loop.trips) : ClosedOff (k0_off18 k) := ⟨_, aoff9_eq k⟩
instance (k : Fin k0_t2_loop.trips) : ClosedOff (k0_off19 k) := ⟨_, aoff10_eq k⟩
instance (k : Fin k0_t2_loop.trips) : ClosedOff (k0_off20 k) := ⟨_, aoff11_eq k⟩
instance (k : Fin k0_t2_loop.trips) : ClosedOff (k0_off21 k) := ⟨_, aoff12_eq k⟩
instance (k : Fin k0_t2_loop.trips) : ClosedOff (k0_off22 k) := ⟨_, aoff13_eq k⟩
instance (k : Fin k0_t2_loop.trips) : ClosedOff (k0_off24 k) := ⟨_, aoff15_eq k⟩
instance (k : Fin k0_t2_loop.trips) : ClosedOff (k0_off26 k) := ⟨_, aoff17_eq k⟩

/-! ### The printed slices are the canonical names -/

theorem asm_congr {off : Fin 1 → Nat} {s : Fin 8} (e : off = asemOff s) (hh) :
    (cc0_scratch21.slice (Rect.unit (s := S8) off S1.size hh)).squeeze S_ squeezes_S1_S_ = asm s :=
  congrArg (fun A : DmaSems sig S1 => A.squeeze S_ squeezes_S1_S_) (SemArray.slice_unit_congr _ e _ _)
theorem aw_congr {off : Fin 3 → Nat} {s : Fin 8} {u : Fin 2} (e : off = awOff s u) (hh hs) :
    (wa.slice (Rect.unit (s := S8x3840x512) off S1x3840x256.size hh) hs).squeeze S3840x256 squeezes_S1x3840x256_S3840x256 = aw s u :=
  congrArg (fun M : Memref sig .tc .vmem S1x3840x256 .fp8e4m3 => M.squeeze S3840x256 squeezes_S1x3840x256_S3840x256) (Memref.slice_unit_congr _ e _ _ _ _)
theorem gw_congr {off : Fin 2 → Nat} {b : Fin 60} {u : Fin 2} (e : off = gwOff b u) (hh hs) :
    guM.slice (Rect.unit (s := S3840x30720) off S3840x256.size hh) hs = gw b u :=
  Memref.slice_unit_congr _ e _ _ _ (fun _ => rfl)

/-! The prologue's pairs 0 to 7 go to slots 0 to 7. -/

@[sl_canon] theorem asmL0 (hh) : (cc0_scratch21.slice (Rect.unit (s := S8) ![0] S1.size hh)).squeeze S_ squeezes_S1_S_ = asm 0 := asm_congr (by decide) _
@[sl_canon] theorem awL0 (hh hs) : (wa.slice (Rect.unit (s := S8x3840x512) ![0, 0, 0] S1x3840x256.size hh) hs).squeeze S3840x256 squeezes_S1x3840x256_S3840x256 = aw 0 0 := aw_congr (by decide) _ _
@[sl_canon] theorem awR0 (hh hs) : (wa.slice (Rect.unit (s := S8x3840x512) ![0, 0, 256] S1x3840x256.size hh) hs).squeeze S3840x256 squeezes_S1x3840x256_S3840x256 = aw 0 1 := aw_congr (by decide) _ _
@[sl_canon] theorem gwL0 (hh hs) : guM.slice (Rect.unit (s := S3840x30720) ![0, 0] S3840x256.size hh) hs = gw 0 0 := gw_congr (by decide) _ _
@[sl_canon] theorem gwR0 (hh hs) : guM.slice (Rect.unit (s := S3840x30720) ![0, 15360] S3840x256.size hh) hs = gw 0 1 := gw_congr (by decide) _ _
@[sl_canon] theorem asmL1 (hh) : (cc0_scratch21.slice (Rect.unit (s := S8) ![1] S1.size hh)).squeeze S_ squeezes_S1_S_ = asm 1 := asm_congr (by decide) _
@[sl_canon] theorem awL1 (hh hs) : (wa.slice (Rect.unit (s := S8x3840x512) ![1, 0, 0] S1x3840x256.size hh) hs).squeeze S3840x256 squeezes_S1x3840x256_S3840x256 = aw 1 0 := aw_congr (by decide) _ _
@[sl_canon] theorem awR1 (hh hs) : (wa.slice (Rect.unit (s := S8x3840x512) ![1, 0, 256] S1x3840x256.size hh) hs).squeeze S3840x256 squeezes_S1x3840x256_S3840x256 = aw 1 1 := aw_congr (by decide) _ _
@[sl_canon] theorem gwL1 (hh hs) : guM.slice (Rect.unit (s := S3840x30720) ![0, 256] S3840x256.size hh) hs = gw 1 0 := gw_congr (by decide) _ _
@[sl_canon] theorem gwR1 (hh hs) : guM.slice (Rect.unit (s := S3840x30720) ![0, 15616] S3840x256.size hh) hs = gw 1 1 := gw_congr (by decide) _ _
@[sl_canon] theorem asmL2 (hh) : (cc0_scratch21.slice (Rect.unit (s := S8) ![2] S1.size hh)).squeeze S_ squeezes_S1_S_ = asm 2 := asm_congr (by decide) _
@[sl_canon] theorem awL2 (hh hs) : (wa.slice (Rect.unit (s := S8x3840x512) ![2, 0, 0] S1x3840x256.size hh) hs).squeeze S3840x256 squeezes_S1x3840x256_S3840x256 = aw 2 0 := aw_congr (by decide) _ _
@[sl_canon] theorem awR2 (hh hs) : (wa.slice (Rect.unit (s := S8x3840x512) ![2, 0, 256] S1x3840x256.size hh) hs).squeeze S3840x256 squeezes_S1x3840x256_S3840x256 = aw 2 1 := aw_congr (by decide) _ _
@[sl_canon] theorem gwL2 (hh hs) : guM.slice (Rect.unit (s := S3840x30720) ![0, 512] S3840x256.size hh) hs = gw 2 0 := gw_congr (by decide) _ _
@[sl_canon] theorem gwR2 (hh hs) : guM.slice (Rect.unit (s := S3840x30720) ![0, 15872] S3840x256.size hh) hs = gw 2 1 := gw_congr (by decide) _ _
@[sl_canon] theorem asmL3 (hh) : (cc0_scratch21.slice (Rect.unit (s := S8) ![3] S1.size hh)).squeeze S_ squeezes_S1_S_ = asm 3 := asm_congr (by decide) _
@[sl_canon] theorem awL3 (hh hs) : (wa.slice (Rect.unit (s := S8x3840x512) ![3, 0, 0] S1x3840x256.size hh) hs).squeeze S3840x256 squeezes_S1x3840x256_S3840x256 = aw 3 0 := aw_congr (by decide) _ _
@[sl_canon] theorem awR3 (hh hs) : (wa.slice (Rect.unit (s := S8x3840x512) ![3, 0, 256] S1x3840x256.size hh) hs).squeeze S3840x256 squeezes_S1x3840x256_S3840x256 = aw 3 1 := aw_congr (by decide) _ _
@[sl_canon] theorem gwL3 (hh hs) : guM.slice (Rect.unit (s := S3840x30720) ![0, 768] S3840x256.size hh) hs = gw 3 0 := gw_congr (by decide) _ _
@[sl_canon] theorem gwR3 (hh hs) : guM.slice (Rect.unit (s := S3840x30720) ![0, 16128] S3840x256.size hh) hs = gw 3 1 := gw_congr (by decide) _ _
@[sl_canon] theorem asmL4 (hh) : (cc0_scratch21.slice (Rect.unit (s := S8) ![4] S1.size hh)).squeeze S_ squeezes_S1_S_ = asm 4 := asm_congr (by decide) _
@[sl_canon] theorem awL4 (hh hs) : (wa.slice (Rect.unit (s := S8x3840x512) ![4, 0, 0] S1x3840x256.size hh) hs).squeeze S3840x256 squeezes_S1x3840x256_S3840x256 = aw 4 0 := aw_congr (by decide) _ _
@[sl_canon] theorem awR4 (hh hs) : (wa.slice (Rect.unit (s := S8x3840x512) ![4, 0, 256] S1x3840x256.size hh) hs).squeeze S3840x256 squeezes_S1x3840x256_S3840x256 = aw 4 1 := aw_congr (by decide) _ _
@[sl_canon] theorem gwL4 (hh hs) : guM.slice (Rect.unit (s := S3840x30720) ![0, 1024] S3840x256.size hh) hs = gw 4 0 := gw_congr (by decide) _ _
@[sl_canon] theorem gwR4 (hh hs) : guM.slice (Rect.unit (s := S3840x30720) ![0, 16384] S3840x256.size hh) hs = gw 4 1 := gw_congr (by decide) _ _
@[sl_canon] theorem asmL5 (hh) : (cc0_scratch21.slice (Rect.unit (s := S8) ![5] S1.size hh)).squeeze S_ squeezes_S1_S_ = asm 5 := asm_congr (by decide) _
@[sl_canon] theorem awL5 (hh hs) : (wa.slice (Rect.unit (s := S8x3840x512) ![5, 0, 0] S1x3840x256.size hh) hs).squeeze S3840x256 squeezes_S1x3840x256_S3840x256 = aw 5 0 := aw_congr (by decide) _ _
@[sl_canon] theorem awR5 (hh hs) : (wa.slice (Rect.unit (s := S8x3840x512) ![5, 0, 256] S1x3840x256.size hh) hs).squeeze S3840x256 squeezes_S1x3840x256_S3840x256 = aw 5 1 := aw_congr (by decide) _ _
@[sl_canon] theorem gwL5 (hh hs) : guM.slice (Rect.unit (s := S3840x30720) ![0, 1280] S3840x256.size hh) hs = gw 5 0 := gw_congr (by decide) _ _
@[sl_canon] theorem gwR5 (hh hs) : guM.slice (Rect.unit (s := S3840x30720) ![0, 16640] S3840x256.size hh) hs = gw 5 1 := gw_congr (by decide) _ _
@[sl_canon] theorem asmL6 (hh) : (cc0_scratch21.slice (Rect.unit (s := S8) ![6] S1.size hh)).squeeze S_ squeezes_S1_S_ = asm 6 := asm_congr (by decide) _
@[sl_canon] theorem awL6 (hh hs) : (wa.slice (Rect.unit (s := S8x3840x512) ![6, 0, 0] S1x3840x256.size hh) hs).squeeze S3840x256 squeezes_S1x3840x256_S3840x256 = aw 6 0 := aw_congr (by decide) _ _
@[sl_canon] theorem awR6 (hh hs) : (wa.slice (Rect.unit (s := S8x3840x512) ![6, 0, 256] S1x3840x256.size hh) hs).squeeze S3840x256 squeezes_S1x3840x256_S3840x256 = aw 6 1 := aw_congr (by decide) _ _
@[sl_canon] theorem gwL6 (hh hs) : guM.slice (Rect.unit (s := S3840x30720) ![0, 1536] S3840x256.size hh) hs = gw 6 0 := gw_congr (by decide) _ _
@[sl_canon] theorem gwR6 (hh hs) : guM.slice (Rect.unit (s := S3840x30720) ![0, 16896] S3840x256.size hh) hs = gw 6 1 := gw_congr (by decide) _ _
@[sl_canon] theorem asmL7 (hh) : (cc0_scratch21.slice (Rect.unit (s := S8) ![7] S1.size hh)).squeeze S_ squeezes_S1_S_ = asm 7 := asm_congr (by decide) _
@[sl_canon] theorem awL7 (hh hs) : (wa.slice (Rect.unit (s := S8x3840x512) ![7, 0, 0] S1x3840x256.size hh) hs).squeeze S3840x256 squeezes_S1x3840x256_S3840x256 = aw 7 0 := aw_congr (by decide) _ _
@[sl_canon] theorem awR7 (hh hs) : (wa.slice (Rect.unit (s := S8x3840x512) ![7, 0, 256] S1x3840x256.size hh) hs).squeeze S3840x256 squeezes_S1x3840x256_S3840x256 = aw 7 1 := aw_congr (by decide) _ _
@[sl_canon] theorem gwL7 (hh hs) : guM.slice (Rect.unit (s := S3840x30720) ![0, 1792] S3840x256.size hh) hs = gw 7 0 := gw_congr (by decide) _ _
@[sl_canon] theorem gwR7 (hh hs) : guM.slice (Rect.unit (s := S3840x30720) ![0, 17152] S3840x256.size hh) hs = gw 7 1 := gw_congr (by decide) _ _

/-- Trip `k`: slot and semaphore `k mod 8`, pair `k` waited for, pair `k + 8` issued. -/
@[sl_canon] theorem asmW (k : Fin k0_t2_loop.trips) (hh) :
    (cc0_scratch21.slice (Rect.unit (s := S8) (k0_off15 k) S1.size hh)).squeeze S_ squeezes_S1_S_ = asm (slA k.val) := asm_congr (aoff6_eq k) _
@[sl_canon] theorem awW0 (k : Fin k0_t2_loop.trips) (hh hs) :
    (wa.slice (Rect.unit (s := S8x3840x512) (k0_off16 k) S1x3840x256.size hh) hs).squeeze S3840x256 squeezes_S1x3840x256_S3840x256 = aw (slA k.val) 0 := aw_congr (aoff7_eq k) _ _
@[sl_canon] theorem awW1 (k : Fin k0_t2_loop.trips) (hh hs) :
    (wa.slice (Rect.unit (s := S8x3840x512) (k0_off18 k) S1x3840x256.size hh) hs).squeeze S3840x256 squeezes_S1x3840x256_S3840x256 = aw (slA k.val) 1 := aw_congr (aoff9_eq k) _ _
@[sl_canon] theorem gwW0 (k : Fin k0_t2_loop.trips) (hh hs) :
    guM.slice (Rect.unit (s := S3840x30720) (k0_off17 k 0#32) S3840x256.size hh) hs = gw (Ring.bk 60 k.val) 0 := gw_congr (aoff8_eq0 k) _ _
@[sl_canon] theorem gwW1 (k : Fin k0_t2_loop.trips) (hh hs) :
    guM.slice (Rect.unit (s := S3840x30720) (k0_off17 k 15360#32) S3840x256.size hh) hs = gw (Ring.bk 60 k.val) 1 := gw_congr (aoff8_eq1 k) _ _
@[sl_canon] theorem asmI (k : Fin k0_t2_loop.trips) (hh) :
    (cc0_scratch21.slice (Rect.unit (s := S8) (k0_off23 k) S1.size hh)).squeeze S_ squeezes_S1_S_ = asm (slA k.val) := asm_congr (aoff14_eq k) _
@[sl_canon] theorem awI0 (k : Fin k0_t2_loop.trips) (hh hs) :
    (wa.slice (Rect.unit (s := S8x3840x512) (k0_off24 k) S1x3840x256.size hh) hs).squeeze S3840x256 squeezes_S1x3840x256_S3840x256 = aw (slA k.val) 0 := aw_congr (aoff15_eq k) _ _
@[sl_canon] theorem awI1 (k : Fin k0_t2_loop.trips) (hh hs) :
    (wa.slice (Rect.unit (s := S8x3840x512) (k0_off26 k) S1x3840x256.size hh) hs).squeeze S3840x256 squeezes_S1x3840x256_S3840x256 = aw (slA k.val) 1 := aw_congr (aoff17_eq k) _ _
@[sl_canon] theorem gwI0 (k : Fin k0_t2_loop.trips) (hk : k.val + 8 < 60) (hh hs) :
    guM.slice (Rect.unit (s := S3840x30720) (k0_off25 k 0#32) S3840x256.size hh) hs = gw (Ring.bk 60 (k.val + 8)) 0 := gw_congr (aoff16_eq0 k hk) _ _
@[sl_canon] theorem gwI1 (k : Fin k0_t2_loop.trips) (hk : k.val + 8 < 60) (hh hs) :
    guM.slice (Rect.unit (s := S3840x30720) (k0_off25 k 15360#32) S3840x256.size hh) hs = gw (Ring.bk 60 (k.val + 8)) 1 := gw_congr (aoff16_eq1 k hk) _ _

/-! ## The pieces -/

section Pieces
variable (c : Dev nD) (XG : Buf (Elt F) (guM.view.loc (c : Thread nD τ)))

abbrev acellP (s : Fin 8) : sProp 𝕄 := semVal ((c : Thread nD τ), SemLoc.dma (asm s).sem) 0
/-- Half `u` of slot `s`, held. -/
abbrev awP (s : Fin 8) (u : Fin 2) (f : Buf (Elt F) ((aw s u).view.loc (c : Thread nD τ))) : sProp 𝕄 :=
  (aw s u).view.loc (c : Thread nD τ) ↦[(aw s u).view.set]{fullShare} f
/-- Slot `s`, held. -/
abbrev aslotP (s : Fin 8) (f : Buf (Elt F) ((aslot s).view.loc (c : Thread nD τ))) : sProp 𝕄 :=
  (aslot s).view.loc (c : Thread nD τ) ↦[(aslot s).view.set]{fullShare} f
/-- Half `u` of pair `b` at home. -/
abbrev gwP (b : Fin 60) (u : Fin 2) : sProp 𝕄 := (gw b u).view.loc (c : Thread nD τ) ↦[(gw b u).view.set]{fullShare} XG
/-- Pair `b` at home. -/
def ahomeP (b : Fin 60) : sProp 𝕄 := iprop(gwP c XG b 0 ∗ gwP c XG b 1)
/-- Half `u` of pair `b` as a payload. -/
abbrev apay (b : Fin 60) (u : Fin 2) : S3840x256.Idx → Elt F .fp8e4m3 := ReadAs.same.apply ((gw b u).view.read (Elt F) XG)
/-- What its transfer leaves in half `u` of slot `s`. -/
abbrev aland (s : Fin 8) (b : Fin 60) (u : Fin 2) : Buf (Elt F) ((aw s u).view.loc (c : Thread nD τ)) :=
  (aw s u).view.writes (Elt F) (aw s u).view.junk [⟨Rect.whole S3840x256, apay c XG b u⟩]
/-- The two deliveries of pair `b` into slot `s`: the half landed, the columns back. -/
abbrev adeliv (s : Fin 8) (b : Fin 60) (u : Fin 2) : sProp 𝕄 := iprop(awP c s u (aland c XG s b u) ∗ gwP c XG b u)
instance adeliv_storable (s : Fin 8) (b : Fin 60) (u : Fin 2) : Storable (upEmb : UEmb _ 𝕄) (adeliv c XG s b u) := by
  dsimp only [adeliv]
  have h1 : Storable (upEmb : UEmb _ 𝕄) (awP c s u (aland c XG s b u)) := by dsimp only [awP]; infer_instance
  have h2 : Storable (upEmb : UEmb _ 𝕄) (gwP c XG b u) := by
    have h (X : Buf (Elt F) ((gw b u).view.loc (c : Thread nD τ))) : Storable (upEmb : UEmb _ 𝕄) ((gw b u).view.loc (c : Thread nD τ) ↦[(gw b u).view.set]{fullShare} X) := by infer_instance
    exact h XG
  infer_instance
/-- Slot `s` in flight with pair `b`: both copies issued, neither waited for. -/
abbrev ainflP (s : Fin 8) (b : Fin 60) : sProp 𝕄 :=
  Transfers.Batch countersEmb (c : Thread nD τ) (SemLoc.dma (asm s).sem) () 30720 (adeliv c XG s b) 2 0
/-- A slot free, its counter at zero. -/
def afreeP (s : Fin 8) : sProp 𝕄 := iprop(acellP c s ∗ ∃ f, aslotP c s f)
/-- The slot that carries pair `p`, before the trip that waits for it. -/
def aroleP (p : ℕ) : sProp 𝕄 := Ring.roleAt (afreeP (F := F) c (slA p)) (ainflP c XG (slA p)) p

theorem ahomes_here (k : ℕ) (hk : k + 8 < 60) :
    bigSep (Ring.homeSet 8 k) (ahomeP c XG) = iprop(ahomeP c XG (Ring.bk 60 (k + 8)) ∗ bigSep ((Ring.homeSet 8 k).erase (Ring.bk 60 (k + 8))) (ahomeP c XG)) := by
  conv_lhs => rw [Ring.homeSet_out 8 k hk, bigSep_insert (Ring.bkL_not_mem_erase 8 k)]
  rfl
theorem ahomes_next (k : ℕ) (hk : k + 8 < 60) :
    bigSep (Ring.homeSet 8 (k + 1)) (ahomeP c XG) = iprop(ahomeP c XG (Ring.bk 60 k) ∗ bigSep ((Ring.homeSet 8 k).erase (Ring.bk 60 (k + 8))) (ahomeP c XG)) := by
  conv_lhs => rw [Ring.homeSet_succ 8 k hk, bigSep_insert (Ring.bk_not_mem_erase 8 k (by omega) (by decide))]
  rfl
theorem ahomes_tail (k : ℕ) (hk : 60 ≤ k + 8) (hp : k < 60) :
    bigSep (Ring.homeSet 8 (k + 1)) (ahomeP c XG) = iprop(ahomeP c XG (Ring.bk 60 k) ∗ bigSep (Ring.homeSet 8 k) (ahomeP c XG)) := by
  conv_lhs => rw [Ring.homeSet_succ_tail 8 k hk hp, bigSep_insert (Ring.bk_not_mem_homeSet 8 k hp (by decide))]
  rfl

omit [FloatOps F] in
theorem slA_add8 (k : ℕ) : slA (k + 8) = slA k := Ring.sl_add 8 k

end Pieces

end Cert.Proof.KernelIdeal

end
-- ==== Proof.KernelIdeal.TripA.lean ====
/-
  One trip of the gate and up projections' loop, at a symbolic trip number: wait for both halves of pair `k`, multiply the
  quantised input with the pair, take the gated activation of 256 columns, store it, fold its magnitudes into the running
  maximum, and issue pair `k + 8` into the slot that was read. The invariant says what the activation buffer and the
  running maximum hold before each trip.
-/
module

public import proofs.«01_k».proof.Proof.KernelIdeal.RingA
public import Idealize.ShloMosaic.Lib.Writes
public import Idealize.ShloMosaic.Lib.WritesUnit
public import Idealize.ShloMosaic.Lib.VecWindow
public import Idealize.ShloMosaic.Lib.Pipeline.Value
public import Idealize.ShloMosaic.Lib.PointwiseCore

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section TripA

variable (c : Dev nD) (XG : Buf (Elt F) (guM.view.loc (c : Thread nD τ)))
  (FQ : fq.view.ty.Contents (Elt F)) (FS : fsV.view.ty.Contents (Elt F)) (SG : sguV.view.ty.Contents (Elt F))
  (arg0 : Memref sig .tc .vmem S6x4x3840 .bf16) (harg0 : arg0.IsWhole) (arg1 : Memref sig .tc .vmem S8x32x512 .fp8e4m3) (harg1 : arg1.IsWhole)
  (arg2 : Memref sig .tc .vmem S24x128 .f32) (harg2 : arg2.IsWhole)

/-- A whole buffer held at given contents. -/
abbrev held (b : Ref sig .tc) (f : b.ty.Contents (Elt F)) : sProp 𝕄 :=
  (Memref.whole b).view.loc (c : Thread nD τ) ↦{fullShare} f

/-! ## A slot is its two halves -/

abbrev AW (s : Fin 8) (u : Fin 2) : Finset S8x3840x512.Idx := (Rect.unit (s := S8x3840x512) (awOff s u) S1x3840x256.size (awOff_inb s u)).set
abbrev AS (s : Fin 8) : Finset S8x3840x512.Idx := (Rect.unit (s := S8x3840x512) (aslotOff s) S1x3840x512.size (aslotOff_inb s)).set
omit [FloatOps F] in
theorem aw_set (s : Fin 8) (u : Fin 2) : (aw s u : Memref sig .tc .vmem _ _).view.set = AW s u := (View.set_reshape _ _).trans (View.set_slice_whole _ _)
omit [FloatOps F] in
theorem aslot_set (s : Fin 8) : (aslot s : Memref sig .tc .vmem _ _).view.set = AS s := View.set_slice_whole _ _
theorem mem_AW (s : Fin 8) (u : Fin 2) (y : S8x3840x512.Idx) : y ∈ AW s u ↔ (y 0).val = s.val ∧ (y 2).val / 256 = u.val := by
  rw [Rect.mem_set_unit]
  have h1 : (y 1).val < 3840 := (y 1).isLt
  constructor
  · intro H
    have a0 : s.val ≤ (y 0).val ∧ (y 0).val < s.val + 1 := H 0
    have a2 : 256 * u.val ≤ (y 2).val ∧ (y 2).val < 256 * u.val + 256 := H 2
    omega
  · intro H i; fin_cases i
    · show s.val ≤ (y 0).val ∧ (y 0).val < s.val + 1; omega
    · show 0 ≤ (y 1).val ∧ (y 1).val < 0 + 3840; omega
    · show 256 * u.val ≤ (y 2).val ∧ (y 2).val < 256 * u.val + 256; omega
theorem mem_AS (s : Fin 8) (y : S8x3840x512.Idx) : y ∈ AS s ↔ (y 0).val = s.val := by
  rw [Rect.mem_set_unit]
  have h1 : (y 1).val < 3840 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3840; omega
    · show 0 ≤ (y 2).val ∧ (y 2).val < 0 + 512; omega
theorem AW_disjoint (s : Fin 8) : Disjoint (AW s 0) (AW s 1) := by
  rw [Finset.disjoint_left]; intro y hy hy'; rw [mem_AW] at hy hy'
  have := hy.2; have := hy'.2; simp at *; omega
theorem AW_union (s : Fin 8) : AW s 0 ∪ AW s 1 = AS s := by
  ext y; rw [Finset.mem_union, mem_AW, mem_AW, mem_AS]
  have h2 : (y 2).val < 512 := (y 2).isLt
  have e0 : ((0 : Fin 2)).val = 0 := rfl
  have e1 : ((1 : Fin 2)).val = 1 := rfl
  rw [e0, e1]; omega

omit [FloatOps F] in
theorem awP_eq (s : Fin 8) (u : Fin 2) (f) : awP c s u f = (((c : Thread nD τ).loc cc0_scratch6) ↦[AW s u]{fullShare} f : sProp 𝕄) :=
  congrArg (fun S => (_ ↦[S]{fullShare} f : sProp 𝕄)) (aw_set s u)
omit [FloatOps F] in
theorem aslotP_eq (s : Fin 8) (f) : aslotP c s f = (((c : Thread nD τ).loc cc0_scratch6) ↦[AS s]{fullShare} f : sProp 𝕄) :=
  congrArg (fun S => (_ ↦[S]{fullShare} f : sProp 𝕄)) (aslot_set s)

/-- A slot splits into its halves; -/
theorem aslot_split (s : Fin 8) (f : Buf (Elt F) ((aslot s).view.loc (c : Thread nD τ))) :
    aslotP c s f ⊢ iprop(awP c s 0 f ∗ awP c s 1 f) := by
  refine (entails_of_eq (aslotP_eq c s f)).trans ?_
  rw [← AW_union]
  refine (pointsTo_union (AW_disjoint s)).1.trans ?_
  iintro ⟨H0, H1⟩
  isplitl [H0]
  · iapply (entails_of_eq (awP_eq c s 0 f).symm); iexact H0
  · iapply (entails_of_eq (awP_eq c s 1 f).symm); iexact H1
/-- two halves join to a slot, whatever each holds. -/
theorem aslot_join (s : Fin 8) (f0 f1 : wa.view.ty.Contents (Elt F)) :
    iprop(awP c s 0 f0 ∗ awP c s 1 f1) ⊢ (iprop(∃ g : wa.view.ty.Contents (Elt F), aslotP c s g ∗ ⌜(aw s 0).view.read (Elt F) g = (aw s 0).view.read (Elt F) f0 ∧ (aw s 1).view.read (Elt F) g = (aw s 1).view.read (Elt F) f1⌝) : sProp 𝕄) := by
  iintro ⟨H0, H1⟩
  ihave H0' := (entails_of_eq (awP_eq c s 0 f0)) $$ H0
  ihave H1' := (entails_of_eq (awP_eq c s 1 f1)) $$ H1
  ihave H2 := (pointsTo_join (Ix := Unit) (Name := ℕ) (U := UU nD τ) (Lvl := ℕ) (ℓ := (c : Thread nD τ).loc cc0_scratch6) (q := fullShare) (f := f0) (g := f1) (AW_disjoint s)) $$ [H0' H1']
  · isplitl [H0'] <;> iassumption
  iexists ((AW s 1).piecewise f1 f0 : wa.view.ty.Contents (Elt F))
  isplitl [H2]
  · iapply (entails_of_eq (aslotP_eq c s _).symm)
    rw [← AW_union]
    iexact H2
  ipureintro
  refine ⟨View.read_congr (fun i hi => ?_), View.read_congr (fun i hi => ?_)⟩
  · rw [aw_set] at hi
    exact Finset.piecewise_eq_of_notMem _ _ _ (Finset.disjoint_left.1 (AW_disjoint s) hi)
  · rw [aw_set] at hi
    exact Finset.piecewise_eq_of_mem _ _ _ hi

/-! ## What a trip computes -/

/-- Pair `k` of the weight as the trip loads it: the gate's 256 columns, then the up's. -/
def slabA (k : ℕ) : Vec F S1x3840x512 .fp8e4m3 := fun i =>
  if h : (i 2).val < 256 then apay c XG (Ring.bk 60 k) 0 (fun a => match a with | ⟨0, _⟩ => i 1 | ⟨1, _⟩ => ⟨(i 2).val, h⟩)
  else apay c XG (Ring.bk 60 k) 1 (fun a => match a with
    | ⟨0, _⟩ => i 1 | ⟨1, _⟩ => ⟨(i 2).val - 256, by have h2 : (i 2).val < 512 := (i 2).isLt; show _ < 256; omega⟩)

/-- A half of a slot, read at one place. -/
theorem aw_read (s : Fin 8) (u : Fin 2) (g : wa.view.ty.Contents (Elt F)) (x : S3840x256.Idx) (y : S8x3840x512.Idx)
    (h0 : (y 0).val = s.val) (h1 : (y 1).val = (x 0).val) (h2 : (y 2).val = 256 * u.val + (x 1).val) :
    (aw s u).view.read (Elt F) g x = g y := by
  have e : (aw s u).view.read (Elt F) g = shapeCast S3840x256 (s := S1x3840x256) (wa.view.readAt (Elt F) (Rect.unit (s := S8x3840x512) (awOff s u) S1x3840x256.size (awOff_inb s u)).toLoadRect g) (by decide) := rfl
  rw [e]
  refine (shapeCast_apply _ _ x (fun a => match a with | ⟨0, _⟩ => ⟨0, Nat.one_pos⟩ | ⟨1, _⟩ => x 0 | ⟨2, _⟩ => x 1) ?_).trans ?_
  · rw [Shape.rowMajor_val_three, Shape.rowMajor_val_two]
    show (0 * 3840 + (x 0).val) * 256 + (x 1).val = (x 0).val * 256 + (x 1).val
    omega
  · rw [View.readAt_apply, View.read_whole]
    refine congrArg g (funext fun a => Fin.ext ?_)
    match a with
    | ⟨0, _⟩ => show s.val + 1 * 0 = (y 0).val; omega
    | ⟨1, _⟩ => show 0 + 1 * (x 0).val = (y 1).val; omega
    | ⟨2, _⟩ => show 256 * u.val + 1 * (x 1).val = (y 2).val; omega

/-- A load of the slot that pair `k` landed in reads the pair. -/
theorem load_slotA (k : Fin k0_t2_loop.trips) (g : wa.view.ty.Contents (Elt F))
    (hg0 : (aw (slA k.val) 0).view.read (Elt F) g = apay c XG (Ring.bk 60 k.val) 0)
    (hg1 : (aw (slA k.val) 1).view.read (Elt F) g = apay c XG (Ring.bk 60 k.val) 1) :
    View.readAt (Elt F) wa.view (Rect.unit (s := S8x3840x512) (k0_off19 k) S1x3840x512.size (k0_off19_inb k)).toLoadRect g = slabA c XG k.val := by
  rw [View.readAt_unit_congr wa.view (aoff10_eq k) _ (aslotOff_inb _) g]
  funext i
  have hi0 : (i 0).val < 1 := (i 0).isLt
  have hi2 : (i 2).val < 512 := (i 2).isLt
  rw [View.readAt_apply, View.read_whole]
  unfold slabA
  split
  · rename_i h
    rw [← hg0]
    refine (aw_read _ 0 g _ _ ?_ ?_ ?_).symm
    · show (slA k.val).val + 1 * (i 0).val = (slA k.val).val; omega
    · show 0 + 1 * (i 1).val = (i 1).val; omega
    · show 0 + 1 * (i 2).val = 256 * 0 + (i 2).val; omega
  · rename_i h
    rw [← hg1]
    refine (aw_read _ 1 g _ _ ?_ ?_ ?_).symm
    · show (slA k.val).val + 1 * (i 0).val = (slA k.val).val; omega
    · show 0 + 1 * (i 1).val = (i 1).val; omega
    · show 0 + 1 * (i 2).val = 256 * 1 + ((i 2).val - 256); omega

/-- The input's scale, one column. -/
abbrev fsOf : Vec F S24x1 .f32 := fsV.view.readAt (Elt F) (Rect.unit (s := S24x128) ![0, 0] S24x1.size inb_S24x128_S24x1_0_0).toLoadRect FS
/-- The gate's and the up's scales of trip `k`. -/
abbrev sgOf (k : Fin k0_t2_loop.trips) : Vec F S1x256 .f32 := sguV.view.readAt (Elt F) (Rect.unit (s := S1x30720) (k0_off20 k) S1x256.size (k0_off20_inb k)).toLoadRect SG
abbrev suOf (k : Fin k0_t2_loop.trips) : Vec F S1x256 .f32 := sguV.view.readAt (Elt F) (Rect.unit (s := S1x30720) (k0_off21 k) S1x256.size (k0_off21_inb k)).toLoadRect SG

/-- The activation of trip `k`, 24 rows of 256 columns. -/
def gact (k : Fin k0_t2_loop.trips) : FVec F S24x256 .f32 :=
  k0_pay32 (k0_pay1 FQ (slabA c XG k.val) (fsOf FS)) (k0_pay2 FQ (slabA c XG k.val) (fsOf FS)) (sgOf SG k) (suOf SG k)

/-- The running maximum before trip `k`, lane by lane. -/
def lanesAt : ℕ → FVec F S24x128 .f32
  | 0 => k0_pay31 (F := F) (k0_pay30 (F := F))
  | k + 1 => if h : k < k0_t2_loop.trips then
      k0_pay34 (k0_pay1 FQ (slabA c XG k) (fsOf FS)) (k0_pay2 FQ (slabA c XG k) (fsOf FS)) (sgOf SG ⟨k, h⟩) (suOf SG ⟨k, h⟩) (lanesAt k)
    else lanesAt k

theorem lanes_succ (k : Fin k0_t2_loop.trips) :
    lanesAt c XG FQ FS SG (k.val + 1) = k0_pay34 (k0_pay1 FQ (slabA c XG k.val) (fsOf FS)) (k0_pay2 FQ (slabA c XG k.val) (fsOf FS)) (sgOf SG k) (suOf SG k) (lanesAt c XG FQ FS SG k.val) := by
  rw [lanesAt, dif_pos k.isLt]

/-- All the activations: slice `q` is trip `q`'s. -/
def actAll : S60x24x256.Idx → Elt F .f32 := fun i =>
  gact c XG FQ FS SG (Fin.cast trips1_eq.symm (i 0)) (fun a => match a with | ⟨0, _⟩ => i 1 | ⟨1, _⟩ => i 2)

/-- The first `k` slices are stored. -/
def ActTo (k : ℕ) (f : cc0_scratch11.ty.Contents (Elt F)) : Prop :=
  ∀ i : S60x24x256.Idx, (i 0).val < k → f i = actAll c XG FQ FS SG i

/-- Trip `k`'s store extends the stored slices by one. -/
theorem act_step (k : Fin k0_t2_loop.trips) (f : cc0_scratch11.ty.Contents (Elt F)) (hf : ActTo c XG FQ FS SG k.val f)
    (w : Vec F S1x3840x512 .fp8e4m3) (hw : w = slabA c XG k.val) :
    ActTo c XG FQ FS SG (k.val + 1) (actV.view.writes (Elt F) f
      [⟨Rect.unit (s := S60x24x256) (k0_off22 k) S1x24x256.size (k0_off22_inb k),
        k0_pay33 (k0_pay1 FQ w (fsOf FS)) (k0_pay2 FQ w (fsOf FS)) (sgOf SG k) (suOf SG k)⟩]) := by
  subst hw
  intro i hi
  have hi1 : (i 1).val < 24 := (i 1).isLt
  have hi2 : (i 2).val < 256 := (i 2).isLt
  refine Eq.trans (congrFun (View.read_whole cc0_scratch11 _).symm i) ?_
  rw [View.read_writes_cons_unit _ _ _ _ _ _ (aoff13_eq k)]
  split
  · rename_i h
    have h0 : k.val ≤ (i 0).val ∧ (i 0).val < k.val + 1 := h 0
    have hk : Fin.cast trips1_eq.symm (i 0) = k := Fin.ext (by show (i 0).val = k.val; omega)
    have e : ∀ (a : FVec F S24x512 .f32) (b : FVec F S24x256 .f32) (p q : Vec F S1x256 .f32),
        k0_pay33 a b p q = shapeCast S1x24x256 (k0_pay32 a b p q) shapeCasts_S24x256_S1x24x256 := fun _ _ _ _ => rfl
    unfold actAll
    rw [hk, e]
    unfold gact
    refine shapeCast_apply _ _ _ _ ?_
    rw [Shape.rowMajor_val_three, Shape.rowMajor_val_two, Rect.unitLocal_val, Rect.unitLocal_val, Rect.unitLocal_val]
    show (i 1).val * 256 + (i 2).val = (((i 0).val - k.val) * 24 + ((i 1).val - 0)) * 256 + ((i 2).val - 0)
    have : (i 0).val - k.val = 0 := by omega
    rw [this]; omega
  · rename_i h
    refine hf i (Nat.lt_of_not_le fun hle => h fun a => ?_)
    match a with
    | ⟨0, _⟩ => show k.val ≤ (i 0).val ∧ (i 0).val < k.val + 1; omega
    | ⟨1, _⟩ => show 0 ≤ (i 1).val ∧ (i 1).val < 0 + 24; omega
    | ⟨2, _⟩ => show 0 ≤ (i 2).val ∧ (i 2).val < 0 + 256; omega

/-- Storing the maximum whole. -/
theorem amax_store (f : amax.view.ty.Contents (Elt F)) (w : Vec F S24x128 .f32) :
    amax.view.writes (Elt F) f [⟨Rect.unit ![0, 0] S24x128.size inb_S24x128_S24x128_0_0, w⟩] = w :=
  (View.read_whole cc0_scratch12 _).symm.trans (View.read_writes_full amax.view f inb_S24x128_S24x128_0_0 w [])
/-- Loading it whole. -/
theorem amax_load (f : amax.view.ty.Contents (Elt F)) :
    amax.view.readAt (Elt F) (Rect.unit (s := S24x128) ![0, 0] S24x128.size inb_S24x128_S24x128_0_0).toLoadRect f = f :=
  (View.readAt_full _ _ _).trans (View.read_whole cc0_scratch12 f)
/-- Loading the quantised input whole. -/
theorem fq_load (f : fq.view.ty.Contents (Elt F)) :
    fq.view.readAt (Elt F) (Rect.unit (s := S32x3840) ![0, 0] S32x3840.size inb_S32x3840_S32x3840_0_0).toLoadRect f = f :=
  (View.readAt_full _ _ _).trans (View.read_whole cc0_scratch10 f)

/-- Trip `k`'s store into the maximum. -/
theorem amax_step (k : Fin k0_t2_loop.trips) (f : amax.view.ty.Contents (Elt F)) (w : Vec F S1x3840x512 .fp8e4m3)
    (hf : f = lanesAt c XG FQ FS SG k.val) (hw : w = slabA c XG k.val) :
    amax.view.writes (Elt F) f [⟨Rect.unit ![0, 0] S24x128.size inb_S24x128_S24x128_0_0,
        k0_pay34 (k0_pay1 FQ w (fsOf FS)) (k0_pay2 FQ w (fsOf FS)) (sgOf SG k) (suOf SG k)
          (amax.view.readAt (Elt F) (Rect.unit (s := S24x128) ![0, 0] S24x128.size inb_S24x128_S24x128_0_0).toLoadRect f)⟩]
      = lanesAt c XG FQ FS SG (k.val + 1) := by
  rw [amax_store, amax_load, hf, hw, lanes_succ]

/-! ## One trip -/

abbrev tripA (v247 : FVec F S24x128 .f32)
    (k : Fin k0_t2_loop.trips) : Prog (TpuEff nD τ sig (Elt F) Λ₀ .tc) Unit :=
  k0_t2_body (F := F) arg0 harg0 arg1 harg1 arg2 harg2 woM (Memref.isWhole_whole _) soM (Memref.isWhole_whole _) pawM (Memref.isWhole_whole _)
    pfwM (Memref.isWhole_whole _) guM (Memref.isWhole_whole _) sguM (Memref.isWhole_whole _)
    wM (Memref.isWhole_whole _) sdnM (Memref.isWhole_whole _) powM (Memref.isWhole_whole _)
    hidM (Memref.isWhole_whole _) oM (Memref.isWhole_whole _) dM (Memref.isWhole_whole _) fcM (Memref.isWhole_whole _) fsM (Memref.isWhole_whole _)
    codM (Memref.isWhole_whole _) sclM (Memref.isWhole_whole _)
    soV (Memref.isWhole_whole _) pawV (Memref.isWhole_whole _) pfwV (Memref.isWhole_whole _) sguV (Memref.isWhole_whole _) sdnV (Memref.isWhole_whole _) powV (Memref.isWhole_whole _)
    wa (Memref.isWhole_whole _) wb (Memref.isWhole_whole _) xresV (Memref.isWhole_whole _) oacc (Memref.isWhole_whole _) fq (Memref.isWhole_whole _)
    actV (Memref.isWhole_whole _) amax (Memref.isWhole_whole _) hidV (Memref.isWhole_whole _) oV (Memref.isWhole_whole _) dV (Memref.isWhole_whole _)
    fcV (Memref.isWhole_whole _) fsV (Memref.isWhole_whole _) codV (Memref.isWhole_whole _) sclV (Memref.isWhole_whole _)
    cc0_scratch20 cc0_scratch21 cc0_scratch22 cc0_scratch23 v247 k ()

/-- What the trips hold before trip `k`, the slots apart. -/
abbrev heldA (k : ℕ) : sProp 𝕄 :=
  iprop(held c cc0_scratch10 FQ ∗ held c cc0_scratch17 FS ∗ held c cc0_scratch3 SG
    ∗ (∃ f, held c cc0_scratch11 f ∗ ⌜ActTo c XG FQ FS SG k f⌝)
    ∗ (∃ f, held c cc0_scratch12 f ∗ ⌜f = lanesAt c XG FQ FS SG k⌝) ∗ ∃ W, owes (c : Thread nD τ) 0 W)

variable (v247 : FVec F S24x128 .f32)

/-- A trip that issues nothing. -/
theorem tripA_last (k : Fin k0_t2_loop.trips) (hk : ¬ k.val + 8 < 60) :
    iprop(heldA c XG FQ FS SG k.val ∗ ainflP c XG (slA k.val) (Ring.bk 60 k.val))
    ⊢ wp frame (wpE (defs₀ (F := F)) 𝒱₀ (c : Thread nD τ) none) Set.univ (tripA arg0 harg0 arg1 harg1 arg2 harg2 v247 k)
        (fun _ => iprop(heldA c XG FQ FS SG (k.val + 1) ∗ ahomeP c XG (Ring.bk 60 k.val) ∗ afreeP c (slA k.val))) := by
  have hc : ¬ k0_cond3 k = 1#1 := fun h => hk ((acond_iff k).1 h)
  unfold afreeP ahomeP
  iintro ⟨⟨HQ, HS, HG, ⟨%fa, HA, %hA⟩, ⟨%fm, HM, %hM⟩, ⟨%W, HW⟩⟩, HB⟩
  dsimp only [tripA]
  sl_unfold [k0_t2_body]
  sl_exec
  ihave HJ := (aslot_join c (slA k.val) _ _) $$ [HB_dst0 HB_dst1]
  · isplitl [HB_dst0]; · iexact HB_dst0
    iexact HB_dst1
  icases HJ with ⟨%g, HJ, %hg⟩
  have hv := load_slotA c XG k g (hg.1.trans (View.read_writes_whole _ _ _)) (hg.2.trans (View.read_writes_whole _ _ _))
  sl_exec
  sl_step
  have er : tripA_last.sl.r c XG FQ FS k = k0_pay1 FQ (slabA c XG k.val) (fsOf FS) := by
    delta tripA_last.sl.r; rw [fq_load]
  have er1 : tripA_last.sl.r_1 c XG FQ FS k = k0_pay2 FQ (slabA c XG k.val) (fsOf FS) := by
    delta tripA_last.sl.r_1; rw [fq_load]
  have ea := act_step c XG FQ FS SG k fa hA _ rfl
  have em := amax_step c XG FQ FS SG k fm _ hM rfl
  rw [← er, ← er1] at ea em
  isplitl [HQ HS HG HA HM HW]
  · isplitl [HQ]; · iexact HQ
    isplitl [HS]; · iexact HS
    isplitl [HG]; · iexact HG
    isplitl [HA]
    · iexists _; isplitl [HA]; · iexact HA
      ipureintro; exact ea
    isplitl [HM]
    · iexists _; isplitl [HM]; · iexact HM
      ipureintro; exact em
    iexists _; iexact HW
  isplitl [HB_src0 HB_src1]
  · isplitl [HB_src0]; · iexact HB_src0
    iexact HB_src1
  isplitl [HB]; · iexact HB
  iexists g; iexact HJ

/-- A trip that issues pair `k + 8`. -/
theorem tripA_issue (k : Fin k0_t2_loop.trips) (hk : k.val + 8 < 60) :
    iprop(heldA c XG FQ FS SG k.val ∗ ahomeP c XG (Ring.bk 60 (k.val + 8)) ∗ ainflP c XG (slA k.val) (Ring.bk 60 k.val))
    ⊢ wp frame (wpE (defs₀ (F := F)) 𝒱₀ (c : Thread nD τ) none) Set.univ (tripA arg0 harg0 arg1 harg1 arg2 harg2 v247 k)
        (fun _ => iprop(heldA c XG FQ FS SG (k.val + 1) ∗ ahomeP c XG (Ring.bk 60 k.val) ∗ ainflP c XG (slA k.val) (Ring.bk 60 (k.val + 8)))) := by
  have hc : k0_cond3 k = 1#1 := (acond_iff k).2 hk
  unfold ahomeP
  iintro ⟨⟨HQ, HS, HG, ⟨%fa, HA, %hA⟩, ⟨%fm, HM, %hM⟩, ⟨%W, HW⟩⟩, ⟨Hg0, Hg1⟩, HB⟩
  dsimp only [tripA]
  sl_unfold [k0_t2_body]
  sl_exec
  ihave HJ := (aslot_join c (slA k.val) _ _) $$ [HB_dst0 HB_dst1]
  · isplitl [HB_dst0]; · iexact HB_dst0
    iexact HB_dst1
  icases HJ with ⟨%g, HJ, %hg⟩
  have hv := load_slotA c XG k g (hg.1.trans (View.read_writes_whole _ _ _)) (hg.2.trans (View.read_writes_whole _ _ _))
  haveI : ∀ t, Storable (upEmb : UEmb _ 𝕄) (adeliv c XG (slA k.val) (Ring.bk 60 (k.val + 8)) t) := adeliv_storable c XG _ _
  imod (Transfers.batch_alloc' countersEmb (c : Thread nD τ) () 30720 (adeliv c XG (slA k.val) (Ring.bk 60 (k.val + 8))) (sm := SemLoc.dma (asm (slA k.val)).sem) (E := Set.univ)) $$ HB with HN
  sl_exec
  ihave HS2 := (aslot_split c (slA k.val) g) $$ HJ
  icases HS2 with ⟨HJ0, HJ1⟩
  sl_exec
  sl_step
  have er : tripA_issue.sl.r c XG FQ FS k = k0_pay1 FQ (slabA c XG k.val) (fsOf FS) := by
    delta tripA_issue.sl.r; rw [fq_load]
  have er1 : tripA_issue.sl.r_1 c XG FQ FS k = k0_pay2 FQ (slabA c XG k.val) (fsOf FS) := by
    delta tripA_issue.sl.r_1; rw [fq_load]
  have ea := act_step c XG FQ FS SG k fa hA _ rfl
  have em := amax_step c XG FQ FS SG k fm _ hM rfl
  rw [← er, ← er1] at ea em
  isplitl [HQ HS HG HA HM HW]
  · isplitl [HQ]; · iexact HQ
    isplitl [HS]; · iexact HS
    isplitl [HG]; · iexact HG
    isplitl [HA]
    · iexists _; isplitl [HA]; · iexact HA
      ipureintro; exact ea
    isplitl [HM]
    · iexists _; isplitl [HM]; · iexact HM
      ipureintro; exact em
    iexists _; iexact HW
  isplitl [HB_src0 HB_src1]
  · isplitl [HB_src0]; · iexact HB_src0
    iexact HB_src1
  iexact HN

/-! ## The loop's invariant -/

/-- Before trip `k`: the activations and the maximum so far, pairs `k + 8` and on and those before `k` at home, and the
    eight slots with pairs `k` to `k + 7`, or free past the last. -/
abbrev invA (k : ℕ) : sProp 𝕄 :=
  iprop(heldA c XG FQ FS SG k ∗ bigSep (Ring.homeSet 8 k) (ahomeP c XG)
    ∗ aroleP c XG k ∗ aroleP c XG (k + 1) ∗ aroleP c XG (k + 2) ∗ aroleP c XG (k + 3) ∗ aroleP c XG (k + 4) ∗ aroleP c XG (k + 5) ∗ aroleP c XG (k + 6) ∗ aroleP c XG (k + 7))

theorem aroleP_lt (k : ℕ) (hk : k < 60) : aroleP c XG k = ainflP c XG (slA k) (Ring.bk 60 k) := Ring.roleAt_of_lt _ _ _ hk
theorem aroleP_ge (k : ℕ) (hk : 60 ≤ k) : aroleP c XG k = afreeP c (slA k) := Ring.roleAt_of_le _ _ _ hk

/-- The role after next round, in flight. -/
theorem arole_in (k : ℕ) (hk : k + 8 < 60) : ainflP c XG (slA k) (Ring.bk 60 (k + 8)) = aroleP c XG (k + 8) := by
  rw [aroleP_lt c XG (k + 8) hk, slA_add8]
/-- The role after next round, free. -/
theorem arole_free (k : ℕ) (hk : ¬ k + 8 < 60) : afreeP c (slA k) = aroleP c XG (k + 8) := by
  rw [aroleP_ge c XG (k + 8) (by omega), slA_add8]

theorem tripA_step (k : Fin k0_t2_loop.trips) :
    invA c XG FQ FS SG k.val ⊢ wp frame (wpE (defs₀ (F := F)) 𝒱₀ (c : Thread nD τ) none) Set.univ
      (tripA arg0 harg0 arg1 harg1 arg2 harg2 v247 k) (fun _ => invA c XG FQ FS SG (k.val + 1)) := by
  have hk60 := trip1_lt k
  have e : k.val + 1 + 7 = k.val + 8 := by omega
  unfold invA
  rw [aroleP_lt c XG k.val hk60]
  by_cases hk : k.val + 8 < 60
  · rw [ahomes_here c XG k.val hk, ahomes_next c XG k.val hk]
    rw [e, ← arole_in c XG k.val hk]
    iintro ⟨HH, ⟨Hg, Hr⟩, H0, H1, H2, H3, H4, H5, H6, H7⟩
    iapply (wp_wand_r Idealize.ShloMosaic.frame (wpE (defs₀ (F := F)) 𝒱₀ (c : Thread nD τ) none) Set.univ)
    isplitl [HH Hg H0]
    · iapply (tripA_issue c XG FQ FS SG arg0 harg0 arg1 harg1 arg2 harg2 v247 k hk)
      isplitl [HH]; · iexact HH
      isplitl [Hg]; · iexact Hg
      iexact H0
    · iintro %_ ⟨HH, Hg, H8⟩
      isplitl [HH]; · iexact HH
      isplitl [Hg Hr]; · isplitl [Hg] <;> iassumption
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · rw [ahomes_tail c XG k.val (by omega) hk60]
    rw [e, ← arole_free c XG k.val hk]
    iintro ⟨HH, Hh, H0, H1, H2, H3, H4, H5, H6, H7⟩
    iapply (wp_wand_r Idealize.ShloMosaic.frame (wpE (defs₀ (F := F)) 𝒱₀ (c : Thread nD τ) none) Set.univ)
    isplitl [HH H0]
    · iapply (tripA_last c XG FQ FS SG arg0 harg0 arg1 harg1 arg2 harg2 v247 k hk)
      isplitl [HH]; · iexact HH
      iexact H0
    · iintro %_ ⟨HH, Hg, H8⟩
      isplitl [HH]; · iexact HH
      isplitl [Hg Hh]; · isplitl [Hg] <;> iassumption
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

end TripA

end Cert.Proof.KernelIdeal

end
-- ==== Proof.KernelIdeal.Trip.lean ====
/-
  One trip of the down projection's loop, at a symbolic trip number: quantise 512 activation columns, store the six row
  groups of codes, wait for block `k` of the weight, add the product to the accumulator, and issue block `k + 6` into the
  slot that was read. The invariant says what the accumulator and the codes' array hold before each trip.
-/
module

public import proofs.«01_k».proof.Proof.KernelIdeal.TripA
public import Idealize.ShloMosaic.Lib.Writes
public import Idealize.ShloMosaic.Lib.WritesUnit
public import Idealize.ShloMosaic.Lib.VecWindow
public import Idealize.ShloMosaic.Lib.Pipeline.Value
public import Idealize.ShloMosaic.Lib.PointwiseCore

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Trip

variable (c : Dev nD) (XW : Buf (Elt F) (wM.view.loc (c : Thread nD τ)))
  (arg0 : Memref sig .tc .vmem S6x4x3840 .bf16) (harg0 : arg0.IsWhole) (arg1 : Memref sig .tc .vmem S8x32x512 .fp8e4m3) (harg1 : arg1.IsWhole)
  (arg2 : Memref sig .tc .vmem S24x128 .f32) (harg2 : arg2.IsWhole)
  (g0 : actV.view.ty.Contents (Elt F))
  (gm : Buf (Elt F) (amax.view.loc (c : Thread nD τ)))
  (v247 : FVec F S24x128 .f32)

/-- The codes trip `k` makes: 24 rows of 512 columns, padded with eight rows of zeros. -/
def codes (k : Fin k0_t3_loop.trips) : FVec F S32x512 .fp8e4m3 :=
  k0_pay3 (actV.view.readAt (Elt F) (Rect.unit (s := S60x24x256) (k0_off27 k) S1x24x256.size (k0_off27_inb k)).toLoadRect g0)
    (actV.view.readAt (Elt F) (Rect.unit (s := S60x24x256) (k0_off28 k) S1x24x256.size (k0_off28_inb k)).toLoadRect g0)
    (amax.view.readAt (Elt F) (Rect.unit (s := S24x128) ![0, 0] S24x1.size inb_S24x128_S24x1_0_0).toLoadRect gm)

/-- Block `k` of the weight as the trip loads it. -/
def slab (k : ℕ) : Vec F S1x512x3840 .fp8e4m3 := shapeCast S1x512x3840 (payload c XW (Ring.bk 30 k)) (by decide)

/-- The accumulator before trip `k`. -/
def acc : ℕ → Vec F S32x3840 .f32
  | 0 => k0_pay38 (F := F)
  | k + 1 => if h : k < k0_t3_loop.trips then k0_pay39 (codes c g0 gm ⟨k, h⟩) (acc k) (slab c XW k) else acc k

abbrev tripG (k : Fin k0_t3_loop.trips) : Prog (TpuEff nD τ sig (Elt F) Λ₀ .tc) Unit :=
  k0_t3_body (F := F) arg0 harg0 arg1 harg1 arg2 harg2 woM (Memref.isWhole_whole _) soM (Memref.isWhole_whole _) pawM (Memref.isWhole_whole _)
    pfwM (Memref.isWhole_whole _) guM (Memref.isWhole_whole _) sguM (Memref.isWhole_whole _)
    wM (Memref.isWhole_whole _) sdnM (Memref.isWhole_whole _) powM (Memref.isWhole_whole _)
    hidM (Memref.isWhole_whole _) oM (Memref.isWhole_whole _) dM (Memref.isWhole_whole _) fcM (Memref.isWhole_whole _) fsM (Memref.isWhole_whole _)
    codM (Memref.isWhole_whole _) sclM (Memref.isWhole_whole _)
    soV (Memref.isWhole_whole _) pawV (Memref.isWhole_whole _) pfwV (Memref.isWhole_whole _) sguV (Memref.isWhole_whole _) sdnV (Memref.isWhole_whole _) powV (Memref.isWhole_whole _)
    wa (Memref.isWhole_whole _) wb (Memref.isWhole_whole _) xresV (Memref.isWhole_whole _) oacc (Memref.isWhole_whole _) fq (Memref.isWhole_whole _)
    actV (Memref.isWhole_whole _) amax (Memref.isWhole_whole _) hidV (Memref.isWhole_whole _) oV (Memref.isWhole_whole _) dV (Memref.isWhole_whole _)
    fcV (Memref.isWhole_whole _) fsV (Memref.isWhole_whole _) codV (Memref.isWhole_whole _) sclV (Memref.isWhole_whole _)
    cc0_scratch20 cc0_scratch21 cc0_scratch22 cc0_scratch23 v247 k ()

/-- The activation's buffer. -/
abbrev actP : sProp 𝕄 := held c cc0_scratch11 g0

/-- The codes' array: element `(b, r, q)` is row `4 b + r`, column `q mod 512` of trip `q / 512`'s codes. -/
def codesAll : S6x4x15360.Idx → Elt F .fp8e4m3 := fun i =>
  codes c g0 gm (Fin.cast trips_eq.symm ⟨(i 2).val / 512, Nat.div_lt_of_lt_mul (i 2).isLt⟩)
    (fun a => match a with
      | ⟨0, _⟩ => ⟨4 * (i 0).val + (i 1).val, by have h0 : (i 0).val < 6 := (i 0).isLt; have h1 : (i 1).val < 4 := (i 1).isLt; show _ < 32; omega⟩
      | ⟨1, _⟩ => ⟨(i 2).val % 512, Nat.mod_lt _ (by decide)⟩)

/-- The first `512 k` columns of the codes' array are stored. -/
def CodesTo (k : ℕ) (f : cc0_scratch18.ty.Contents (Elt F)) : Prop :=
  ∀ i : S6x4x15360.Idx, (i 2).val < 512 * k → f i = codesAll c g0 gm i

/-- A row group of the codes, at an index. -/
theorem pieceOf_apply (o : ℕ) (v : FVec F S32x512 .fp8e4m3) (h) (x : S1x4x512.Idx) (y : S32x512.Idx)
    (h0 : (y 0).val = o + (x 1).val) (h1 : (y 1).val = (x 2).val) :
    shapeCast S1x4x512 (extractStridedSlice S4x512 ![o, 0] v h) shapeCasts_S4x512_S1x4x512 x = v y := by
  refine (shapeCast_apply _ _ x (fun a => match a with | ⟨0, _⟩ => x 1 | ⟨1, _⟩ => x 2) ?_).trans (extractStridedSlice_apply _ _ _ _ y ?_)
  · have hx : (x 0).val < 1 := (x 0).isLt
    rw [Shape.rowMajor_val_three, Shape.rowMajor_val_two]
    show (x 1).val * 512 + (x 2).val = ((x 0).val * 4 + (x 1).val) * 512 + (x 2).val
    omega
  · intro a
    match a with
    | ⟨0, _⟩ => exact h0
    | ⟨1, _⟩ => exact h1.trans (Nat.zero_add _).symm

/-- Row group `b` of trip `k`'s codes is its part of the codes' array. -/
theorem piece_hit (k : Fin k0_t3_loop.trips) (b o : ℕ) (ho : o = 4 * b) (i : S6x4x15360.Idx) (hs)
    (h : ∀ a, (![b, 0, 512 * k.val] : Fin 3 → ℕ) a ≤ (i a).val ∧ (i a).val < (![b, 0, 512 * k.val] : Fin 3 → ℕ) a + S1x4x512.size a) :
    shapeCast S1x4x512 (extractStridedSlice S4x512 ![o, 0] (codes c g0 gm k) hs) shapeCasts_S4x512_S1x4x512
        (Rect.unitLocal (s := S6x4x15360) (off := ![b, 0, 512 * k.val]) (size := S1x4x512.size) i h)
      = codesAll c g0 gm i := by
  have h0 : b ≤ (i 0).val ∧ (i 0).val < b + 1 := h 0
  have h2 : 512 * k.val ≤ (i 2).val ∧ (i 2).val < 512 * k.val + 512 := h 2
  have hk : Fin.cast trips_eq.symm (⟨(i 2).val / 512, Nat.div_lt_of_lt_mul (i 2).isLt⟩ : Fin 30) = k :=
    Fin.ext (by show (i 2).val / 512 = k.val; omega)
  unfold codesAll
  rw [hk]
  refine pieceOf_apply o _ _ _ _ ?_ ?_
  · rw [Rect.unitLocal_val]
    show 4 * (i 0).val + (i 1).val = o + ((i 1).val - 0)
    omega
  · rw [Rect.unitLocal_val]
    show (i 2).val % 512 = (i 2).val - 512 * k.val
    omega

/-- Trip `k`'s six stores extend the stored columns by 512. -/
theorem codes_step (k : Fin k0_t3_loop.trips) (f : cc0_scratch18.ty.Contents (Elt F)) (hf : CodesTo c g0 gm k.val f) :
    CodesTo c g0 gm (k.val + 1) (codV.view.writes (Elt F) f
      [⟨Rect.unit (s := S6x4x15360) (k0_off34 k) S1x4x512.size (k0_off34_inb k), k0_pay9 (codes c g0 gm k)⟩,
       ⟨Rect.unit (s := S6x4x15360) (k0_off33 k) S1x4x512.size (k0_off33_inb k), k0_pay8 (codes c g0 gm k)⟩,
       ⟨Rect.unit (s := S6x4x15360) (k0_off32 k) S1x4x512.size (k0_off32_inb k), k0_pay7 (codes c g0 gm k)⟩,
       ⟨Rect.unit (s := S6x4x15360) (k0_off31 k) S1x4x512.size (k0_off31_inb k), k0_pay6 (codes c g0 gm k)⟩,
       ⟨Rect.unit (s := S6x4x15360) (k0_off30 k) S1x4x512.size (k0_off30_inb k), k0_pay5 (codes c g0 gm k)⟩,
       ⟨Rect.unit (s := S6x4x15360) (k0_off29 k) S1x4x512.size (k0_off29_inb k),
        shapeCast S1x4x512 (extractStridedSlice S4x512 ![0, 0] (codes c g0 gm k) slices_S32x512_o0_0_S4x512) shapeCasts_S4x512_S1x4x512⟩]) := by
  intro i hi
  refine Eq.trans (congrFun (View.read_whole cc0_scratch18 _).symm i) ?_
  rw [View.read_writes_cons_unit _ _ _ _ _ _ (off10_eq k)]; split; · exact piece_hit c g0 gm k 5 20 rfl i _ _
  rw [View.read_writes_cons_unit _ _ _ _ _ _ (off9_eq k)]; split; · exact piece_hit c g0 gm k 4 16 rfl i _ _
  rw [View.read_writes_cons_unit _ _ _ _ _ _ (off8_eq k)]; split; · exact piece_hit c g0 gm k 3 12 rfl i _ _
  rw [View.read_writes_cons_unit _ _ _ _ _ _ (off7_eq k)]; split; · exact piece_hit c g0 gm k 2 8 rfl i _ _
  rw [View.read_writes_cons_unit _ _ _ _ _ _ (off6_eq k)]; split; · exact piece_hit c g0 gm k 1 4 rfl i _ _
  rw [View.read_writes_cons_unit _ _ _ _ _ _ (off5_eq k)]; split; · exact piece_hit c g0 gm k 0 0 rfl i _ _
  rename_i h5 h4 h3 h2 h1 h0
  refine hf i (Nat.lt_of_not_le fun hle => ?_)
  have hi0 : (i 0).val < 6 := (i 0).isLt
  have hi1 : (i 1).val < 4 := (i 1).isLt
  have box : ∀ b : ℕ, b = (i 0).val → ∀ a, (![b, 0, 512 * k.val] : Fin 3 → ℕ) a ≤ (i a).val ∧ (i a).val < (![b, 0, 512 * k.val] : Fin 3 → ℕ) a + S1x4x512.size a := by
    intro b hb a
    match a with
    | ⟨0, _⟩ => show b ≤ (i 0).val ∧ (i 0).val < b + 1; omega
    | ⟨1, _⟩ => show 0 ≤ (i 1).val ∧ (i 1).val < 0 + 4; omega
    | ⟨2, _⟩ => show 512 * k.val ≤ (i 2).val ∧ (i 2).val < 512 * k.val + 512; omega
  have : (i 0).val = 0 ∨ (i 0).val = 1 ∨ (i 0).val = 2 ∨ (i 0).val = 3 ∨ (i 0).val = 4 ∨ (i 0).val = 5 := by omega
  rcases this with e | e | e | e | e | e
  · exact h0 (box 0 e.symm)
  · exact h1 (box 1 e.symm)
  · exact h2 (box 2 e.symm)
  · exact h3 (box 3 e.symm)
  · exact h4 (box 4 e.symm)
  · exact h5 (box 5 e.symm)

/-- A load of the slot that block `k` landed in reads the block. -/
theorem load_slot (k : Fin k0_t3_loop.trips) (f : wb.view.ty.Contents (Elt F))
    (hf : (rslot (slK k.val)).view.read (Elt F) f = payload c XW (Ring.bk 30 k.val)) :
    View.readAt (Elt F) wb.view (Rect.unit (s := S6x512x3840) (k0_off38 k) S1x512x3840.size (k0_off38_inb k)).toLoadRect f = slab c XW k.val := by
  rw [View.readAt_unit_congr wb.view (off14_eq k) _ (slotOff_inb _) f, slab, ← hf]
  exact ((shapeCast_comp _ shapeCasts_S1x512x3840_S512x3840 _).trans (shapeCast_id _ _)).symm

/-- Storing the accumulator whole. -/
theorem oacc_store (f : oacc.view.ty.Contents (Elt F)) (w : Vec F S32x3840 .f32) :
    oacc.view.writes (Elt F) f [⟨Rect.unit ![0, 0] S32x3840.size inb_S32x3840_S32x3840_0_0, w⟩] = w :=
  (View.read_whole cc0_scratch9 _).symm.trans (View.read_writes_full oacc.view f inb_S32x3840_S32x3840_0_0 w [])

/-- Loading it whole. -/
theorem oacc_load (f : oacc.view.ty.Contents (Elt F)) :
    oacc.view.readAt (Elt F) (Rect.unit (s := S32x3840) ![0, 0] S32x3840.size inb_S32x3840_S32x3840_0_0).toLoadRect f = f :=
  (View.readAt_full _ _ _).trans (View.read_whole cc0_scratch9 f)

/-- One trip's sum. -/
theorem acc_succ (k : Fin k0_t3_loop.trips) :
    acc c XW g0 gm (k.val + 1) = k0_pay39 (codes c g0 gm k) (acc c XW g0 gm k.val) (slab c XW k.val) := by
  rw [acc, dif_pos k.isLt]

/-- Trip `k`'s store into the accumulator. -/
theorem oacc_step (k : Fin k0_t3_loop.trips) (f : oacc.view.ty.Contents (Elt F)) (v : Vec F S1x512x3840 .fp8e4m3)
    (hf : f = acc c XW g0 gm k.val) (hv : v = slab c XW k.val) :
    oacc.view.writes (Elt F) f [⟨Rect.unit ![0, 0] S32x3840.size inb_S32x3840_S32x3840_0_0,
        k0_pay39 (codes c g0 gm k)
          (oacc.view.readAt (Elt F) (Rect.unit (s := S32x3840) ![0, 0] S32x3840.size inb_S32x3840_S32x3840_0_0).toLoadRect f) v⟩]
      = acc c XW g0 gm (k.val + 1) := by
  rw [oacc_store, oacc_load, hf, hv, acc_succ]

/-! ## One trip -/

/-- What the trips hold before trip `k`, the slots apart. -/
abbrev heldAt (k : ℕ) : sProp 𝕄 :=
  iprop(actP c g0 ∗ held c cc0_scratch12 gm ∗ (∃ f, held c cc0_scratch9 f ∗ ⌜f = acc c XW g0 gm k⌝)
    ∗ (∃ f, held c cc0_scratch18 f ∗ ⌜CodesTo c g0 gm k f⌝) ∗ ∃ W, owes (c : Thread nD τ) 0 W)

omit [FloatOps F] in
theorem writes_writes {sp : Space} {s : Shape} {e : EltTy} (v : View sig .tc sp s e) (f : v.ty.Contents (Elt F)) (p q : View.Piece (Elt F) s e) :
    v.writes (Elt F) (v.writes (Elt F) f [p]) [q] = v.writes (Elt F) f [q, p] := rfl

/-- A flight issued over a slot that another block had landed in is a flight over something. -/
theorem infl_of_flight (s : Fin 6) (b b' : Fin 30) (f : Buf (Elt F) ((rslot s).view.loc (c : Thread nD τ))) (w : S512x3840.Idx → Elt F .fp8e4m3)
    (hw : w = payload c XW b') :
    Transfers.Flight countersEmb (c : Thread nD τ) (SemLoc.dma (csm s).sem) () 61440
      iprop(slotP c s ((rslot s).view.writes (Elt F) f [⟨Rect.whole S512x3840, w⟩, ⟨Rect.whole S512x3840, payload c XW b⟩]) ∗ homeP c XW b')
      ⊢ inflP c XW s b' := by
  subst hw
  unfold inflP
  iintro H
  iexists (landed c XW s b f)
  unfold flightP landed
  rw [writes_writes]
  iexact H

/-- A trip that issues block `k + 6`. -/
theorem trip_issue (k : Fin k0_t3_loop.trips) (hk : k.val + 6 < 30) :
    iprop(heldAt c XW g0 gm k.val ∗ homeP c XW (Ring.bk 30 (k.val + 6)) ∗ inflP c XW (slK k.val) (Ring.bk 30 k.val))
    ⊢ wp frame (wpE (defs₀ (F := F)) 𝒱₀ (c : Thread nD τ) none) Set.univ (tripG arg0 harg0 arg1 harg1 arg2 harg2 v247 k)
        (fun _ => iprop(heldAt c XW g0 gm (k.val + 1) ∗ homeP c XW (Ring.bk 30 k.val) ∗ inflP c XW (slK k.val) (Ring.bk 30 (k.val + 6)))) := by
  have hc : k0_cond4 k = 1#1 := (cond1_iff k).2 hk
  conv_lhs => unfold inflP
  iintro ⟨⟨HA, Hm, ⟨%f12, HO, %hO⟩, ⟨%f16, HC, %hC⟩, ⟨%W, HW⟩⟩, Hg, ⟨%f0, HF0⟩⟩
  dsimp only [tripG]
  sl_unfold [k0_t3_body]
  sl_exec
  sl_step
  have er : trip_issue.sl.r c g0 gm k = codes c g0 gm k := by delta trip_issue.sl.r codes; rfl
  have e0 : trip_issue.sl.r_1 c g0 gm k = shapeCast S1x4x512 (extractStridedSlice S4x512 ![0, 0] (codes c g0 gm k) slices_S32x512_o0_0_S4x512) shapeCasts_S4x512_S1x4x512 := by
    rw [← er]; delta trip_issue.sl.r_1; rfl
  have e1 : trip_issue.sl.v380 c g0 gm k = k0_pay5 (codes c g0 gm k) := by rw [← er]; delta trip_issue.sl.v380; rfl
  have e2 : trip_issue.sl.v387 c g0 gm k = k0_pay6 (codes c g0 gm k) := by rw [← er]; delta trip_issue.sl.v387; rfl
  have e3 : trip_issue.sl.v394 c g0 gm k = k0_pay7 (codes c g0 gm k) := by rw [← er]; delta trip_issue.sl.v394; rfl
  have e4 : trip_issue.sl.v401 c g0 gm k = k0_pay8 (codes c g0 gm k) := by rw [← er]; delta trip_issue.sl.v401; rfl
  have e5 : trip_issue.sl.v408 c g0 gm k = k0_pay9 (codes c g0 gm k) := by rw [← er]; delta trip_issue.sl.v408; rfl
  have ev : trip_issue.sl.v418 c XW k = slab c XW k.val := load_slot c XW k _ (View.read_writes_whole _ _ _)
  have eo := oacc_step c XW g0 gm k f12 (trip_issue.sl.v418 c XW k) hO ev
  rw [← er] at eo
  have ec := codes_step c g0 gm k f16 hC
  rw [← e0, ← e1, ← e2, ← e3, ← e4, ← e5] at ec
  isplitl [HA Hm HO HC HW]
  · isplitl [HA]; · iexact HA
    isplitl [Hm]; · iexact Hm
    isplitl [HO]
    · iexists _; isplitl [HO]; · iexact HO
      ipureintro; exact eo
    isplitl [HC]
    · iexists _; isplitl [HC]; · iexact HC
      ipureintro; exact ec
    iexists _; iexact HW
  isplitl [HF0_src]; · iexact HF0_src
  iapply (infl_of_flight c XW (slK k.val) (Ring.bk 30 k.val) (Ring.bk 30 (k.val + 6)) (rslot (slK k.val)).view.junk (trip_issue.sl.dma19 c XW k) rfl)
  iexact HF0

/-- A trip that issues nothing. -/
theorem trip_last (k : Fin k0_t3_loop.trips) (hk : ¬ k.val + 6 < 30) :
    iprop(heldAt c XW g0 gm k.val ∗ inflP c XW (slK k.val) (Ring.bk 30 k.val))
    ⊢ wp frame (wpE (defs₀ (F := F)) 𝒱₀ (c : Thread nD τ) none) Set.univ (tripG arg0 harg0 arg1 harg1 arg2 harg2 v247 k)
        (fun _ => iprop(heldAt c XW g0 gm (k.val + 1) ∗ homeP c XW (Ring.bk 30 k.val) ∗ freeP c (slK k.val))) := by
  have hc : ¬ k0_cond4 k = 1#1 := fun h => hk ((cond1_iff k).1 h)
  unfold inflP freeP
  iintro ⟨⟨HA, Hm, ⟨%f12, HO, %hO⟩, ⟨%f16, HC, %hC⟩, ⟨%W, HW⟩⟩, ⟨%f0, HF0⟩⟩
  dsimp only [tripG]
  sl_unfold [k0_t3_body]
  sl_exec
  sl_step
  have er : trip_last.sl.r c g0 gm k = codes c g0 gm k := by delta trip_last.sl.r codes; rfl
  have e0 : trip_last.sl.r_1 c g0 gm k = shapeCast S1x4x512 (extractStridedSlice S4x512 ![0, 0] (codes c g0 gm k) slices_S32x512_o0_0_S4x512) shapeCasts_S4x512_S1x4x512 := by
    rw [← er]; delta trip_last.sl.r_1; rfl
  have e1 : trip_last.sl.v380 c g0 gm k = k0_pay5 (codes c g0 gm k) := by rw [← er]; delta trip_last.sl.v380; rfl
  have e2 : trip_last.sl.v387 c g0 gm k = k0_pay6 (codes c g0 gm k) := by rw [← er]; delta trip_last.sl.v387; rfl
  have e3 : trip_last.sl.v394 c g0 gm k = k0_pay7 (codes c g0 gm k) := by rw [← er]; delta trip_last.sl.v394; rfl
  have e4 : trip_last.sl.v401 c g0 gm k = k0_pay8 (codes c g0 gm k) := by rw [← er]; delta trip_last.sl.v401; rfl
  have e5 : trip_last.sl.v408 c g0 gm k = k0_pay9 (codes c g0 gm k) := by rw [← er]; delta trip_last.sl.v408; rfl
  have ev : trip_last.sl.v418 c XW k = slab c XW k.val := load_slot c XW k _ (View.read_writes_whole _ _ _)
  have eo := oacc_step c XW g0 gm k f12 (trip_last.sl.v418 c XW k) hO ev
  rw [← er] at eo
  have ec := codes_step c g0 gm k f16 hC
  rw [← e0, ← e1, ← e2, ← e3, ← e4, ← e5] at ec
  isplitl [HA Hm HO HC HW]
  · isplitl [HA]; · iexact HA
    isplitl [Hm]; · iexact Hm
    isplitl [HO]
    · iexists _; isplitl [HO]; · iexact HO
      ipureintro; exact eo
    isplitl [HC]
    · iexists _; isplitl [HC]; · iexact HC
      ipureintro; exact ec
    iexists _; iexact HW
  isplitl [HF0_src]; · iexact HF0_src
  isplitl [HF0]; · iexact HF0
  iexists _; iexact HF0_dst

/-! ## The loop's invariant -/

/-- Before trip `k`: the sum so far, the codes so far, blocks `k + 6` and on and those before `k` at home, and the six
    slots with blocks `k` to `k + 5`, or free past the last. -/
abbrev invAt (k : ℕ) : sProp 𝕄 :=
  iprop(heldAt c XW g0 gm k ∗ bigSep (Ring.homeSet 6 k) (homeP c XW)
    ∗ roleP c XW k ∗ roleP c XW (k + 1) ∗ roleP c XW (k + 2) ∗ roleP c XW (k + 3) ∗ roleP c XW (k + 4) ∗ roleP c XW (k + 5))

theorem roleP_lt (k : ℕ) (hk : k < 30) : roleP c XW k = inflP c XW (slK k) (Ring.bk 30 k) := Ring.roleAt_of_lt _ _ _ hk
theorem roleP_ge (k : ℕ) (hk : 30 ≤ k) : roleP c XW k = freeP c (slK k) := Ring.roleAt_of_le _ _ _ hk

/-- The role after next round, in flight. -/
theorem role_in (k : ℕ) (hk : k + 6 < 30) : inflP c XW (slK k) (Ring.bk 30 (k + 6)) = roleP c XW (k + 6) := by
  rw [roleP_lt c XW (k + 6) hk, slK_add6]
/-- The role after next round, free. -/
theorem role_free (k : ℕ) (hk : ¬ k + 6 < 30) : freeP c (slK k) = roleP c XW (k + 6) := by
  rw [roleP_ge c XW (k + 6) (by omega), slK_add6]

theorem trip_step (k : Fin k0_t3_loop.trips) :
    invAt c XW g0 gm k.val ⊢ wp frame (wpE (defs₀ (F := F)) 𝒱₀ (c : Thread nD τ) none) Set.univ
      (tripG arg0 harg0 arg1 harg1 arg2 harg2 v247 k) (fun _ => invAt c XW g0 gm (k.val + 1)) := by
  have hk30 := trip_lt k
  unfold invAt
  rw [roleP_lt c XW k.val hk30]
  by_cases hk : k.val + 6 < 30
  · rw [homes_here c XW k.val hk, homes_next c XW k.val hk]
    have e : k.val + 1 + 5 = k.val + 6 := by omega
    rw [e, ← role_in c XW k.val hk]
    iintro ⟨HH, ⟨Hg, Hr⟩, H0, H1, H2, H3, H4, H5⟩
    iapply (wp_wand_r Idealize.ShloMosaic.frame (wpE (defs₀ (F := F)) 𝒱₀ (c : Thread nD τ) none) Set.univ)
    isplitl [HH Hg H0]
    · iapply (trip_issue c XW arg0 harg0 arg1 harg1 arg2 harg2 g0 gm v247 k hk)
      isplitl [HH]; · iexact HH
      isplitl [Hg]; · iexact Hg
      iexact H0
    · iintro %_ ⟨HH, Hg, H6⟩
      isplitl [HH]; · iexact HH
      isplitl [Hg Hr]; · isplitl [Hg] <;> iassumption
      isplitl [H1]; · iexact H1
      isplitl [H2]; · iexact H2
      isplitl [H3]; · iexact H3
      isplitl [H4]; · iexact H4
      isplitl [H5]; · iexact H5
      iexact H6
  · rw [homes_tail c XW k.val (by omega) hk30]
    have e : k.val + 1 + 5 = k.val + 6 := by omega
    rw [e, ← role_free c XW k.val hk]
    iintro ⟨HH, Hh, H0, H1, H2, H3, H4, H5⟩
    iapply (wp_wand_r Idealize.ShloMosaic.frame (wpE (defs₀ (F := F)) 𝒱₀ (c : Thread nD τ) none) Set.univ)
    isplitl [HH H0]
    · iapply (trip_last c XW arg0 harg0 arg1 harg1 arg2 harg2 g0 gm v247 k hk)
      isplitl [HH]; · iexact HH
      iexact H0
    · iintro %_ ⟨HH, Hg, H6⟩
      isplitl [HH]; · iexact HH
      isplitl [Hg Hh]; · isplitl [Hg] <;> iassumption
      isplitl [H1]; · iexact H1
      isplitl [H2]; · iexact H2
      isplitl [H3]; · iexact H3
      isplitl [H4]; · iexact H4
      isplitl [H5]; · iexact H5
      iexact H6

end Trip

end Cert.Proof.KernelIdeal

end
-- ==== Proof.KernelIdeal.RingO.lean ====
/-
  The weight ring of the output projection: eight blocks of 512 rows of its weight pass through the same six slots as the
  down projection's, block `j` in slot `j mod 6`. When block `j + 6` is past the last, the trip issues block `j - 2` of the
  down projection's weight instead, so the loop ends with that projection's first six blocks in flight. This module names
  the blocks, proves that the slices the kernel's body prints are these names, and states what the slots hold.
-/
module

public import proofs.«01_k».proof.Proof.KernelIdeal.Trip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Block `b` of the output projection's weight -/

abbrev ogrpOff (b : Fin 8) : Fin 2 → Nat := ![512 * b.val, 0]
theorem ogrpOff_inb (b : Fin 8) : ∀ a, ogrpOff b a + S512x3840.size a ≤ S4096x3840.size a := by
  have := b.isLt; intro a; fin_cases a
  · show 512 * b.val + 512 ≤ 4096; omega
  · show 0 + 3840 ≤ 3840; omega
def ogrp (b : Fin 8) : Memref sig .tc .hbm S512x3840 .fp8e4m3 :=
  woM.slice (Rect.unit (s := S4096x3840) (ogrpOff b) S512x3840.size (ogrpOff_inb b)) (fun _ => rfl)
instance (b : Fin 8) : ClosedOff (ogrpOff b) := ⟨ogrpOff b, rfl⟩

/-! ## The trips' offsets in closed form -/

theorem trips0_eq : k0_t1_loop.trips = 8 := by decide
theorem trip0_lt (k : Fin k0_t1_loop.trips) : k.val < 8 := Nat.lt_of_lt_of_eq k.isLt trips0_eq

/-- Slot `k mod 6`: the one that trip `k` reads. -/
abbrev slO (k : ℕ) : Fin 6 := Ring.sl 6 k

theorem ooff4_eq : ∀ k : Fin k0_t1_loop.trips, k0_off4 k = semOff (slO k.val) := by decide +kernel
theorem ooff5_eq : ∀ k : Fin k0_t1_loop.trips, k0_off5 k = slotOff (slO k.val) := by decide +kernel
theorem ooff6_eq : ∀ k : Fin k0_t1_loop.trips, k0_off6 k = ogrpOff (Ring.bk 8 k.val) := by decide +kernel
theorem ooff7_eq : ∀ k : Fin k0_t1_loop.trips, k0_off7 k = ![k.val, 0, 0] := by decide +kernel
theorem ooff8_eq : ∀ k : Fin k0_t1_loop.trips, k0_off8 k = slotOff (slO k.val) := by decide +kernel
theorem ooff9_eq : ∀ k : Fin k0_t1_loop.trips, k0_off9 k = semOff (slO k.val) := by decide +kernel
theorem ooff10_eq : ∀ k : Fin k0_t1_loop.trips, k0_off10 k = slotOff (slO k.val) := by decide +kernel
theorem ooff11_eq : ∀ k : Fin k0_t1_loop.trips, k.val + 6 < 8 → k0_off11 k = ogrpOff (Ring.bk 8 (k.val + 6)) := by decide +kernel
theorem ooff12_eq : ∀ k : Fin k0_t1_loop.trips, k0_off12 k = semOff (slO k.val) := by decide +kernel
theorem ooff13_eq : ∀ k : Fin k0_t1_loop.trips, k0_off13 k = slotOff (slO k.val) := by decide +kernel
theorem ooff14_eq : ∀ k : Fin k0_t1_loop.trips, ¬ k.val + 6 < 8 → k0_off14 k = grpOff (Ring.bk 30 (k.val - 2)) := by decide +kernel
theorem ocond_iff : ∀ k : Fin k0_t1_loop.trips, k0_cond1 k = 1#1 ↔ k.val + 6 < 8 := by decide +kernel
theorem ocond2_iff : ∀ k : Fin k0_t1_loop.trips, k0_cond2 k = 1#1 ↔ ¬ k.val + 6 < 8 := by decide +kernel

instance (k : Fin k0_t1_loop.trips) : ClosedOff (k0_off5 k) := ⟨slotOff (slO k.val), ooff5_eq k⟩
instance (k : Fin k0_t1_loop.trips) : ClosedOff (k0_off7 k) := ⟨_, ooff7_eq k⟩
instance (k : Fin k0_t1_loop.trips) : ClosedOff (k0_off8 k) := ⟨slotOff (slO k.val), ooff8_eq k⟩
instance (k : Fin k0_t1_loop.trips) : ClosedOff (k0_off10 k) := ⟨slotOff (slO k.val), ooff10_eq k⟩
instance (k : Fin k0_t1_loop.trips) : ClosedOff (k0_off13 k) := ⟨slotOff (slO k.val), ooff13_eq k⟩

/-! ### The printed slices are the canonical names -/

theorem ogrp_congr {off : Fin 2 → Nat} {b : Fin 8} (e : off = ogrpOff b) (hh hs) :
    woM.slice (Rect.unit (s := S4096x3840) off S512x3840.size hh) hs = ogrp b :=
  Memref.slice_unit_congr _ e _ _ _ (fun _ => rfl)
@[sl_canon] theorem ogrpL0 (hh hs) : woM.slice (Rect.unit (s := S4096x3840) ![0, 0] S512x3840.size hh) hs = ogrp 0 := ogrp_congr (by decide) _ _
@[sl_canon] theorem ogrpL1 (hh hs) : woM.slice (Rect.unit (s := S4096x3840) ![512, 0] S512x3840.size hh) hs = ogrp 1 := ogrp_congr (by decide) _ _
@[sl_canon] theorem ogrpL2 (hh hs) : woM.slice (Rect.unit (s := S4096x3840) ![1024, 0] S512x3840.size hh) hs = ogrp 2 := ogrp_congr (by decide) _ _
@[sl_canon] theorem ogrpL3 (hh hs) : woM.slice (Rect.unit (s := S4096x3840) ![1536, 0] S512x3840.size hh) hs = ogrp 3 := ogrp_congr (by decide) _ _
@[sl_canon] theorem ogrpL4 (hh hs) : woM.slice (Rect.unit (s := S4096x3840) ![2048, 0] S512x3840.size hh) hs = ogrp 4 := ogrp_congr (by decide) _ _
@[sl_canon] theorem ogrpL5 (hh hs) : woM.slice (Rect.unit (s := S4096x3840) ![2560, 0] S512x3840.size hh) hs = ogrp 5 := ogrp_congr (by decide) _ _

@[sl_canon] theorem osemW (k : Fin k0_t1_loop.trips) (hh) :
    (cc0_scratch22.slice (Rect.unit (s := S6) (k0_off4 k) S1.size hh)).squeeze S_ squeezes_S1_S_ = csm (slO k.val) := csm_congr (ooff4_eq k) _
@[sl_canon] theorem oslotW (k : Fin k0_t1_loop.trips) (hh hs) :
    (wb.slice (Rect.unit (s := S6x512x3840) (k0_off5 k) S1x512x3840.size hh) hs).squeeze S512x3840 squeezes_S1x512x3840_S512x3840 = rslot (slO k.val) := rslot_congr (ooff5_eq k) _ _
@[sl_canon] theorem ogrpW (k : Fin k0_t1_loop.trips) (hh hs) :
    woM.slice (Rect.unit (s := S4096x3840) (k0_off6 k) S512x3840.size hh) hs = ogrp (Ring.bk 8 k.val) := ogrp_congr (ooff6_eq k) _ _
@[sl_canon] theorem osemI (k : Fin k0_t1_loop.trips) (hh) :
    (cc0_scratch22.slice (Rect.unit (s := S6) (k0_off9 k) S1.size hh)).squeeze S_ squeezes_S1_S_ = csm (slO k.val) := csm_congr (ooff9_eq k) _
@[sl_canon] theorem oslotI (k : Fin k0_t1_loop.trips) (hh hs) :
    (wb.slice (Rect.unit (s := S6x512x3840) (k0_off10 k) S1x512x3840.size hh) hs).squeeze S512x3840 squeezes_S1x512x3840_S512x3840 = rslot (slO k.val) := rslot_congr (ooff10_eq k) _ _
@[sl_canon] theorem ogrpI (k : Fin k0_t1_loop.trips) (hk : k.val + 6 < 8) (hh hs) :
    woM.slice (Rect.unit (s := S4096x3840) (k0_off11 k) S512x3840.size hh) hs = ogrp (Ring.bk 8 (k.val + 6)) := ogrp_congr (ooff11_eq k hk) _ _
@[sl_canon] theorem osemD (k : Fin k0_t1_loop.trips) (hh) :
    (cc0_scratch22.slice (Rect.unit (s := S6) (k0_off12 k) S1.size hh)).squeeze S_ squeezes_S1_S_ = csm (slO k.val) := csm_congr (ooff12_eq k) _
@[sl_canon] theorem oslotD (k : Fin k0_t1_loop.trips) (hh hs) :
    (wb.slice (Rect.unit (s := S6x512x3840) (k0_off13 k) S1x512x3840.size hh) hs).squeeze S512x3840 squeezes_S1x512x3840_S512x3840 = rslot (slO k.val) := rslot_congr (ooff13_eq k) _ _
@[sl_canon] theorem ogrpD (k : Fin k0_t1_loop.trips) (hk : ¬ k.val + 6 < 8) (hh hs) :
    wM.slice (Rect.unit (s := S15360x3840) (k0_off14 k) S512x3840.size hh) hs = grp (Ring.bk 30 (k.val - 2)) := grp_congr (ooff14_eq k hk) _ _

/-! ## The pieces -/

section Pieces
variable (c : Dev nD) (XO : Buf (Elt F) (woM.view.loc (c : Thread nD τ))) (XW : Buf (Elt F) (wM.view.loc (c : Thread nD τ)))

/-- Block `b` at home. -/
abbrev ohomeP (b : Fin 8) : sProp 𝕄 := (ogrp b).view.loc (c : Thread nD τ) ↦[(ogrp b).view.set]{fullShare} XO
/-- Block `b`'s words as a slot's payload. -/
abbrev opayload (b : Fin 8) : S512x3840.Idx → Elt F .fp8e4m3 := ReadAs.same.apply ((ogrp b).view.read (Elt F) XO)
/-- What block `b`'s transfer leaves in slot `s`. -/
abbrev olanded (s : Fin 6) (b : Fin 8) (f : Buf (Elt F) ((rslot s).view.loc (c : Thread nD τ))) : Buf (Elt F) ((rslot s).view.loc (c : Thread nD τ)) :=
  (rslot s).view.writes (Elt F) f [⟨Rect.whole S512x3840, opayload c XO b⟩]
/-- Slot `s` in flight with block `b`, issued over `f`; -/
abbrev oflightP (s : Fin 6) (b : Fin 8) (f : Buf (Elt F) ((rslot s).view.loc (c : Thread nD τ))) : sProp 𝕄 :=
  Transfers.Flight countersEmb (c : Thread nD τ) (SemLoc.dma (csm s).sem) () 61440 iprop(slotP c s (olanded c XO s b f) ∗ ohomeP c XO b)
/-- over anything. -/
def oinflP (s : Fin 6) (b : Fin 8) : sProp 𝕄 := iprop(∃ f, oflightP c XO s b f)
/-- The slot that carries the `p`-th block of the two weights' eight and thirty, in their order. -/
def oroleP (p : ℕ) : sProp 𝕄 := if p < 8 then oinflP c XO (slO p) (Ring.bk 8 p) else inflP c XW (slO p) (Ring.bk 30 (p - 8))
/-- The down projection's blocks at home before trip `k`. -/
abbrev dset (k : ℕ) : Finset (Fin 30) := Finset.univ.filter (fun b => k ≤ b.val + 2)

theorem oroleP_lt (p : ℕ) (h : p < 8) : oroleP c XO XW p = oinflP c XO (slO p) (Ring.bk 8 p) := if_pos h
theorem oroleP_ge (p : ℕ) (h : ¬ p < 8) : oroleP c XO XW p = inflP c XW (slO p) (Ring.bk 30 (p - 8)) := if_neg h

theorem ohomes_here (k : ℕ) (hk : k + 6 < 8) :
    bigSep (Ring.homeSet 6 k) (ohomeP c XO) = iprop(ohomeP c XO (Ring.bk 8 (k + 6)) ∗ bigSep ((Ring.homeSet 6 k).erase (Ring.bk 8 (k + 6))) (ohomeP c XO)) := by
  conv_lhs => rw [Ring.homeSet_out 6 k hk, bigSep_insert (Ring.bkL_not_mem_erase 6 k)]
  rfl
theorem ohomes_next (k : ℕ) (hk : k + 6 < 8) :
    bigSep (Ring.homeSet 6 (k + 1)) (ohomeP c XO) = iprop(ohomeP c XO (Ring.bk 8 k) ∗ bigSep ((Ring.homeSet 6 k).erase (Ring.bk 8 (k + 6))) (ohomeP c XO)) := by
  conv_lhs => rw [Ring.homeSet_succ 6 k hk, bigSep_insert (Ring.bk_not_mem_erase 6 k (by omega) (by decide))]
  rfl
theorem ohomes_tail (k : ℕ) (hk : 8 ≤ k + 6) (hp : k < 8) :
    bigSep (Ring.homeSet 6 (k + 1)) (ohomeP c XO) = iprop(ohomeP c XO (Ring.bk 8 k) ∗ bigSep (Ring.homeSet 6 k) (ohomeP c XO)) := by
  conv_lhs => rw [Ring.homeSet_succ_tail 6 k hk hp, bigSep_insert (Ring.bk_not_mem_homeSet 6 k hp (by decide))]
  rfl

theorem dset_same (k : ℕ) (hk : k + 6 < 8) : dset (k + 1) = dset k := by
  ext b; simp only [dset, Finset.mem_filter, Finset.mem_univ, true_and]; omega
theorem dset_out (k : ℕ) (hk : 8 ≤ k + 6) (hp : k < 8) : dset k = insert (Ring.bk 30 (k - 2)) (dset (k + 1)) := by
  have : ∀ j : Fin 8, 8 ≤ j.val + 6 → dset j.val = insert (Ring.bk 30 (j.val - 2)) (dset (j.val + 1)) := by decide +kernel
  exact this ⟨k, hp⟩ hk
theorem dset_not_mem (k : ℕ) (hk : 8 ≤ k + 6) (hp : k < 8) : Ring.bk 30 (k - 2) ∉ dset (k + 1) := by
  have : ∀ j : Fin 8, 8 ≤ j.val + 6 → Ring.bk 30 (j.val - 2) ∉ dset (j.val + 1) := by decide +kernel
  exact this ⟨k, hp⟩ hk
/-- Block `k - 2` of the down projection's weight, about to go out, beside the rest. -/
theorem dhomes_out (k : ℕ) (hk : 8 ≤ k + 6) (hp : k < 8) :
    bigSep (dset k) (homeP c XW) = iprop(homeP c XW (Ring.bk 30 (k - 2)) ∗ bigSep (dset (k + 1)) (homeP c XW)) := by
  rw [dset_out k hk hp, bigSep_insert (dset_not_mem k hk hp)]
  rfl

omit [FloatOps F] in
theorem slO_add6 (k : ℕ) : slO (k + 6) = slO k := Ring.sl_add _ _

end Pieces

end Cert.Proof.KernelIdeal

end
-- ==== Proof.KernelIdeal.TripO.lean ====
/-
  One trip of the output projection's loop, at a symbolic trip number: wait for block `k` of the weight, add the product of
  the attention codes' tile `k` with it to the accumulator, and issue the next block into the slot that was read: block
  `k + 6` of this weight, or past its last block, block `k - 2` of the down projection's.
-/
module

public import proofs.«01_k».proof.Proof.KernelIdeal.RingO

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section TripO

variable (c : Dev nD) (XO : Buf (Elt F) (woM.view.loc (c : Thread nD τ))) (XW : Buf (Elt F) (wM.view.loc (c : Thread nD τ)))
  (arg0 : Memref sig .tc .vmem S6x4x3840 .bf16) (harg0 : arg0.IsWhole) (arg1 : Memref sig .tc .vmem S8x32x512 .fp8e4m3) (harg1 : arg1.IsWhole)
  (arg2 : Memref sig .tc .vmem S24x128 .f32) (harg2 : arg2.IsWhole)
  (ga : Buf (Elt F) (arg1.view.loc (c : Thread nD τ)))

/-- Tile `k` of the attention's codes. -/
def aqOf (k : Fin k0_t1_loop.trips) : Vec F S1x32x512 .fp8e4m3 :=
  arg1.view.readAt (Elt F) (Rect.unit (s := S8x32x512) (k0_off7 k) S1x32x512.size (k0_off7_inb k)).toLoadRect ga

/-- Block `k` of the weight as the trip loads it. -/
def oslab (k : ℕ) : Vec F S1x512x3840 .fp8e4m3 := shapeCast S1x512x3840 (opayload c XO (Ring.bk 8 k)) (by decide)

/-- The accumulator before trip `k`. -/
def oaccAt : ℕ → Vec F S32x3840 .f32
  | 0 => k0_pay11 (F := F)
  | k + 1 => if h : k < k0_t1_loop.trips then k0_pay12 (oaccAt k) (aqOf c arg1 ga ⟨k, h⟩) (oslab c XO k) else oaccAt k

abbrev tripO (k : Fin k0_t1_loop.trips) : Prog (TpuEff nD τ sig (Elt F) Λ₀ .tc) Unit :=
  k0_t1_body (F := F) arg0 harg0 arg1 harg1 arg2 harg2 woM (Memref.isWhole_whole _) soM (Memref.isWhole_whole _) pawM (Memref.isWhole_whole _)
    pfwM (Memref.isWhole_whole _) guM (Memref.isWhole_whole _) sguM (Memref.isWhole_whole _)
    wM (Memref.isWhole_whole _) sdnM (Memref.isWhole_whole _) powM (Memref.isWhole_whole _)
    hidM (Memref.isWhole_whole _) oM (Memref.isWhole_whole _) dM (Memref.isWhole_whole _) fcM (Memref.isWhole_whole _) fsM (Memref.isWhole_whole _)
    codM (Memref.isWhole_whole _) sclM (Memref.isWhole_whole _)
    soV (Memref.isWhole_whole _) pawV (Memref.isWhole_whole _) pfwV (Memref.isWhole_whole _) sguV (Memref.isWhole_whole _) sdnV (Memref.isWhole_whole _) powV (Memref.isWhole_whole _)
    wa (Memref.isWhole_whole _) wb (Memref.isWhole_whole _) xresV (Memref.isWhole_whole _) oacc (Memref.isWhole_whole _) fq (Memref.isWhole_whole _)
    actV (Memref.isWhole_whole _) amax (Memref.isWhole_whole _) hidV (Memref.isWhole_whole _) oV (Memref.isWhole_whole _) dV (Memref.isWhole_whole _)
    fcV (Memref.isWhole_whole _) fsV (Memref.isWhole_whole _) codV (Memref.isWhole_whole _) sclV (Memref.isWhole_whole _)
    cc0_scratch20 cc0_scratch21 cc0_scratch22 cc0_scratch23 k ()

/-- The attention codes' staging buffer. -/
abbrev aqP : sProp 𝕄 := arg1.view.loc (c : Thread nD τ) ↦[arg1.view.set]{fullShare} ga

/-- A load of the slot that block `k` landed in reads the block. -/
theorem load_slotO (k : Fin k0_t1_loop.trips) (f : wb.view.ty.Contents (Elt F))
    (hf : (rslot (slO k.val)).view.read (Elt F) f = opayload c XO (Ring.bk 8 k.val)) :
    View.readAt (Elt F) wb.view (Rect.unit (s := S6x512x3840) (k0_off8 k) S1x512x3840.size (k0_off8_inb k)).toLoadRect f = oslab c XO k.val := by
  rw [View.readAt_unit_congr wb.view (ooff8_eq k) _ (slotOff_inb _) f, oslab, ← hf]
  exact ((shapeCast_comp _ shapeCasts_S1x512x3840_S512x3840 _).trans (shapeCast_id _ _)).symm

theorem oacc_succ (k : Fin k0_t1_loop.trips) :
    oaccAt c XO arg1 ga (k.val + 1) = k0_pay12 (oaccAt c XO arg1 ga k.val) (aqOf c arg1 ga k) (oslab c XO k.val) := by
  rw [oaccAt, dif_pos k.isLt]

/-- Trip `k`'s store into the accumulator. -/
theorem oaccO_step (k : Fin k0_t1_loop.trips) (f : oacc.view.ty.Contents (Elt F)) (v : Vec F S1x512x3840 .fp8e4m3)
    (hf : f = oaccAt c XO arg1 ga k.val) (hv : v = oslab c XO k.val) :
    oacc.view.writes (Elt F) f [⟨Rect.unit ![0, 0] S32x3840.size inb_S32x3840_S32x3840_0_0,
        k0_pay12 (oacc.view.readAt (Elt F) (Rect.unit (s := S32x3840) ![0, 0] S32x3840.size inb_S32x3840_S32x3840_0_0).toLoadRect f)
          (aqOf c arg1 ga k) v⟩]
      = oaccAt c XO arg1 ga (k.val + 1) := by
  rw [oacc_store, oacc_load, hf, hv, oacc_succ]

/-- What the trips hold before trip `k`, the slots apart. -/
abbrev heldO (k : ℕ) : sProp 𝕄 :=
  iprop(aqP c arg1 ga ∗ (∃ f, held c cc0_scratch9 f ∗ ⌜f = oaccAt c XO arg1 ga k⌝) ∗ ∃ W, owes (c : Thread nD τ) 0 W)

/-- A flight of this weight's block over a slot that another block had landed in. -/
theorem oinfl_of_flight (s : Fin 6) (b b' : Fin 8) (f : Buf (Elt F) ((rslot s).view.loc (c : Thread nD τ))) (w : S512x3840.Idx → Elt F .fp8e4m3)
    (hw : w = opayload c XO b') :
    Transfers.Flight countersEmb (c : Thread nD τ) (SemLoc.dma (csm s).sem) () 61440
      iprop(slotP c s ((rslot s).view.writes (Elt F) f [⟨Rect.whole S512x3840, w⟩, ⟨Rect.whole S512x3840, opayload c XO b⟩]) ∗ ohomeP c XO b')
      ⊢ oinflP c XO s b' := by
  subst hw
  unfold oinflP
  iintro H
  iexists (olanded c XO s b f)
  unfold oflightP olanded
  rw [writes_writes]
  iexact H
/-- The same of the down projection's weight's block. -/
theorem oinfl_of_flightD (s : Fin 6) (b : Fin 8) (b' : Fin 30) (f : Buf (Elt F) ((rslot s).view.loc (c : Thread nD τ))) (w : S512x3840.Idx → Elt F .fp8e4m3)
    (hw : w = payload c XW b') :
    Transfers.Flight countersEmb (c : Thread nD τ) (SemLoc.dma (csm s).sem) () 61440
      iprop(slotP c s ((rslot s).view.writes (Elt F) f [⟨Rect.whole S512x3840, w⟩, ⟨Rect.whole S512x3840, opayload c XO b⟩]) ∗ homeP c XW b')
      ⊢ inflP c XW s b' := by
  subst hw
  unfold inflP
  iintro H
  iexists (olanded c XO s b f)
  unfold flightP olanded landed
  rw [writes_writes]
  iexact H

/-- A trip that issues block `k + 6`. -/
theorem tripO_issue (k : Fin k0_t1_loop.trips) (hk : k.val + 6 < 8) :
    iprop(heldO c XO arg1 ga k.val ∗ ohomeP c XO (Ring.bk 8 (k.val + 6)) ∗ oinflP c XO (slO k.val) (Ring.bk 8 k.val))
    ⊢ wp frame (wpE (defs₀ (F := F)) 𝒱₀ (c : Thread nD τ) none) Set.univ (tripO arg0 harg0 arg1 harg1 arg2 harg2 k)
        (fun _ => iprop(heldO c XO arg1 ga (k.val + 1) ∗ ohomeP c XO (Ring.bk 8 k.val) ∗ oinflP c XO (slO k.val) (Ring.bk 8 (k.val + 6)))) := by
  have hc : k0_cond1 k = 1#1 := (ocond_iff k).2 hk
  have hc2 : ¬ k0_cond2 k = 1#1 := fun h => (ocond2_iff k).1 h hk
  conv_lhs => unfold oinflP
  iintro ⟨⟨HA, ⟨%f12, HO, %hO⟩, ⟨%W, HW⟩⟩, Hg, ⟨%f0, HF0⟩⟩
  dsimp only [tripO]
  sl_unfold [k0_t1_body]
  sl_exec
  sl_step
  have ev : tripO_issue.sl.v352 c XO k = oslab c XO k.val := load_slotO c XO k _ (View.read_writes_whole _ _ _)
  have eo := oaccO_step c XO arg1 ga k f12 (tripO_issue.sl.v352 c XO k) hO ev
  isplitl [HA HO HW]
  · isplitl [HA]; · iexact HA
    isplitl [HO]
    · iexists _; isplitl [HO]; · iexact HO
      ipureintro; exact eo
    iexists _; iexact HW
  isplitl [HF0_src]; · iexact HF0_src
  iapply (oinfl_of_flight c XO (slO k.val) (Ring.bk 8 k.val) (Ring.bk 8 (k.val + 6)) (rslot (slO k.val)).view.junk _ rfl)
  iexact HF0

/-- A trip that issues block `k - 2` of the down projection's weight. -/
theorem tripO_down (k : Fin k0_t1_loop.trips) (hk : ¬ k.val + 6 < 8) :
    iprop(heldO c XO arg1 ga k.val ∗ homeP c XW (Ring.bk 30 (k.val - 2)) ∗ oinflP c XO (slO k.val) (Ring.bk 8 k.val))
    ⊢ wp frame (wpE (defs₀ (F := F)) 𝒱₀ (c : Thread nD τ) none) Set.univ (tripO arg0 harg0 arg1 harg1 arg2 harg2 k)
        (fun _ => iprop(heldO c XO arg1 ga (k.val + 1) ∗ ohomeP c XO (Ring.bk 8 k.val) ∗ inflP c XW (slO k.val) (Ring.bk 30 (k.val - 2)))) := by
  have hc : ¬ k0_cond1 k = 1#1 := fun h => hk ((ocond_iff k).1 h)
  have hc2 : k0_cond2 k = 1#1 := (ocond2_iff k).2 hk
  conv_lhs => unfold oinflP
  iintro ⟨⟨HA, ⟨%f12, HO, %hO⟩, ⟨%W, HW⟩⟩, Hg, ⟨%f0, HF0⟩⟩
  dsimp only [tripO]
  sl_unfold [k0_t1_body]
  sl_exec
  sl_step
  have ev : tripO_down.sl.v352 c XO k = oslab c XO k.val := load_slotO c XO k _ (View.read_writes_whole _ _ _)
  have eo := oaccO_step c XO arg1 ga k f12 (tripO_down.sl.v352 c XO k) hO ev
  isplitl [HA HO HW]
  · isplitl [HA]; · iexact HA
    isplitl [HO]
    · iexists _; isplitl [HO]; · iexact HO
      ipureintro; exact eo
    iexists _; iexact HW
  isplitl [HF0_src]; · iexact HF0_src
  iapply (oinfl_of_flightD c XO XW (slO k.val) (Ring.bk 8 k.val) (Ring.bk 30 (k.val - 2)) (rslot (slO k.val)).view.junk _ rfl)
  iexact HF0

/-! ## The loop's invariant -/

/-- Before trip `k`: the sum so far, both weights' blocks at home, and the six slots. -/
abbrev invO (k : ℕ) : sProp 𝕄 :=
  iprop(heldO c XO arg1 ga k ∗ bigSep (Ring.homeSet 6 k) (ohomeP c XO) ∗ bigSep (dset k) (homeP c XW)
    ∗ oroleP c XO XW k ∗ oroleP c XO XW (k + 1) ∗ oroleP c XO XW (k + 2) ∗ oroleP c XO XW (k + 3) ∗ oroleP c XO XW (k + 4) ∗ oroleP c XO XW (k + 5))

theorem orole_in (k : ℕ) (hk : k + 6 < 8) : oinflP c XO (slO k) (Ring.bk 8 (k + 6)) = oroleP c XO XW (k + 6) := by
  rw [oroleP_lt c XO XW (k + 6) hk, slO_add6]
theorem orole_down (k : ℕ) (hk : ¬ k + 6 < 8) : inflP c XW (slO k) (Ring.bk 30 (k - 2)) = oroleP c XO XW (k + 6) := by
  rw [oroleP_ge c XO XW (k + 6) hk, slO_add6, show k + 6 - 8 = k - 2 from by omega]

theorem tripO_step (k : Fin k0_t1_loop.trips) :
    invO c XO XW arg1 ga k.val ⊢ wp frame (wpE (defs₀ (F := F)) 𝒱₀ (c : Thread nD τ) none) Set.univ
      (tripO arg0 harg0 arg1 harg1 arg2 harg2 k) (fun _ => invO c XO XW arg1 ga (k.val + 1)) := by
  have hk8 := trip0_lt k
  unfold invO
  rw [oroleP_lt c XO XW k.val hk8]
  have e : k.val + 1 + 5 = k.val + 6 := by omega
  by_cases hk : k.val + 6 < 8
  · rw [ohomes_here c XO k.val hk, ohomes_next c XO k.val hk, dset_same k.val hk]
    rw [e, ← orole_in c XO XW k.val hk]
    iintro ⟨HH, ⟨Hg, Hr⟩, Hd, H0, H1, H2, H3, H4, H5⟩
    iapply (wp_wand_r Idealize.ShloMosaic.frame (wpE (defs₀ (F := F)) 𝒱₀ (c : Thread nD τ) none) Set.univ)
    isplitl [HH Hg H0]
    · iapply (tripO_issue c XO arg0 harg0 arg1 harg1 arg2 harg2 ga k hk)
      isplitl [HH]; · iexact HH
      isplitl [Hg]; · iexact Hg
      iexact H0
    · iintro %_ ⟨HH, Hg, H6⟩
      isplitl [HH]; · iexact HH
      isplitl [Hg Hr]; · isplitl [Hg] <;> iassumption
      isplitl [Hd]; · iexact Hd
      isplitl [H1]; · iexact H1
      isplitl [H2]; · iexact H2
      isplitl [H3]; · iexact H3
      isplitl [H4]; · iexact H4
      isplitl [H5]; · iexact H5
      iexact H6
  · rw [ohomes_tail c XO k.val (by omega) hk8, dhomes_out c XW k.val (by omega) hk8]
    rw [e, ← orole_down c XO XW k.val hk]
    iintro ⟨HH, Hh, ⟨Hg, Hd⟩, H0, H1, H2, H3, H4, H5⟩
    iapply (wp_wand_r Idealize.ShloMosaic.frame (wpE (defs₀ (F := F)) 𝒱₀ (c : Thread nD τ) none) Set.univ)
    isplitl [HH Hg H0]
    · iapply (tripO_down c XO XW arg0 harg0 arg1 harg1 arg2 harg2 ga k hk)
      isplitl [HH]; · iexact HH
      isplitl [Hg]; · iexact Hg
      iexact H0
    · iintro %_ ⟨HH, Hg, H6⟩
      isplitl [HH]; · iexact HH
      isplitl [Hg Hh]; · isplitl [Hg] <;> iassumption
      isplitl [Hd]; · iexact Hd
      isplitl [H1]; · iexact H1
      isplitl [H2]; · iexact H2
      isplitl [H3]; · iexact H3
      isplitl [H4]; · iexact H4
      isplitl [H5]; · iexact H5
      iexact H6

/-! ## The loop's end -/

theorem dset_zero : dset 0 = Finset.univ := by decide
theorem dset_end : dset 8 = (Ring.homeSet 6 0 : Finset (Fin 30)) := by decide
theorem ohomes_end : bigSep (Ring.homeSet 6 8) (ohomeP c XO) = bigSep Finset.univ (ohomeP c XO) := by
  have : (Ring.homeSet 6 8 : Finset (Fin 8)) = Finset.univ := by decide
  rw [this]
/-- Past this weight's blocks the slots carry the down projection's. -/
theorem orole_next (p : ℕ) (hp : p < 30) : oroleP c XO XW (8 + p) = roleP c XW p := by
  rw [oroleP_ge c XO XW (8 + p) (by omega), roleP_lt c XW p hp, show 8 + p - 8 = p from by omega,
    show slO (8 + p) = slK p from by show Ring.sl 6 (8 + p) = Ring.sl 6 (p + 2); rw [show 8 + p = p + 2 + 6 from by omega, Ring.sl_add]]
/-- A flight issued in the prologue is the invariant's slot for its block. -/
theorem orole_of_flight (p : ℕ) (hp : p < 8) (s : Fin 6) (b : Fin 8) (hs : slO p = s) (hb : Ring.bk 8 p = b)
    (f : Buf (Elt F) ((rslot s).view.loc (c : Thread nD τ))) (w : S512x3840.Idx → Elt F .fp8e4m3) (hw : w = opayload c XO b) :
    Transfers.Flight countersEmb (c : Thread nD τ) (SemLoc.dma (csm s).sem) () 61440
      iprop(slotP c s ((rslot s).view.writes (Elt F) f [⟨Rect.whole S512x3840, w⟩]) ∗ ohomeP c XO b) ⊢ oroleP c XO XW p := by
  subst hw hs hb
  rw [oroleP_lt c XO XW p hp]
  unfold oinflP
  iintro H
  iexists f
  iexact H

/-- What the loop leaves. -/
theorem loopO_end :
    invO c XO XW arg1 ga k0_t1_loop.trips ⊢
      iprop(heldO c XO arg1 ga 8 ∗ bigSep Finset.univ (ohomeP c XO) ∗ bigSep (Ring.homeSet 6 0) (homeP c XW)
        ∗ roleP c XW 0 ∗ roleP c XW 1 ∗ roleP c XW 2 ∗ roleP c XW 3 ∗ roleP c XW 4 ∗ roleP c XW 5) := by
  rw [trips0_eq]
  unfold invO
  rw [ohomes_end, dset_end, ← orole_next c XO XW 0 (by omega), ← orole_next c XO XW 1 (by omega), ← orole_next c XO XW 2 (by omega),
    ← orole_next c XO XW 3 (by omega), ← orole_next c XO XW 4 (by omega), ← orole_next c XO XW 5 (by omega)]

end TripO

end Cert.Proof.KernelIdeal

end
-- ==== Proof.KernelIdeal.Body.lean ====
/-
  The kernel's body on given staging buffers: the six late copies on one semaphore, both rings' first blocks, the output
  projection, the residual's sum, the norm and the quantised input, the feed-forward block's two loops, the epilogue, and
  the seven result copies. What it leaves in each result array is named here.
-/
module

public import proofs.«01_k».proof.Proof.KernelIdeal.TripO
public import Idealize.ShloMosaic.Lib.MixedBatch

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Body

variable (c : Dev nD) (XO : Buf (Elt F) (woM.view.loc (c : Thread nD τ))) (XW : Buf (Elt F) (wM.view.loc (c : Thread nD τ)))
  (XG : Buf (Elt F) (guM.view.loc (c : Thread nD τ)))
  (XB : soM.view.ty.Contents (Elt F)) (XN : pawM.view.ty.Contents (Elt F))
  (XF : pfwM.view.ty.Contents (Elt F)) (XQ : sguM.view.ty.Contents (Elt F))
  (XS : sdnM.view.ty.Contents (Elt F)) (XP : powM.view.ty.Contents (Elt F))
  (arg0 : Memref sig .tc .vmem S6x4x3840 .bf16) (harg0 : arg0.IsWhole) (arg1 : Memref sig .tc .vmem S8x32x512 .fp8e4m3) (harg1 : arg1.IsWhole)
  (arg2 : Memref sig .tc .vmem S24x128 .f32) (harg2 : arg2.IsWhole)
  (g0 : Buf (Elt F) (arg0.view.loc (c : Thread nD τ))) (ga : Buf (Elt F) (arg1.view.loc (c : Thread nD τ)))
  (gs : Buf (Elt F) (arg2.view.loc (c : Thread nD τ)))
  (r1 r2 r3 : FVec F S24x3840 .f32)

abbrev bodyG : Prog (TpuEff nD τ sig (Elt F) Λ₀ .tc) PUnit :=
  cc0_merged_attention_layer (F := F) arg0 harg0 arg1 harg1 arg2 harg2 woM (Memref.isWhole_whole _) soM (Memref.isWhole_whole _) pawM (Memref.isWhole_whole _)
    pfwM (Memref.isWhole_whole _) guM (Memref.isWhole_whole _) sguM (Memref.isWhole_whole _)
    wM (Memref.isWhole_whole _) sdnM (Memref.isWhole_whole _) powM (Memref.isWhole_whole _)
    hidM (Memref.isWhole_whole _) oM (Memref.isWhole_whole _) dM (Memref.isWhole_whole _) fcM (Memref.isWhole_whole _) fsM (Memref.isWhole_whole _)
    codM (Memref.isWhole_whole _) sclM (Memref.isWhole_whole _)
    soV (Memref.isWhole_whole _) pawV (Memref.isWhole_whole _) pfwV (Memref.isWhole_whole _) sguV (Memref.isWhole_whole _) sdnV (Memref.isWhole_whole _) powV (Memref.isWhole_whole _)
    wa (Memref.isWhole_whole _) wb (Memref.isWhole_whole _) xresV (Memref.isWhole_whole _) oacc (Memref.isWhole_whole _) fq (Memref.isWhole_whole _)
    actV (Memref.isWhole_whole _) amax (Memref.isWhole_whole _) hidV (Memref.isWhole_whole _) oV (Memref.isWhole_whole _) dV (Memref.isWhole_whole _)
    fcV (Memref.isWhole_whole _) fsV (Memref.isWhole_whole _) codV (Memref.isWhole_whole _) sclV (Memref.isWhole_whole _)
    cc0_scratch20 cc0_scratch21 cc0_scratch22 cc0_scratch23

/-- The layer input's and the attention scale's staging buffers. -/
abbrev xP : sProp 𝕄 := arg0.view.loc (c : Thread nD τ) ↦[arg0.view.set]{fullShare} g0
abbrev asP : sProp 𝕄 := arg2.view.loc (c : Thread nD τ) ↦[arg2.view.set]{fullShare} gs

/-- Result semaphore `n`. -/
def osm (n : Fin 7) : DmaSems sig S_ :=
  (cc0_scratch23.slice (Rect.unit (s := S7) ![n.val] S1.size (by intro a; fin_cases a; show n.val + 1 ≤ 7; omega))).squeeze S_ squeezes_S1_S_
@[sl_canon] theorem osm0 (hh) : (cc0_scratch23.slice (Rect.unit (s := S7) ![0] S1.size hh)).squeeze S_ squeezes_S1_S_ = osm 0 := rfl
@[sl_canon] theorem osm1 (hh) : (cc0_scratch23.slice (Rect.unit (s := S7) ![1] S1.size hh)).squeeze S_ squeezes_S1_S_ = osm 1 := rfl
@[sl_canon] theorem osm2 (hh) : (cc0_scratch23.slice (Rect.unit (s := S7) ![2] S1.size hh)).squeeze S_ squeezes_S1_S_ = osm 2 := rfl
@[sl_canon] theorem osm3 (hh) : (cc0_scratch23.slice (Rect.unit (s := S7) ![3] S1.size hh)).squeeze S_ squeezes_S1_S_ = osm 3 := rfl
@[sl_canon] theorem osm4 (hh) : (cc0_scratch23.slice (Rect.unit (s := S7) ![4] S1.size hh)).squeeze S_ squeezes_S1_S_ = osm 4 := rfl
@[sl_canon] theorem osm5 (hh) : (cc0_scratch23.slice (Rect.unit (s := S7) ![5] S1.size hh)).squeeze S_ squeezes_S1_S_ = osm 5 := rfl
@[sl_canon] theorem osm6 (hh) : (cc0_scratch23.slice (Rect.unit (s := S7) ![6] S1.size hh)).squeeze S_ squeezes_S1_S_ = osm 6 := rfl

abbrev ocellP (n : Fin 7) : sProp 𝕄 := semVal ((c : Thread nD τ), SemLoc.dma (osm n).sem) 0
abbrev lcellP : sProp 𝕄 := semVal ((c : Thread nD τ), SemLoc.dma cc0_scratch20.sem) 0
/-- A whole buffer at anything. -/
abbrev someP (b : Ref sig .tc) : sProp 𝕄 := iprop(∃ f, held (F := F) c b f)
abbrev sslotP (s : Fin 6) : sProp 𝕄 := iprop(∃ f, slotP (F := F) c s f)

/-- What the body is handed. -/
abbrev PRE (W : Waits sig Unit) : sProp 𝕄 :=
  iprop(xP c arg0 g0 ∗ aqP c arg1 ga ∗ asP c arg2 gs
    ∗ ohomeP c XO 0 ∗ ohomeP c XO 1 ∗ ohomeP c XO 2 ∗ ohomeP c XO 3 ∗ ohomeP c XO 4 ∗ ohomeP c XO 5 ∗ bigSep (Ring.homeSet 6 0) (ohomeP c XO) ∗ bigSep Finset.univ (homeP c XW)
    ∗ ahomeP c XG 0 ∗ ahomeP c XG 1 ∗ ahomeP c XG 2 ∗ ahomeP c XG 3 ∗ ahomeP c XG 4 ∗ ahomeP c XG 5 ∗ ahomeP c XG 6 ∗ ahomeP c XG 7 ∗ bigSep (Ring.homeSet 8 0) (ahomeP c XG)
    ∗ held c main_v0 XB ∗ held c main_v1 XN ∗ held c main_v2 XF ∗ held c main_v3 XQ ∗ held c main_v4 XS ∗ held c main_v5 XP
    ∗ someP c main_v6_0 ∗ someP c main_v6_1 ∗ someP c main_v6_2 ∗ someP c main_v6_3 ∗ someP c main_v6_4 ∗ someP c main_v6_5 ∗ someP c main_v6_6
    ∗ someP c cc0_scratch0 ∗ someP c cc0_scratch1 ∗ someP c cc0_scratch2 ∗ someP c cc0_scratch3 ∗ someP c cc0_scratch4 ∗ someP c cc0_scratch5 ∗ someP c cc0_scratch8 ∗ someP c cc0_scratch9 ∗ someP c cc0_scratch10 ∗ someP c cc0_scratch11 ∗ someP c cc0_scratch12 ∗ someP c cc0_scratch13 ∗ someP c cc0_scratch14 ∗ someP c cc0_scratch15 ∗ someP c cc0_scratch16 ∗ someP c cc0_scratch17 ∗ someP c cc0_scratch18 ∗ someP c cc0_scratch19
    ∗ sslotP c 0 ∗ sslotP c 1 ∗ sslotP c 2 ∗ sslotP c 3 ∗ sslotP c 4 ∗ sslotP c 5
    ∗ cellP c 0 ∗ cellP c 1 ∗ cellP c 2 ∗ cellP c 3 ∗ cellP c 4 ∗ cellP c 5
    ∗ afreeP c 0 ∗ afreeP c 1 ∗ afreeP c 2 ∗ afreeP c 3 ∗ afreeP c 4 ∗ afreeP c 5 ∗ afreeP c 6 ∗ afreeP c 7
    ∗ lcellP c ∗ ocellP c 0 ∗ ocellP c 1 ∗ ocellP c 2 ∗ ocellP c 3 ∗ ocellP c 4 ∗ ocellP c 5 ∗ ocellP c 6
    ∗ owes (c : Thread nD τ) 0 W)

/-! ## What the body computes -/

/-- The layer's input, in rows. -/
def r1Of : FVec F S24x3840 .f32 :=
  k0_pay10 (arg0.view.readAt (Elt F) (Rect.unit (s := S6x4x3840) ![0, 0, 0] S6x4x3840.size inb_S6x4x3840_S6x4x3840_0_0_0).toLoadRect g0)
/-- The output projection's accumulator, its 24 rows that are not padding. -/
def oaOf : Vec F S24x3840 .f32 :=
  oacc.view.readAt (Elt F) (Rect.unit (s := S32x3840) ![0, 0] S24x3840.size inb_S32x3840_S24x3840_0_0).toLoadRect (oaccAt c XO arg1 ga 8)
/-- The attention codes' scale, a column. -/
def asOf : Vec F S24x1 .f32 :=
  arg2.view.readAt (Elt F) (Rect.unit (s := S24x128) ![0, 0] S24x1.size inb_S24x128_S24x1_0_0).toLoadRect gs
/-- The output projection. -/
def oOf : FVec F S6x4x3840 .f32 := k0_pay14 (oaOf c XO arg1 ga) (asOf c arg2 gs) XB
/-- The output projection divided by its root mean square; -/
def r2Of : FVec F S24x3840 .f32 := k0_pay15 (oaOf c XO arg1 ga) (asOf c arg2 gs) XB
/-- and that norm's weight plus one. -/
def r3Of : FVec F S24x3840 .f32 := k0_pay16 XN
/-- The normed input's scale, a column; -/
def fcol : FVec F S24x1 .f32 := k0_pay20 r1 r2 r3 XF
/-- its codes, padded with eight rows of zeros. -/
def fpad : FVec F S32x3840 .fp8e4m3 := k0_pay21 r1 r2 r3 XF
/-- What the gate and up projections read. -/
def fqOf : fq.view.ty.Contents (Elt F) := k0_pay22 r1 r2 r3 XF
/-- The scale in all lanes. -/
def fsOut : FVec F S24x128 .f32 := k0_pay29 (fcol XF r1 r2 r3)
/-- The codes as the result has them. -/
def fcOf : S6x4x3840.Idx → Elt F .fp8e4m3 := fun i =>
  fpad XF r1 r2 r3 (fun a => match a with
    | ⟨0, _⟩ => ⟨4 * (i 0).val + (i 1).val, by have h0 : (i 0).val < 6 := (i 0).isLt; have h1 : (i 1).val < 4 := (i 1).isLt; show _ < 32; omega⟩
    | ⟨1, _⟩ => i 2)
/-- All the activations; -/
def actOf : actV.view.ty.Contents (Elt F) := actAll c XG (fqOf XF r1 r2 r3) (fsOut XF r1 r2 r3) XQ
/-- their lane maxima; -/
def lnOf : FVec F S24x128 .f32 := lanesAt c XG (fqOf XF r1 r2 r3) (fsOut XF r1 r2 r3) XQ 60
/-- the rows' maximum, in all lanes; -/
def gmOf : FVec F S24x128 .f32 := k0_pay37 (lnOf c XG XF XQ r1 r2 r3)
/-- the rows' scale, in all lanes. -/
def sclOf : FVec F S24x128 .f32 := k0_pay36 (lnOf c XG XF XQ r1 r2 r3)
/-- The accumulator after the last trip. -/
def accF : Vec F S32x3840 .f32 := acc c XW (actOf c XG XF XQ r1 r2 r3) (gmOf c XG XF XQ r1 r2 r3) 30
/-- Its 24 rows that are not padding. -/
def v75Of : Vec F S24x3840 .f32 :=
  oacc.view.readAt (Elt F) (Rect.unit (s := S32x3840) ![0, 0] S24x3840.size inb_S32x3840_S24x3840_0_0).toLoadRect (accF c XW XG XF XQ r1 r2 r3)
/-- The scale's first lane. -/
def v76Of : Vec F S24x1 .f32 :=
  sclV.view.readAt (Elt F) (Rect.unit (s := S24x128) ![0, 0] S24x1.size inb_S24x128_S24x1_0_0).toLoadRect (sclOf c XG XF XQ r1 r2 r3)
/-- The down projection. -/
def dOf : FVec F S6x4x3840 .f32 := k0_pay41 (v75Of c XW XG XF XQ r1 r2 r3) (v76Of c XG XF XQ r1 r2 r3) XS
/-- The hidden state. -/
def hidOf : FVec F S6x4x3840 .bf16 :=
  k0_pay42 (v75Of c XW XG XF XQ r1 r2 r3) (v76Of c XG XF XQ r1 r2 r3) XS (k0_pay18 r1 r2 r3) XP
/-- The activation's codes. -/
def codOf : S6x4x15360.Idx → Elt F .fp8e4m3 := codesAll c (actOf c XG XF XQ r1 r2 r3) (gmOf c XG XF XQ r1 r2 r3)

/-- What the body hands back. -/
abbrev POST : sProp 𝕄 :=
  iprop(xP c arg0 g0 ∗ aqP c arg1 ga ∗ asP c arg2 gs
    ∗ bigSep Finset.univ (ohomeP c XO) ∗ bigSep Finset.univ (homeP c XW) ∗ bigSep Finset.univ (ahomeP c XG)
    ∗ held c main_v0 XB ∗ held c main_v1 XN ∗ held c main_v2 XF ∗ held c main_v3 XQ ∗ held c main_v4 XS ∗ held c main_v5 XP
    ∗ held c main_v6_0 (hidOf c XW XG XF XQ XS XP (r1Of c arg0 g0) (r2Of c XO XB arg1 arg2 ga gs) (r3Of XN))
    ∗ held c main_v6_1 (oOf c XO XB arg1 arg2 ga gs)
    ∗ held c main_v6_2 (dOf c XW XG XF XQ XS (r1Of c arg0 g0) (r2Of c XO XB arg1 arg2 ga gs) (r3Of XN))
    ∗ held c main_v6_3 (fcOf XF (r1Of c arg0 g0) (r2Of c XO XB arg1 arg2 ga gs) (r3Of XN))
    ∗ held c main_v6_4 (fsOut XF (r1Of c arg0 g0) (r2Of c XO XB arg1 arg2 ga gs) (r3Of XN))
    ∗ held c main_v6_5 (codOf c XG XF XQ (r1Of c arg0 g0) (r2Of c XO XB arg1 arg2 ga gs) (r3Of XN))
    ∗ held c main_v6_6 (sclOf c XG XF XQ (r1Of c arg0 g0) (r2Of c XO XB arg1 arg2 ga gs) (r3Of XN))
    ∗ someP c cc0_scratch0 ∗ someP c cc0_scratch1 ∗ someP c cc0_scratch2 ∗ someP c cc0_scratch3 ∗ someP c cc0_scratch4 ∗ someP c cc0_scratch5 ∗ someP c cc0_scratch8 ∗ someP c cc0_scratch9 ∗ someP c cc0_scratch10 ∗ someP c cc0_scratch11 ∗ someP c cc0_scratch12 ∗ someP c cc0_scratch13 ∗ someP c cc0_scratch14 ∗ someP c cc0_scratch15 ∗ someP c cc0_scratch16 ∗ someP c cc0_scratch17 ∗ someP c cc0_scratch18 ∗ someP c cc0_scratch19
    ∗ sslotP c 0 ∗ sslotP c 1 ∗ sslotP c 2 ∗ sslotP c 3 ∗ sslotP c 4 ∗ sslotP c 5
    ∗ cellP c 0 ∗ cellP c 1 ∗ cellP c 2 ∗ cellP c 3 ∗ cellP c 4 ∗ cellP c 5
    ∗ afreeP c 0 ∗ afreeP c 1 ∗ afreeP c 2 ∗ afreeP c 3 ∗ afreeP c 4 ∗ afreeP c 5 ∗ afreeP c 6 ∗ afreeP c 7
    ∗ lcellP c ∗ ocellP c 0 ∗ ocellP c 1 ∗ ocellP c 2 ∗ ocellP c 3 ∗ ocellP c 4 ∗ ocellP c 5 ∗ ocellP c 6
    ∗ ∃ W, owes (c : Thread nD τ) 0 W)

/-! ## The six late copies -/

/-- A buffer held by exactly its view's elements. -/
abbrev ownP {sp : Space} {S : Shape} {e : EltTy} (M : Memref sig .tc sp S e) (f : Buf (Elt F) (M.view.loc (c : Thread nD τ))) : sProp 𝕄 :=
  M.view.loc (c : Thread nD τ) ↦[M.view.set]{fullShare} f
omit [FloatOps F] in
theorem own_whole (b : Ref sig .tc) (f : b.ty.Contents (Elt F)) : held c b f = ownP c (Memref.whole b) f :=
  congrArg (fun S => ((Memref.whole b).view.loc (c : Thread nD τ) ↦[S]{fullShare} f : sProp 𝕄)) (View.set_whole b).symm
omit [FloatOps F] in
theorem own_storable {sp : Space} {S : Shape} {e : EltTy} (M : Memref sig .tc sp S e) (f : Buf (Elt F) (M.view.loc (c : Thread nD τ))) :
    Storable (upEmb : UEmb _ 𝕄) (ownP c M f) := by dsimp only [ownP]; infer_instance

/-- Their amounts, -/
abbrev lamts : Fin 6 → ℕ := ![480, 480, 480, 3840, 480, 480]
/-- and their deliveries over what the destinations held. -/
abbrev ldeliv (f0 : soV.view.ty.Contents (Elt F)) (f1 : pawV.view.ty.Contents (Elt F)) (f2 : pfwV.view.ty.Contents (Elt F)) (f3 : sguV.view.ty.Contents (Elt F)) (f4 : sdnV.view.ty.Contents (Elt F)) (f5 : powV.view.ty.Contents (Elt F)) : Fin 6 → sProp 𝕄
  | 0 => iprop(ownP c soV (soV.view.writes (Elt F) f0 [⟨Rect.whole _, ReadAs.same.apply (soM.view.read (Elt F) XB)⟩]) ∗ ownP c soM XB)
  | 1 => iprop(ownP c pawV (pawV.view.writes (Elt F) f1 [⟨Rect.whole _, ReadAs.same.apply (pawM.view.read (Elt F) XN)⟩]) ∗ ownP c pawM XN)
  | 2 => iprop(ownP c pfwV (pfwV.view.writes (Elt F) f2 [⟨Rect.whole _, ReadAs.same.apply (pfwM.view.read (Elt F) XF)⟩]) ∗ ownP c pfwM XF)
  | 3 => iprop(ownP c sguV (sguV.view.writes (Elt F) f3 [⟨Rect.whole _, ReadAs.same.apply (sguM.view.read (Elt F) XQ)⟩]) ∗ ownP c sguM XQ)
  | 4 => iprop(ownP c sdnV (sdnV.view.writes (Elt F) f4 [⟨Rect.whole _, ReadAs.same.apply (sdnM.view.read (Elt F) XS)⟩]) ∗ ownP c sdnM XS)
  | 5 => iprop(ownP c powV (powV.view.writes (Elt F) f5 [⟨Rect.whole _, ReadAs.same.apply (powM.view.read (Elt F) XP)⟩]) ∗ ownP c powM XP)
instance ldeliv_storable (f0 f1 f2 f3 f4 f5) : ∀ t, Storable (upEmb : UEmb _ 𝕄) (ldeliv c XB XN XF XQ XS XP f0 f1 f2 f3 f4 f5 t)
  | 0 => by haveI := own_storable c soV (soV.view.writes (Elt F) f0 [⟨Rect.whole _, ReadAs.same.apply (soM.view.read (Elt F) XB)⟩]); haveI := own_storable c soM XB; dsimp only [ldeliv]; infer_instance
  | 1 => by haveI := own_storable c pawV (pawV.view.writes (Elt F) f1 [⟨Rect.whole _, ReadAs.same.apply (pawM.view.read (Elt F) XN)⟩]); haveI := own_storable c pawM XN; dsimp only [ldeliv]; infer_instance
  | 2 => by haveI := own_storable c pfwV (pfwV.view.writes (Elt F) f2 [⟨Rect.whole _, ReadAs.same.apply (pfwM.view.read (Elt F) XF)⟩]); haveI := own_storable c pfwM XF; dsimp only [ldeliv]; infer_instance
  | 3 => by haveI := own_storable c sguV (sguV.view.writes (Elt F) f3 [⟨Rect.whole _, ReadAs.same.apply (sguM.view.read (Elt F) XQ)⟩]); haveI := own_storable c sguM XQ; dsimp only [ldeliv]; infer_instance
  | 4 => by haveI := own_storable c sdnV (sdnV.view.writes (Elt F) f4 [⟨Rect.whole _, ReadAs.same.apply (sdnM.view.read (Elt F) XS)⟩]); haveI := own_storable c sdnM XS; dsimp only [ldeliv]; infer_instance
  | 5 => by haveI := own_storable c powV (powV.view.writes (Elt F) f5 [⟨Rect.whole _, ReadAs.same.apply (powM.view.read (Elt F) XP)⟩]); haveI := own_storable c powM XP; dsimp only [ldeliv]; infer_instance

/-! ## The rings at the loops' ends -/

omit [FloatOps F] in
theorem afree_eq (s : Fin 8) : afreeP (F := F) c s = iprop(acellP c s ∗ ∃ f, aslotP (F := F) c s f) := rfl
omit [FloatOps F] in
theorem ahome_eq (b : Fin 60) : ahomeP c XG b = iprop(gwP c XG b 0 ∗ gwP c XG b 1) := rfl

/-- All the codes are stored when the loop ends. -/
theorem codes_all (g0 : actV.view.ty.Contents (Elt F)) (gm : Buf (Elt F) (amax.view.loc (c : Thread nD τ))) (f : cc0_scratch18.ty.Contents (Elt F))
    (h : CodesTo c g0 gm 30 f) : f = codesAll c g0 gm :=
  funext fun i => h i (by have : (i 2).val < 15360 := (i 2).isLt; omega)

theorem homes_end : bigSep (Ring.homeSet 6 30) (homeP c XW) = bigSep Finset.univ (homeP c XW) := by
  have : (Ring.homeSet 6 30 : Finset (Fin 30)) = Finset.univ := by decide
  rw [this]

theorem free_role (p : ℕ) (hp : 30 ≤ p) (s : Fin 6) (hs : slK p = s) : roleP c XW p ⊢ iprop(cellP c s ∗ sslotP c s) := by
  subst hs
  rw [roleP_ge c XW p hp]
  unfold freeP
  exact .rfl

/-- The trips' count is `30`, so what the loop leaves is what stands before trip `30`. -/
theorem loop_end (g0 : actV.view.ty.Contents (Elt F)) (gm : Buf (Elt F) (amax.view.loc (c : Thread nD τ))) :
    invAt c XW g0 gm k0_t3_loop.trips ⊢
      iprop(heldAt c XW g0 gm 30 ∗ bigSep Finset.univ (homeP c XW)
        ∗ (cellP c 2 ∗ sslotP c 2) ∗ (cellP c 3 ∗ sslotP c 3) ∗ (cellP c 4 ∗ sslotP c 4) ∗ (cellP c 5 ∗ sslotP c 5)
        ∗ (cellP c 0 ∗ sslotP c 0) ∗ (cellP c 1 ∗ sslotP c 1)) := by
  rw [trips_eq]
  unfold invAt
  rw [homes_end]
  iintro ⟨H, Hh, H0, H1, H2, H3, H4, H5⟩
  isplitl [H]; · iexact H
  isplitl [Hh]; · iexact Hh
  isplitl [H0]; · iapply (free_role c XW (30 + 0) (by omega) 2 rfl); iexact H0
  isplitl [H1]; · iapply (free_role c XW (30 + 1) (by omega) 3 rfl); iexact H1
  isplitl [H2]; · iapply (free_role c XW (30 + 2) (by omega) 4 rfl); iexact H2
  isplitl [H3]; · iapply (free_role c XW (30 + 3) (by omega) 5 rfl); iexact H3
  isplitl [H4]; · iapply (free_role c XW (30 + 4) (by omega) 0 rfl); iexact H4
  iapply (free_role c XW (30 + 5) (by omega) 1 rfl); iexact H5

/-- Loading back what was just stored whole. -/
theorem readCov_full {sp : Space} {s : Shape} {e : EltTy} (v : View sig .tc sp s e) {off : Fin s.rank → ℕ}
    (inb : ∀ a, off a + s.size a ≤ s.size a) (w : (Rect.unit off s.size inb).shape.Idx → Elt F e) :
    v.readCov (Val := Elt F) [⟨Rect.unit off s.size inb, w⟩] (Rect.unit off s.size inb).toLoadRect = w := by
  unfold View.readCov
  rw [View.readAt_full, View.read_writes_full]

/-- All the activations are stored when the first loop ends. -/
theorem act_all (FQ : fq.view.ty.Contents (Elt F)) (FS : fsV.view.ty.Contents (Elt F)) (SG : sguV.view.ty.Contents (Elt F)) (f : cc0_scratch11.ty.Contents (Elt F))
    (h : ActTo c XG FQ FS SG 60 f) : f = actAll c XG FQ FS SG :=
  funext fun i => h i (i 0).isLt

theorem ahomes_end : bigSep (Ring.homeSet 8 60) (ahomeP c XG) = bigSep Finset.univ (ahomeP c XG) := by
  have : (Ring.homeSet 8 60 : Finset (Fin 60)) = Finset.univ := by decide
  rw [this]

theorem afree_role (p : ℕ) (hp : 60 ≤ p) (s : Fin 8) (hs : slA p = s) : aroleP c XG p ⊢ afreeP c s := by
  subst hs
  rw [aroleP_ge c XG p hp]

theorem arole_of (p : ℕ) (hp : p < 60) (s : Fin 8) (b : Fin 60) (hs : slA p = s) (hb : Ring.bk 60 p = b) : ainflP c XG s b ⊢ aroleP c XG p := by
  subst hs hb
  rw [aroleP_lt c XG p hp]

/-- What the first loop leaves. -/
theorem loopA_end (FQ : fq.view.ty.Contents (Elt F)) (FS : fsV.view.ty.Contents (Elt F)) (SG : sguV.view.ty.Contents (Elt F)) :
    invA c XG FQ FS SG k0_t2_loop.trips ⊢
      iprop(heldA c XG FQ FS SG 60 ∗ bigSep Finset.univ (ahomeP c XG)
        ∗ afreeP c 4 ∗ afreeP c 5 ∗ afreeP c 6 ∗ afreeP c 7 ∗ afreeP c 0 ∗ afreeP c 1 ∗ afreeP c 2 ∗ afreeP c 3) := by
  rw [trips1_eq]
  unfold invA
  rw [ahomes_end]
  iintro ⟨H, Hh, H0, H1, H2, H3, H4, H5, H6, H7⟩
  isplitl [H]; · iexact H
  isplitl [Hh]; · iexact Hh
  isplitl [H0]; · iapply (afree_role c XG (60 + 0) (by omega) 4 rfl); iexact H0
  isplitl [H1]; · iapply (afree_role c XG (60 + 1) (by omega) 5 rfl); iexact H1
  isplitl [H2]; · iapply (afree_role c XG (60 + 2) (by omega) 6 rfl); iexact H2
  isplitl [H3]; · iapply (afree_role c XG (60 + 3) (by omega) 7 rfl); iexact H3
  isplitl [H4]; · iapply (afree_role c XG (60 + 4) (by omega) 0 rfl); iexact H4
  isplitl [H5]; · iapply (afree_role c XG (60 + 5) (by omega) 1 rfl); iexact H5
  isplitl [H6]; · iapply (afree_role c XG (60 + 6) (by omega) 2 rfl); iexact H6
  iapply (afree_role c XG (60 + 7) (by omega) 3 rfl); iexact H7

/-! ## The stores before the first loop -/

/-- A row group of the codes, at an index. -/
theorem fcPiece (b o : ℕ) (ho : o = 4 * b) (v : FVec F S32x3840 .fp8e4m3) (i : S6x4x3840.Idx) (hs)
    (h : ∀ a, (![b, 0, 0] : Fin 3 → ℕ) a ≤ (i a).val ∧ (i a).val < (![b, 0, 0] : Fin 3 → ℕ) a + S1x4x3840.size a) :
    shapeCast S1x4x3840 (extractStridedSlice S4x3840 ![o, 0] v hs) shapeCasts_S4x3840_S1x4x3840
        (Rect.unitLocal (s := S6x4x3840) (off := ![b, 0, 0]) (size := S1x4x3840.size) i h)
      = v (fun a => match a with
        | ⟨0, _⟩ => ⟨4 * (i 0).val + (i 1).val, by have h0 : (i 0).val < 6 := (i 0).isLt; have h1 : (i 1).val < 4 := (i 1).isLt; show _ < 32; omega⟩
        | ⟨1, _⟩ => i 2) := by
  have h0 : b ≤ (i 0).val ∧ (i 0).val < b + 1 := h 0
  refine (shapeCast_apply _ _ _ (fun a => match a with | ⟨0, _⟩ => i 1 | ⟨1, _⟩ => i 2) ?_).trans (extractStridedSlice_apply _ _ _ _ _ ?_)
  · rw [Shape.rowMajor_val_three, Shape.rowMajor_val_two, Rect.unitLocal_val, Rect.unitLocal_val, Rect.unitLocal_val]
    show (i 1).val * 3840 + (i 2).val = (((i 0).val - b) * 4 + ((i 1).val - 0)) * 3840 + ((i 2).val - 0)
    omega
  · intro a
    match a with
    | ⟨0, _⟩ => show 4 * (i 0).val + (i 1).val = o + (i 1).val; omega
    | ⟨1, _⟩ => exact (Nat.zero_add _).symm

/-- The six row groups are all the codes. -/
theorem fc_stores (v : FVec F S32x3840 .fp8e4m3) (f : fcV.view.ty.Contents (Elt F)) :
    fcV.view.writes (Elt F) f
      [⟨Rect.unit (s := S6x4x3840) ![5, 0, 0] S1x4x3840.size inb_S6x4x3840_S1x4x3840_5_0_0, k0_pay28 v⟩,
       ⟨Rect.unit (s := S6x4x3840) ![4, 0, 0] S1x4x3840.size inb_S6x4x3840_S1x4x3840_4_0_0, k0_pay27 v⟩,
       ⟨Rect.unit (s := S6x4x3840) ![3, 0, 0] S1x4x3840.size inb_S6x4x3840_S1x4x3840_3_0_0, k0_pay26 v⟩,
       ⟨Rect.unit (s := S6x4x3840) ![2, 0, 0] S1x4x3840.size inb_S6x4x3840_S1x4x3840_2_0_0, k0_pay25 v⟩,
       ⟨Rect.unit (s := S6x4x3840) ![1, 0, 0] S1x4x3840.size inb_S6x4x3840_S1x4x3840_1_0_0, k0_pay24 v⟩,
       ⟨Rect.unit (s := S6x4x3840) ![0, 0, 0] S1x4x3840.size inb_S6x4x3840_S1x4x3840_0_0_0, k0_pay23 v⟩]
      = fun i => v (fun a => match a with
        | ⟨0, _⟩ => ⟨4 * (i 0).val + (i 1).val, by have h0 : (i 0).val < 6 := (i 0).isLt; have h1 : (i 1).val < 4 := (i 1).isLt; show _ < 32; omega⟩
        | ⟨1, _⟩ => i 2) := by
  funext i
  refine Eq.trans (congrFun (View.read_whole cc0_scratch16 _).symm i) ?_
  rw [View.read_writes_cons_unit _ _ _ _ _ _ rfl]; split; · exact fcPiece 5 20 rfl v i _ _
  rw [View.read_writes_cons_unit _ _ _ _ _ _ rfl]; split; · exact fcPiece 4 16 rfl v i _ _
  rw [View.read_writes_cons_unit _ _ _ _ _ _ rfl]; split; · exact fcPiece 3 12 rfl v i _ _
  rw [View.read_writes_cons_unit _ _ _ _ _ _ rfl]; split; · exact fcPiece 2 8 rfl v i _ _
  rw [View.read_writes_cons_unit _ _ _ _ _ _ rfl]; split; · exact fcPiece 1 4 rfl v i _ _
  rw [View.read_writes_cons_unit _ _ _ _ _ _ rfl]; split; · exact fcPiece 0 0 rfl v i _ _
  rename_i h5 h4 h3 h2 h1 h0
  have n : ∀ b : ℕ, b ≤ (i 0).val → (i 0).val < b + 1 → ∀ a, (![b, 0, 0] : Fin 3 → ℕ) a ≤ (i a).val ∧ (i a).val < (![b, 0, 0] : Fin 3 → ℕ) a + S1x4x3840.size a := by
    intro b hb hb' a
    match a with
    | ⟨0, _⟩ => exact ⟨hb, hb'⟩
    | ⟨1, _⟩ => exact ⟨Nat.zero_le _, (i 1).isLt.trans_eq (Nat.zero_add _).symm⟩
    | ⟨2, _⟩ => exact ⟨Nat.zero_le _, (i 2).isLt.trans_eq (Nat.zero_add _).symm⟩
  have hi : (i 0).val < 6 := (i 0).isLt
  exfalso
  have c0 : ¬ (0 ≤ (i 0).val ∧ (i 0).val < 0 + 1) := fun h => h0 (n 0 h.1 h.2)
  have c1 : ¬ (1 ≤ (i 0).val ∧ (i 0).val < 1 + 1) := fun h => h1 (n 1 h.1 h.2)
  have c2 : ¬ (2 ≤ (i 0).val ∧ (i 0).val < 2 + 1) := fun h => h2 (n 2 h.1 h.2)
  have c3 : ¬ (3 ≤ (i 0).val ∧ (i 0).val < 3 + 1) := fun h => h3 (n 3 h.1 h.2)
  have c4 : ¬ (4 ≤ (i 0).val ∧ (i 0).val < 4 + 1) := fun h => h4 (n 4 h.1 h.2)
  have c5 : ¬ (5 ≤ (i 0).val ∧ (i 0).val < 5 + 1) := fun h => h5 (n 5 h.1 h.2)
  omega

set_option maxHeartbeats 2000000 in
theorem bodyRun (W : Waits sig Unit) (Q : PUnit → sProp 𝕄) :
    iprop(PRE c XO XW XG XB XN XF XQ XS XP arg0 arg1 arg2 g0 ga gs W ∗ (POST c XO XW XG XB XN XF XQ XS XP arg0 arg1 arg2 g0 ga gs -∗ Q ⟨⟩))
      ⊢ wp frame (wpE (defs₀ (F := F)) 𝒱₀ (c : Thread nD τ) none) Set.univ (bodyG arg0 harg0 arg1 harg1 arg2 harg2) Q := by
  iintro ⟨⟨HR, HA, HZ, Hg0, Hg1, Hg2, Hg3, Hg4, Hg5, Hoh, Hh, Ha0, Ha1, Ha2, Ha3, Ha4, Ha5, Ha6, Ha7, Hah, HB, HN, HF, HQ, HS, HP, ⟨%o0, HO0⟩, ⟨%o1, HO1⟩, ⟨%o2, HO2⟩, ⟨%o3, HO3⟩, ⟨%o4, HO4⟩, ⟨%o5, HO5⟩, ⟨%o6, HO6⟩,
    ⟨%f0, H0⟩, ⟨%f1, H1⟩, ⟨%f2, H2⟩, ⟨%f3, H3⟩, ⟨%f4, H4⟩, ⟨%f5, H5⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩,
    ⟨%s0, Hs0⟩, ⟨%s1, Hs1⟩, ⟨%s2, Hs2⟩, ⟨%s3, Hs3⟩, ⟨%s4, Hs4⟩, ⟨%s5, Hs5⟩, Hc0, Hc1, Hc2, Hc3, Hc4, Hc5,
    Hd0, Hd1, Hd2, Hd3, Hd4, Hd5, Hd6, Hd7, Hl, Hp0, Hp1, Hp2, Hp3, Hp4, Hp5, Hp6, HW⟩, Hk⟩
  ihave HB := (entails_of_eq (own_whole c main_v0 XB)) $$ HB
  ihave HN := (entails_of_eq (own_whole c main_v1 XN)) $$ HN
  ihave HF := (entails_of_eq (own_whole c main_v2 XF)) $$ HF
  ihave HQ := (entails_of_eq (own_whole c main_v3 XQ)) $$ HQ
  ihave HS := (entails_of_eq (own_whole c main_v4 XS)) $$ HS
  ihave HP := (entails_of_eq (own_whole c main_v5 XP)) $$ HP
  ihave H0 := (entails_of_eq (own_whole c cc0_scratch0 f0)) $$ H0
  ihave H1 := (entails_of_eq (own_whole c cc0_scratch1 f1)) $$ H1
  ihave H2 := (entails_of_eq (own_whole c cc0_scratch2 f2)) $$ H2
  ihave H3 := (entails_of_eq (own_whole c cc0_scratch3 f3)) $$ H3
  ihave H4 := (entails_of_eq (own_whole c cc0_scratch4 f4)) $$ H4
  ihave H5 := (entails_of_eq (own_whole c cc0_scratch5 f5)) $$ H5
  imod (Transfers.mixedBatch_alloc' (countersEmb) (c : Thread nD τ) () lamts (ldeliv c XB XN XF XQ XS XP f0 f1 f2 f3 f4 f5) (sm := .dma cc0_scratch20.sem) (E := Set.univ)) $$ Hl with HL
  ihave Hd0 := (entails_of_eq (afree_eq c 0)) $$ Hd0
  icases Hd0 with ⟨Hd0, %t0, Ht0⟩
  haveI : ∀ t, Storable (upEmb : UEmb _ 𝕄) (adeliv c XG 0 0 t) := adeliv_storable c XG _ _
  imod (Transfers.batch_alloc' countersEmb (c : Thread nD τ) () 30720 (adeliv c XG 0 0) (sm := SemLoc.dma (asm 0).sem) (E := Set.univ)) $$ Hd0 with Hd0
  ihave Ht0 := (aslot_split c 0 t0) $$ Ht0
  icases Ht0 with ⟨Ht0, Hu0⟩
  ihave Ha0 := (entails_of_eq (ahome_eq c XG 0)) $$ Ha0
  icases Ha0 with ⟨Ha0, Hb0⟩
  ihave Hd1 := (entails_of_eq (afree_eq c 1)) $$ Hd1
  icases Hd1 with ⟨Hd1, %t1, Ht1⟩
  haveI : ∀ t, Storable (upEmb : UEmb _ 𝕄) (adeliv c XG 1 1 t) := adeliv_storable c XG _ _
  imod (Transfers.batch_alloc' countersEmb (c : Thread nD τ) () 30720 (adeliv c XG 1 1) (sm := SemLoc.dma (asm 1).sem) (E := Set.univ)) $$ Hd1 with Hd1
  ihave Ht1 := (aslot_split c 1 t1) $$ Ht1
  icases Ht1 with ⟨Ht1, Hu1⟩
  ihave Ha1 := (entails_of_eq (ahome_eq c XG 1)) $$ Ha1
  icases Ha1 with ⟨Ha1, Hb1⟩
  ihave Hd2 := (entails_of_eq (afree_eq c 2)) $$ Hd2
  icases Hd2 with ⟨Hd2, %t2, Ht2⟩
  haveI : ∀ t, Storable (upEmb : UEmb _ 𝕄) (adeliv c XG 2 2 t) := adeliv_storable c XG _ _
  imod (Transfers.batch_alloc' countersEmb (c : Thread nD τ) () 30720 (adeliv c XG 2 2) (sm := SemLoc.dma (asm 2).sem) (E := Set.univ)) $$ Hd2 with Hd2
  ihave Ht2 := (aslot_split c 2 t2) $$ Ht2
  icases Ht2 with ⟨Ht2, Hu2⟩
  ihave Ha2 := (entails_of_eq (ahome_eq c XG 2)) $$ Ha2
  icases Ha2 with ⟨Ha2, Hb2⟩
  ihave Hd3 := (entails_of_eq (afree_eq c 3)) $$ Hd3
  icases Hd3 with ⟨Hd3, %t3, Ht3⟩
  haveI : ∀ t, Storable (upEmb : UEmb _ 𝕄) (adeliv c XG 3 3 t) := adeliv_storable c XG _ _
  imod (Transfers.batch_alloc' countersEmb (c : Thread nD τ) () 30720 (adeliv c XG 3 3) (sm := SemLoc.dma (asm 3).sem) (E := Set.univ)) $$ Hd3 with Hd3
  ihave Ht3 := (aslot_split c 3 t3) $$ Ht3
  icases Ht3 with ⟨Ht3, Hu3⟩
  ihave Ha3 := (entails_of_eq (ahome_eq c XG 3)) $$ Ha3
  icases Ha3 with ⟨Ha3, Hb3⟩
  ihave Hd4 := (entails_of_eq (afree_eq c 4)) $$ Hd4
  icases Hd4 with ⟨Hd4, %t4, Ht4⟩
  haveI : ∀ t, Storable (upEmb : UEmb _ 𝕄) (adeliv c XG 4 4 t) := adeliv_storable c XG _ _
  imod (Transfers.batch_alloc' countersEmb (c : Thread nD τ) () 30720 (adeliv c XG 4 4) (sm := SemLoc.dma (asm 4).sem) (E := Set.univ)) $$ Hd4 with Hd4
  ihave Ht4 := (aslot_split c 4 t4) $$ Ht4
  icases Ht4 with ⟨Ht4, Hu4⟩
  ihave Ha4 := (entails_of_eq (ahome_eq c XG 4)) $$ Ha4
  icases Ha4 with ⟨Ha4, Hb4⟩
  ihave Hd5 := (entails_of_eq (afree_eq c 5)) $$ Hd5
  icases Hd5 with ⟨Hd5, %t5, Ht5⟩
  haveI : ∀ t, Storable (upEmb : UEmb _ 𝕄) (adeliv c XG 5 5 t) := adeliv_storable c XG _ _
  imod (Transfers.batch_alloc' countersEmb (c : Thread nD τ) () 30720 (adeliv c XG 5 5) (sm := SemLoc.dma (asm 5).sem) (E := Set.univ)) $$ Hd5 with Hd5
  ihave Ht5 := (aslot_split c 5 t5) $$ Ht5
  icases Ht5 with ⟨Ht5, Hu5⟩
  ihave Ha5 := (entails_of_eq (ahome_eq c XG 5)) $$ Ha5
  icases Ha5 with ⟨Ha5, Hb5⟩
  ihave Hd6 := (entails_of_eq (afree_eq c 6)) $$ Hd6
  icases Hd6 with ⟨Hd6, %t6, Ht6⟩
  haveI : ∀ t, Storable (upEmb : UEmb _ 𝕄) (adeliv c XG 6 6 t) := adeliv_storable c XG _ _
  imod (Transfers.batch_alloc' countersEmb (c : Thread nD τ) () 30720 (adeliv c XG 6 6) (sm := SemLoc.dma (asm 6).sem) (E := Set.univ)) $$ Hd6 with Hd6
  ihave Ht6 := (aslot_split c 6 t6) $$ Ht6
  icases Ht6 with ⟨Ht6, Hu6⟩
  ihave Ha6 := (entails_of_eq (ahome_eq c XG 6)) $$ Ha6
  icases Ha6 with ⟨Ha6, Hb6⟩
  ihave Hd7 := (entails_of_eq (afree_eq c 7)) $$ Hd7
  icases Hd7 with ⟨Hd7, %t7, Ht7⟩
  haveI : ∀ t, Storable (upEmb : UEmb _ 𝕄) (adeliv c XG 7 7 t) := adeliv_storable c XG _ _
  imod (Transfers.batch_alloc' countersEmb (c : Thread nD τ) () 30720 (adeliv c XG 7 7) (sm := SemLoc.dma (asm 7).sem) (E := Set.univ)) $$ Hd7 with Hd7
  ihave Ht7 := (aslot_split c 7 t7) $$ Ht7
  icases Ht7 with ⟨Ht7, Hu7⟩
  ihave Ha7 := (entails_of_eq (ahome_eq c XG 7)) $$ Ha7
  icases Ha7 with ⟨Ha7, Hb7⟩
  sl_exec
  ihave H0 := (entails_of_eq (own_whole c cc0_scratch0 _).symm) $$ HL_dst0
  ihave HB := (entails_of_eq (own_whole c main_v0 XB).symm) $$ HL_src0
  ihave H1 := (entails_of_eq (own_whole c cc0_scratch1 _).symm) $$ HL_dst1
  ihave HN := (entails_of_eq (own_whole c main_v1 XN).symm) $$ HL_src1
  ihave H2 := (entails_of_eq (own_whole c cc0_scratch2 _).symm) $$ HL_dst2
  ihave HF := (entails_of_eq (own_whole c main_v2 XF).symm) $$ HL_src2
  ihave H3 := (entails_of_eq (own_whole c cc0_scratch3 _).symm) $$ HL_dst3
  ihave HQ := (entails_of_eq (own_whole c main_v3 XQ).symm) $$ HL_src3
  ihave H4 := (entails_of_eq (own_whole c cc0_scratch4 _).symm) $$ HL_dst4
  ihave HS := (entails_of_eq (own_whole c main_v4 XS).symm) $$ HL_src4
  ihave H5 := (entails_of_eq (own_whole c cc0_scratch5 _).symm) $$ HL_dst5
  ihave HP := (entails_of_eq (own_whole c main_v5 XP).symm) $$ HL_src5
  have e0 : (Memref.whole cc0_scratch0).view.writes (Elt F) (Memref.whole cc0_scratch0).view.junk [⟨Rect.whole S1x3840, ReadAs.same.apply (View.read (Elt F) soM.view XB)⟩] = XB :=
    (View.read_whole cc0_scratch0 _).symm.trans (View.read_writes_whole _ _ _)
  have e1 : (Memref.whole cc0_scratch1).view.writes (Elt F) (Memref.whole cc0_scratch1).view.junk [⟨Rect.whole S1x3840, ReadAs.same.apply (View.read (Elt F) pawM.view XN)⟩] = XN :=
    (View.read_whole cc0_scratch1 _).symm.trans (View.read_writes_whole _ _ _)
  have e2 : (Memref.whole cc0_scratch2).view.writes (Elt F) (Memref.whole cc0_scratch2).view.junk [⟨Rect.whole S1x3840, ReadAs.same.apply (View.read (Elt F) pfwM.view XF)⟩] = XF :=
    (View.read_whole cc0_scratch2 _).symm.trans (View.read_writes_whole _ _ _)
  have e3 : (Memref.whole cc0_scratch3).view.writes (Elt F) (Memref.whole cc0_scratch3).view.junk [⟨Rect.whole S1x30720, ReadAs.same.apply (View.read (Elt F) sguM.view XQ)⟩] = XQ :=
    (View.read_whole cc0_scratch3 _).symm.trans (View.read_writes_whole _ _ _)
  have e4 : (Memref.whole cc0_scratch4).view.writes (Elt F) (Memref.whole cc0_scratch4).view.junk [⟨Rect.whole S1x3840, ReadAs.same.apply (View.read (Elt F) sdnM.view XS)⟩] = XS :=
    (View.read_whole cc0_scratch4 _).symm.trans (View.read_writes_whole _ _ _)
  have e5 : (Memref.whole cc0_scratch5).view.writes (Elt F) (Memref.whole cc0_scratch5).view.junk [⟨Rect.whole S1x3840, ReadAs.same.apply (View.read (Elt F) powM.view XP)⟩] = XP :=
    (View.read_whole cc0_scratch5 _).symm.trans (View.read_writes_whole _ _ _)
  have e9o : (Memref.whole cc0_scratch9).view.writes (Elt F) (Memref.whole cc0_scratch9).view.junk bodyRun.sl.H9_1 = oaccAt c XO arg1 ga 0 := by
    delta bodyRun.sl.H9_1
    exact oacc_store _ _
  sl_for (fun k _ => invO c XO XW arg1 ga k) $$ [HA H9 HW Hoh Hh Hc0 Hc1 Hc2 Hc3 Hc4 Hc5]
  · intro k a
    cases a
    exact tripO_step c XO XW arg0 harg0 arg1 harg1 arg2 harg2 ga k
  · unfold invO
    isplitl [HA H9 HW]
    · isplitl [HA]; · iexact HA
      isplitl [H9]
      · iexists _; isplitl [H9]; · iapply (entails_of_eq (congrArg (fun z => held c cc0_scratch9 z) e9o)); iexact H9
        ipureintro; rfl
      iexists _; iexact HW
    isplitl [Hoh]; · iexact Hoh
    isplitl [Hh]; · rw [dset_zero]; iexact Hh
    isplitl [Hc0]; · iapply (orole_of_flight c XO XW 0 (by omega) 0 0 rfl rfl s0 _ rfl); iexact Hc0
    isplitl [Hc1]; · iapply (orole_of_flight c XO XW 1 (by omega) 1 1 rfl rfl s1 _ rfl); iexact Hc1
    isplitl [Hc2]; · iapply (orole_of_flight c XO XW 2 (by omega) 2 2 rfl rfl s2 _ rfl); iexact Hc2
    isplitl [Hc3]; · iapply (orole_of_flight c XO XW 3 (by omega) 3 3 rfl rfl s3 _ rfl); iexact Hc3
    isplitl [Hc4]; · iapply (orole_of_flight c XO XW 4 (by omega) 4 4 rfl rfl s4 _ rfl); iexact Hc4
    iapply (orole_of_flight c XO XW 5 (by omega) 5 5 rfl rfl s5 _ rfl); iexact Hc5
  iintro %_ HI
  ihave HJ := (loopO_end c XO XW arg1 ga) $$ HI
  icases HJ with ⟨⟨HA, ⟨%fo, H9, %ho⟩, %W0, HW⟩, Hoh, Hh, Hr0, Hr1, Hr2, Hr3, Hr4, Hr5⟩
  obtain rfl := ho
  sl_exec
  have e155 : bodyRun.sl.v155 XB = XB := by
    delta bodyRun.sl.v155
    exact (congrArg (fun f => soV.view.readAt (Elt F) (Rect.unit (s := S1x3840) ![0, 0] S1x3840.size inb_S1x3840_S1x3840_0_0).toLoadRect f) e0).trans
      ((View.readAt_full _ _ _).trans (View.read_whole cc0_scratch0 XB))
  have e163 : bodyRun.sl.v163 XN = XN := by
    delta bodyRun.sl.v163
    exact (congrArg (fun f => pawV.view.readAt (Elt F) (Rect.unit (s := S1x3840) ![0, 0] S1x3840.size inb_S1x3840_S1x3840_0_0).toLoadRect f) e1).trans
      ((View.readAt_full _ _ _).trans (View.read_whole cc0_scratch1 XN))
  have e182 : bodyRun.sl.v182 XF = XF := by
    delta bodyRun.sl.v182
    exact (congrArg (fun f => pfwV.view.readAt (Elt F) (Rect.unit (s := S1x3840) ![0, 0] S1x3840.size inb_S1x3840_S1x3840_0_0).toLoadRect f) e2).trans
      ((View.readAt_full _ _ _).trans (View.read_whole cc0_scratch2 XF))
  have e162 : bodyRun.sl.v162 c arg0 g0 = r1Of c arg0 g0 := by
    delta bodyRun.sl.v162 bodyRun.sl.H8_1
    exact (View.readAt_full _ _ _).trans (View.read_writes_full xresV.view _ inb_S24x3840_S24x3840_0_0 _ _)
  have er : bodyRun.sl.r c XO XB arg1 arg2 ga gs = r2Of c XO XB arg1 arg2 ga gs := by
    delta bodyRun.sl.r
    rw [e155]
    rfl
  have er1 : bodyRun.sl.r_1 XN = r3Of XN := by
    delta bodyRun.sl.r_1
    rw [e163]
    rfl
  have e10 : (Memref.whole cc0_scratch10).view.writes (Elt F) (Memref.whole cc0_scratch10).view.junk (bodyRun.sl.H10_1 c XO XB XN XF arg0 arg1 arg2 g0 ga gs) = fqOf XF (r1Of c arg0 g0) (r2Of c XO XB arg1 arg2 ga gs) (r3Of XN) := by
    delta bodyRun.sl.H10_1
    rw [e162, er, er1, e182]
    exact (View.read_whole cc0_scratch10 _).symm.trans (View.read_writes_full fq.view _ inb_S32x3840_S32x3840_0_0 _ _)
  have e17 : (Memref.whole cc0_scratch17).view.writes (Elt F) (Memref.whole cc0_scratch17).view.junk (bodyRun.sl.H17_1 c XO XB XN XF arg0 arg1 arg2 g0 ga gs) = fsOut XF (r1Of c arg0 g0) (r2Of c XO XB arg1 arg2 ga gs) (r3Of XN) := by
    delta bodyRun.sl.H17_1 bodyRun.sl.r_2
    rw [e162, er, er1, e182]
    exact (View.read_whole cc0_scratch17 _).symm.trans (View.read_writes_full fsV.view _ inb_S24x128_S24x128_0_0 _ _)
  have e16 : (Memref.whole cc0_scratch16).view.writes (Elt F) (Memref.whole cc0_scratch16).view.junk (bodyRun.sl.H16_6 c XO XB XN XF arg0 arg1 arg2 g0 ga gs) = fcOf XF (r1Of c arg0 g0) (r2Of c XO XB arg1 arg2 ga gs) (r3Of XN) := by
    delta bodyRun.sl.H16_6 bodyRun.sl.r_3
    rw [e162, er, er1, e182]
    exact fc_stores (fpad XF (r1Of c arg0 g0) (r2Of c XO XB arg1 arg2 ga gs) (r3Of XN)) _
  have e12 : (Memref.whole cc0_scratch12).view.writes (Elt F) (Memref.whole cc0_scratch12).view.junk bodyRun.sl.H12_1 = lanesAt c XG (fqOf XF (r1Of c arg0 g0) (r2Of c XO XB arg1 arg2 ga gs) (r3Of XN)) (fsOut XF (r1Of c arg0 g0) (r2Of c XO XB arg1 arg2 ga gs) (r3Of XN)) XQ 0 := by
    delta bodyRun.sl.H12_1
    exact amax_store _ _
  sl_for (fun k _ => invA c XG (fqOf XF (r1Of c arg0 g0) (r2Of c XO XB arg1 arg2 ga gs) (r3Of XN)) (fsOut XF (r1Of c arg0 g0) (r2Of c XO XB arg1 arg2 ga gs) (r3Of XN)) XQ k) $$ [H10 H17 H3 H11 H12 HW Hah Hd0 Hd1 Hd2 Hd3 Hd4 Hd5 Hd6 Hd7]
  · intro k a
    cases a
    exact tripA_step c XG _ _ _ arg0 harg0 arg1 harg1 arg2 harg2 _ k
  · unfold invA
    isplitl [H10 H17 H3 H11 H12 HW]
    · isplitl [H10]; · iapply (entails_of_eq (congrArg (fun z => held c cc0_scratch10 z) e10)); iexact H10
      isplitl [H17]; · iapply (entails_of_eq (congrArg (fun z => held c cc0_scratch17 z) e17)); iexact H17
      isplitl [H3]; · iapply (entails_of_eq (congrArg (fun z => held c cc0_scratch3 z) e3)); iexact H3
      isplitl [H11]
      · iexists _; isplitl [H11]; · iexact H11
        ipureintro; intro i hi; exact absurd hi (Nat.not_lt_zero _)
      isplitl [H12]
      · iexists _; isplitl [H12]; · iexact H12
        ipureintro; exact e12
      iexists _; iexact HW
    isplitl [Hah]; · iexact Hah
    isplitl [Hd0]; · iapply (arole_of c XG 0 (by omega) 0 0 rfl rfl); iexact Hd0
    isplitl [Hd1]; · iapply (arole_of c XG 1 (by omega) 1 1 rfl rfl); iexact Hd1
    isplitl [Hd2]; · iapply (arole_of c XG 2 (by omega) 2 2 rfl rfl); iexact Hd2
    isplitl [Hd3]; · iapply (arole_of c XG 3 (by omega) 3 3 rfl rfl); iexact Hd3
    isplitl [Hd4]; · iapply (arole_of c XG 4 (by omega) 4 4 rfl rfl); iexact Hd4
    isplitl [Hd5]; · iapply (arole_of c XG 5 (by omega) 5 5 rfl rfl); iexact Hd5
    isplitl [Hd6]; · iapply (arole_of c XG 6 (by omega) 6 6 rfl rfl); iexact Hd6
    iapply (arole_of c XG 7 (by omega) 7 7 rfl rfl); iexact Hd7
  iintro %_ HI
  ihave HJ := (loopA_end c XG (fqOf XF (r1Of c arg0 g0) (r2Of c XO XB arg1 arg2 ga gs) (r3Of XN)) (fsOut XF (r1Of c arg0 g0) (r2Of c XO XB arg1 arg2 ga gs) (r3Of XN)) XQ) $$ HI
  icases HJ with ⟨⟨H10, H17, H3, ⟨%fa, H11, %ha⟩, ⟨%fm, H12, %hm⟩, %W1, HW⟩, Hah, Hf4, Hf5, Hf6, Hf7, Hf0, Hf1, Hf2, Hf3⟩
  obtain rfl := act_all c XG _ _ _ fa ha
  obtain rfl := hm
  sl_exec
  have e12' : (Memref.whole cc0_scratch12).view.writes (Elt F) (Memref.whole cc0_scratch12).view.junk (bodyRun.sl.H12_1_1 c XO XG XB XN XF XQ arg0 arg1 arg2 g0 ga gs) = gmOf c XG XF XQ (r1Of c arg0 g0) (r2Of c XO XB arg1 arg2 ga gs) (r3Of XN) := by
    delta bodyRun.sl.H12_1_1 bodyRun.sl.v252
    rw [amax_load]
    exact amax_store _ _
  have e19 : (Memref.whole cc0_scratch19).view.writes (Elt F) (Memref.whole cc0_scratch19).view.junk (bodyRun.sl.H19_1 c XO XG XB XN XF XQ arg0 arg1 arg2 g0 ga gs) = sclOf c XG XF XQ (r1Of c arg0 g0) (r2Of c XO XB arg1 arg2 ga gs) (r3Of XN) := by
    delta bodyRun.sl.H19_1 bodyRun.sl.v252
    rw [amax_load]
    exact (View.read_whole cc0_scratch19 _).symm.trans (View.read_writes_full sclV.view _ inb_S24x128_S24x128_0_0 _ _)
  have e9 : (Memref.whole cc0_scratch9).view.writes (Elt F) (Memref.whole cc0_scratch9).view.junk bodyRun.sl.H9_1_1 = acc c XW (actOf c XG XF XQ (r1Of c arg0 g0) (r2Of c XO XB arg1 arg2 ga gs) (r3Of XN)) (gmOf c XG XF XQ (r1Of c arg0 g0) (r2Of c XO XB arg1 arg2 ga gs) (r3Of XN)) 0 := by
    delta bodyRun.sl.H9_1_1
    exact oacc_store _ _
  sl_for (fun k _ => invAt c XW (actOf c XG XF XQ (r1Of c arg0 g0) (r2Of c XO XB arg1 arg2 ga gs) (r3Of XN)) (gmOf c XG XF XQ (r1Of c arg0 g0) (r2Of c XO XB arg1 arg2 ga gs) (r3Of XN)) k) $$ [H11 H9 H12 H18 HW Hh Hr0 Hr1 Hr2 Hr3 Hr4 Hr5]
  · intro k a
    cases a
    exact trip_step c XW arg0 harg0 arg1 harg1 arg2 harg2 _ _ _ k
  · unfold invAt
    isplitl [H11 H9 H12 H18 HW]
    · isplitl [H11]; · iexact H11
      isplitl [H12]; · iapply (entails_of_eq (congrArg (fun z => held c cc0_scratch12 z) e12')); iexact H12
      isplitl [H9]
      · iexists _; isplitl [H9]; · iapply (entails_of_eq (congrArg (fun z => held c cc0_scratch9 z) e9)); iexact H9
        ipureintro; rfl
      isplitl [H18]
      · iexists _; isplitl [H18]; · iexact H18
        ipureintro; intro i hi; exact absurd hi (Nat.not_lt_zero _)
      iexists _; iexact HW
    isplitl [Hh]; · iexact Hh
    isplitl [Hr0]; · iexact Hr0
    isplitl [Hr1]; · iexact Hr1
    isplitl [Hr2]; · iexact Hr2
    isplitl [Hr3]; · iexact Hr3
    isplitl [Hr4]; · iexact Hr4
    iexact Hr5
  iintro %_ HI
  ihave HJ := (loop_end c XW (actOf c XG XF XQ (r1Of c arg0 g0) (r2Of c XO XB arg1 arg2 ga gs) (r3Of XN)) (gmOf c XG XF XQ (r1Of c arg0 g0) (r2Of c XO XB arg1 arg2 ga gs) (r3Of XN))) $$ HI
  icases HJ with ⟨⟨H11, H12, ⟨%fb, H9, %hb⟩, ⟨%fc, H18, %hc⟩, %W2, HW⟩, Hh, ⟨Hc2, Hs2⟩, ⟨Hc3, Hs3⟩, ⟨Hc4, Hs4⟩, ⟨Hc5, Hs5⟩, ⟨Hc0, Hs0⟩, Hc1, Hs1⟩
  obtain rfl := hb
  obtain rfl := codes_all c _ _ fc hc
  sl_exec
  have e280 : bodyRun.sl.v280 XS = XS := by
    delta bodyRun.sl.v280
    exact (congrArg (fun f => sdnV.view.readAt (Elt F) (Rect.unit (s := S1x3840) ![0, 0] S1x3840.size inb_S1x3840_S1x3840_0_0).toLoadRect f) e4).trans
      ((View.readAt_full _ _ _).trans (View.read_whole cc0_scratch4 XS))
  have e288 : bodyRun.sl.v288 XP = XP := by
    delta bodyRun.sl.v288
    exact (congrArg (fun f => powV.view.readAt (Elt F) (Rect.unit (s := S1x3840) ![0, 0] S1x3840.size inb_S1x3840_S1x3840_0_0).toLoadRect f) e5).trans
      ((View.readAt_full _ _ _).trans (View.read_whole cc0_scratch5 XP))
  have e287 : bodyRun.sl.v287 c XO XB XN arg0 arg1 arg2 g0 ga gs = k0_pay18 (r1Of c arg0 g0) (r2Of c XO XB arg1 arg2 ga gs) (r3Of XN) := by
    delta bodyRun.sl.v287
    refine ((View.readAt_full _ _ _).trans (View.read_writes_full xresV.view _ inb_S24x3840_S24x3840_0_0 _ _)).trans ?_
    rw [e162, er, er1]
  have e277 : bodyRun.sl.v277 c XO XG XB XN XF XQ arg0 arg1 arg2 g0 ga gs = v76Of c XG XF XQ (r1Of c arg0 g0) (r2Of c XO XB arg1 arg2 ga gs) (r3Of XN) := by
    delta bodyRun.sl.v277
    exact congrArg (fun f => sclV.view.readAt (Elt F) (Rect.unit (s := S24x128) ![0, 0] S24x1.size inb_S24x128_S24x1_0_0).toLoadRect f) e19
  have e276 : bodyRun.sl.v276 c XO XW XG XB XN XF XQ arg0 arg1 arg2 g0 ga gs = v75Of c XW XG XF XQ (r1Of c arg0 g0) (r2Of c XO XB arg1 arg2 ga gs) (r3Of XN) := rfl
  have eO1 : View.write (Elt F) oM.view o1 (bodyRun.sl.dma9_1 c XO XB arg1 arg2 ga gs) Finset.univ = oOf c XO XB arg1 arg2 ga gs := by
    refine (View.write_whole_univ main_v6_1 _ _).trans ?_
    delta bodyRun.sl.dma9_1 bodyRun.sl.H14_1
    refine (View.read_writes_full oV.view _ inb_S6x4x3840_S6x4x3840_0_0_0 _ []).trans ?_
    rw [e155]
    rfl
  have eO2 : View.write (Elt F) dM.view o2 (bodyRun.sl.dma9_2 c XO XW XG XB XN XF XQ XS arg0 arg1 arg2 g0 ga gs f15) Finset.univ
      = dOf c XW XG XF XQ XS (r1Of c arg0 g0) (r2Of c XO XB arg1 arg2 ga gs) (r3Of XN) := by
    refine (View.write_whole_univ main_v6_2 _ _).trans ?_
    delta bodyRun.sl.dma9_2 bodyRun.sl.H15_1
    refine (View.read_writes_full dV.view f15 inb_S6x4x3840_S6x4x3840_0_0_0 _ []).trans ?_
    rw [e276, e277, e280]
    rfl
  have eO3 : View.write (Elt F) fcM.view o3 (bodyRun.sl.dma9_3 c XO XB XN XF arg0 arg1 arg2 g0 ga gs) Finset.univ = fcOf XF (r1Of c arg0 g0) (r2Of c XO XB arg1 arg2 ga gs) (r3Of XN) := by
    refine (View.write_whole_univ main_v6_3 _ _).trans ?_
    delta bodyRun.sl.dma9_3
    rw [e16]
    exact View.read_whole cc0_scratch16 _
  have eO4 : View.write (Elt F) fsM.view o4 (bodyRun.sl.dma9_4 c XO XB XN XF arg0 arg1 arg2 g0 ga gs) Finset.univ = fsOut XF (r1Of c arg0 g0) (r2Of c XO XB arg1 arg2 ga gs) (r3Of XN) := by
    refine (View.write_whole_univ main_v6_4 _ _).trans ?_
    delta bodyRun.sl.dma9_4
    exact View.read_whole cc0_scratch17 _
  have eO5 : View.write (Elt F) codM.view o5 (bodyRun.sl.dma9_5 c XO XG XB XN XF XQ arg0 arg1 arg2 g0 ga gs) Finset.univ = codOf c XG XF XQ (r1Of c arg0 g0) (r2Of c XO XB arg1 arg2 ga gs) (r3Of XN) :=
    View.write_whole_univ main_v6_5 _ _
  have eO6 : View.write (Elt F) sclM.view o6 (bodyRun.sl.dma9_6 c XO XG XB XN XF XQ arg0 arg1 arg2 g0 ga gs) Finset.univ = sclOf c XG XF XQ (r1Of c arg0 g0) (r2Of c XO XB arg1 arg2 ga gs) (r3Of XN) :=
    (View.write_whole_univ main_v6_6 _ _).trans e19
  have eO0 : View.write (Elt F) hidM.view o0 (bodyRun.sl.dma9_7 c XO XW XG XB XN XF XQ XS XP arg0 arg1 arg2 g0 ga gs f13) Finset.univ
      = hidOf c XW XG XF XQ XS XP (r1Of c arg0 g0) (r2Of c XO XB arg1 arg2 ga gs) (r3Of XN) := by
    refine (View.write_whole_univ main_v6_0 _ _).trans ?_
    delta bodyRun.sl.dma9_7 bodyRun.sl.H13_1
    refine (View.read_writes_full hidV.view f13 inb_S6x4x3840_S6x4x3840_0_0_0 _ []).trans ?_
    rw [e276, e277, e280, e287, e288]
    rfl
  sl_step
  iapply Hk
  isplitl [HR]; · iexact HR
  isplitl [HA]; · iexact HA
  isplitl [HZ]; · iexact HZ
  isplitl [Hoh]; · iexact Hoh
  isplitl [Hh]; · iexact Hh
  isplitl [Hah]; · iexact Hah
  isplitl [HB]; · iexact HB
  isplitl [HN]; · iexact HN
  isplitl [HF]; · iexact HF
  isplitl [HQ]; · iexact HQ
  isplitl [HS]; · iexact HS
  isplitl [HP]; · iexact HP
  isplitl [HO0]; · iapply (entails_of_eq (congrArg (fun z => held c main_v6_0 z) eO0)); iexact HO0
  isplitl [HO1]; · iapply (entails_of_eq (congrArg (fun z => held c main_v6_1 z) eO1)); iexact HO1
  isplitl [HO2]; · iapply (entails_of_eq (congrArg (fun z => held c main_v6_2 z) eO2)); iexact HO2
  isplitl [HO3]; · iapply (entails_of_eq (congrArg (fun z => held c main_v6_3 z) eO3)); iexact HO3
  isplitl [HO4]; · iapply (entails_of_eq (congrArg (fun z => held c main_v6_4 z) eO4)); iexact HO4
  isplitl [HO5]; · iapply (entails_of_eq (congrArg (fun z => held c main_v6_5 z) eO5)); iexact HO5
  isplitl [HO6]; · iapply (entails_of_eq (congrArg (fun z => held c main_v6_6 z) eO6)); iexact HO6
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hf0]; · iexact Hf0
  isplitl [Hf1]; · iexact Hf1
  isplitl [Hf2]; · iexact Hf2
  isplitl [Hf3]; · iexact Hf3
  isplitl [Hf4]; · iexact Hf4
  isplitl [Hf5]; · iexact Hf5
  isplitl [Hf6]; · iexact Hf6
  isplitl [Hf7]; · iexact Hf7
  isplitl [HL]; · iexact HL
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  iexists _
  iexact HW

end Body

end Cert.Proof.KernelIdeal

end
-- ==== Proof.KernelIdeal.Run.lean ====
/-
  The run of the whole program: the launch's buffers split into what the body is handed, the body obligation, and the
  run's postcondition — the seven results at the contents the body names, the arguments unchanged, every semaphore at
  zero.
-/
module

public import proofs.«01_k».proof.Proof.KernelIdeal.Body
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.KitQuiescent

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Rounds
open Idealize.ShloMosaic.Pipeline (Dat Cfg Window BodyObligation cellOf)
local notation "𝕄" => MT nD τ sig Unit (Elt F) ℕ (UU nD τ) ℕ

section Launch

variable (m : (ℓ : Loc nD τ sig) → Buf (Elt F) ℓ) (ρ : Dev nD → PrngReg)

/-! ## The kernel's own semaphores -/

abbrev osem : Fin 22 → SemLoc sig := fun
  | 0 => .dma cc0_scratch20.sem
  | 1 => .dma (csm 0).sem
  | 2 => .dma (csm 1).sem
  | 3 => .dma (csm 2).sem
  | 4 => .dma (csm 3).sem
  | 5 => .dma (csm 4).sem
  | 6 => .dma (csm 5).sem
  | 7 => .dma (asm 0).sem
  | 8 => .dma (asm 1).sem
  | 9 => .dma (asm 2).sem
  | 10 => .dma (asm 3).sem
  | 11 => .dma (asm 4).sem
  | 12 => .dma (asm 5).sem
  | 13 => .dma (asm 6).sem
  | 14 => .dma (asm 7).sem
  | 15 => .dma (osm 0).sem
  | 16 => .dma (osm 1).sem
  | 17 => .dma (osm 2).sem
  | 18 => .dma (osm 3).sem
  | 19 => .dma (osm 4).sem
  | 20 => .dma (osm 5).sem
  | 21 => .dma (osm 6).sem
  | ⟨_ + 22, h⟩ => absurd h (Nat.not_lt.2 (Nat.le_add_left _ _))
theorem ownSemFacts : Pipeline.OwnSemFacts spec0 osem := by decide

omit [FloatOps F] in
theorem ownSems0_eq (c : Dev nD) : (Pipeline.ownSems0 (Ix := Unit) (Name := ℕ) (U := UU nD τ) (Lvl := ℕ) (Val := Elt F) (τ := τ) osem c : sProp 𝕄)
    = iprop(lcellP c ∗ cellP c 0 ∗ cellP c 1 ∗ cellP c 2 ∗ cellP c 3 ∗ cellP c 4 ∗ cellP c 5 ∗ acellP c 0 ∗ acellP c 1 ∗ acellP c 2 ∗ acellP c 3 ∗ acellP c 4 ∗ acellP c 5 ∗ acellP c 6 ∗ acellP c 7 ∗ ocellP c 0 ∗ ocellP c 1 ∗ ocellP c 2 ∗ ocellP c 3 ∗ ocellP c 4 ∗ ocellP c 5 ∗ ocellP c 6) := by
  unfold Pipeline.ownSems0
  exact bigSep_univ_eq_bigSepL [(0 : Fin 22), 1, 2, 3, 4, 5, 6, 7, 8, 9, 10, 11, 12, 13, 14, 15, 16, 17, 18, 19, 20, 21] (by decide) (by decide) _

/-! ## Element sets: the down weight's thirty blocks, its ring's six slots -/

abbrev G30 (b : Fin 30) : Finset S15360x3840.Idx := (Rect.unit (s := S15360x3840) (grpOff b) S512x3840.size (grpOff_inb b)).set
abbrev S6s (s : Fin 6) : Finset S6x512x3840.Idx := (Rect.unit (s := S6x512x3840) (slotOff s) S1x512x3840.size (slotOff_inb s)).set

omit [FloatOps F] in
theorem grp_set (b : Fin 30) : (grp b : Memref sig .tc .hbm _ _).view.set = G30 b := View.set_slice_whole _ _
omit [FloatOps F] in
theorem rslot_set (s : Fin 6) : (rslot s : Memref sig .tc .vmem _ _).view.set = S6s s := (View.set_reshape _ _).trans (View.set_slice_whole _ _)

theorem mem_G30 (b : Fin 30) (y : S15360x3840.Idx) : y ∈ G30 b ↔ (y 0).val / 512 = b.val := by
  rw [Rect.mem_set_unit]
  have h1 : (y 1).val < 3840 := (y 1).isLt
  constructor
  · intro H
    have a0 : 512 * b.val ≤ (y 0).val ∧ (y 0).val < 512 * b.val + 512 := H 0
    omega
  · intro H i; fin_cases i
    · show 512 * b.val ≤ (y 0).val ∧ (y 0).val < 512 * b.val + 512; omega
    · show 0 ≤ (y 1).val ∧ (y 1).val < 0 + 3840; omega
theorem mem_S6s (s : Fin 6) (y : S6x512x3840.Idx) : y ∈ S6s s ↔ (y 0).val = s.val := by
  rw [Rect.mem_set_unit]
  have h1 : (y 1).val < 512 := (y 1).isLt
  have h2 : (y 2).val < 3840 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 3840; omega
theorem G30_disjoint : ∀ b b' : Fin 30, b ≠ b' → Disjoint (G30 b) (G30 b') := by
  intro b b' hne; rw [Finset.disjoint_left]; intro y hy hy'; rw [mem_G30] at hy hy'; exact hne (Fin.ext (hy.symm.trans hy'))
theorem G30_cover : (Finset.univ : Finset (Fin 30)).biUnion G30 = Finset.univ := by
  ext y; simp only [Finset.mem_biUnion, Finset.mem_univ, true_and, iff_true]
  have h0 : (y 0).val < 15360 := (y 0).isLt
  exact ⟨⟨(y 0).val / 512, by omega⟩, by rw [mem_G30]⟩
theorem S6s_disjoint : ∀ s s' : Fin 6, s ≠ s' → Disjoint (S6s s) (S6s s') := by
  intro s s' hne; rw [Finset.disjoint_left]; intro y hy hy'; rw [mem_S6s] at hy hy'; exact hne (Fin.ext (hy.symm.trans hy'))
theorem S6s_cover : (Finset.univ : Finset (Fin 6)).biUnion S6s = Finset.univ := by
  ext y; simp only [Finset.mem_biUnion, Finset.mem_univ, true_and, iff_true]
  have h0 : (y 0).val < 6 := (y 0).isLt
  exact ⟨⟨(y 0).val, h0⟩, by rw [mem_S6s]⟩

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

/-- The weight whole is its thirty blocks home. -/
theorem w_eq (c : Dev nD) (XW : Buf (Elt F) (wM.view.loc (c : Thread nD τ))) :
    (((c : Thread nD τ).loc main_arg9) ↦{fullShare} XW : sProp 𝕄) = bigSep Finset.univ (homeP c XW) := by
  rw [Ring.pointsTo_blocks (ℓ := (c : Thread nD τ).loc main_arg9) G30 G30_disjoint G30_cover]
  exact bigSep_congr fun b _ => by rw [← grp_set]; rfl
omit [FloatOps F] in
theorem slotP_eq (c : Dev nD) (s : Fin 6) (f) : slotP c s f = (((c : Thread nD τ).loc cc0_scratch7) ↦[S6s s]{fullShare} f : sProp 𝕄) :=
  congrArg (fun S => (_ ↦[S]{fullShare} f : sProp 𝕄)) (rslot_set s)
omit [FloatOps F] in
theorem slot_in (c : Dev nD) (s : Fin 6) (f) : (((c : Thread nD τ).loc cc0_scratch7) ↦[S6s s]{fullShare} f : sProp 𝕄) ⊢ sslotP c s := by
  iintro H; iexists f; iapply (entails_of_eq (slotP_eq c s f).symm); iexact H
omit [FloatOps F] in
theorem slot_out (c : Dev nD) (s : Fin 6) :
    sslotP c s ⊢ (iprop(∃ f, ((c : Thread nD τ).loc cc0_scratch7) ↦[S6s s]{fullShare} f) : sProp 𝕄) := by
  iintro ⟨%f, H⟩; iexists f; iapply (entails_of_eq (slotP_eq c s f)); iexact H
/-- The ring whole is its six slots, and back. -/
theorem buf_split (c : Dev nD) :
    iprop(∃ f : Buf (Elt F) ((c : Thread nD τ).loc cc0_scratch7), ((c : Thread nD τ).loc cc0_scratch7) ↦{fullShare} f)
      ⊢ (iprop(sslotP c 0 ∗ sslotP c 1 ∗ sslotP c 2 ∗ sslotP c 3 ∗ sslotP c 4 ∗ sslotP c 5) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch7) S6s S6s_disjoint S6s_cover f).trans (bigSep_fin6 _))) $$ H
  icases H2 with ⟨H0, H1, H2, H3, H4, H5⟩
  isplitl [H0]; · iapply (slot_in c 0 f); iexact H0
  isplitl [H1]; · iapply (slot_in c 1 f); iexact H1
  isplitl [H2]; · iapply (slot_in c 2 f); iexact H2
  isplitl [H3]; · iapply (slot_in c 3 f); iexact H3
  isplitl [H4]; · iapply (slot_in c 4 f); iexact H4
  iapply (slot_in c 5 f); iexact H5
theorem buf_join (c : Dev nD) :
    iprop(sslotP c 0 ∗ sslotP c 1 ∗ sslotP c 2 ∗ sslotP c 3 ∗ sslotP c 4 ∗ sslotP c 5)
      ⊢ (iprop(∃ f : Buf (Elt F) ((c : Thread nD τ).loc cc0_scratch7), ((c : Thread nD τ).loc cc0_scratch7) ↦{fullShare} f) : sProp 𝕄) := by
  iintro ⟨⟨%f0, H0⟩, H1, H2, H3, H4, H5⟩
  iapply (Ring.pointsTo_blocks_join_exists (ℓ := (c : Thread nD τ).loc cc0_scratch7) S6s S6s_disjoint S6s_cover f0)
  irw [bigSep_fin6]
  isplitl [H0]; · iexists f0; iapply (entails_of_eq (slotP_eq c 0 f0)); iexact H0
  isplitl [H1]; · iapply (slot_out c 1); iexact H1
  isplitl [H2]; · iapply (slot_out c 2); iexact H2
  isplitl [H3]; · iapply (slot_out c 3); iexact H3
  isplitl [H4]; · iapply (slot_out c 4); iexact H4
  iapply (slot_out c 5); iexact H5

/-! ## The output projection's weight's eight blocks -/

abbrev G8 (b : Fin 8) : Finset S4096x3840.Idx := (Rect.unit (s := S4096x3840) (ogrpOff b) S512x3840.size (ogrpOff_inb b)).set
omit [FloatOps F] in
theorem ogrp_set (b : Fin 8) : (ogrp b : Memref sig .tc .hbm _ _).view.set = G8 b := View.set_slice_whole _ _
theorem mem_G8 (b : Fin 8) (y : S4096x3840.Idx) : y ∈ G8 b ↔ (y 0).val / 512 = b.val := by
  rw [Rect.mem_set_unit]
  have h1 : (y 1).val < 3840 := (y 1).isLt
  constructor
  · intro H
    have a0 : 512 * b.val ≤ (y 0).val ∧ (y 0).val < 512 * b.val + 512 := H 0
    omega
  · intro H i; fin_cases i
    · show 512 * b.val ≤ (y 0).val ∧ (y 0).val < 512 * b.val + 512; omega
    · show 0 ≤ (y 1).val ∧ (y 1).val < 0 + 3840; omega
theorem G8_disjoint : ∀ b b' : Fin 8, b ≠ b' → Disjoint (G8 b) (G8 b') := by
  intro b b' hne; rw [Finset.disjoint_left]; intro y hy hy'; rw [mem_G8] at hy hy'; exact hne (Fin.ext (hy.symm.trans hy'))
theorem G8_cover : (Finset.univ : Finset (Fin 8)).biUnion G8 = Finset.univ := by
  ext y; simp only [Finset.mem_biUnion, Finset.mem_univ, true_and, iff_true]
  have h0 : (y 0).val < 4096 := (y 0).isLt
  exact ⟨⟨(y 0).val / 512, by omega⟩, by rw [mem_G8]⟩
/-- That weight whole is its eight blocks home; -/
theorem o_eq (c : Dev nD) (XO : Buf (Elt F) (woM.view.loc (c : Thread nD τ))) :
    (((c : Thread nD τ).loc main_arg3) ↦{fullShare} XO : sProp 𝕄) = bigSep Finset.univ (ohomeP c XO) := by
  rw [Ring.pointsTo_blocks (ℓ := (c : Thread nD τ).loc main_arg3) G8 G8_disjoint G8_cover]
  exact bigSep_congr fun b _ => by rw [← ogrp_set]; rfl
/-- at the body's entry, the first six apart from the rest. -/
theorem ohomes_zero (c : Dev nD) (XO : Buf (Elt F) (woM.view.loc (c : Thread nD τ))) :
    bigSep Finset.univ (ohomeP c XO) = iprop(ohomeP c XO 0 ∗ ohomeP c XO 1 ∗ ohomeP c XO 2 ∗ ohomeP c XO 3 ∗ ohomeP c XO 4 ∗ ohomeP c XO 5
      ∗ bigSep (Ring.homeSet 6 0) (ohomeP c XO)) := by
  have e : (Finset.univ : Finset (Fin 8)) = insert 0 (insert 1 (insert 2 (insert 3 (insert 4 (insert 5 (Ring.homeSet (NB := 8) 6 0)))))) := by
    decide
  rw [e, bigSep_insert (by decide), bigSep_insert (by decide), bigSep_insert (by decide), bigSep_insert (by decide),
    bigSep_insert (by decide), bigSep_insert (by decide)]
  rfl

/-! ## The gate and up weights' sixty pairs of blocks, their ring's eight slots -/

abbrev G60 (b : Fin 60) (u : Fin 2) : Finset S3840x30720.Idx := (Rect.unit (s := S3840x30720) (gwOff b u) S3840x256.size (gwOff_inb b u)).set
omit [FloatOps F] in
theorem gw_set (b : Fin 60) (u : Fin 2) : (gw b u : Memref sig .tc .hbm _ _).view.set = G60 b u := View.set_slice_whole _ _
theorem mem_G60 (b : Fin 60) (u : Fin 2) (y : S3840x30720.Idx) : y ∈ G60 b u ↔ (y 1).val / 256 = 60 * u.val + b.val := by
  rw [Rect.mem_set_unit]
  have h0 : (y 0).val < 3840 := (y 0).isLt
  constructor
  · intro H
    have a1 : 15360 * u.val + 256 * b.val ≤ (y 1).val ∧ (y 1).val < 15360 * u.val + 256 * b.val + 256 := H 1
    omega
  · intro H i; fin_cases i
    · show 0 ≤ (y 0).val ∧ (y 0).val < 0 + 3840; omega
    · show 15360 * u.val + 256 * b.val ≤ (y 1).val ∧ (y 1).val < 15360 * u.val + 256 * b.val + 256; omega
/-- Pair `b`'s elements. -/
abbrev GP (b : Fin 60) : Finset S3840x30720.Idx := G60 b 0 ∪ G60 b 1
theorem mem_GP (b : Fin 60) (y : S3840x30720.Idx) : y ∈ GP b ↔ (y 1).val / 256 % 60 = b.val := by
  rw [Finset.mem_union, mem_G60, mem_G60]
  have h1 : (y 1).val < 30720 := (y 1).isLt
  have hb := b.isLt
  have e0 : ((0 : Fin 2)).val = 0 := rfl
  have e1 : ((1 : Fin 2)).val = 1 := rfl
  rw [e0, e1]
  omega
theorem G60_disjoint (b : Fin 60) : Disjoint (G60 b 0) (G60 b 1) := by
  rw [Finset.disjoint_left]; intro y hy hy'
  rw [mem_G60] at hy hy'
  have e0 : ((0 : Fin 2)).val = 0 := rfl
  have e1 : ((1 : Fin 2)).val = 1 := rfl
  have := hy.symm.trans hy'
  omega
theorem GP_disjoint : ∀ b b' : Fin 60, b ≠ b' → Disjoint (GP b) (GP b') := by
  intro b b' hne; rw [Finset.disjoint_left]; intro y hy hy'; rw [mem_GP] at hy hy'; exact hne (Fin.ext (hy.symm.trans hy'))
theorem GP_cover : (Finset.univ : Finset (Fin 60)).biUnion GP = Finset.univ := by
  ext y; simp only [Finset.mem_biUnion, Finset.mem_univ, true_and, iff_true]
  exact ⟨⟨(y 1).val / 256 % 60, Nat.mod_lt _ (by decide)⟩, by rw [mem_GP]⟩
theorem AS_disjoint : ∀ s s' : Fin 8, s ≠ s' → Disjoint (AS s) (AS s') := by
  intro s s' hne; rw [Finset.disjoint_left]; intro y hy hy'; rw [mem_AS] at hy hy'; exact hne (Fin.ext (hy.symm.trans hy'))
theorem AS_cover : (Finset.univ : Finset (Fin 8)).biUnion AS = Finset.univ := by
  ext y; simp only [Finset.mem_biUnion, Finset.mem_univ, true_and, iff_true]
  have h0 : (y 0).val < 8 := (y 0).isLt
  exact ⟨⟨(y 0).val, h0⟩, by rw [mem_AS]⟩
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

omit [FloatOps F] in
theorem pair_eq (c : Dev nD) (XG : Buf (Elt F) (guM.view.loc (c : Thread nD τ))) (b : Fin 60) :
    (((c : Thread nD τ).loc main_arg7) ↦[GP b]{fullShare} XG : sProp 𝕄) = ahomeP c XG b := by
  have e : ∀ u, gwP c XG b u = (((c : Thread nD τ).loc main_arg7) ↦[G60 b u]{fullShare} XG : sProp 𝕄) := fun u =>
    congrArg (fun S => (_ ↦[S]{fullShare} XG : sProp 𝕄)) (gw_set b u)
  unfold ahomeP
  rw [e, e]
  have h := pointsTo_union (Ix := Unit) (Name := ℕ) (U := UU nD τ) (Lvl := ℕ) (ℓ := (c : Thread nD τ).loc main_arg7) (q := fullShare) (f := XG) (G60_disjoint b)
  exact h.1.antisymm h.2
/-- The gate and up weights whole are their sixty pairs home; -/
theorem gu_eq (c : Dev nD) (XG : Buf (Elt F) (guM.view.loc (c : Thread nD τ))) :
    (((c : Thread nD τ).loc main_arg7) ↦{fullShare} XG : sProp 𝕄) = bigSep Finset.univ (ahomeP c XG) := by
  rw [Ring.pointsTo_blocks (ℓ := (c : Thread nD τ).loc main_arg7) GP GP_disjoint GP_cover]
  exact bigSep_congr fun b _ => pair_eq c XG b
/-- at the body's entry, the first eight apart from the rest. -/
theorem ahomes_zero (c : Dev nD) (XG : Buf (Elt F) (guM.view.loc (c : Thread nD τ))) :
    bigSep Finset.univ (ahomeP c XG) = iprop(ahomeP c XG 0 ∗ ahomeP c XG 1 ∗ ahomeP c XG 2 ∗ ahomeP c XG 3 ∗ ahomeP c XG 4 ∗ ahomeP c XG 5 ∗ ahomeP c XG 6 ∗ ahomeP c XG 7
      ∗ bigSep (Ring.homeSet 8 0) (ahomeP c XG)) := by
  have e : (Finset.univ : Finset (Fin 60)) = insert 0 (insert 1 (insert 2 (insert 3 (insert 4 (insert 5 (insert 6 (insert 7 (Ring.homeSet (NB := 60) 8 0)))))))) := by
    decide
  rw [e, bigSep_insert (by decide), bigSep_insert (by decide), bigSep_insert (by decide), bigSep_insert (by decide), bigSep_insert (by decide), bigSep_insert (by decide), bigSep_insert (by decide), bigSep_insert (by decide)]
  rfl

/-- A slot of that ring, at anything. -/
abbrev saP (c : Dev nD) (s : Fin 8) : sProp 𝕄 := iprop(∃ f, aslotP (F := F) c s f)
omit [FloatOps F] in
theorem aslot_in (c : Dev nD) (s : Fin 8) (f) : (((c : Thread nD τ).loc cc0_scratch6) ↦[AS s]{fullShare} f : sProp 𝕄) ⊢ saP c s := by
  iintro H; iexists f; iapply (entails_of_eq (aslotP_eq c s f).symm); iexact H
omit [FloatOps F] in
theorem aslot_out (c : Dev nD) (s : Fin 8) :
    saP c s ⊢ (iprop(∃ f, ((c : Thread nD τ).loc cc0_scratch6) ↦[AS s]{fullShare} f) : sProp 𝕄) := by
  iintro ⟨%f, H⟩; iexists f; iapply (entails_of_eq (aslotP_eq c s f)); iexact H
/-- The ring whole is its eight slots, and back. -/
theorem abuf_split (c : Dev nD) :
    iprop(∃ f : Buf (Elt F) ((c : Thread nD τ).loc cc0_scratch6), ((c : Thread nD τ).loc cc0_scratch6) ↦{fullShare} f)
      ⊢ (iprop(saP c 0 ∗ saP c 1 ∗ saP c 2 ∗ saP c 3 ∗ saP c 4 ∗ saP c 5 ∗ saP c 6 ∗ saP c 7) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch6) AS AS_disjoint AS_cover f).trans (bigSep_fin8 _))) $$ H
  icases H2 with ⟨H0, H1, H2, H3, H4, H5, H6, H7⟩
  isplitl [H0]; · iapply (aslot_in c 0 f); iexact H0
  isplitl [H1]; · iapply (aslot_in c 1 f); iexact H1
  isplitl [H2]; · iapply (aslot_in c 2 f); iexact H2
  isplitl [H3]; · iapply (aslot_in c 3 f); iexact H3
  isplitl [H4]; · iapply (aslot_in c 4 f); iexact H4
  isplitl [H5]; · iapply (aslot_in c 5 f); iexact H5
  isplitl [H6]; · iapply (aslot_in c 6 f); iexact H6
  iapply (aslot_in c 7 f); iexact H7
theorem abuf_join (c : Dev nD) :
    iprop(saP c 0 ∗ saP c 1 ∗ saP c 2 ∗ saP c 3 ∗ saP c 4 ∗ saP c 5 ∗ saP c 6 ∗ saP c 7)
      ⊢ (iprop(∃ f : Buf (Elt F) ((c : Thread nD τ).loc cc0_scratch6), ((c : Thread nD τ).loc cc0_scratch6) ↦{fullShare} f) : sProp 𝕄) := by
  iintro ⟨⟨%f0, H0⟩, H1, H2, H3, H4, H5, H6, H7⟩
  iapply (Ring.pointsTo_blocks_join_exists (ℓ := (c : Thread nD τ).loc cc0_scratch6) AS AS_disjoint AS_cover f0)
  irw [bigSep_fin8]
  isplitl [H0]; · iexists f0; iapply (entails_of_eq (aslotP_eq c 0 f0)); iexact H0
  isplitl [H1]; · iapply (aslot_out c 1); iexact H1
  isplitl [H2]; · iapply (aslot_out c 2); iexact H2
  isplitl [H3]; · iapply (aslot_out c 3); iexact H3
  isplitl [H4]; · iapply (aslot_out c 4); iexact H4
  isplitl [H5]; · iapply (aslot_out c 5); iexact H5
  isplitl [H6]; · iapply (aslot_out c 6); iexact H6
  iapply (aslot_out c 7); iexact H7

/-! ## The pipeline's proof data -/

abbrev XOm (c : Dev nD) : Buf (Elt F) (woM.view.loc (c : Thread nD τ)) := Gen.V m c main_arg3
abbrev XWm (c : Dev nD) : Buf (Elt F) (wM.view.loc (c : Thread nD τ)) := Gen.V m c main_arg9
abbrev XGm (c : Dev nD) : Buf (Elt F) (guM.view.loc (c : Thread nD τ)) := Gen.V m c main_arg7
abbrev XBm (c : Dev nD) : soM.view.ty.Contents (Elt F) := Gen.V m c main_v0
abbrev XNm (c : Dev nD) : pawM.view.ty.Contents (Elt F) := Gen.V m c main_v1
abbrev XFm (c : Dev nD) : pfwM.view.ty.Contents (Elt F) := Gen.V m c main_v2
abbrev XQm (c : Dev nD) : sguM.view.ty.Contents (Elt F) := Gen.V m c main_v3
abbrev XSm (c : Dev nD) : sdnM.view.ty.Contents (Elt F) := Gen.V m c main_v4
abbrev XPm (c : Dev nD) : powM.view.ty.Contents (Elt F) := Gen.V m c main_v5

abbrev st0 (t : Fin cfg0.N) : Memref sig .tc .vmem S6x4x3840 .bf16 := win0_0.stage (cfg0.slots t 0)
abbrev hst0 (t : Fin cfg0.N) : (st0 t).IsWhole := hstage0_0 0
abbrev st1 (t : Fin cfg0.N) : Memref sig .tc .vmem S8x32x512 .fp8e4m3 := win0_1.stage (cfg0.slots t 1)
abbrev hst1 (t : Fin cfg0.N) : (st1 t).IsWhole := hstage0_1 0
abbrev st2 (t : Fin cfg0.N) : Memref sig .tc .vmem S24x128 .f32 := win0_2.stage (cfg0.slots t 2)
abbrev hst2 (t : Fin cfg0.N) : (st2 t).IsWhole := hstage0_2 0
/-- The staging buffers, holding the layer's input, the attention's codes and their scales. -/
abbrev gR (c : Dev nD) (t : Fin cfg0.N) : Buf (Elt F) ((st0 t).view.loc (c : Thread nD τ)) := (st0 t).view.rep (Gen.iblk m c 0 t)
abbrev gA (c : Dev nD) (t : Fin cfg0.N) : Buf (Elt F) ((st1 t).view.loc (c : Thread nD τ)) := (st1 t).view.rep (Gen.iblk m c 1 t)
abbrev gS (c : Dev nD) (t : Fin cfg0.N) : Buf (Elt F) ((st2 t).view.loc (c : Thread nD τ)) := (st2 t).view.rep (Gen.iblk m c 2 t)

/-- The layer's input in rows, the normed output projection, the norm's weight plus one. -/
def r1m (c : Dev nD) : FVec F S24x3840 .f32 := r1Of c (st0 t0_0) (gR m c t0_0)
def r2m (c : Dev nD) : FVec F S24x3840 .f32 := r2Of c (XOm m c) (XBm m c) (st1 t0_0) (st2 t0_0) (gA m c t0_0) (gS m c t0_0)
def r3m (c : Dev nD) : FVec F S24x3840 .f32 := r3Of (XNm m c)

/-- The seven results. -/
def hidR (c : Dev nD) : FVec F S6x4x3840 .bf16 := hidOf c (XWm m c) (XGm m c) (XFm m c) (XQm m c) (XSm m c) (XPm m c) (r1m m c) (r2m m c) (r3m m c)
def oR (c : Dev nD) : FVec F S6x4x3840 .f32 := oOf c (XOm m c) (XBm m c) (st1 t0_0) (st2 t0_0) (gA m c t0_0) (gS m c t0_0)
def dR (c : Dev nD) : FVec F S6x4x3840 .f32 := dOf c (XWm m c) (XGm m c) (XFm m c) (XQm m c) (XSm m c) (r1m m c) (r2m m c) (r3m m c)
def fcR (c : Dev nD) : S6x4x3840.Idx → Elt F .fp8e4m3 := fcOf (XFm m c) (r1m m c) (r2m m c) (r3m m c)
def fsR (c : Dev nD) : FVec F S24x128 .f32 := fsOut (XFm m c) (r1m m c) (r2m m c) (r3m m c)
def codR (c : Dev nD) : S6x4x15360.Idx → Elt F .fp8e4m3 := codOf c (XGm m c) (XFm m c) (XQm m c) (r1m m c) (r2m m c) (r3m m c)
def sclR (c : Dev nD) : FVec F S24x128 .f32 := sclOf c (XGm m c) (XFm m c) (XQm m c) (r1m m c) (r2m m c) (r3m m c)

/-- What the region holds throughout. -/
abbrev keepP (c : Dev nD) : sProp 𝕄 :=
  iprop(bigSep Finset.univ (ohomeP c (XOm m c)) ∗ bigSep Finset.univ (homeP c (XWm m c)) ∗ bigSep Finset.univ (ahomeP c (XGm m c)) ∗ held c main_v0 (XBm m c) ∗ held c main_v1 (XNm m c) ∗ held c main_v2 (XFm m c) ∗ held c main_v3 (XQm m c) ∗ held c main_v4 (XSm m c) ∗ held c main_v5 (XPm m c)
    ∗ someP c cc0_scratch0 ∗ someP c cc0_scratch1 ∗ someP c cc0_scratch2 ∗ someP c cc0_scratch3 ∗ someP c cc0_scratch4 ∗ someP c cc0_scratch5 ∗ someP c cc0_scratch8 ∗ someP c cc0_scratch9 ∗ someP c cc0_scratch10 ∗ someP c cc0_scratch11 ∗ someP c cc0_scratch12 ∗ someP c cc0_scratch13 ∗ someP c cc0_scratch14 ∗ someP c cc0_scratch15 ∗ someP c cc0_scratch16 ∗ someP c cc0_scratch17 ∗ someP c cc0_scratch18 ∗ someP c cc0_scratch19
    ∗ (sslotP c 0 ∗ sslotP c 1 ∗ sslotP c 2 ∗ sslotP c 3 ∗ sslotP c 4 ∗ sslotP c 5)
    ∗ (saP c 0 ∗ saP c 1 ∗ saP c 2 ∗ saP c 3 ∗ saP c 4 ∗ saP c 5 ∗ saP c 6 ∗ saP c 7)
    ∗ (lcellP c ∗ cellP c 0 ∗ cellP c 1 ∗ cellP c 2 ∗ cellP c 3 ∗ cellP c 4 ∗ cellP c 5 ∗ acellP c 0 ∗ acellP c 1 ∗ acellP c 2 ∗ acellP c 3 ∗ acellP c 4 ∗ acellP c 5 ∗ acellP c 6 ∗ acellP c 7 ∗ ocellP c 0 ∗ ocellP c 1 ∗ ocellP c 2 ∗ ocellP c 3 ∗ ocellP c 4 ∗ ocellP c 5 ∗ ocellP c 6))
/-- Before the body the results are anything; -/
def Φ0 (c : Dev nD) : sProp 𝕄 := iprop(keepP m c ∗ someP c main_v6_0 ∗ someP c main_v6_1 ∗ someP c main_v6_2 ∗ someP c main_v6_3 ∗ someP c main_v6_4 ∗ someP c main_v6_5 ∗ someP c main_v6_6)
/-- after it they are computed. -/
def Φ1 (c : Dev nD) : sProp 𝕄 :=
  iprop(keepP m c ∗ held c main_v6_0 (hidR m c) ∗ held c main_v6_1 (oR m c) ∗ held c main_v6_2 (dR m c) ∗ held c main_v6_3 (fcR m c) ∗ held c main_v6_4 (fsR m c) ∗ held c main_v6_5 (codR m c) ∗ held c main_v6_6 (sclR m c))

/-- What the region holds before point `n`. -/
def phiAt (c : Dev nD) : ℕ → sProp 𝕄
  | 0 => Φ0 m c
  | _ + 1 => Φ1 m c

def dats (_ : Fin 1) (c : Dev nD) : Dat τ (Elt F) Unit ℕ (UU nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
  Φ t := phiAt m c t.val
  q _ := fullShare
  owed _ := 0

theorem before_w0 (c : Dev nD) (t : Fin cfg0.N) (d) : (dats m 0 c).before 0 t d = Gen.iblk m c 0 t := by
  unfold Dat.before; rw [if_pos (fetch0_0 t)]; unfold Dat.fetched Dat.blockOf Gen.iblk; dsimp only [dats]; rfl
theorem after_w0 (c : Dev nD) (t : Fin cfg0.N) : (dats m 0 c).after 0 t = Gen.iblk m c 0 t := by dsimp only [dats]
theorem before_w1 (c : Dev nD) (t : Fin cfg0.N) (d) : (dats m 0 c).before 1 t d = Gen.iblk m c 1 t := by
  unfold Dat.before; rw [if_pos (fetch0_1 t)]; unfold Dat.fetched Dat.blockOf Gen.iblk; dsimp only [dats]; rfl
theorem after_w1 (c : Dev nD) (t : Fin cfg0.N) : (dats m 0 c).after 1 t = Gen.iblk m c 1 t := by dsimp only [dats]
theorem before_w2 (c : Dev nD) (t : Fin cfg0.N) (d) : (dats m 0 c).before 2 t d = Gen.iblk m c 2 t := by
  unfold Dat.before; rw [if_pos (fetch0_2 t)]; unfold Dat.fetched Dat.blockOf Gen.iblk; dsimp only [dats]; rfl
theorem after_w2 (c : Dev nD) (t : Fin cfg0.N) : (dats m 0 c).after 2 t = Gen.iblk m c 2 t := by dsimp only [dats]
theorem phi_pre (c : Dev nD) (t : Fin cfg0.N) : (dats m 0 c).Φ t.castSucc = Φ0 m c := by
  rw [fin_N0 t]; rfl
theorem phi_post (c : Dev nD) (t : Fin cfg0.N) : (dats m 0 c).Φ t.succ = Φ1 m c := by
  rw [fin_N0 t]; rfl

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t))
    = bodyG (st0 t) (hst0 t) (st1 t) (hst1 t) (st2 t) (hst2 t) :=
  (congrFun defs_tc _).trans rfl

theorem afree_make (c : Dev nD) (s : Fin 8) : iprop(acellP c s ∗ saP c s) ⊢ (afreeP (F := F) c s) := entails_of_eq (afree_eq c s).symm
theorem afree_open (c : Dev nD) (s : Fin 8) : afreeP (F := F) c s ⊢ iprop(acellP c s ∗ saP c s) := entails_of_eq (afree_eq c s)

set_option maxHeartbeats 1000000 in
set_option backward.isDefEq.respectTransparency.types false in
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, after_w0, before_w1, after_w1, before_w2, after_w2]
  rw [phi_pre, phi_post]
  unfold Dat.owesAt Pipeline.owesWithin
  rw [show (dats m 0 c).owed (Fin.castSucc t0_0) = 0 from rfl, show (dats m 0 c).owed (Fin.succ t0_0) = 0 from rfl]
  unfold owns Φ0 Φ1
  iintro ⟨⟨⟨Ho6, Hh, Ha6, HB, HN, HF, HQ, HS, HP, H0, H1, H2, H3, H4, H5, H8, H9, H10, H11, H12, H13, H14, H15, H16, H17, H18, H19, ⟨Hs0, Hs1, Hs2, Hs3, Hs4, Hs5⟩, ⟨Hx0, Hx1, Hx2, Hx3, Hx4, Hx5, Hx6, Hx7⟩,
    ⟨Hl, Hc0, Hc1, Hc2, Hc3, Hc4, Hc5, Hd0, Hd1, Hd2, Hd3, Hd4, Hd5, Hd6, Hd7, Hp0, Hp1, Hp2, Hp3, Hp4, Hp5, Hp6⟩⟩, HO0, HO1, HO2, HO3, HO4, HO5, HO6⟩, ⟨%W, -, HW⟩, ⟨%d0, %g0, %hg0, HR⟩, ⟨%d1, %g1, %hg1, HA⟩, ⟨%d2, %g2, %hg2, HZ⟩⟩
  ihave Ho7 := (entails_of_eq (ohomes_zero c (XOm m c))) $$ Ho6
  icases Ho7 with ⟨Hg0, Hg1, Hg2, Hg3, Hg4, Hg5, Hoh⟩
  ihave Ha7 := (entails_of_eq (ahomes_zero c (XGm m c))) $$ Ha6
  icases Ha7 with ⟨Ha0, Ha1, Ha2, Ha3, Ha4, Ha5, Ha6, Ha7, Hah⟩
  ihave HR' := (pointsTo_rep_entails (c : Thread nD τ) (st0 t0_0) g0 fullShare) $$ HR
  ihave HA' := (pointsTo_rep_entails (c : Thread nD τ) (st1 t0_0) g1 fullShare) $$ HA
  ihave HZ' := (pointsTo_rep_entails (c : Thread nD τ) (st2 t0_0) g2 fullShare) $$ HZ
  rw [hg0, hg1, hg2]
  sl_rw [prog_eq t0_0]
  iapply (bodyRun c (XOm m c) (XWm m c) (XGm m c) (XBm m c) (XNm m c) (XFm m c) (XQm m c) (XSm m c) (XPm m c) (st0 t0_0) (hst0 t0_0) (st1 t0_0) (hst1 t0_0) (st2 t0_0) (hst2 t0_0) (gR m c t0_0) (gA m c t0_0) (gS m c t0_0) W)
  isplitl [HR' HA' HZ' Hg0 Hg1 Hg2 Hg3 Hg4 Hg5 Hoh Hh Ha0 Ha1 Ha2 Ha3 Ha4 Ha5 Ha6 Ha7 Hah HB HN HF HQ HS HP HO0 HO1 HO2 HO3 HO4 HO5 HO6 H0 H1 H2 H3 H4 H5 H8 H9 H10 H11 H12 H13 H14 H15 H16 H17 H18 H19 Hs0 Hs1 Hs2 Hs3 Hs4 Hs5 Hc0 Hc1 Hc2 Hc3 Hc4 Hc5 Hx0 Hx1 Hx2 Hx3 Hx4 Hx5 Hx6 Hx7 Hd0 Hd1 Hd2 Hd3 Hd4 Hd5 Hd6 Hd7 Hl Hp0 Hp1 Hp2 Hp3 Hp4 Hp5 Hp6 HW]
  · isplitl [HR']; · iexact HR'
    isplitl [HA']; · iexact HA'
    isplitl [HZ']; · iexact HZ'
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hoh]; · iexact Hoh
    isplitl [Hh]; · iexact Hh
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Hah]; · iexact Hah
    isplitl [HB]; · iexact HB
    isplitl [HN]; · iexact HN
    isplitl [HF]; · iexact HF
    isplitl [HQ]; · iexact HQ
    isplitl [HS]; · iexact HS
    isplitl [HP]; · iexact HP
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hd0 Hx0]
    · iapply (afree_make c 0)
      isplitl [Hd0]; · iexact Hd0
      iexact Hx0
    isplitl [Hd1 Hx1]
    · iapply (afree_make c 1)
      isplitl [Hd1]; · iexact Hd1
      iexact Hx1
    isplitl [Hd2 Hx2]
    · iapply (afree_make c 2)
      isplitl [Hd2]; · iexact Hd2
      iexact Hx2
    isplitl [Hd3 Hx3]
    · iapply (afree_make c 3)
      isplitl [Hd3]; · iexact Hd3
      iexact Hx3
    isplitl [Hd4 Hx4]
    · iapply (afree_make c 4)
      isplitl [Hd4]; · iexact Hd4
      iexact Hx4
    isplitl [Hd5 Hx5]
    · iapply (afree_make c 5)
      isplitl [Hd5]; · iexact Hd5
      iexact Hx5
    isplitl [Hd6 Hx6]
    · iapply (afree_make c 6)
      isplitl [Hd6]; · iexact Hd6
      iexact Hx6
    isplitl [Hd7 Hx7]
    · iapply (afree_make c 7)
      isplitl [Hd7]; · iexact Hd7
      iexact Hx7
    isplitl [Hl]; · iexact Hl
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact HW
  · iintro ⟨HR, HA, HZ, Hoh, Hh, Hah, HB, HN, HF, HQ, HS, HP, HO0, HO1, HO2, HO3, HO4, HO5, HO6, H0, H1, H2, H3, H4, H5, H8, H9, H10, H11, H12, H13, H14, H15, H16, H17, H18, H19, Hs0, Hs1, Hs2, Hs3, Hs4, Hs5, Hc0, Hc1, Hc2, Hc3, Hc4, Hc5, Hf0, Hf1, Hf2, Hf3, Hf4, Hf5, Hf6, Hf7, Hl, Hp0, Hp1, Hp2, Hp3, Hp4, Hp5, Hp6, ⟨%W', HW⟩⟩
    ihave Hf0 := (afree_open c 0) $$ Hf0
    icases Hf0 with ⟨Hd0, Hx0⟩
    ihave Hf1 := (afree_open c 1) $$ Hf1
    icases Hf1 with ⟨Hd1, Hx1⟩
    ihave Hf2 := (afree_open c 2) $$ Hf2
    icases Hf2 with ⟨Hd2, Hx2⟩
    ihave Hf3 := (afree_open c 3) $$ Hf3
    icases Hf3 with ⟨Hd3, Hx3⟩
    ihave Hf4 := (afree_open c 4) $$ Hf4
    icases Hf4 with ⟨Hd4, Hx4⟩
    ihave Hf5 := (afree_open c 5) $$ Hf5
    icases Hf5 with ⟨Hd5, Hx5⟩
    ihave Hf6 := (afree_open c 6) $$ Hf6
    icases Hf6 with ⟨Hd6, Hx6⟩
    ihave Hf7 := (afree_open c 7) $$ Hf7
    icases Hf7 with ⟨Hd7, Hx7⟩
    isplitl [Hoh Hh Hah HB HN HF HQ HS HP H0 H1 H2 H3 H4 H5 H8 H9 H10 H11 H12 H13 H14 H15 H16 H17 H18 H19 Hs0 Hs1 Hs2 Hs3 Hs4 Hs5 Hx0 Hx1 Hx2 Hx3 Hx4 Hx5 Hx6 Hx7 Hl Hc0 Hc1 Hc2 Hc3 Hc4 Hc5 Hd0 Hd1 Hd2 Hd3 Hd4 Hd5 Hd6 Hd7 Hp0 Hp1 Hp2 Hp3 Hp4 Hp5 Hp6 HO0 HO1 HO2 HO3 HO4 HO5 HO6]
    · isplitl [Hoh Hh Hah HB HN HF HQ HS HP H0 H1 H2 H3 H4 H5 H8 H9 H10 H11 H12 H13 H14 H15 H16 H17 H18 H19 Hs0 Hs1 Hs2 Hs3 Hs4 Hs5 Hx0 Hx1 Hx2 Hx3 Hx4 Hx5 Hx6 Hx7 Hl Hc0 Hc1 Hc2 Hc3 Hc4 Hc5 Hd0 Hd1 Hd2 Hd3 Hd4 Hd5 Hd6 Hd7 Hp0 Hp1 Hp2 Hp3 Hp4 Hp5 Hp6]
      · isplitl [Hoh]; · iexact Hoh
        isplitl [Hh]; · iexact Hh
        isplitl [Hah]; · iexact Hah
        isplitl [HB]; · iexact HB
        isplitl [HN]; · iexact HN
        isplitl [HF]; · iexact HF
        isplitl [HQ]; · iexact HQ
        isplitl [HS]; · iexact HS
        isplitl [HP]; · iexact HP
        isplitl [H0]; · iexact H0
        isplitl [H1]; · iexact H1
        isplitl [H2]; · iexact H2
        isplitl [H3]; · iexact H3
        isplitl [H4]; · iexact H4
        isplitl [H5]; · iexact H5
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [Hs0 Hs1 Hs2 Hs3 Hs4 Hs5]
        · isplitl [Hs0]; · iexact Hs0
          isplitl [Hs1]; · iexact Hs1
          isplitl [Hs2]; · iexact Hs2
          isplitl [Hs3]; · iexact Hs3
          isplitl [Hs4]; · iexact Hs4
          iexact Hs5
        isplitl [Hx0 Hx1 Hx2 Hx3 Hx4 Hx5 Hx6 Hx7]
        · isplitl [Hx0]; · iexact Hx0
          isplitl [Hx1]; · iexact Hx1
          isplitl [Hx2]; · iexact Hx2
          isplitl [Hx3]; · iexact Hx3
          isplitl [Hx4]; · iexact Hx4
          isplitl [Hx5]; · iexact Hx5
          isplitl [Hx6]; · iexact Hx6
          iexact Hx7
        isplitl [Hl]; · iexact Hl
        isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hd0]; · iexact Hd0
        isplitl [Hd1]; · iexact Hd1
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hp0]; · iexact Hp0
        isplitl [Hp1]; · iexact Hp1
        isplitl [Hp2]; · iexact Hp2
        isplitl [Hp3]; · iexact Hp3
        isplitl [Hp4]; · iexact Hp4
        isplitl [Hp5]; · iexact Hp5
        iexact Hp6
      isplitl [HO0]; · iexact HO0
      isplitl [HO1]; · iexact HO1
      isplitl [HO2]; · iexact HO2
      isplitl [HO3]; · iexact HO3
      isplitl [HO4]; · iexact HO4
      isplitl [HO5]; · iexact HO5
      iexact HO6
    isplitl [HW]
    · iexists W'; isplitr; · ipureintro; exact fun _ _ => Or.inl trivial
      iexact HW
    isplitl [HR]
    · iexists _; isplitr; · ipureintro; exact View.read_rep _ _
      iexact HR
    isplitl [HA]
    · iexists _; isplitr; · ipureintro; exact View.read_rep _ _
      iexact HA
    iexists _; isplitr; · ipureintro; exact View.read_rep _ _
    iexact HZ

/-! ## The run -/

def intoΦ (c : Dev nD) : sProp 𝕄 :=
  iprop((bigSep Finset.univ (ohomeP c (XOm m c)) ∗ bigSep Finset.univ (homeP c (XWm m c)) ∗ bigSep Finset.univ (ahomeP c (XGm m c)) ∗ held c main_v0 (XBm m c) ∗ held c main_v1 (XNm m c) ∗ held c main_v2 (XFm m c) ∗ held c main_v3 (XQm m c) ∗ held c main_v4 (XSm m c) ∗ held c main_v5 (XPm m c)
    ∗ someP c main_v6_0 ∗ someP c main_v6_1 ∗ someP c main_v6_2 ∗ someP c main_v6_3 ∗ someP c main_v6_4 ∗ someP c main_v6_5 ∗ someP c main_v6_6) ∗ Pipeline.ownSems0 osem c)
def outOfΦ (c : Dev nD) : sProp 𝕄 :=
  iprop(held c main_arg3 (XOm m c) ∗ held c main_arg9 (XWm m c) ∗ held c main_arg7 (XGm m c) ∗ held c main_v6_0 (hidR m c) ∗ held c main_v6_1 (oR m c) ∗ held c main_v6_2 (dR m c) ∗ held c main_v6_3 (fcR m c) ∗ held c main_v6_4 (fsR m c) ∗ held c main_v6_5 (codR m c) ∗ held c main_v6_6 (sclR m c))
def restΦ (c : Dev nD) : sProp 𝕄 := iprop(held c main_arg4 (Gen.V m c main_arg4) ∗ held c main_arg5 (Gen.V m c main_arg5) ∗ held c main_arg6 (Gen.V m c main_arg6) ∗ held c main_arg8 (Gen.V m c main_arg8) ∗ held c main_arg10 (Gen.V m c main_arg10) ∗ held c main_arg11 (Gen.V m c main_arg11))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg3) = Gen.V m c main_arg3 ∧ s.mem ((c : Thread nD τ).loc main_arg9) = Gen.V m c main_arg9 ∧ s.mem ((c : Thread nD τ).loc main_arg7) = Gen.V m c main_arg7
    ∧ s.mem ((c : Thread nD τ).loc main_v6_0) = hidR m c ∧ s.mem ((c : Thread nD τ).loc main_v6_1) = oR m c ∧ s.mem ((c : Thread nD τ).loc main_v6_2) = dR m c ∧ s.mem ((c : Thread nD τ).loc main_v6_3) = fcR m c ∧ s.mem ((c : Thread nD τ).loc main_v6_4) = fsR m c ∧ s.mem ((c : Thread nD τ).loc main_v6_5) = codR m c ∧ s.mem ((c : Thread nD τ).loc main_v6_6) = sclR m c
    ∧ s.mem ((c : Thread nD τ).loc main_arg4) = Gen.V m c main_arg4 ∧ s.mem ((c : Thread nD τ).loc main_arg5) = Gen.V m c main_arg5 ∧ s.mem ((c : Thread nD τ).loc main_arg6) = Gen.V m c main_arg6 ∧ s.mem ((c : Thread nD τ).loc main_arg8) = Gen.V m c main_arg8 ∧ s.mem ((c : Thread nD τ).loc main_arg10) = Gen.V m c main_arg10 ∧ s.mem ((c : Thread nD τ).loc main_arg11) = Gen.V m c main_arg11
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option maxHeartbeats 2000000 in
set_option backward.isDefEq.respectTransparency.types false in
/-- At the compiled mesh, for any float values, from any memory with zero counters: every weakly fair execution of
    @main on the TensorCores terminates, and every final state has the results at the named contents, the arguments
    unchanged, every semaphore counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => Gen.V m c b)
    (hmain := Pipeline.hmain_prefix cfgs 0 defs₀ 𝒱₀ m main hostOps0 hostOps0_sub hostOps0_fresh main_chain)
    (hA := fun _ _ => rfl)
    (X := intoΦ m) (Y := outOfΦ m) (Z := restΦ m)
    (hX := fun c => by
      rw [unscopedRest0_eq, o_eq c (XOm m c), w_eq c (XWm m c), gu_eq c (XGm m c)]
      unfold intoΦ restΦ
      iintro ⟨⟨Ho, HA4, HA5, HA6, Hg, HA8, Hw, HA10, HA11, HB, HN, HF, HQ, HS, HP, HO0, HO1, HO2, HO3, HO4, HO5, HO6⟩, Hsem, -, -, -⟩; imodintro
      isplitl [Ho Hw Hg HB HN HF HQ HS HP HO0 HO1 HO2 HO3 HO4 HO5 HO6 Hsem]
      · isplitl [Ho Hw Hg HB HN HF HQ HS HP HO0 HO1 HO2 HO3 HO4 HO5 HO6]
        · isplitl [Ho]; · iexact Ho
          isplitl [Hw]; · iexact Hw
          isplitl [Hg]; · iexact Hg
          isplitl [HB]; · iexact HB
          isplitl [HN]; · iexact HN
          isplitl [HF]; · iexact HF
          isplitl [HQ]; · iexact HQ
          isplitl [HS]; · iexact HS
          isplitl [HP]; · iexact HP
          isplitl [HO0]; · iexists _; iexact HO0
          isplitl [HO1]; · iexists _; iexact HO1
          isplitl [HO2]; · iexists _; iexact HO2
          isplitl [HO3]; · iexists _; iexact HO3
          isplitl [HO4]; · iexists _; iexact HO4
          isplitl [HO5]; · iexists _; iexact HO5
          iexists _; iexact HO6
        iexact Hsem
      isplitl [HA4]; · iexact HA4
      isplitl [HA5]; · iexact HA5
      isplitl [HA6]; · iexact HA6
      isplitl [HA8]; · iexact HA8
      isplitl [HA10]; · iexact HA10
      iexact HA11)
    (hin := fun c => by
      rw [scopedRest0_eq, show (dats m 0 c).Φ 0 = Φ0 m c from rfl]
      unfold intoΦ Φ0; rw [ownSems0_eq]
      iintro ⟨⟨⟨Ho, Hw, Hg, HB, HN, HF, HQ, HS, HP, HO0, HO1, HO2, HO3, HO4, HO5, HO6⟩, Hsem⟩, H0, H1, H2, H3, H4, H5, H6, H7, H8, H9, H10, H11, H12, H13, H14, H15, H16, H17, H18, H19⟩
      ihave Hs := (buf_split c) $$ H7
      ihave Hx := (abuf_split c) $$ H6
      isplitl [Ho Hw Hg HB HN HF HQ HS HP H0 H1 H2 H3 H4 H5 H8 H9 H10 H11 H12 H13 H14 H15 H16 H17 H18 H19 Hs Hx Hsem]
      · isplitl [Ho]; · iexact Ho
        isplitl [Hw]; · iexact Hw
        isplitl [Hg]; · iexact Hg
        isplitl [HB]; · iexact HB
        isplitl [HN]; · iexact HN
        isplitl [HF]; · iexact HF
        isplitl [HQ]; · iexact HQ
        isplitl [HS]; · iexact HS
        isplitl [HP]; · iexact HP
        isplitl [H0]; · iexact H0
        isplitl [H1]; · iexact H1
        isplitl [H2]; · iexact H2
        isplitl [H3]; · iexact H3
        isplitl [H4]; · iexact H4
        isplitl [H5]; · iexact H5
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [Hs]; · iexact Hs
        isplitl [Hx]; · iexact Hx
        iexact Hsem
      isplitl [HO0]; · iexact HO0
      isplitl [HO1]; · iexact HO1
      isplitl [HO2]; · iexact HO2
      isplitl [HO3]; · iexact HO3
      isplitl [HO4]; · iexact HO4
      isplitl [HO5]; · iexact HO5
      iexact HO6)
    (hout := fun c => by
      rw [scopedRest0_eq, show (dats m 0 c).Φ (Fin.last cfg0.N) = Φ1 m c from by rw [← phi_post m c t0_0]; rfl, ownSems0_eq]
      unfold Φ1 outOfΦ
      iintro ⟨⟨Ho, Hw, Hg, HB, HN, HF, HQ, HS, HP, H0, H1, H2, H3, H4, H5, H8, H9, H10, H11, H12, H13, H14, H15, H16, H17, H18, H19, Hs, Hx, Hsem⟩, HO0, HO1, HO2, HO3, HO4, HO5, HO6⟩
      isplitl [Ho Hw Hg HO0 HO1 HO2 HO3 HO4 HO5 HO6]
      · isplitl [Ho]; · iapply (entails_of_eq (o_eq c (XOm m c)).symm); iexact Ho
        isplitl [Hw]; · iapply (entails_of_eq (w_eq c (XWm m c)).symm); iexact Hw
        isplitl [Hg]; · iapply (entails_of_eq (gu_eq c (XGm m c)).symm); iexact Hg
        isplitl [HO0]; · iexact HO0
        isplitl [HO1]; · iexact HO1
        isplitl [HO2]; · iexact HO2
        isplitl [HO3]; · iexact HO3
        isplitl [HO4]; · iexact HO4
        isplitl [HO5]; · iexact HO5
        iexact HO6
      isplitl [Hsem]; · iexact Hsem
      ihave H7 := (buf_join c) $$ Hs
      ihave H6 := (abuf_join c) $$ Hx
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19)
    (QY := QY m)
    (hY := fun c s' => by
      unfold outOfΦ restΦ
      iintro ⟨⟨Ho, Hw, Hg, HO0, HO1, HO2, HO3, HO4, HO5, HO6⟩, ⟨HA4, HA5, HA6, HA8, HA10, HA11⟩, HSI⟩
      icombine HSI Ho gives %h0
      icombine HSI Hw gives %h1
      icombine HSI Hg gives %h2
      icombine HSI HO0 gives %h3
      icombine HSI HO1 gives %h4
      icombine HSI HO2 gives %h5
      icombine HSI HO3 gives %h6
      icombine HSI HO4 gives %h7
      icombine HSI HO5 gives %h8
      icombine HSI HO6 gives %h9
      icombine HSI HA4 gives %h10
      icombine HSI HA5 gives %h11
      icombine HSI HA6 gives %h12
      icombine HSI HA8 gives %h13
      icombine HSI HA10 gives %h14
      icombine HSI HA11 gives %h15
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6, Buf.eq_of_forall_mem_univ h7, Buf.eq_of_forall_mem_univ h8, Buf.eq_of_forall_mem_univ h9, Buf.eq_of_forall_mem_univ h10, Buf.eq_of_forall_mem_univ h11, Buf.eq_of_forall_mem_univ h12, Buf.eq_of_forall_mem_univ h13, Buf.eq_of_forall_mem_univ h14, Buf.eq_of_forall_mem_univ h15⟩
      iexact HSI)
    (hQ := fun _ hh hz => ⟨hh, hz⟩)

/-- The run, at the results and the arguments. -/
theorem run : θ_run defs (onTc (τ := τ) (main (F := F))) ⟨m, fun _ => 0, ρ⟩ (fun r =>
    (∀ c : Dev nD, r.2.mem ((c : Thread nD τ).loc main_v6_0) = hidR m c ∧ r.2.mem ((c : Thread nD τ).loc main_v6_1) = oR m c ∧ r.2.mem ((c : Thread nD τ).loc main_v6_2) = dR m c ∧ r.2.mem ((c : Thread nD τ).loc main_v6_3) = fcR m c ∧ r.2.mem ((c : Thread nD τ).loc main_v6_4) = fsR m c ∧ r.2.mem ((c : Thread nD τ).loc main_v6_5) = codR m c ∧ r.2.mem ((c : Thread nD τ).loc main_v6_6) = sclR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11))
    ∧ r.2.sem = fun _ => 0) :=
  (θ_run defs _ _).mono (fun _ hh => ⟨fun c => by
    obtain ⟨hw, h3, h9, h7, ho0, ho1, ho2, ho3, ho4, ho5, ho6, h4, h5, h6, h8, h10, h11⟩ := hh.1 c
    exact ⟨ho0, ho1, ho2, ho3, ho4, ho5, ho6,
      ((hw 0).trans ((dats m 0 c).arrAt_in 0 rfl _)).trans (V_main_arg0 m c),
      ((hw 1).trans ((dats m 0 c).arrAt_in 1 rfl _)).trans (V_main_arg1 m c),
      ((hw 2).trans ((dats m 0 c).arrAt_in 2 rfl _)).trans (V_main_arg2 m c),
      h3.trans (V_main_arg3 m c), h4.trans (V_main_arg4 m c), h5.trans (V_main_arg5 m c), h6.trans (V_main_arg6 m c), h7.trans (V_main_arg7 m c), h8.trans (V_main_arg8 m c), h9.trans (V_main_arg9 m c), h10.trans (V_main_arg10 m c), h11.trans (V_main_arg11 m c)⟩, hh.2⟩) (run_main m ρ)

end Launch

end Cert.Proof.KernelIdeal

end
-- ==== Proof.RefRun.lean ====
/-
  The reference's run, read: its one call has one grid point whose windows are whole arrays, so each result array ends at
  the body's value of the argument arrays, and the arguments are unchanged.
-/
module

public import proofs.«01_k».proof.Proof.Gen.ReferenceIdeal.Frame
public import Idealize.ShloMosaic.Lib.Pipeline.Value

@[expose] public section

noncomputable section

namespace Cert.Proof.Reference

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v0_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v0_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v0_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v0_5) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v0_6) = (dats m 0 c).arrAt 18 cfg0.N :=
  (h c).1 18

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S6x4x3840.Idx) : ((cfg0.win 0).blk t).view.emb j = j := by
  obtain ⟨e0, e1, e2⟩ := idx_zero0 t
  funext a; apply Fin.ext
  match a with
  | ⟨0, _⟩ => show win0_0.index t (0 : Fin 3) * 6 + 1 * (j 0).val = (j 0).val; omega
  | ⟨1, _⟩ => show win0_0.index t (1 : Fin 3) * 4 + 1 * (j 1).val = (j 1).val; omega
  | ⟨2, _⟩ => show win0_0.index t (2 : Fin 3) * 3840 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S8x32x512.Idx) : ((cfg0.win 1).blk t).view.emb j = j := by
  obtain ⟨e0, e1, e2⟩ := idx_zero1 t
  funext a; apply Fin.ext
  match a with
  | ⟨0, _⟩ => show win0_1.index t (0 : Fin 3) * 8 + 1 * (j 0).val = (j 0).val; omega
  | ⟨1, _⟩ => show win0_1.index t (1 : Fin 3) * 32 + 1 * (j 1).val = (j 1).val; omega
  | ⟨2, _⟩ => show win0_1.index t (2 : Fin 3) * 512 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S24x128.Idx) : ((cfg0.win 2).blk t).view.emb j = j := by
  obtain ⟨e0, e1⟩ := idx_zero2 t
  funext a; apply Fin.ext
  match a with
  | ⟨0, _⟩ => show win0_2.index t (0 : Fin 2) * 24 + 1 * (j 0).val = (j 0).val; omega
  | ⟨1, _⟩ => show win0_2.index t (1 : Fin 2) * 128 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S4096x3840.Idx) : ((cfg0.win 3).blk t).view.emb j = j := by
  obtain ⟨e0, e1⟩ := idx_zero3 t
  funext a; apply Fin.ext
  match a with
  | ⟨0, _⟩ => show win0_3.index t (0 : Fin 2) * 4096 + 1 * (j 0).val = (j 0).val; omega
  | ⟨1, _⟩ => show win0_3.index t (1 : Fin 2) * 3840 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S3840.Idx) : ((cfg0.win 4).blk t).view.emb j = j := by
  have e0 := idx_zero4 t
  funext a; apply Fin.ext
  match a with
  | ⟨0, _⟩ => show win0_4.index t (0 : Fin 1) * 3840 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S3840.Idx) : ((cfg0.win 5).blk t).view.emb j = j := by
  have e0 := idx_zero5 t
  funext a; apply Fin.ext
  match a with
  | ⟨0, _⟩ => show win0_5.index t (0 : Fin 1) * 3840 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S3840.Idx) : ((cfg0.win 6).blk t).view.emb j = j := by
  have e0 := idx_zero6 t
  funext a; apply Fin.ext
  match a with
  | ⟨0, _⟩ => show win0_6.index t (0 : Fin 1) * 3840 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S3840x30720.Idx) : ((cfg0.win 7).blk t).view.emb j = j := by
  obtain ⟨e0, e1⟩ := idx_zero7 t
  funext a; apply Fin.ext
  match a with
  | ⟨0, _⟩ => show win0_7.index t (0 : Fin 2) * 3840 + 1 * (j 0).val = (j 0).val; omega
  | ⟨1, _⟩ => show win0_7.index t (1 : Fin 2) * 30720 + 1 * (j 1).val = (j 1).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0] : Fin 1 → Nat) = fun _ => 0 := funext fun a => by fin_cases a <;> rfl

/-- Window 8's block index at the one point is zero on every axis. -/
theorem idx_zero8 : ∀ t : Fin cfg0.N, win0_8.index t (0 : Fin 1) = 0 :=
  (by decide +kernel : ∀ t : Fin grid0.N, _)

/-- An index of window 8's block is the same index of its array. -/
theorem emb8 (t : Fin cfg0.N) (j : S30720.Idx) : ((cfg0.win 8).blk t).view.emb j = j := by
  have e0 := idx_zero8 t
  funext a; apply Fin.ext
  match a with
  | ⟨0, _⟩ => show win0_8.index t (0 : Fin 1) * 30720 + 1 * (j 0).val = (j 0).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S15360x3840.Idx) : ((cfg0.win 9).blk t).view.emb j = j := by
  obtain ⟨e0, e1⟩ := idx_zero9 t
  funext a; apply Fin.ext
  match a with
  | ⟨0, _⟩ => show win0_9.index t (0 : Fin 2) * 15360 + 1 * (j 0).val = (j 0).val; omega
  | ⟨1, _⟩ => show win0_9.index t (1 : Fin 2) * 3840 + 1 * (j 1).val = (j 1).val; omega

/-- Input window 9's block at the point is its array as the region finds it. -/
theorem iblk9_eq (c : Dev nD) (t : Fin cfg0.N) : iblk m c 9 t = V m c main_arg9 := by
  funext j; show V m c main_arg9 (((cfg0.win 9).blk t).view.emb j) = V m c main_arg9 j; rw [emb9]

theorem hz10 : (![0] : Fin 1 → Nat) = fun _ => 0 := funext fun a => by fin_cases a <;> rfl

/-- Window 10's block index at the one point is zero on every axis. -/
theorem idx_zero10 : ∀ t : Fin cfg0.N, win0_10.index t (0 : Fin 1) = 0 :=
  (by decide +kernel : ∀ t : Fin grid0.N, _)

/-- An index of window 10's block is the same index of its array. -/
theorem emb10 (t : Fin cfg0.N) (j : S3840.Idx) : ((cfg0.win 10).blk t).view.emb j = j := by
  have e0 := idx_zero10 t
  funext a; apply Fin.ext
  match a with
  | ⟨0, _⟩ => show win0_10.index t (0 : Fin 1) * 3840 + 1 * (j 0).val = (j 0).val; omega

/-- Input window 10's block at the point is its array as the region finds it. -/
theorem iblk10_eq (c : Dev nD) (t : Fin cfg0.N) : iblk m c 10 t = V m c main_arg10 := by
  funext j; show V m c main_arg10 (((cfg0.win 10).blk t).view.emb j) = V m c main_arg10 j; rw [emb10]

theorem hz11 : (![0] : Fin 1 → Nat) = fun _ => 0 := funext fun a => by fin_cases a <;> rfl

/-- Window 11's block index at the one point is zero on every axis. -/
theorem idx_zero11 : ∀ t : Fin cfg0.N, win0_11.index t (0 : Fin 1) = 0 :=
  (by decide +kernel : ∀ t : Fin grid0.N, _)

/-- An index of window 11's block is the same index of its array. -/
theorem emb11 (t : Fin cfg0.N) (j : S3840.Idx) : ((cfg0.win 11).blk t).view.emb j = j := by
  have e0 := idx_zero11 t
  funext a; apply Fin.ext
  match a with
  | ⟨0, _⟩ => show win0_11.index t (0 : Fin 1) * 3840 + 1 * (j 0).val = (j 0).val; omega

/-- Input window 11's block at the point is its array as the region finds it. -/
theorem iblk11_eq (c : Dev nD) (t : Fin cfg0.N) : iblk m c 11 t = V m c main_arg11 := by
  funext j; show V m c main_arg11 (((cfg0.win 11).blk t).view.emb j) = V m c main_arg11 j; rw [emb11]

theorem hz12 : (![0, 0, 0] : Fin 3 → Nat) = fun _ => 0 := funext fun a => by fin_cases a <;> rfl

/-- Window 12's block index at the one point is zero on every axis. -/
theorem idx_zero12 : ∀ t : Fin cfg0.N, win0_12.index t (0 : Fin 3) = 0 ∧ win0_12.index t (1 : Fin 3) = 0 ∧ win0_12.index t (2 : Fin 3) = 0 :=
  (by decide +kernel : ∀ t : Fin grid0.N, _)

/-- An index of window 12's block is the same index of its array. -/
theorem emb12 (t : Fin cfg0.N) (j : S6x4x3840.Idx) : ((cfg0.win 12).blk t).view.emb j = j := by
  obtain ⟨e0, e1, e2⟩ := idx_zero12 t
  funext a; apply Fin.ext
  match a with
  | ⟨0, _⟩ => show win0_12.index t (0 : Fin 3) * 6 + 1 * (j 0).val = (j 0).val; omega
  | ⟨1, _⟩ => show win0_12.index t (1 : Fin 3) * 4 + 1 * (j 1).val = (j 1).val; omega
  | ⟨2, _⟩ => show win0_12.index t (2 : Fin 3) * 3840 + 1 * (j 2).val = (j 2).val; omega

theorem hz13 : (![0, 0, 0] : Fin 3 → Nat) = fun _ => 0 := funext fun a => by fin_cases a <;> rfl

/-- Window 13's block index at the one point is zero on every axis. -/
theorem idx_zero13 : ∀ t : Fin cfg0.N, win0_13.index t (0 : Fin 3) = 0 ∧ win0_13.index t (1 : Fin 3) = 0 ∧ win0_13.index t (2 : Fin 3) = 0 :=
  (by decide +kernel : ∀ t : Fin grid0.N, _)

/-- An index of window 13's block is the same index of its array. -/
theorem emb13 (t : Fin cfg0.N) (j : S6x4x3840.Idx) : ((cfg0.win 13).blk t).view.emb j = j := by
  obtain ⟨e0, e1, e2⟩ := idx_zero13 t
  funext a; apply Fin.ext
  match a with
  | ⟨0, _⟩ => show win0_13.index t (0 : Fin 3) * 6 + 1 * (j 0).val = (j 0).val; omega
  | ⟨1, _⟩ => show win0_13.index t (1 : Fin 3) * 4 + 1 * (j 1).val = (j 1).val; omega
  | ⟨2, _⟩ => show win0_13.index t (2 : Fin 3) * 3840 + 1 * (j 2).val = (j 2).val; omega

theorem hz14 : (![0, 0, 0] : Fin 3 → Nat) = fun _ => 0 := funext fun a => by fin_cases a <;> rfl

/-- Window 14's block index at the one point is zero on every axis. -/
theorem idx_zero14 : ∀ t : Fin cfg0.N, win0_14.index t (0 : Fin 3) = 0 ∧ win0_14.index t (1 : Fin 3) = 0 ∧ win0_14.index t (2 : Fin 3) = 0 :=
  (by decide +kernel : ∀ t : Fin grid0.N, _)

/-- An index of window 14's block is the same index of its array. -/
theorem emb14 (t : Fin cfg0.N) (j : S6x4x3840.Idx) : ((cfg0.win 14).blk t).view.emb j = j := by
  obtain ⟨e0, e1, e2⟩ := idx_zero14 t
  funext a; apply Fin.ext
  match a with
  | ⟨0, _⟩ => show win0_14.index t (0 : Fin 3) * 6 + 1 * (j 0).val = (j 0).val; omega
  | ⟨1, _⟩ => show win0_14.index t (1 : Fin 3) * 4 + 1 * (j 1).val = (j 1).val; omega
  | ⟨2, _⟩ => show win0_14.index t (2 : Fin 3) * 3840 + 1 * (j 2).val = (j 2).val; omega

theorem hz15 : (![0, 0, 0] : Fin 3 → Nat) = fun _ => 0 := funext fun a => by fin_cases a <;> rfl

/-- Window 15's block index at the one point is zero on every axis. -/
theorem idx_zero15 : ∀ t : Fin cfg0.N, win0_15.index t (0 : Fin 3) = 0 ∧ win0_15.index t (1 : Fin 3) = 0 ∧ win0_15.index t (2 : Fin 3) = 0 :=
  (by decide +kernel : ∀ t : Fin grid0.N, _)

/-- An index of window 15's block is the same index of its array. -/
theorem emb15 (t : Fin cfg0.N) (j : S6x4x3840.Idx) : ((cfg0.win 15).blk t).view.emb j = j := by
  obtain ⟨e0, e1, e2⟩ := idx_zero15 t
  funext a; apply Fin.ext
  match a with
  | ⟨0, _⟩ => show win0_15.index t (0 : Fin 3) * 6 + 1 * (j 0).val = (j 0).val; omega
  | ⟨1, _⟩ => show win0_15.index t (1 : Fin 3) * 4 + 1 * (j 1).val = (j 1).val; omega
  | ⟨2, _⟩ => show win0_15.index t (2 : Fin 3) * 3840 + 1 * (j 2).val = (j 2).val; omega

theorem hz16 : (![0, 0] : Fin 2 → Nat) = fun _ => 0 := funext fun a => by fin_cases a <;> rfl

/-- Window 16's block index at the one point is zero on every axis. -/
theorem idx_zero16 : ∀ t : Fin cfg0.N, win0_16.index t (0 : Fin 2) = 0 ∧ win0_16.index t (1 : Fin 2) = 0 :=
  (by decide +kernel : ∀ t : Fin grid0.N, _)

/-- An index of window 16's block is the same index of its array. -/
theorem emb16 (t : Fin cfg0.N) (j : S24x128.Idx) : ((cfg0.win 16).blk t).view.emb j = j := by
  obtain ⟨e0, e1⟩ := idx_zero16 t
  funext a; apply Fin.ext
  match a with
  | ⟨0, _⟩ => show win0_16.index t (0 : Fin 2) * 24 + 1 * (j 0).val = (j 0).val; omega
  | ⟨1, _⟩ => show win0_16.index t (1 : Fin 2) * 128 + 1 * (j 1).val = (j 1).val; omega

theorem hz17 : (![0, 0, 0] : Fin 3 → Nat) = fun _ => 0 := funext fun a => by fin_cases a <;> rfl

/-- Window 17's block index at the one point is zero on every axis. -/
theorem idx_zero17 : ∀ t : Fin cfg0.N, win0_17.index t (0 : Fin 3) = 0 ∧ win0_17.index t (1 : Fin 3) = 0 ∧ win0_17.index t (2 : Fin 3) = 0 :=
  (by decide +kernel : ∀ t : Fin grid0.N, _)

/-- An index of window 17's block is the same index of its array. -/
theorem emb17 (t : Fin cfg0.N) (j : S6x4x15360.Idx) : ((cfg0.win 17).blk t).view.emb j = j := by
  obtain ⟨e0, e1, e2⟩ := idx_zero17 t
  funext a; apply Fin.ext
  match a with
  | ⟨0, _⟩ => show win0_17.index t (0 : Fin 3) * 6 + 1 * (j 0).val = (j 0).val; omega
  | ⟨1, _⟩ => show win0_17.index t (1 : Fin 3) * 4 + 1 * (j 1).val = (j 1).val; omega
  | ⟨2, _⟩ => show win0_17.index t (2 : Fin 3) * 15360 + 1 * (j 2).val = (j 2).val; omega

theorem hz18 : (![0, 0] : Fin 2 → Nat) = fun _ => 0 := funext fun a => by fin_cases a <;> rfl

/-- Window 18's block index at the one point is zero on every axis. -/
theorem idx_zero18 : ∀ t : Fin cfg0.N, win0_18.index t (0 : Fin 2) = 0 ∧ win0_18.index t (1 : Fin 2) = 0 :=
  (by decide +kernel : ∀ t : Fin grid0.N, _)

/-- An index of window 18's block is the same index of its array. -/
theorem emb18 (t : Fin cfg0.N) (j : S24x128.Idx) : ((cfg0.win 18).blk t).view.emb j = j := by
  obtain ⟨e0, e1⟩ := idx_zero18 t
  funext a; apply Fin.ext
  match a with
  | ⟨0, _⟩ => show win0_18.index t (0 : Fin 2) * 24 + 1 * (j 0).val = (j 0).val; omega
  | ⟨1, _⟩ => show win0_18.index t (1 : Fin 2) * 128 + 1 * (j 1).val = (j 1).val; omega

/-! ### Output window 12: the array after the run -/

/-- What the window's array ends holding, as a function of the argument arrays. -/
abbrev G12 (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : Vec F S6x4x3840 .bf16 :=
  k0_pay1 (k0_pay9 a1 a2 a3 a4 a0 a5) a11 (k0_pay22 (k0_pay15 (k0_pay9 a1 a2 a3 a4 a0 a5) a6 (k0_pay10 a1 a2 a3 a4 a0 a5) (Scalar.ofBits .f32 0x45700000#32) a7 a8) (k0_pay16 (k0_pay9 a1 a2 a3 a4 a0 a5) a6 (k0_pay10 a1 a2 a3 a4 a0 a5) (Scalar.ofBits .f32 0x45700000#32) a7 a8) (k0_pay17 (k0_pay9 a1 a2 a3 a4 a0 a5) a6 (k0_pay10 a1 a2 a3 a4 a0 a5) (Scalar.ofBits .f32 0x45700000#32) a7 a8) a9 a10) (Scalar.ofBits .f32 0x3F800000#32)

/-- A load of the whole of a block reads the block, and the one store through the whole rectangle leaves its payload. -/
theorem out12_eq (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : out0_12 (F := F) a0 a1 a2 a3 a4 a5 a6 a7 a8 a9 a10 a11 = G12 a0 a1 a2 a3 a4 a5 a6 a7 a8 a9 a10 a11 := by
  unfold out0_12 k0_pay27 k0_pay26 k0_pay25 k0_pay24 k0_pay23
  rw [View.canon_unit_zero hz12, View.ld_unit_zero (S := S6x4x3840) hz0 _ a0, View.ld_unit_zero (S := S8x32x512) hz1 _ a1, View.ld_unit_zero (S := S24x128) hz2 _ a2, View.ld_unit_zero (S := S4096x3840) hz3 _ a3, View.ld_unit_zero (S := S3840) hz4 _ a4, View.ld_unit_zero (S := S3840) hz5 _ a5, View.ld_unit_zero (S := S3840) hz6 _ a6, View.ld_unit_zero (S := S3840x30720) hz7 _ a7, View.ld_unit_zero (S := S30720) hz8 _ a8, View.ld_unit_zero (S := S15360x3840) hz9 _ a9, View.ld_unit_zero (S := S3840) hz10 _ a10, View.ld_unit_zero (S := S3840) hz11 _ a11]

/-- Cutting the point's block out of `X` and reading `X` through the block's view give the same. -/
theorem cut12_eq (t : Fin cfg0.N) (X : Vec F S6x4x3840 .bf16) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq, iblk9_eq, iblk10_eq, iblk11_eq]
  exact cut12_eq t _

/-- Every index of the array is in the point's block. -/
theorem covered12 (i : S6x4x3840.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 12 (G12 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed12_eq m c t) covered12).trans (by rw [V_main_arg0, V_main_arg1, V_main_arg2, V_main_arg3, V_main_arg4, V_main_arg5, V_main_arg6, V_main_arg7, V_main_arg8, V_main_arg9, V_main_arg10, V_main_arg11])

/-! ### Output window 13: the array after the run -/

/-- What the window's array ends holding, as a function of the argument arrays. -/
abbrev G13 (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : Vec F S6x4x3840 .f32 :=
  k0_pay2 (k0_pay8 a1 a2 a3 a4)

/-- A load of the whole of a block reads the block, and the one store through the whole rectangle leaves its payload. -/
theorem out13_eq (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : out0_13 (F := F) a0 a1 a2 a3 a4 a5 a6 a7 a8 a9 a10 a11 = G13 a0 a1 a2 a3 a4 a5 a6 a7 a8 a9 a10 a11 := by
  unfold out0_13
  rw [View.canon_unit_zero hz13, View.ld_unit_zero (S := S8x32x512) hz1 _ a1, View.ld_unit_zero (S := S24x128) hz2 _ a2, View.ld_unit_zero (S := S4096x3840) hz3 _ a3, View.ld_unit_zero (S := S3840) hz4 _ a4]

/-- Cutting the point's block out of `X` and reading `X` through the block's view give the same. -/
theorem cut13_eq (t : Fin cfg0.N) (X : Vec F S6x4x3840 .f32) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq, iblk8_eq, iblk9_eq, iblk10_eq, iblk11_eq]
  exact cut13_eq t _

/-- Every index of the array is in the point's block. -/
theorem covered13 (i : S6x4x3840.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 13 (G13 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed13_eq m c t) covered13).trans (by rw [V_main_arg0, V_main_arg1, V_main_arg2, V_main_arg3, V_main_arg4, V_main_arg5, V_main_arg6, V_main_arg7, V_main_arg8, V_main_arg9, V_main_arg10, V_main_arg11])

/-! ### Output window 14: the array after the run -/

/-- What the window's array ends holding, as a function of the argument arrays. -/
abbrev G14 (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : Vec F S6x4x3840 .f32 :=
  k0_pay3 (k0_pay21 (k0_pay15 (k0_pay9 a1 a2 a3 a4 a0 a5) a6 (k0_pay10 a1 a2 a3 a4 a0 a5) (Scalar.ofBits .f32 0x45700000#32) a7 a8) (k0_pay16 (k0_pay9 a1 a2 a3 a4 a0 a5) a6 (k0_pay10 a1 a2 a3 a4 a0 a5) (Scalar.ofBits .f32 0x45700000#32) a7 a8) (k0_pay17 (k0_pay9 a1 a2 a3 a4 a0 a5) a6 (k0_pay10 a1 a2 a3 a4 a0 a5) (Scalar.ofBits .f32 0x45700000#32) a7 a8) a9 a10)

/-- A load of the whole of a block reads the block, and the one store through the whole rectangle leaves its payload. -/
theorem out14_eq (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : out0_14 (F := F) a0 a1 a2 a3 a4 a5 a6 a7 a8 a9 a10 a11 = G14 a0 a1 a2 a3 a4 a5 a6 a7 a8 a9 a10 a11 := by
  unfold out0_14 k0_pay27 k0_pay26 k0_pay25 k0_pay24 k0_pay23
  rw [View.canon_unit_zero hz14, View.ld_unit_zero (S := S6x4x3840) hz0 _ a0, View.ld_unit_zero (S := S8x32x512) hz1 _ a1, View.ld_unit_zero (S := S24x128) hz2 _ a2, View.ld_unit_zero (S := S4096x3840) hz3 _ a3, View.ld_unit_zero (S := S3840) hz4 _ a4, View.ld_unit_zero (S := S3840) hz5 _ a5, View.ld_unit_zero (S := S3840) hz6 _ a6, View.ld_unit_zero (S := S3840x30720) hz7 _ a7, View.ld_unit_zero (S := S30720) hz8 _ a8, View.ld_unit_zero (S := S15360x3840) hz9 _ a9, View.ld_unit_zero (S := S3840) hz10 _ a10]

/-- Cutting the point's block out of `X` and reading `X` through the block's view give the same. -/
theorem cut14_eq (t : Fin cfg0.N) (X : Vec F S6x4x3840 .f32) :
    (cfg0.win 14).cut (grid0.coords t) X = ((cfg0.win 14).blk t).view.read (Elt F) X := by
  funext j
  show X j = X (((cfg0.win 14).blk t).view.emb j)
  rw [emb14]

/-- WHAT THE POINT WRITES BACK is its block of `G14` of the argument arrays as the region finds them. -/
theorem flushed14_eq (c : Dev nD) (t : Fin cfg0.N) :
    (dats m 0 c).flushed 14 t = ((cfg0.win 14).blk t).view.read (Elt F) (G14 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 14).cut (grid0.coords t) ((dats m 0 c).after 14 t) = _
  rw [after0_14, out14_eq, iblk0_eq, iblk1_eq, iblk2_eq, iblk3_eq, iblk4_eq, iblk5_eq, iblk6_eq, iblk7_eq, iblk8_eq, iblk9_eq, iblk10_eq, iblk11_eq]
  exact cut14_eq t _

/-- Every index of the array is in the point's block. -/
theorem covered14 (i : S6x4x3840.Idx) :
    ∃ t : Fin cfg0.N, (cfg0.win 14).flush t = true ∧ i ∈ ((cfg0.win 14).blk t).view.set :=
  ⟨(⟨0, by decide⟩ : Fin cfg0.N), flush0_14 _, by have h := ((cfg0.win 14).blk (⟨0, by decide⟩ : Fin cfg0.N)).view.emb_mem_set i; rwa [emb14] at h⟩

/-- THE ARRAY after the run: `G14` of the argument arrays as launched. -/
theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 14 (G14 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed14_eq m c t) covered14).trans (by rw [V_main_arg0, V_main_arg1, V_main_arg2, V_main_arg3, V_main_arg4, V_main_arg5, V_main_arg6, V_main_arg7, V_main_arg8, V_main_arg9, V_main_arg10, V_main_arg11])

/-! ### Output window 15: the array after the run -/

/-- What the window's array ends holding, as a function of the argument arrays. -/
abbrev G15 (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : Vec F S6x4x3840 .fp8e4m3 :=
  k0_pay4 (k0_pay13 (k0_pay9 a1 a2 a3 a4 a0 a5) a6 (k0_pay10 a1 a2 a3 a4 a0 a5) (Scalar.ofBits .f32 0x45700000#32))

/-- A load of the whole of a block reads the block, and the one store through the whole rectangle leaves its payload. -/
theorem out15_eq (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : out0_15 (F := F) a0 a1 a2 a3 a4 a5 a6 a7 a8 a9 a10 a11 = G15 a0 a1 a2 a3 a4 a5 a6 a7 a8 a9 a10 a11 := by
  unfold out0_15 k0_pay24 k0_pay23
  rw [View.canon_unit_zero hz15, View.ld_unit_zero (S := S6x4x3840) hz0 _ a0, View.ld_unit_zero (S := S8x32x512) hz1 _ a1, View.ld_unit_zero (S := S24x128) hz2 _ a2, View.ld_unit_zero (S := S4096x3840) hz3 _ a3, View.ld_unit_zero (S := S3840) hz4 _ a4, View.ld_unit_zero (S := S3840) hz5 _ a5, View.ld_unit_zero (S := S3840) hz6 _ a6]

/-- Cutting the point's block out of `X` and reading `X` through the block's view give the same. -/
theorem cut15_eq (t : Fin cfg0.N) (X : Vec F S6x4x3840 .fp8e4m3) :
    (cfg0.win 15).cut (grid0.coords t) X = ((cfg0.win 15).blk t).view.read (Elt F) X := by
  funext j
  show X j = X (((cfg0.win 15).blk t).view.emb j)
  rw [emb15]

/-- WHAT THE POINT WRITES BACK is its block of `G15` of the argument arrays as the region finds them. -/
theorem flushed15_eq (c : Dev nD) (t : Fin cfg0.N) :
    (dats m 0 c).flushed 15 t = ((cfg0.win 15).blk t).view.read (Elt F) (G15 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 15).cut (grid0.coords t) ((dats m 0 c).after 15 t) = _
  rw [after0_15, out15_eq, iblk0_eq, iblk1_eq, iblk2_eq, iblk3_eq, iblk4_eq, iblk5_eq, iblk6_eq, iblk7_eq, iblk8_eq, iblk9_eq, iblk10_eq, iblk11_eq]
  exact cut15_eq t _

/-- Every index of the array is in the point's block. -/
theorem covered15 (i : S6x4x3840.Idx) :
    ∃ t : Fin cfg0.N, (cfg0.win 15).flush t = true ∧ i ∈ ((cfg0.win 15).blk t).view.set :=
  ⟨(⟨0, by decide⟩ : Fin cfg0.N), flush0_15 _, by have h := ((cfg0.win 15).blk (⟨0, by decide⟩ : Fin cfg0.N)).view.emb_mem_set i; rwa [emb15] at h⟩

/-- THE ARRAY after the run: `G15` of the argument arrays as launched. -/
theorem final15 (c : Dev nD) : (dats m 0 c).arrAt 15 cfg0.N = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 15 (G15 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed15_eq m c t) covered15).trans (by rw [V_main_arg0, V_main_arg1, V_main_arg2, V_main_arg3, V_main_arg4, V_main_arg5, V_main_arg6, V_main_arg7, V_main_arg8, V_main_arg9, V_main_arg10, V_main_arg11])

/-! ### Output window 16: the array after the run -/

/-- What the window's array ends holding, as a function of the argument arrays. -/
abbrev G16 (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : Vec F S24x128 .f32 :=
  k0_pay5 (k0_pay12 (k0_pay9 a1 a2 a3 a4 a0 a5) a6 (k0_pay10 a1 a2 a3 a4 a0 a5) (Scalar.ofBits .f32 0x45700000#32))

/-- A load of the whole of a block reads the block, and the one store through the whole rectangle leaves its payload. -/
theorem out16_eq (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : out0_16 (F := F) a0 a1 a2 a3 a4 a5 a6 a7 a8 a9 a10 a11 = G16 a0 a1 a2 a3 a4 a5 a6 a7 a8 a9 a10 a11 := by
  unfold out0_16 k0_pay24 k0_pay23
  rw [View.canon_unit_zero hz16, View.ld_unit_zero (S := S6x4x3840) hz0 _ a0, View.ld_unit_zero (S := S8x32x512) hz1 _ a1, View.ld_unit_zero (S := S24x128) hz2 _ a2, View.ld_unit_zero (S := S4096x3840) hz3 _ a3, View.ld_unit_zero (S := S3840) hz4 _ a4, View.ld_unit_zero (S := S3840) hz5 _ a5, View.ld_unit_zero (S := S3840) hz6 _ a6]

/-- Cutting the point's block out of `X` and reading `X` through the block's view give the same. -/
theorem cut16_eq (t : Fin cfg0.N) (X : Vec F S24x128 .f32) :
    (cfg0.win 16).cut (grid0.coords t) X = ((cfg0.win 16).blk t).view.read (Elt F) X := by
  funext j
  show X j = X (((cfg0.win 16).blk t).view.emb j)
  rw [emb16]

/-- WHAT THE POINT WRITES BACK is its block of `G16` of the argument arrays as the region finds them. -/
theorem flushed16_eq (c : Dev nD) (t : Fin cfg0.N) :
    (dats m 0 c).flushed 16 t = ((cfg0.win 16).blk t).view.read (Elt F) (G16 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 16).cut (grid0.coords t) ((dats m 0 c).after 16 t) = _
  rw [after0_16, out16_eq, iblk0_eq, iblk1_eq, iblk2_eq, iblk3_eq, iblk4_eq, iblk5_eq, iblk6_eq, iblk7_eq, iblk8_eq, iblk9_eq, iblk10_eq, iblk11_eq]
  exact cut16_eq t _

/-- Every index of the array is in the point's block. -/
theorem covered16 (i : S24x128.Idx) :
    ∃ t : Fin cfg0.N, (cfg0.win 16).flush t = true ∧ i ∈ ((cfg0.win 16).blk t).view.set :=
  ⟨(⟨0, by decide⟩ : Fin cfg0.N), flush0_16 _, by have h := ((cfg0.win 16).blk (⟨0, by decide⟩ : Fin cfg0.N)).view.emb_mem_set i; rwa [emb16] at h⟩

/-- THE ARRAY after the run: `G16` of the argument arrays as launched. -/
theorem final16 (c : Dev nD) : (dats m 0 c).arrAt 16 cfg0.N = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 16 (G16 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed16_eq m c t) covered16).trans (by rw [V_main_arg0, V_main_arg1, V_main_arg2, V_main_arg3, V_main_arg4, V_main_arg5, V_main_arg6, V_main_arg7, V_main_arg8, V_main_arg9, V_main_arg10, V_main_arg11])

/-! ### Output window 17: the array after the run -/

/-- What the window's array ends holding, as a function of the argument arrays. -/
abbrev G17 (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : Vec F S6x4x15360 .fp8e4m3 :=
  k0_pay6 (k0_pay20 (k0_pay15 (k0_pay9 a1 a2 a3 a4 a0 a5) a6 (k0_pay10 a1 a2 a3 a4 a0 a5) (Scalar.ofBits .f32 0x45700000#32) a7 a8) (k0_pay16 (k0_pay9 a1 a2 a3 a4 a0 a5) a6 (k0_pay10 a1 a2 a3 a4 a0 a5) (Scalar.ofBits .f32 0x45700000#32) a7 a8) (k0_pay17 (k0_pay9 a1 a2 a3 a4 a0 a5) a6 (k0_pay10 a1 a2 a3 a4 a0 a5) (Scalar.ofBits .f32 0x45700000#32) a7 a8))

/-- A load of the whole of a block reads the block, and the one store through the whole rectangle leaves its payload. -/
theorem out17_eq (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : out0_17 (F := F) a0 a1 a2 a3 a4 a5 a6 a7 a8 a9 a10 a11 = G17 a0 a1 a2 a3 a4 a5 a6 a7 a8 a9 a10 a11 := by
  unfold out0_17 k0_pay27 k0_pay26 k0_pay25 k0_pay24 k0_pay23
  rw [View.canon_unit_zero hz17, View.ld_unit_zero (S := S6x4x3840) hz0 _ a0, View.ld_unit_zero (S := S8x32x512) hz1 _ a1, View.ld_unit_zero (S := S24x128) hz2 _ a2, View.ld_unit_zero (S := S4096x3840) hz3 _ a3, View.ld_unit_zero (S := S3840) hz4 _ a4, View.ld_unit_zero (S := S3840) hz5 _ a5, View.ld_unit_zero (S := S3840) hz6 _ a6, View.ld_unit_zero (S := S3840x30720) hz7 _ a7, View.ld_unit_zero (S := S30720) hz8 _ a8]

/-- Cutting the point's block out of `X` and reading `X` through the block's view give the same. -/
theorem cut17_eq (t : Fin cfg0.N) (X : Vec F S6x4x15360 .fp8e4m3) :
    (cfg0.win 17).cut (grid0.coords t) X = ((cfg0.win 17).blk t).view.read (Elt F) X := by
  funext j
  show X j = X (((cfg0.win 17).blk t).view.emb j)
  rw [emb17]

/-- WHAT THE POINT WRITES BACK is its block of `G17` of the argument arrays as the region finds them. -/
theorem flushed17_eq (c : Dev nD) (t : Fin cfg0.N) :
    (dats m 0 c).flushed 17 t = ((cfg0.win 17).blk t).view.read (Elt F) (G17 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 17).cut (grid0.coords t) ((dats m 0 c).after 17 t) = _
  rw [after0_17, out17_eq, iblk0_eq, iblk1_eq, iblk2_eq, iblk3_eq, iblk4_eq, iblk5_eq, iblk6_eq, iblk7_eq, iblk8_eq, iblk9_eq, iblk10_eq, iblk11_eq]
  exact cut17_eq t _

/-- Every index of the array is in the point's block. -/
theorem covered17 (i : S6x4x15360.Idx) :
    ∃ t : Fin cfg0.N, (cfg0.win 17).flush t = true ∧ i ∈ ((cfg0.win 17).blk t).view.set :=
  ⟨(⟨0, by decide⟩ : Fin cfg0.N), flush0_17 _, by have h := ((cfg0.win 17).blk (⟨0, by decide⟩ : Fin cfg0.N)).view.emb_mem_set i; rwa [emb17] at h⟩

/-- THE ARRAY after the run: `G17` of the argument arrays as launched. -/
theorem final17 (c : Dev nD) : (dats m 0 c).arrAt 17 cfg0.N = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 17 (G17 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed17_eq m c t) covered17).trans (by rw [V_main_arg0, V_main_arg1, V_main_arg2, V_main_arg3, V_main_arg4, V_main_arg5, V_main_arg6, V_main_arg7, V_main_arg8, V_main_arg9, V_main_arg10, V_main_arg11])

/-! ### Output window 18: the array after the run -/

/-- What the window's array ends holding, as a function of the argument arrays. -/
abbrev G18 (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : Vec F S24x128 .f32 :=
  k0_pay7 (k0_pay19 (k0_pay15 (k0_pay9 a1 a2 a3 a4 a0 a5) a6 (k0_pay10 a1 a2 a3 a4 a0 a5) (Scalar.ofBits .f32 0x45700000#32) a7 a8) (k0_pay16 (k0_pay9 a1 a2 a3 a4 a0 a5) a6 (k0_pay10 a1 a2 a3 a4 a0 a5) (Scalar.ofBits .f32 0x45700000#32) a7 a8) (k0_pay17 (k0_pay9 a1 a2 a3 a4 a0 a5) a6 (k0_pay10 a1 a2 a3 a4 a0 a5) (Scalar.ofBits .f32 0x45700000#32) a7 a8))

/-- A load of the whole of a block reads the block, and the one store through the whole rectangle leaves its payload. -/
theorem out18_eq (a0 : Vec F S6x4x3840 .bf16) (a1 : Vec F S8x32x512 .fp8e4m3) (a2 : Vec F S24x128 .f32) (a3 : Vec F S4096x3840 .fp8e4m3) (a4 : Vec F S3840 .f32) (a5 : Vec F S3840 .f32) (a6 : Vec F S3840 .f32) (a7 : Vec F S3840x30720 .fp8e4m3) (a8 : Vec F S30720 .f32) (a9 : Vec F S15360x3840 .fp8e4m3) (a10 : Vec F S3840 .f32) (a11 : Vec F S3840 .f32) : out0_18 (F := F) a0 a1 a2 a3 a4 a5 a6 a7 a8 a9 a10 a11 = G18 a0 a1 a2 a3 a4 a5 a6 a7 a8 a9 a10 a11 := by
  unfold out0_18 k0_pay27 k0_pay26 k0_pay25 k0_pay24 k0_pay23
  rw [View.canon_unit_zero hz18, View.ld_unit_zero (S := S6x4x3840) hz0 _ a0, View.ld_unit_zero (S := S8x32x512) hz1 _ a1, View.ld_unit_zero (S := S24x128) hz2 _ a2, View.ld_unit_zero (S := S4096x3840) hz3 _ a3, View.ld_unit_zero (S := S3840) hz4 _ a4, View.ld_unit_zero (S := S3840) hz5 _ a5, View.ld_unit_zero (S := S3840) hz6 _ a6, View.ld_unit_zero (S := S3840x30720) hz7 _ a7, View.ld_unit_zero (S := S30720) hz8 _ a8]

/-- Cutting the point's block out of `X` and reading `X` through the block's view give the same. -/
theorem cut18_eq (t : Fin cfg0.N) (X : Vec F S24x128 .f32) :
    (cfg0.win 18).cut (grid0.coords t) X = ((cfg0.win 18).blk t).view.read (Elt F) X := by
  funext j
  show X j = X (((cfg0.win 18).blk t).view.emb j)
  rw [emb18]

/-- WHAT THE POINT WRITES BACK is its block of `G18` of the argument arrays as the region finds them. -/
theorem flushed18_eq (c : Dev nD) (t : Fin cfg0.N) :
    (dats m 0 c).flushed 18 t = ((cfg0.win 18).blk t).view.read (Elt F) (G18 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 18).cut (grid0.coords t) ((dats m 0 c).after 18 t) = _
  rw [after0_18, out18_eq, iblk0_eq, iblk1_eq, iblk2_eq, iblk3_eq, iblk4_eq, iblk5_eq, iblk6_eq, iblk7_eq, iblk8_eq, iblk9_eq, iblk10_eq, iblk11_eq]
  exact cut18_eq t _

/-- Every index of the array is in the point's block. -/
theorem covered18 (i : S24x128.Idx) :
    ∃ t : Fin cfg0.N, (cfg0.win 18).flush t = true ∧ i ∈ ((cfg0.win 18).blk t).view.set :=
  ⟨(⟨0, by decide⟩ : Fin cfg0.N), flush0_18 _, by have h := ((cfg0.win 18).blk (⟨0, by decide⟩ : Fin cfg0.N)).view.emb_mem_set i; rwa [emb18] at h⟩

/-- THE ARRAY after the run: `G18` of the argument arrays as launched. -/
theorem final18 (c : Dev nD) : (dats m 0 c).arrAt 18 cfg0.N = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 18 (G18 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed18_eq m c t) covered18).trans (by rw [V_main_arg0, V_main_arg1, V_main_arg2, V_main_arg3, V_main_arg4, V_main_arg5, V_main_arg6, V_main_arg7, V_main_arg8, V_main_arg9, V_main_arg10, V_main_arg11])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_1) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_2) = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_3) = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_4) = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_5) = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_6) = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(post12 m r h c).trans (final12 m c),
      (post13 m r h c).trans (final13 m c),
      (post14 m r h c).trans (final14 m c),
      (post15 m r h c).trans (final15 m c),
      (post16 m r h c).trans (final16 m c),
      (post17 m r h c).trans (final17 m c),
      (post18 m r h c).trans (final18 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.Proof.Reference

end
-- ==== Proof.OutProj.lean ====
/-
  The output projection: the kernel's eight products of 512 columns of the attention's codes add up to the reference's one
  product of 4096, and the residual after it, which feeds the feed-forward block, is the reference's.
-/
module

public import proofs.«01_k».proof.Proof.KernelIdeal.Body
public import proofs.«01_k».proof.Proof.RefRun
public import Idealize.ShloMosaic.Lib.Pointwise

@[expose] public section

set_option maxRecDepth 16384

noncomputable section

namespace Cert.Proof.Values

open Cert.KernelIdeal Cert.KernelIdeal.Gen Cert.Proof.KernelIdeal
open Idealize.ShloMosaic Idealize.ShloMosaic.TcCoe

/-- A vector of 3840 entries as one row; -/
abbrev asRow (s : Vec Ideal Cert.KernelIdeal.S3840 .f32) : Vec Ideal S1x3840 .f32 := fun i => s (ix1 (i 1))
/-- one of 30720 entries likewise. -/
abbrev asRowG (s : Vec Ideal Cert.KernelIdeal.S30720 .f32) : Vec Ideal S1x30720 .f32 := fun i => s (ix1 (i 1))

variable (c : Dev nD) (arg0 : Memref sig .tc .vmem S6x4x3840 .bf16) (arg1 : Memref sig .tc .vmem S8x32x512 .fp8e4m3) (arg2 : Memref sig .tc .vmem S24x128 .f32)
  (x : Vec Ideal S6x4x3840 .bf16) (z : Vec Ideal S8x32x512 .fp8e4m3) (t : Vec Ideal S24x128 .f32)
  (XO : Vec Ideal S4096x3840 .fp8e4m3) (b n : Vec Ideal Cert.KernelIdeal.S3840 .f32)

/-- The staged input, codes and scales. -/
abbrev stX : Buf (Elt Ideal) (arg0.view.loc (c : Thread nD τ)) := arg0.view.rep (Val := Elt Ideal) x
abbrev stZ : Buf (Elt Ideal) (arg1.view.loc (c : Thread nD τ)) := arg1.view.rep (Val := Elt Ideal) z
abbrev stT : Buf (Elt Ideal) (arg2.view.loc (c : Thread nD τ)) := arg2.view.rep (Val := Elt Ideal) t

/-- The product's term at column `i` of row `r` of the codes and row `i` of column `j` of the weight. -/
def termO (r : Fin 32) (j : Fin 3840) (i : ℕ) : EReal :=
  if h : i < 4096 then (show EReal from z (ix3 (⟨i / 512, by omega⟩ : Fin 8) r (⟨i % 512, by omega⟩ : Fin 512))) * (show EReal from XO (ix2 (⟨i, h⟩ : Fin 4096) j)) else 0

theorem ostep_apply (v : Vec Ideal S32x3840 .f32) (u : Vec Ideal S1x32x512 .fp8e4m3) (w : Vec Ideal S1x512x3840 .fp8e4m3) (r : Fin 32) (j : Fin 3840) :
    k0_pay12 (F := Ideal) v u w (ix2 r j) = (show EReal from v (ix2 r j)) + ∑ q : Fin 512, (show EReal from u (ix3 (0 : Fin 1) r q)) * (show EReal from w (ix3 (0 : Fin 1) q j)) := by
  unfold k0_pay12
  pointwise

theorem aq_apply (k : Fin k0_t1_loop.trips) (r : Fin 32) (q : Fin 512) :
    aqOf c arg1 (stZ c arg1 z) k (ix3 (0 : Fin 1) r q) = z (ix3 (⟨k.val, trip0_lt k⟩ : Fin 8) r q) := by
  unfold aqOf
  rw [View.readAt_rep]
  have h0 : k0_off7 k (0 : Fin 3) = k.val := congrFun (ooff7_eq k) 0
  have h1 : k0_off7 k (1 : Fin 3) = 0 := congrFun (ooff7_eq k) 1
  have h2 : k0_off7 k (2 : Fin 3) = 0 := congrFun (ooff7_eq k) 2
  refine congrArg z (funext fun a => Fin.ext ?_)
  match a with
  | ⟨0, _⟩ => show k0_off7 k (0 : Fin 3) + 1 * 0 = k.val; omega
  | ⟨1, _⟩ => show k0_off7 k (1 : Fin 3) + 1 * r.val = r.val; omega
  | ⟨2, _⟩ => show k0_off7 k (2 : Fin 3) + 1 * q.val = q.val; omega

theorem oslab_apply (k : ℕ) (hk : k < 8) (q : Fin 512) (j : Fin 3840) :
    oslab (F := Ideal) c XO k (ix3 (0 : Fin 1) q j) = XO (ix2 (⟨512 * k + q.val, by omega⟩ : Fin 4096) j) := by
  have e : oslab (F := Ideal) c XO k (ix3 (0 : Fin 1) q j) = opayload (F := Ideal) c XO (Ring.bk 8 k) (ix2 q j) := by
    unfold oslab
    generalize opayload (F := Ideal) c XO (Ring.bk 8 k) = p
    pointwise
  rw [e]
  refine congrArg XO ?_
  funext a
  apply Fin.ext
  match a with
  | ⟨0, _⟩ => show 512 * (Ring.bk 8 k).val + 1 * q.val = 512 * k + q.val; rw [Ring.bk_val hk]; omega
  | ⟨1, _⟩ => show 0 + 1 * j.val = j.val; omega

theorem oacc_apply (r : Fin 32) (j : Fin 3840) (m : ℕ) (hm : m ≤ 8) :
    oaccAt (F := Ideal) c XO arg1 (stZ c arg1 z) m (ix2 r j) = ∑ i ∈ Finset.range (512 * m), termO z XO r j i := by
  induction m with
  | zero =>
    show k0_pay11 (F := Ideal) _ = _
    unfold k0_pay11
    pointwise
    rfl
  | succ m ih =>
    have hm' : m < k0_t1_loop.trips := by rw [trips0_eq]; omega
    rw [oacc_succ c XO arg1 (stZ c arg1 z) ⟨m, hm'⟩, ostep_apply, ih (by omega), Nat.mul_succ, Finset.sum_range_add]
    refine congrArg ((∑ i ∈ Finset.range (512 * m), termO z XO r j i) + ·) ?_
    rw [Finset.sum_range]
    refine Finset.sum_congr rfl fun q _ => ?_
    rw [aq_apply c arg1 z ⟨m, hm'⟩ r q, oslab_apply c XO m (by omega) q j]
    unfold termO
    rw [dif_pos (show 512 * m + q.val < 4096 by omega)]
    have e1 : (512 * m + q.val) / 512 = m := by omega
    have e2 : (512 * m + q.val) % 512 = q.val := by omega
    refine congrArg (fun w : Ideal .fp8e4m3 => (show EReal from w) * (show EReal from XO (ix2 (⟨512 * m + q.val, by omega⟩ : Fin 4096) j))) (congrArg z (funext fun a => Fin.ext ?_))
    match a with
    | ⟨0, _⟩ => exact e1.symm
    | ⟨1, _⟩ => rfl
    | ⟨2, _⟩ => exact e2.symm

/-- The reference's output projection at an index. -/
theorem reference_out (r : Fin 24) (j : Fin 3840) :
    Cert.ReferenceIdeal.Gen.k0_pay8 (F := Ideal) z t XO b (ix2 r j)
      = FloatOps.mulf (FloatOps.mulf (F := Ideal) (φ := .f32) (∑ i ∈ Finset.range 4096, termO z XO (⟨r.val, by omega⟩ : Fin 32) j i : EReal) (t (ix2 r (0 : Fin 128)))) (b (ix1 j)) := by
  have h : ∀ i : Fin 4096, termO z XO (⟨r.val, by omega⟩ : Fin 32) j i.val
      = (show EReal from z (ix3 (⟨i.val / 512, by omega⟩ : Fin 8) (⟨r.val, by omega⟩ : Fin 32) (⟨i.val % 512, by omega⟩ : Fin 512))) * (show EReal from XO (ix2 i j)) := by
    intro i
    unfold termO
    rw [dif_pos i.isLt]
  rw [Finset.sum_range, Finset.sum_congr rfl fun i _ => h i]
  unfold Cert.ReferenceIdeal.Gen.k0_pay8
  pointwise

theorem oa_apply (r : Fin 24) (j : Fin 3840) :
    oaOf c XO arg1 (stZ c arg1 z) (ix2 r j) = ∑ i ∈ Finset.range 4096, termO z XO (⟨r.val, by omega⟩ : Fin 32) j i := by
  refine Eq.trans ?_ (oacc_apply c arg1 z XO (⟨r.val, by omega⟩ : Fin 32) j 8 le_rfl)
  unfold oaOf
  generalize oaccAt (F := Ideal) c XO arg1 (stZ c arg1 z) 8 = f
  refine congrArg f (funext fun a => Fin.ext ?_)
  match a with
  | ⟨0, _⟩ => show 0 + 1 * r.val = r.val; omega
  | ⟨1, _⟩ => show 0 + 1 * j.val = j.val; omega

theorem as_apply (r : Fin 24) (w : Fin 1) : asOf c arg2 (stT c arg2 t) (ix2 r w) = t (ix2 r (0 : Fin 128)) := by
  unfold asOf
  rw [View.readAt_rep]
  refine congrArg t (funext fun a => Fin.ext ?_)
  match a with
  | ⟨0, _⟩ => show 0 + 1 * r.val = r.val; omega
  | ⟨1, _⟩ => show 0 + 1 * w.val = 0; omega

/-- The output projection, before its rows are regrouped. -/
theorem out_eq : k0_pay13 (F := Ideal) (oaOf c XO arg1 (stZ c arg1 z)) (asOf c arg2 (stT c arg2 t)) (asRow b)
    = Cert.ReferenceIdeal.Gen.k0_pay8 (F := Ideal) z t XO b := by
  funext i
  obtain ⟨r, j, rfl⟩ : ∃ (r : Fin 24) (j : Fin 3840), i = ix2 r j := ⟨i 0, i 1, eq_ix2 i⟩
  rw [reference_out, ← oa_apply c arg1 z XO r j, ← as_apply c arg2 t r 0]
  unfold k0_pay13 asRow
  generalize oaOf c XO arg1 (stZ c arg1 z) = u
  generalize asOf c arg2 (stT c arg2 t) = v
  pointwise

theorem oOf_eq : oOf c XO (asRow b) arg1 arg2 (stZ c arg1 z) (stT c arg2 t)
    = Cert.ReferenceIdeal.Gen.k0_pay2 (F := Ideal) (Cert.ReferenceIdeal.Gen.k0_pay8 z t XO b) := by
  unfold oOf k0_pay14
  rw [out_eq]
  unfold Cert.ReferenceIdeal.Gen.k0_pay2
  generalize Cert.ReferenceIdeal.Gen.k0_pay8 (F := Ideal) z t XO b = v
  exact shapeCast_id _ _

/-- The residual that feeds the feed-forward block is the reference's. -/
theorem resid_eq : k0_pay17 (F := Ideal) (r1Of c arg0 (stX c arg0 x)) (r2Of c XO (asRow b) arg1 arg2 (stZ c arg1 z) (stT c arg2 t)) (r3Of (asRow n))
    = Cert.ReferenceIdeal.Gen.k0_pay9 (F := Ideal) z t XO b x n := by
  have hx : arg0.view.readAt (Elt Ideal) (Rect.unit (s := S6x4x3840) ![0, 0, 0] S6x4x3840.size inb_S6x4x3840_S6x4x3840_0_0_0).toLoadRect (stX c arg0 x) = x :=
    View.readAt_rep_full (Val := Elt Ideal) arg0.view x _
  unfold r1Of r2Of r3Of k0_pay15
  rw [hx, out_eq]
  unfold Cert.ReferenceIdeal.Gen.k0_pay9
  generalize Cert.ReferenceIdeal.Gen.k0_pay8 (F := Ideal) z t XO b = v
  have h10 : k0_pay10 (F := Ideal) x = shapeCast S24x3840 (extf (F := Ideal) .f32 x bitsLt_bf16_f32) shapeCasts_S6x4x3840_S24x3840 := shapeCast_id _ _
  rw [h10]
  unfold k0_pay17 k0_pay16 asRow
  funext i
  idx_vars i
  pointwise

end Cert.Proof.Values
end
-- ==== Proof.Feed.lean ====
/-
  The feed-forward block's input: the kernel norms and quantises the residual as the reference does, and what its gate and
  up projections make of the codes, 256 columns of each a trip, is the reference's activation.
-/
module

public import proofs.«01_k».proof.Proof.OutProj

@[expose] public section

set_option maxRecDepth 16384

noncomputable section

namespace Cert.Proof.Values

open Cert.KernelIdeal Cert.KernelIdeal.Gen Cert.Proof.KernelIdeal
open Idealize.ShloMosaic Idealize.ShloMosaic.TcCoe

/-! ## The normed input, its scales and its codes -/

/-- The rows' sums of squares. -/
def sumSq (y : Vec Ideal S24x3840 .f32) : FVec Ideal S24x1 .f32 :=
  shapeCast S24x1 (multiReduction (F := Ideal) .add [1] S24 (mulf y y) 0x00000000#32 reduces_S24x3840_S24 (.inl rfl) rfl) shapeCasts_S24_S24x1
/-- The row length. -/
abbrev len : Ideal .f32 := Scalar.ofBits .f32 0x45700000#32

/-- The reference's normed input, its scale and its codes; -/
abbrev rNorm (y : Vec Ideal S24x3840 .f32) (p : Vec Ideal Cert.KernelIdeal.S3840 .f32) : FVec Ideal S24x3840 .f32 := Cert.ReferenceIdeal.Gen.k0_pay11 (F := Ideal) y p (sumSq y) len
abbrev rScale (y : Vec Ideal S24x3840 .f32) (p : Vec Ideal Cert.KernelIdeal.S3840 .f32) : FVec Ideal Cert.ReferenceIdeal.S24 .f32 := Cert.ReferenceIdeal.Gen.k0_pay12 (F := Ideal) y p (sumSq y) len
abbrev rCode (y : Vec Ideal S24x3840 .f32) (p : Vec Ideal Cert.KernelIdeal.S3840 .f32) : FVec Ideal S24x3840 .fp8e4m3 := Cert.ReferenceIdeal.Gen.k0_pay13 (F := Ideal) y p (sumSq y) len
/-- its gate-and-up product, the two halves, and the argument of the gate's hyperbolic tangent. -/
abbrev refGU (y : Vec Ideal S24x3840 .f32) (p : Vec Ideal Cert.KernelIdeal.S3840 .f32) (W : Vec Ideal S3840x30720 .fp8e4m3) (S : Vec Ideal Cert.KernelIdeal.S30720 .f32) :
    FVec Ideal Cert.ReferenceIdeal.S24x30720 .f32 := Cert.ReferenceIdeal.Gen.k0_pay14 (F := Ideal) y p (sumSq y) len W S
abbrev refG (y : Vec Ideal S24x3840 .f32) (p : Vec Ideal Cert.KernelIdeal.S3840 .f32) (W : Vec Ideal S3840x30720 .fp8e4m3) (S : Vec Ideal Cert.KernelIdeal.S30720 .f32) :
    FVec Ideal Cert.ReferenceIdeal.S24x15360 .f32 := Cert.ReferenceIdeal.Gen.k0_pay15 (F := Ideal) y p (sumSq y) len W S
abbrev refU (y : Vec Ideal S24x3840 .f32) (p : Vec Ideal Cert.KernelIdeal.S3840 .f32) (W : Vec Ideal S3840x30720 .fp8e4m3) (S : Vec Ideal Cert.KernelIdeal.S30720 .f32) :
    FVec Ideal Cert.ReferenceIdeal.S24x15360 .f32 := Cert.ReferenceIdeal.Gen.k0_pay16 (F := Ideal) y p (sumSq y) len W S
abbrev refT (y : Vec Ideal S24x3840 .f32) (p : Vec Ideal Cert.KernelIdeal.S3840 .f32) (W : Vec Ideal S3840x30720 .fp8e4m3) (S : Vec Ideal Cert.KernelIdeal.S30720 .f32) :
    FVec Ideal Cert.ReferenceIdeal.S24x15360 .f32 := Cert.ReferenceIdeal.Gen.k0_pay17 (F := Ideal) y p (sumSq y) len W S

section Input

variable (r1 r2 r3 : FVec Ideal S24x3840 .f32) (p : Vec Ideal Cert.KernelIdeal.S3840 .f32)

/-- The residual. -/
abbrev resid : FVec Ideal S24x3840 .f32 := k0_pay17 (F := Ideal) r1 r2 r3

theorem norm_eq : k0_pay19 (F := Ideal) r1 r2 r3 (asRow p) = rNorm (resid r1 r2 r3) p := by
  unfold k0_pay19 rNorm Cert.ReferenceIdeal.Gen.k0_pay11 sumSq resid asRow
  generalize k0_pay17 (F := Ideal) r1 r2 r3 = y
  funext i
  idx_vars i
  pointwise

theorem feed_scale (r : Fin 24) (z : Fin 1) :
    k0_pay20 (F := Ideal) r1 r2 r3 (asRow p) (ix2 r z) = rScale (resid r1 r2 r3) p (ix1 r) := by
  unfold k0_pay20 rScale Cert.ReferenceIdeal.Gen.k0_pay12
  rw [norm_eq]
  unfold rNorm
  generalize Cert.ReferenceIdeal.Gen.k0_pay11 (F := Ideal) (resid r1 r2 r3) p (sumSq (resid r1 r2 r3)) len = n
  pointwise

theorem feed_code (r : Fin 24) (j : Fin 3840) :
    k0_pay21 (F := Ideal) r1 r2 r3 (asRow p) (ix2 (⟨r.val, by omega⟩ : Fin 32) j) = rCode (resid r1 r2 r3) p (ix2 r j) := by
  have h := feed_scale r1 r2 r3 p r 0
  unfold k0_pay21 rCode Cert.ReferenceIdeal.Gen.k0_pay13
  rw [norm_eq]
  unfold rNorm
  unfold rScale at h
  generalize k0_pay20 (F := Ideal) r1 r2 r3 (asRow p) = a at h ⊢
  generalize Cert.ReferenceIdeal.Gen.k0_pay12 (F := Ideal) (resid r1 r2 r3) p (sumSq (resid r1 r2 r3)) len = b at h ⊢
  generalize Cert.ReferenceIdeal.Gen.k0_pay11 (F := Ideal) (resid r1 r2 r3) p (sumSq (resid r1 r2 r3)) len = n
  pointwise
  rw [h]

end Input

/-! ## The gate and the up projection -/

/-- The activation of a gate and an up value. -/
def geluUp (g u : EReal) : EReal :=
  FloatOps.mulf (F := Ideal) (φ := .f32) (FloatOps.mulf (F := Ideal) (φ := .f32) g (FloatOps.mulf (F := Ideal) (φ := .f32) (Ideal.ofBits .f32 0x3F000000#32)
    (FloatOps.addf (F := Ideal) (φ := .f32) (Ideal.ofBits .f32 0x3F800000#32) (FloatOps.tanh (F := Ideal) (φ := .f32)
      (FloatOps.mulf (F := Ideal) (φ := .f32) (Ideal.ofBits .f32 0x3F4C422A#32)
        (FloatOps.addf (F := Ideal) (φ := .f32) g (FloatOps.mulf (F := Ideal) (φ := .f32) (Ideal.ofBits .f32 0x3D372713#32)
          (FloatOps.mulf (F := Ideal) (φ := .f32) g (FloatOps.mulf (F := Ideal) (φ := .f32) g g))))))))) u

/-- One column of the gate-and-up product, with both scales. -/
def guAt (a : Fin 3840 → EReal) (w : Fin 3840 → EReal) (s t : EReal) : EReal := (∑ j : Fin 3840, a j * w j) * s * t

theorem gate_apply (f : Vec Ideal S32x3840 .fp8e4m3) (w : Vec Ideal S1x3840x512 .fp8e4m3) (s : Vec Ideal S24x1 .f32) (r : Fin 24) (q : Fin 512) :
    k0_pay1 (F := Ideal) f w s (ix2 r q)
      = (∑ j : Fin 3840, (show EReal from f (ix2 (⟨r.val, by omega⟩ : Fin 32) j)) * (show EReal from w (ix3 (0 : Fin 1) j q))) * (show EReal from s (ix2 r (0 : Fin 1))) := by
  unfold k0_pay1
  pointwise

/-- The kernel's and the reference's order of the activation's products. -/
theorem gelu_assoc (T : EReal → EReal) (h a b g u : EReal) :
    h * g * (1 + T (a * (g + b * (g * g * g)))) * u = g * (h * (1 + T (a * (g + b * (g * (g * g)))))) * u := by
  rw [mul_comm h g, mul_assoc g h, mul_assoc g g g]

theorem act_apply (f : Vec Ideal S32x3840 .fp8e4m3) (w : Vec Ideal S1x3840x512 .fp8e4m3) (s : Vec Ideal S24x1 .f32) (g u : Vec Ideal S1x256 .f32)
    (r : Fin 24) (q : Fin 256) :
    k0_pay32 (F := Ideal) (k0_pay1 f w s) (k0_pay2 f w s) g u (ix2 r q)
      = geluUp ((show EReal from k0_pay1 (F := Ideal) f w s (ix2 r (⟨q.val, by omega⟩ : Fin 512))) * (show EReal from g (ix2 (0 : Fin 1) q)))
          ((show EReal from k0_pay1 (F := Ideal) f w s (ix2 r (⟨256 + q.val, by omega⟩ : Fin 512))) * (show EReal from u (ix2 (0 : Fin 1) q))) := by
  unfold k0_pay32 k0_pay2 geluUp
  generalize k0_pay1 (F := Ideal) f w s = p
  pointwise
  exact gelu_assoc _ _ _ _ _ _

theorem reference_gu (y : Vec Ideal S24x3840 .f32) (p : Vec Ideal Cert.KernelIdeal.S3840 .f32) (W : Vec Ideal S3840x30720 .fp8e4m3)
    (S : Vec Ideal Cert.KernelIdeal.S30720 .f32) (r : Fin 24) (i : Fin 30720) :
    refGU y p W S (ix2 r i)
      = (∑ j : Fin 3840, (show EReal from rCode y p (ix2 r j)) * (show EReal from W (ix2 j i)))
          * (show EReal from rScale y p (ix1 r)) * (show EReal from S (ix1 i)) := by
  unfold refGU Cert.ReferenceIdeal.Gen.k0_pay14 rCode rScale
  generalize Cert.ReferenceIdeal.Gen.k0_pay13 (F := Ideal) y p (sumSq y) len = a
  generalize Cert.ReferenceIdeal.Gen.k0_pay12 (F := Ideal) y p (sumSq y) len = b
  pointwise

theorem reference_act (y : Vec Ideal S24x3840 .f32) (p : Vec Ideal Cert.KernelIdeal.S3840 .f32) (W : Vec Ideal S3840x30720 .fp8e4m3)
    (S : Vec Ideal Cert.KernelIdeal.S30720 .f32) (r : Fin 24) (k : Fin 15360) :
    Cert.ReferenceIdeal.Gen.k0_pay18 (F := Ideal) (refG y p W S) (refU y p W S) (refT y p W S) (ix2 r k)
      = geluUp (refGU y p W S (ix2 r (⟨k.val, by omega⟩ : Fin 30720)))
          (refGU y p W S (ix2 r (⟨15360 + k.val, by omega⟩ : Fin 30720))) := by
  unfold Cert.ReferenceIdeal.Gen.k0_pay18 refT refG refU refGU Cert.ReferenceIdeal.Gen.k0_pay17 Cert.ReferenceIdeal.Gen.k0_pay15 Cert.ReferenceIdeal.Gen.k0_pay16 geluUp
  generalize Cert.ReferenceIdeal.Gen.k0_pay14 (F := Ideal) y p (sumSq y) len W S = p
  pointwise

/-! ## A trip's activation is the reference's -/

variable (c : Dev nD) (r1 r2 r3 : FVec Ideal S24x3840 .f32) (p : Vec Ideal Cert.KernelIdeal.S3840 .f32)
  (W : Vec Ideal S3840x30720 .fp8e4m3) (S : Vec Ideal Cert.KernelIdeal.S30720 .f32)

theorem fq_apply (r : Fin 24) (j : Fin 3840) :
    fqOf (asRow p) r1 r2 r3 (ix2 (⟨r.val, by omega⟩ : Fin 32) j) = rCode (resid r1 r2 r3) p (ix2 r j) := by
  unfold fqOf k0_pay22
  have h := feed_code r1 r2 r3 p r j
  generalize k0_pay21 (F := Ideal) r1 r2 r3 (asRow p) = v at h ⊢
  exact (congrFun (shapeCast_id v _) _).trans h

theorem fs_apply (r : Fin 24) (l : Fin 128) :
    fsOut (asRow p) r1 r2 r3 (ix2 r l) = rScale (resid r1 r2 r3) p (ix1 r) := by
  unfold fsOut fcol
  rw [← feed_scale r1 r2 r3 p r 0]
  unfold k0_pay29
  generalize k0_pay20 (F := Ideal) r1 r2 r3 (asRow p) = a
  pointwise

theorem fs_first (r : Fin 24) (z : Fin 1) :
    fsOf (fsOut (asRow p) r1 r2 r3) (ix2 r z) = rScale (resid r1 r2 r3) p (ix1 r) := by
  have h := fs_apply r1 r2 r3 p r 0
  generalize fsOut (asRow p) r1 r2 r3 = f at h ⊢
  refine (congrArg f (?_ : _ = ix2 r (0 : Fin 128))).trans h
  funext a
  apply Fin.ext
  match a with
  | ⟨0, _⟩ => show 0 + 1 * r.val = r.val; omega
  | ⟨1, _⟩ => show 0 + 1 * z.val = 0; omega

theorem sg_apply (k : Fin k0_t2_loop.trips) (q : Fin 256) :
    sgOf (F := Ideal) (asRowG S) k (ix2 (0 : Fin 1) q) = S (ix1 (⟨256 * k.val + q.val, by have := trip1_lt k; omega⟩ : Fin 30720)) := by
  unfold sgOf
  rw [View.readAt_unit_congr sguV.view (aoff11_eq k) _ (fun a => by have := trip1_lt k; fin_cases a; · show 0 + 1 ≤ 1; omega
                                                                    · show 256 * k.val + 256 ≤ 30720; omega) _]
  refine congrArg S (funext fun a => Fin.ext ?_)
  match a with
  | ⟨0, _⟩ => show 256 * k.val + 1 * q.val = 256 * k.val + q.val; omega

theorem su_apply (k : Fin k0_t2_loop.trips) (q : Fin 256) :
    suOf (F := Ideal) (asRowG S) k (ix2 (0 : Fin 1) q) = S (ix1 (⟨15360 + (256 * k.val + q.val), by have := trip1_lt k; omega⟩ : Fin 30720)) := by
  unfold suOf
  rw [View.readAt_unit_congr sguV.view (aoff12_eq k) _ (fun a => by have := trip1_lt k; fin_cases a; · show 0 + 1 ≤ 1; omega
                                                                    · show 15360 + 256 * k.val + 256 ≤ 30720; omega) _]
  refine congrArg S (funext fun a => Fin.ext ?_)
  match a with
  | ⟨0, _⟩ => show 15360 + 256 * k.val + 1 * q.val = 15360 + (256 * k.val + q.val); omega

theorem slabA_gate (k : ℕ) (hk : k < 60) (j : Fin 3840) (q : Fin 256) :
    slabA (F := Ideal) c W k (ix3 (0 : Fin 1) j (⟨q.val, by omega⟩ : Fin 512)) = W (ix2 j (⟨256 * k + q.val, by omega⟩ : Fin 30720)) := by
  unfold slabA
  refine (dif_pos (show q.val < 256 from q.isLt)).trans ?_
  refine congrArg W (funext fun a => Fin.ext ?_)
  match a with
  | ⟨0, _⟩ => show 0 + 1 * j.val = j.val; omega
  | ⟨1, _⟩ => show 15360 * 0 + 256 * (Ring.bk 60 k).val + 1 * q.val = 256 * k + q.val; rw [Ring.bk_val hk]; omega

theorem slabA_up (k : ℕ) (hk : k < 60) (j : Fin 3840) (q : Fin 256) :
    slabA (F := Ideal) c W k (ix3 (0 : Fin 1) j (⟨256 + q.val, by omega⟩ : Fin 512)) = W (ix2 j (⟨15360 + (256 * k + q.val), by omega⟩ : Fin 30720)) := by
  unfold slabA
  refine (dif_neg (show ¬ 256 + q.val < 256 by omega)).trans ?_
  refine congrArg W (funext fun a => Fin.ext ?_)
  match a with
  | ⟨0, _⟩ => show 0 + 1 * j.val = j.val; omega
  | ⟨1, _⟩ => show 15360 * 1 + 256 * (Ring.bk 60 k).val + 1 * (256 + q.val - 256) = 15360 + (256 * k + q.val); rw [Ring.bk_val hk]; omega

/-- THE ACTIVATION of the reference at column `256 k + q` is the kernel's of trip `k` at column `q`. -/
theorem gact_apply (k : Fin k0_t2_loop.trips) (r : Fin 24) (q : Fin 256) :
    gact (F := Ideal) c W (fqOf (asRow p) r1 r2 r3) (fsOut (asRow p) r1 r2 r3) (asRowG S) k (ix2 r q)
      = Cert.ReferenceIdeal.Gen.k0_pay18 (F := Ideal) (refG (resid r1 r2 r3) p W S) (refU (resid r1 r2 r3) p W S) (refT (resid r1 r2 r3) p W S)
          (ix2 r (⟨256 * k.val + q.val, by have := trip1_lt k; omega⟩ : Fin 15360)) := by
  have hk := trip1_lt k
  have hg : k0_pay1 (F := Ideal) (fqOf (asRow p) r1 r2 r3) (slabA c W k.val) (fsOf (fsOut (asRow p) r1 r2 r3)) (ix2 r (⟨q.val, by omega⟩ : Fin 512))
      = (∑ j : Fin 3840, (show EReal from rCode (resid r1 r2 r3) p (ix2 r j)) * (show EReal from W (ix2 j (⟨256 * k.val + q.val, by omega⟩ : Fin 30720))))
          * (show EReal from rScale (resid r1 r2 r3) p (ix1 r)) := by
    rw [gate_apply, fs_first]
    refine congrArg (· * _) (Finset.sum_congr rfl fun j _ => ?_)
    rw [fq_apply, slabA_gate c W k.val hk j q]
  have hu : k0_pay1 (F := Ideal) (fqOf (asRow p) r1 r2 r3) (slabA c W k.val) (fsOf (fsOut (asRow p) r1 r2 r3)) (ix2 r (⟨256 + q.val, by omega⟩ : Fin 512))
      = (∑ j : Fin 3840, (show EReal from rCode (resid r1 r2 r3) p (ix2 r j)) * (show EReal from W (ix2 j (⟨15360 + (256 * k.val + q.val), by omega⟩ : Fin 30720))))
          * (show EReal from rScale (resid r1 r2 r3) p (ix1 r)) := by
    rw [gate_apply, fs_first]
    refine congrArg (· * _) (Finset.sum_congr rfl fun j _ => ?_)
    rw [fq_apply, slabA_up c W k.val hk j q]
  rw [reference_act, reference_gu, reference_gu]
  unfold gact
  rw [act_apply, sg_apply, su_apply, hg, hu]

end Cert.Proof.Values
end
-- ==== Proof.RowMax.lean ====
/-
  The rows' maximum and the rows' scale. The kernel keeps a maximum per lane, starting at zero and taking in each trip the
  two lane halves of 256 activation columns, and takes the maximum of the 128 lanes at the end; the reference takes the
  maximum of the 15360 columns at once.
-/
module

public import proofs.«01_k».proof.Proof.Feed

@[expose] public section

set_option maxRecDepth 16384

noncomputable section

namespace Cert.Proof.Values

open Cert.KernelIdeal Cert.KernelIdeal.Gen Cert.Proof.KernelIdeal
open Idealize.ShloMosaic Idealize.ShloMosaic.TcCoe

/-- The activation, as its sixty tiles of 24 rows and 256 columns. -/
abbrev Act := Vec Ideal S60x24x256 .f32

/-- A magnitude. -/
def mag (a : EReal) : EReal := FloatOps.absf (F := Ideal) (φ := .f32) a

theorem mag_nonneg (a : EReal) : 0 ≤ mag a := by
  show (0 : EReal) ≤ max a (-a)
  rcases le_total 0 a with h | h
  · exact le_max_of_le_left h
  · refine le_max_of_le_right ?_
    rw [← neg_zero]
    exact EReal.neg_le_neg_iff.2 h

/-- Row `r`'s maximum of magnitudes. -/
def rowMax (x : Act) (r : Fin 24) : Ideal .f32 :=
  Finset.univ.fold max (Ideal.ofBits .f32 0xFF800000#32)
    (fun k : Fin 15360 => mag (x (ix3 (⟨k.val / 256, by omega⟩ : Fin 60) r (⟨k.val % 256, by omega⟩ : Fin 256))))

/-- A maximum over 128 lanes, each the maximum over sixty tiles of the two halves' entries, is the maximum over 15360 columns:
    a lane's start at zero adds nothing, the entries being at least zero. -/
theorem fold_lanes (b : EReal) (f : Fin 60 → Fin 256 → EReal) (hf : ∀ t q, 0 ≤ f t q) (g : Fin 128 → EReal)
    (hg : ∀ l e, g l ≤ e ↔ 0 ≤ e ∧ ∀ t : Fin 60, f t ⟨l.val, by omega⟩ ≤ e ∧ f t ⟨128 + l.val, by omega⟩ ≤ e) :
    Finset.univ.fold max b g = Finset.univ.fold max b (fun k : Fin 15360 => f ⟨k.val / 256, by omega⟩ ⟨k.val % 256, by omega⟩) := by
  refine eq_of_forall_ge_iff fun e => ?_
  simp only [Finset.fold_max_le, Finset.mem_univ, true_implies, hg]
  constructor
  · rintro ⟨hb, h⟩
    refine ⟨hb, fun k => ?_⟩
    by_cases hk : k.val % 256 < 128
    · exact ((h ⟨k.val % 256, hk⟩).2 ⟨k.val / 256, by omega⟩).1
    · have := ((h ⟨k.val % 256 - 128, by omega⟩).2 ⟨k.val / 256, by omega⟩).2
      have e2 : 128 + (k.val % 256 - 128) = k.val % 256 := by omega
      simpa only [e2] using this
  · rintro ⟨hb, h⟩
    refine ⟨hb, fun l => ⟨(hf _ _).trans (h ⟨0, by omega⟩), fun t => ⟨?_, ?_⟩⟩⟩
    · have := h ⟨t.val * 256 + l.val, by omega⟩
      have e1 : (t.val * 256 + l.val) / 256 = t.val := by omega
      have e2 : (t.val * 256 + l.val) % 256 = l.val := by omega
      simpa only [e1, e2] using this
    · have := h ⟨t.val * 256 + (128 + l.val), by omega⟩
      have e1 : (t.val * 256 + (128 + l.val)) / 256 = t.val := by omega
      have e2 : (t.val * 256 + (128 + l.val)) % 256 = 128 + l.val := by omega
      simpa only [e1, e2] using this

/-! ## The lanes -/

theorem lane_first (r : Fin 24) (l : Fin 128) : k0_pay31 (F := Ideal) (k0_pay30 (F := Ideal)) (ix2 r l) = (0 : EReal) := by
  unfold k0_pay31 k0_pay30
  pointwise

theorem lane_step (P : FVec Ideal S24x512 .f32) (Q : FVec Ideal S24x256 .f32) (g u : Vec Ideal S1x256 .f32) (a : Vec Ideal S24x128 .f32) (r : Fin 24) (l : Fin 128) :
    k0_pay34 (F := Ideal) P Q g u a (ix2 r l)
      = max (show EReal from a (ix2 r l)) (max (mag (k0_pay32 (F := Ideal) P Q g u (ix2 r (⟨l.val, by omega⟩ : Fin 256))))
          (mag (k0_pay32 (F := Ideal) P Q g u (ix2 r (⟨128 + l.val, by omega⟩ : Fin 256))))) := by
  unfold k0_pay34 mag
  generalize k0_pay32 (F := Ideal) P Q g u = p
  pointwise

theorem lanes_last (v : Vec Ideal S24x128 .f32) (r : Fin 24) (z : Fin 1) :
    k0_pay35 (F := Ideal) v (ix2 r z) = Finset.univ.fold max (Ideal.ofBits .f32 0xFF800000#32) (fun l : Fin 128 => (show EReal from v (ix2 r l))) := by
  unfold k0_pay35
  pointwise

section Lanes

variable (c : Dev nD) (XG : Vec Ideal S3840x30720 .fp8e4m3) (FQ : Vec Ideal S32x3840 .fp8e4m3) (FS : Vec Ideal S24x128 .f32) (SG : Vec Ideal S1x30720 .f32)

theorem actAll_apply (k : Fin k0_t2_loop.trips) (r : Fin 24) (q : Fin 256) :
    actAll (F := Ideal) c XG FQ FS SG (ix3 (⟨k.val, trip1_lt k⟩ : Fin 60) r q) = gact c XG FQ FS SG k (ix2 r q) := by
  unfold actAll
  refine congrArg (gact c XG FQ FS SG k) (funext fun a => ?_)
  match a with
  | ⟨0, _⟩ => rfl
  | ⟨1, _⟩ => rfl

theorem lanes_le (r : Fin 24) (l : Fin 128) (e : EReal) (n : ℕ) (hn : n ≤ 60) :
    (show EReal from lanesAt (F := Ideal) c XG FQ FS SG n (ix2 r l)) ≤ e
      ↔ 0 ≤ e ∧ ∀ t : Fin 60, t.val < n → mag (actAll (F := Ideal) c XG FQ FS SG (ix3 t r (⟨l.val, by omega⟩ : Fin 256))) ≤ e
          ∧ mag (actAll (F := Ideal) c XG FQ FS SG (ix3 t r (⟨128 + l.val, by omega⟩ : Fin 256))) ≤ e := by
  induction n with
  | zero =>
    have h : (show EReal from lanesAt (F := Ideal) c XG FQ FS SG 0 (ix2 r l)) = 0 := lane_first r l
    rw [h]
    exact ⟨fun h => ⟨h, fun t ht => absurd ht (Nat.not_lt_zero _)⟩, fun h => h.1⟩
  | succ n ih =>
    have hk : n < k0_t2_loop.trips := by rw [trips1_eq]; omega
    have h : (show EReal from lanesAt (F := Ideal) c XG FQ FS SG (n + 1) (ix2 r l))
        = max (show EReal from lanesAt (F := Ideal) c XG FQ FS SG n (ix2 r l))
            (max (mag (actAll (F := Ideal) c XG FQ FS SG (ix3 (⟨n, by omega⟩ : Fin 60) r (⟨l.val, by omega⟩ : Fin 256))))
              (mag (actAll (F := Ideal) c XG FQ FS SG (ix3 (⟨n, by omega⟩ : Fin 60) r (⟨128 + l.val, by omega⟩ : Fin 256))))) := by
      rw [actAll_apply c XG FQ FS SG ⟨n, hk⟩, actAll_apply c XG FQ FS SG ⟨n, hk⟩]
      unfold gact
      exact (congrFun (lanes_succ c XG FQ FS SG ⟨n, hk⟩) _).trans (lane_step _ _ _ _ _ r l)
    rw [h, max_le_iff, max_le_iff, ih (by omega)]
    constructor
    · rintro ⟨⟨h0, ht⟩, h1, h2⟩
      refine ⟨h0, fun t htn => ?_⟩
      rcases Nat.lt_succ_iff_lt_or_eq.1 htn with hl | he
      · exact ht t hl
      · have ht' : t = ⟨n, by omega⟩ := Fin.ext he
        rw [ht']
        exact ⟨h1, h2⟩
    · rintro ⟨h0, ht⟩
      exact ⟨⟨h0, fun t htn => ht t (Nat.lt_succ_of_lt htn)⟩, (ht ⟨n, by omega⟩ (Nat.lt_succ_self n)).1, (ht ⟨n, by omega⟩ (Nat.lt_succ_self n)).2⟩

/-- The kernel's maximum of a row. -/
theorem lanes_max (r : Fin 24) (z : Fin 1) :
    k0_pay35 (F := Ideal) (lanesAt c XG FQ FS SG 60) (ix2 r z) = rowMax (actAll c XG FQ FS SG) r := by
  rw [lanes_last]
  unfold rowMax
  refine fold_lanes _ (fun t q => mag (actAll (F := Ideal) c XG FQ FS SG (ix3 t r q))) (fun t q => mag_nonneg _) _ fun l e => ?_
  refine (lanes_le c XG FQ FS SG r l e 60 le_rfl).trans ?_
  exact ⟨fun h => ⟨h.1, fun t => h.2 t t.isLt⟩, fun h => ⟨h.1, fun t _ => h.2 t⟩⟩

end Lanes

/-! ## Scales and codes -/

/-- The scale of a row whose maximum is `a`. -/
def scaleAt (a : Ideal .f32) : Ideal .f32 :=
  Scalar.select (FloatOps.cmpf .oeq a (Ideal.ofBits .f32 0x00000000#32)) (Ideal.ofBits .f32 0x3F800000#32)
    (FloatOps.divf a (Ideal.ofBits .f32 0x43E00000#32))

/-- The code of the value `v` at the scale `s`. -/
def codeAt (v s : Ideal .f32) : Ideal .f32 :=
  FloatOps.minimumf (Ideal.ofBits .f32 0x43E00000#32) (FloatOps.maximumf (Ideal.ofBits .f32 0xC3E00000#32) (FloatOps.divf v s))

theorem max_apply (v : Vec Ideal S24x128 .f32) (r : Fin 24) (l : Fin 128) : k0_pay37 (F := Ideal) v (ix2 r l) = k0_pay35 (F := Ideal) v (ix2 r (0 : Fin 1)) := by
  unfold k0_pay37
  generalize k0_pay35 (F := Ideal) v = p
  pointwise

theorem scale_apply (v : Vec Ideal S24x128 .f32) (r : Fin 24) (l : Fin 128) :
    k0_pay36 (F := Ideal) v (ix2 r l) = scaleAt (k0_pay35 (F := Ideal) v (ix2 r (0 : Fin 1))) := by
  unfold k0_pay36 scaleAt
  generalize k0_pay35 (F := Ideal) v = p
  pointwise

theorem kernel_code (u w : Vec Ideal S1x24x256 .f32) (a : Vec Ideal S24x1 .f32) (r : Fin 24) (q : Fin 512) :
    k0_pay3 (F := Ideal) u w a (ix2 (⟨r.val, by omega⟩ : Fin 32) q)
      = codeAt (if h : q.val < 256 then u (ix3 (0 : Fin 1) r (⟨q.val, h⟩ : Fin 256)) else w (ix3 (0 : Fin 1) r (⟨q.val - 256, by omega⟩ : Fin 256)))
          (scaleAt (a (ix2 r (0 : Fin 1)))) := by
  unfold k0_pay3 codeAt scaleAt
  pointwise

section Reference

variable (G U T : FVec Ideal Cert.ReferenceIdeal.S24x15360 .f32) (x : Act)
  (hx : ∀ (r : Fin 24) (k : Fin 15360), Cert.ReferenceIdeal.Gen.k0_pay18 (F := Ideal) G U T (ix2 r k)
    = x (ix3 (⟨k.val / 256, by omega⟩ : Fin 60) r (⟨k.val % 256, by omega⟩ : Fin 256)))
include hx

theorem rowMax_eq (r : Fin 24) : rowMax x r
    = Finset.univ.fold max (Ideal.ofBits .f32 0xFF800000#32) (fun k : Fin 15360 => mag (Cert.ReferenceIdeal.Gen.k0_pay18 (F := Ideal) G U T (ix2 r k))) := by
  unfold rowMax
  refine congrArg (Finset.univ.fold max _) (funext fun k => ?_)
  rw [hx]

theorem reference_scale (r : Fin 24) : Cert.ReferenceIdeal.Gen.k0_pay19 (F := Ideal) G U T (ix1 r) = scaleAt (rowMax x r) := by
  rw [rowMax_eq G U T x hx]
  unfold Cert.ReferenceIdeal.Gen.k0_pay19 scaleAt mag
  generalize Cert.ReferenceIdeal.Gen.k0_pay18 (F := Ideal) G U T = n
  pointwise

theorem reference_code (r : Fin 24) (k : Fin 15360) :
    Cert.ReferenceIdeal.Gen.k0_pay20 (F := Ideal) G U T (ix2 r k)
      = codeAt (x (ix3 (⟨k.val / 256, by omega⟩ : Fin 60) r (⟨k.val % 256, by omega⟩ : Fin 256))) (scaleAt (rowMax x r)) := by
  rw [← reference_scale G U T x hx, ← hx]
  unfold Cert.ReferenceIdeal.Gen.k0_pay20 codeAt
  generalize Cert.ReferenceIdeal.Gen.k0_pay19 (F := Ideal) G U T = p
  generalize Cert.ReferenceIdeal.Gen.k0_pay18 (F := Ideal) G U T = n
  pointwise

end Reference

end Cert.Proof.Values
end
-- ==== Proof.Dot.lean ====
/-
  The kernel's codes of the activation and its accumulated product, read at an index: the codes are the reference's, and the
  thirty products of 512 columns add up to the one product of 15360.
-/
module

public import proofs.«01_k».proof.Proof.RowMax

@[expose] public section

set_option maxRecDepth 16384

noncomputable section

namespace Cert.Proof.Values

open Cert.KernelIdeal Cert.KernelIdeal.Gen Cert.Proof.KernelIdeal
open Idealize.ShloMosaic Idealize.ShloMosaic.TcCoe

variable (c : Dev nD) (x : Act) (gm : Vec Ideal S24x128 .f32)

/-- Column `i` of row `r` of the activation. -/
def colAt (r : Fin 24) (i : ℕ) : Ideal .f32 :=
  if h : i < 15360 then x (ix3 (⟨i / 256, by omega⟩ : Fin 60) r (⟨i % 256, by omega⟩ : Fin 256)) else 0
/-- Its code. -/
def codeOf (r : Fin 24) (i : ℕ) : Ideal .f32 := codeAt (colAt x r i) (scaleAt (rowMax x r))

theorem max_first (r : Fin 24) (z : Fin 1) :
    amax.view.readAt (Elt Ideal) (Rect.unit (s := S24x128) ![0, 0] S24x1.size inb_S24x128_S24x1_0_0).toLoadRect gm (ix2 r z) = gm (ix2 r (0 : Fin 128)) := by
  refine congrArg gm (funext fun a => Fin.ext ?_)
  match a with
  | ⟨0, _⟩ => show 0 + 1 * r.val = r.val; omega
  | ⟨1, _⟩ => show 0 + 1 * z.val = 0; omega

theorem tile_read (o : ℕ) (ho : o < 60) (off : Fin 3 → ℕ) (e : off = ![o, 0, 0]) (inb) (r : Fin 24) (q : Fin 256) :
    actV.view.readAt (Elt Ideal) (Rect.unit (s := S60x24x256) off S1x24x256.size inb).toLoadRect x (ix3 (0 : Fin 1) r q)
      = x (ix3 (⟨o, ho⟩ : Fin 60) r q) := by
  subst e
  refine congrArg x (funext fun a => Fin.ext ?_)
  match a with
  | ⟨0, _⟩ => show o + 1 * 0 = o; omega
  | ⟨1, _⟩ => show 0 + 1 * r.val = r.val; omega
  | ⟨2, _⟩ => show 0 + 1 * q.val = q.val; omega

section Max

variable (hgm : ∀ r : Fin 24, gm (ix2 r (0 : Fin 128)) = rowMax x r)
include hgm

theorem codes_apply (k : Fin k0_t3_loop.trips) (r : Fin 24) (q : Fin 512) :
    codes (F := Ideal) c x gm k (ix2 (⟨r.val, by omega⟩ : Fin 32) q) = codeOf x r (512 * k.val + q.val) := by
  have hk : k.val < 30 := trips_eq ▸ k.isLt
  unfold codes codeOf
  rw [kernel_code, max_first, hgm]
  congr 1
  unfold colAt
  rw [dif_pos (show 512 * k.val + q.val < 15360 by omega)]
  split
  · rename_i h
    rw [tile_read x (2 * k.val) (by omega) _ (off3_eq k)]
    congr 2 <;> exact Fin.ext (by first | (show 2 * k.val = (512 * k.val + q.val) / 256; omega) | (show q.val = (512 * k.val + q.val) % 256; omega))
  · rename_i h
    rw [tile_read x (2 * k.val + 1) (by omega) _ (off4_eq k)]
    congr 2 <;> exact Fin.ext (by first | (show 2 * k.val + 1 = (512 * k.val + q.val) / 256; omega) | (show q.val - 256 = (512 * k.val + q.val) % 256; omega))

end Max

variable (XW : Buf (Elt Ideal) (wM.view.loc (c : Thread nD τ)))

/-- Row `i` of column `j` of the weight. -/
def wAt (W : Vec Ideal S15360x3840 .fp8e4m3) (i : ℕ) (j : Fin 3840) : Ideal .fp8e4m3 :=
  if h : i < 15360 then W (ix2 (⟨i, h⟩ : Fin 15360) j) else 0

/-- The product's term at column `i` of row `r` and row `i` of column `j`. -/
def termAt (W : Vec Ideal S15360x3840 .fp8e4m3) (r : Fin 24) (j : Fin 3840) (i : ℕ) : EReal :=
  let u : EReal := codeOf x r i
  let w : EReal := wAt W i j
  u * w

theorem slab_apply (k : ℕ) (hk : k < 30) (q : Fin 512) (j : Fin 3840) :
    slab c XW k (ix3 (0 : Fin 1) q j) = wAt XW (512 * k + q.val) j := by
  have e : slab c XW k (ix3 (0 : Fin 1) q j) = payload c XW (Ring.bk 30 k) (ix2 q j) := by
    unfold slab
    generalize payload c XW (Ring.bk 30 k) = p
    pointwise
  rw [e]
  unfold wAt
  rw [dif_pos (show 512 * k + q.val < 15360 by omega)]
  refine congrArg XW ?_
  funext a
  apply Fin.ext
  match a with
  | ⟨0, _⟩ => show 512 * (Ring.bk 30 k).val + 1 * q.val = 512 * k + q.val; rw [Ring.bk_val hk]; omega
  | ⟨1, _⟩ => show 0 + 1 * j.val = j.val; omega

/-- One trip's accumulator entry. -/
def prodAt (u : S32x512.Idx → EReal) (v : S32x3840.Idx → EReal) (w : S1x512x3840.Idx → EReal) (r : Fin 32) (j : Fin 3840) : EReal :=
  v (ix2 r j) + ∑ q : Fin 512, u (ix2 r q) * w (ix3 (0 : Fin 1) q j)

theorem step_apply (u : FVec Ideal S32x512 .fp8e4m3) (v : Vec Ideal S32x3840 .f32) (w : Vec Ideal S1x512x3840 .fp8e4m3) (r : Fin 32) (j : Fin 3840) :
    k0_pay39 (F := Ideal) u v w (ix2 r j) = prodAt u v w r j := by
  unfold k0_pay39 prodAt
  pointwise

theorem acc_apply (hgm : ∀ r : Fin 24, gm (ix2 r (0 : Fin 128)) = rowMax x r) (r : Fin 24) (j : Fin 3840) (n : ℕ) (hn : n ≤ 30) :
    acc c XW x gm n (ix2 (⟨r.val, by omega⟩ : Fin 32) j) = ∑ i ∈ Finset.range (512 * n), termAt x XW r j i := by
  induction n with
  | zero =>
    show k0_pay38 (F := Ideal) _ = _
    unfold k0_pay38
    pointwise
    rfl
  | succ n ih =>
    have hn' : n < k0_t3_loop.trips := by rw [trips_eq]; omega
    rw [acc_succ c XW x gm ⟨n, hn'⟩, step_apply, prodAt, ih (by omega), Nat.mul_succ, Finset.sum_range_add]
    refine congrArg ((∑ i ∈ Finset.range (512 * n), termAt x XW r j i) + ·) ?_
    rw [Finset.sum_range]
    refine Finset.sum_congr rfl fun q _ => ?_
    rw [codes_apply c x gm hgm ⟨n, hn'⟩ r q, slab_apply c XW n (by omega) q j]
    rfl

end Cert.Proof.Values
end
-- ==== Proof.Results.lean ====
/-
  The results of the kernel after the output projection are those of the reference, as functions of the residual that feeds
  the feed-forward block.
-/
module

public import proofs.«01_k».proof.Proof.Dot

@[expose] public section

set_option maxRecDepth 16384

noncomputable section

namespace Cert.Proof.Values

open Cert.KernelIdeal Cert.KernelIdeal.Gen Cert.Proof.KernelIdeal
open Idealize.ShloMosaic Idealize.ShloMosaic.TcCoe

variable (c : Dev nD) (r1 r2 r3 : FVec Ideal S24x3840 .f32) (p : Vec Ideal Cert.KernelIdeal.S3840 .f32)
  (W : Vec Ideal S3840x30720 .fp8e4m3) (S : Vec Ideal Cert.KernelIdeal.S30720 .f32) (XW : Vec Ideal S15360x3840 .fp8e4m3) (s w : Vec Ideal Cert.KernelIdeal.S3840 .f32)

/-! ## The input's codes and scales -/

theorem fcodes_eq : fcOf (asRow p) r1 r2 r3 = Cert.ReferenceIdeal.Gen.k0_pay4 (F := Ideal) (rCode (resid r1 r2 r3) p) := by
  unfold Cert.ReferenceIdeal.Gen.k0_pay4
  funext i
  obtain ⟨b, r, q, rfl⟩ : ∃ (b : Fin 6) (r : Fin 4) (q : Fin 3840), i = ix3 b r q := ⟨i 0, i 1, i 2, eq_ix3 i⟩
  have h := feed_code r1 r2 r3 p (⟨b.val * 4 + r.val, by omega⟩ : Fin 24) q
  unfold fcOf fpad
  generalize k0_pay21 (F := Ideal) r1 r2 r3 (asRow p) = u at h ⊢
  generalize Cert.ReferenceIdeal.Gen.k0_pay13 (F := Ideal) (resid r1 r2 r3) p (sumSq (resid r1 r2 r3)) len = v at h ⊢
  pointwise
  refine Eq.trans (congrArg u (funext fun a => Fin.ext ?_)) h
  match a with
  | ⟨0, _⟩ => show 4 * b.val + r.val = b.val * 4 + r.val; omega
  | ⟨1, _⟩ => rfl

theorem fscales_eq : fsOut (asRow p) r1 r2 r3 = Cert.ReferenceIdeal.Gen.k0_pay5 (F := Ideal) (rScale (resid r1 r2 r3) p) := by
  funext i
  obtain ⟨r, l, rfl⟩ : ∃ (r : Fin 24) (l : Fin 128), i = ix2 r l := ⟨i 0, i 1, eq_ix2 i⟩
  refine (fs_apply r1 r2 r3 p r l).trans ?_
  unfold rScale Cert.ReferenceIdeal.Gen.k0_pay5
  generalize Cert.ReferenceIdeal.Gen.k0_pay12 (F := Ideal) (resid r1 r2 r3) p (sumSq (resid r1 r2 r3)) len = v
  pointwise

/-! ## The activation's codes and scales -/

/-- The activation the kernel computes. -/
abbrev act : Act := actOf c W (asRow p) (asRowG S) r1 r2 r3
/-- The reference's activation is the kernel's. -/
theorem act_eq (r : Fin 24) (k : Fin 15360) :
    Cert.ReferenceIdeal.Gen.k0_pay18 (F := Ideal) (refG (resid r1 r2 r3) p W S) (refU (resid r1 r2 r3) p W S) (refT (resid r1 r2 r3) p W S) (ix2 r k)
      = act c r1 r2 r3 p W S (ix3 (⟨k.val / 256, by omega⟩ : Fin 60) r (⟨k.val % 256, by omega⟩ : Fin 256)) := by
  have ht : k.val / 256 < k0_t2_loop.trips := by rw [trips1_eq]; omega
  refine Eq.trans ?_ ((gact_apply c r1 r2 r3 p W S ⟨k.val / 256, ht⟩ r ⟨k.val % 256, by omega⟩).symm.trans
    (actAll_apply c W _ _ _ ⟨k.val / 256, ht⟩ r ⟨k.val % 256, by omega⟩).symm)
  refine congrArg (fun i => Cert.ReferenceIdeal.Gen.k0_pay18 (F := Ideal) (refG (resid r1 r2 r3) p W S) (refU (resid r1 r2 r3) p W S) (refT (resid r1 r2 r3) p W S) (ix2 r i)) (Fin.ext ?_)
  show k.val = 256 * (k.val / 256) + k.val % 256
  omega

theorem gm_apply (r : Fin 24) (l : Fin 128) : gmOf c W (asRow p) (asRowG S) r1 r2 r3 (ix2 r l) = rowMax (act c r1 r2 r3 p W S) r := by
  unfold gmOf
  rw [max_apply]
  exact lanes_max c W _ _ _ r 0

theorem scl_apply (r : Fin 24) (l : Fin 128) : sclOf c W (asRow p) (asRowG S) r1 r2 r3 (ix2 r l) = scaleAt (rowMax (act c r1 r2 r3 p W S) r) := by
  unfold sclOf
  rw [scale_apply]
  exact congrArg scaleAt (lanes_max c W _ _ _ r 0)

/-- The codes. -/
theorem codes_eq : codOf c W (asRow p) (asRowG S) r1 r2 r3 = Cert.ReferenceIdeal.Gen.k0_pay6 (F := Ideal) (Cert.ReferenceIdeal.Gen.k0_pay20 (refG (resid r1 r2 r3) p W S) (refU (resid r1 r2 r3) p W S) (refT (resid r1 r2 r3) p W S)) := by
  funext i
  obtain ⟨b, r, q, rfl⟩ : ∃ (b : Fin 6) (r : Fin 4) (q : Fin 15360), i = ix3 b r q := ⟨i 0, i 1, i 2, eq_ix3 i⟩
  have hr := reference_code (refG (resid r1 r2 r3) p W S) (refU (resid r1 r2 r3) p W S) (refT (resid r1 r2 r3) p W S) (act c r1 r2 r3 p W S) (act_eq c r1 r2 r3 p W S) (⟨b.val * 4 + r.val, by omega⟩ : Fin 24) q
  unfold Cert.ReferenceIdeal.Gen.k0_pay6
  generalize Cert.ReferenceIdeal.Gen.k0_pay20 (F := Ideal) (refG (resid r1 r2 r3) p W S) (refU (resid r1 r2 r3) p W S) (refT (resid r1 r2 r3) p W S) = v at hr ⊢
  pointwise
  refine Eq.trans ?_ hr.symm
  unfold codOf codesAll
  have hq : q.val < 15360 := q.isLt
  refine (congrArg (codes c _ _ _) (?_ : _ = ix2 (⟨b.val * 4 + r.val, by omega⟩ : Fin 32) (⟨q.val % 512, by omega⟩ : Fin 512))).trans ?_
  · funext a
    apply Fin.ext
    match a with
    | ⟨0, _⟩ => show 4 * b.val + r.val = b.val * 4 + r.val; omega
    | ⟨1, _⟩ => rfl
  refine (codes_apply c (act c r1 r2 r3 p W S) _ (fun r => gm_apply c r1 r2 r3 p W S r 0) _ (⟨b.val * 4 + r.val, by omega⟩ : Fin 24) (⟨q.val % 512, by omega⟩ : Fin 512)).trans ?_
  have e : 512 * (q.val / 512) + q.val % 512 = q.val := by omega
  show codeOf _ _ (512 * (q.val / 512) + q.val % 512) = _
  rw [e]
  unfold codeOf colAt
  rw [dif_pos hq]

/-- The scales, in all lanes. -/
theorem scales_eq : sclOf c W (asRow p) (asRowG S) r1 r2 r3 = Cert.ReferenceIdeal.Gen.k0_pay7 (F := Ideal) (Cert.ReferenceIdeal.Gen.k0_pay19 (refG (resid r1 r2 r3) p W S) (refU (resid r1 r2 r3) p W S) (refT (resid r1 r2 r3) p W S)) := by
  funext i
  obtain ⟨r, l, rfl⟩ : ∃ (r : Fin 24) (l : Fin 128), i = ix2 r l := ⟨i 0, i 1, eq_ix2 i⟩
  refine (scl_apply c r1 r2 r3 p W S r l).trans ?_
  rw [← reference_scale (refG (resid r1 r2 r3) p W S) (refU (resid r1 r2 r3) p W S) (refT (resid r1 r2 r3) p W S) _ (act_eq c r1 r2 r3 p W S) r]
  unfold Cert.ReferenceIdeal.Gen.k0_pay7
  generalize Cert.ReferenceIdeal.Gen.k0_pay19 (F := Ideal) (refG (resid r1 r2 r3) p W S) (refU (resid r1 r2 r3) p W S) (refT (resid r1 r2 r3) p W S) = v
  pointwise

/-! ## The down projection and the hidden state -/

theorem acc_first (r : Fin 24) (j : Fin 3840) :
    v75Of c XW W (asRow p) (asRowG S) r1 r2 r3 (ix2 r j) = ∑ i ∈ Finset.range 15360, termAt (act c r1 r2 r3 p W S) XW r j i := by
  refine Eq.trans ?_ (acc_apply c (act c r1 r2 r3 p W S) (gmOf c W (asRow p) (asRowG S) r1 r2 r3) XW (fun r => gm_apply c r1 r2 r3 p W S r 0) r j 30 le_rfl)
  unfold v75Of accF
  generalize acc c XW (act c r1 r2 r3 p W S) (gmOf c W (asRow p) (asRowG S) r1 r2 r3) 30 = f
  refine congrArg f (funext fun a => Fin.ext ?_)
  match a with
  | ⟨0, _⟩ => show 0 + 1 * r.val = r.val; omega
  | ⟨1, _⟩ => show 0 + 1 * j.val = j.val; omega

theorem scl_first (r : Fin 24) (z : Fin 1) : v76Of c W (asRow p) (asRowG S) r1 r2 r3 (ix2 r z) = scaleAt (rowMax (act c r1 r2 r3 p W S) r) := by
  have h := scl_apply c r1 r2 r3 p W S r 0
  unfold v76Of
  generalize sclOf c W (asRow p) (asRowG S) r1 r2 r3 = f at h ⊢
  refine (congrArg f (funext fun a => Fin.ext ?_)).trans h
  match a with
  | ⟨0, _⟩ => show 0 + 1 * r.val = r.val; omega
  | ⟨1, _⟩ => show 0 + 1 * z.val = 0; omega

/-- The reference's product at an index. -/
theorem reference_down (r : Fin 24) (j : Fin 3840) :
    Cert.ReferenceIdeal.Gen.k0_pay21 (F := Ideal) (refG (resid r1 r2 r3) p W S) (refU (resid r1 r2 r3) p W S) (refT (resid r1 r2 r3) p W S) XW s (ix2 r j)
      = FloatOps.mulf (FloatOps.mulf (F := Ideal) (φ := .f32) (∑ i ∈ Finset.range 15360, termAt (act c r1 r2 r3 p W S) XW r j i : EReal)
          (scaleAt (rowMax (act c r1 r2 r3 p W S) r))) (s (ix1 j)) := by
  have h : ∀ i : Fin 15360, termAt (act c r1 r2 r3 p W S) XW r j i.val
      = (show EReal from Cert.ReferenceIdeal.Gen.k0_pay20 (F := Ideal) (refG (resid r1 r2 r3) p W S) (refU (resid r1 r2 r3) p W S) (refT (resid r1 r2 r3) p W S) (ix2 r i)) * (show EReal from XW (ix2 i j)) := by
    intro i
    rw [reference_code (refG (resid r1 r2 r3) p W S) (refU (resid r1 r2 r3) p W S) (refT (resid r1 r2 r3) p W S) _ (act_eq c r1 r2 r3 p W S)]
    unfold termAt codeOf colAt wAt
    rw [dif_pos i.isLt, dif_pos i.isLt]
  rw [← reference_scale (refG (resid r1 r2 r3) p W S) (refU (resid r1 r2 r3) p W S) (refT (resid r1 r2 r3) p W S) _ (act_eq c r1 r2 r3 p W S) r, Finset.sum_range, Finset.sum_congr rfl fun i _ => h i]
  unfold Cert.ReferenceIdeal.Gen.k0_pay21
  generalize Cert.ReferenceIdeal.Gen.k0_pay19 (F := Ideal) (refG (resid r1 r2 r3) p W S) (refU (resid r1 r2 r3) p W S) (refT (resid r1 r2 r3) p W S) = a
  generalize Cert.ReferenceIdeal.Gen.k0_pay20 (F := Ideal) (refG (resid r1 r2 r3) p W S) (refU (resid r1 r2 r3) p W S) (refT (resid r1 r2 r3) p W S) = t
  pointwise

/-- The down projection, before its rows are regrouped. -/
theorem down_eq : k0_pay40 (v75Of c XW W (asRow p) (asRowG S) r1 r2 r3) (v76Of c W (asRow p) (asRowG S) r1 r2 r3) (asRow s)
    = Cert.ReferenceIdeal.Gen.k0_pay21 (F := Ideal) (refG (resid r1 r2 r3) p W S) (refU (resid r1 r2 r3) p W S) (refT (resid r1 r2 r3) p W S) XW s := by
  funext i
  obtain ⟨r, j, rfl⟩ : ∃ (r : Fin 24) (j : Fin 3840), i = ix2 r j := ⟨i 0, i 1, eq_ix2 i⟩
  rw [reference_down c, ← acc_first c r1 r2 r3 p W S XW r j, ← scl_first c r1 r2 r3 p W S r 0]
  unfold k0_pay40 asRow
  generalize v75Of c XW W _ _ r1 r2 r3 = a
  generalize v76Of c W _ _ r1 r2 r3 = b
  pointwise

theorem d_eq : dOf c XW W (asRow p) (asRowG S) (asRow s) r1 r2 r3 = Cert.ReferenceIdeal.Gen.k0_pay3 (F := Ideal) (Cert.ReferenceIdeal.Gen.k0_pay21 (refG (resid r1 r2 r3) p W S) (refU (resid r1 r2 r3) p W S) (refT (resid r1 r2 r3) p W S) XW s) := by
  unfold dOf k0_pay41
  rw [down_eq]
  unfold Cert.ReferenceIdeal.Gen.k0_pay3
  generalize Cert.ReferenceIdeal.Gen.k0_pay21 (F := Ideal) (refG (resid r1 r2 r3) p W S) (refU (resid r1 r2 r3) p W S) (refT (resid r1 r2 r3) p W S) XW s = v
  exact shapeCast_id _ _

theorem hid_eq : hidOf c XW W (asRow p) (asRowG S) (asRow s) (asRow w) r1 r2 r3 = Cert.ReferenceIdeal.Gen.k0_pay1 (F := Ideal) (resid r1 r2 r3) w (Cert.ReferenceIdeal.Gen.k0_pay22 (refG (resid r1 r2 r3) p W S) (refU (resid r1 r2 r3) p W S) (refT (resid r1 r2 r3) p W S) XW s) (Scalar.ofBits .f32 0x3F800000#32) := by
  have h18 : k0_pay18 (F := Ideal) r1 r2 r3 = resid r1 r2 r3 := shapeCast_id _ _
  unfold hidOf k0_pay42
  rw [down_eq, h18]
  unfold Cert.ReferenceIdeal.Gen.k0_pay22 Cert.ReferenceIdeal.Gen.k0_pay1 asRow
  generalize Cert.ReferenceIdeal.Gen.k0_pay21 (F := Ideal) (refG (resid r1 r2 r3) p W S) (refU (resid r1 r2 r3) p W S) (refT (resid r1 r2 r3) p W S) XW s = v
  generalize resid r1 r2 r3 = y
  funext i
  idx_vars i
  pointwise

end Cert.Proof.Values
end
-- ==== Proof.Equation.lean ====
/-
  The kernel's run at the ideal instance, with its seven results named by the reference's functions of the argument arrays.
-/
module

public import proofs.«01_k».proof.Proof.Results
public import proofs.«01_k».proof.Proof.KernelIdeal.Run
public import Idealize.ShloMosaic.Lib.Claim

@[expose] public section

set_option maxRecDepth 16384

noncomputable section

namespace Cert.Proof.Values

open Cert.KernelIdeal Cert.KernelIdeal.Gen Cert.Proof.KernelIdeal
open Idealize.ShloMosaic Idealize.ShloMosaic.TcCoe Idealize.ShloMosaic.Tactic

variable (m : (ℓ : Loc nD τ sig) → Buf (Elt Ideal) ℓ) (c : Dev nD)

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- The input's block is the whole input; -/
theorem block0 (t : Fin cfg0.N) : Gen.iblk m c 0 t = m ((c : Thread nD τ).loc main_arg0) := by
  rw [← V_main_arg0 m c]
  funext j
  refine congrArg (V m c main_arg0) (?_ : ((cfg0.win 0).blk t).view.emb j = j)
  obtain ⟨e0, e1, e2⟩ := idx_zero0 t
  funext a; apply Fin.ext
  match a with
  | ⟨0, _⟩ => show win0_0.index t (0 : Fin 3) * 6 + 1 * (j 0).val = (j 0).val; omega
  | ⟨1, _⟩ => show win0_0.index t (1 : Fin 3) * 4 + 1 * (j 1).val = (j 1).val; omega
  | ⟨2, _⟩ => show win0_0.index t (2 : Fin 3) * 3840 + 1 * (j 2).val = (j 2).val; omega

theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- the attention's codes' likewise, -/
theorem block1 (t : Fin cfg0.N) : Gen.iblk m c 1 t = m ((c : Thread nD τ).loc main_arg1) := by
  rw [← V_main_arg1 m c]
  funext j
  refine congrArg (V m c main_arg1) (?_ : ((cfg0.win 1).blk t).view.emb j = j)
  obtain ⟨e0, e1, e2⟩ := idx_zero1 t
  funext a; apply Fin.ext
  match a with
  | ⟨0, _⟩ => show win0_1.index t (0 : Fin 3) * 8 + 1 * (j 0).val = (j 0).val; omega
  | ⟨1, _⟩ => show win0_1.index t (1 : Fin 3) * 32 + 1 * (j 1).val = (j 1).val; omega
  | ⟨2, _⟩ => show win0_1.index t (2 : Fin 3) * 512 + 1 * (j 2).val = (j 2).val; omega

theorem idx_zero2 : ∀ t : Fin cfg0.N, win0_2.index t (0 : Fin 2) = 0 ∧ win0_2.index t (1 : Fin 2) = 0 :=
  (by decide +kernel : ∀ t : Fin grid0.N, _)

/-- and their scales'. -/
theorem block2 (t : Fin cfg0.N) : Gen.iblk m c 2 t = m ((c : Thread nD τ).loc main_arg2) := by
  rw [← V_main_arg2 m c]
  funext j
  refine congrArg (V m c main_arg2) (?_ : ((cfg0.win 2).blk t).view.emb j = j)
  obtain ⟨e0, e1⟩ := idx_zero2 t
  funext a; apply Fin.ext
  match a with
  | ⟨0, _⟩ => show win0_2.index t (0 : Fin 2) * 24 + 1 * (j 0).val = (j 0).val; omega
  | ⟨1, _⟩ => show win0_2.index t (1 : Fin 2) * 128 + 1 * (j 1).val = (j 1).val; omega

/-- The vectors reshaped to one row on the host: the scales of the output projection's columns, -/
theorem row_0 : XBm m c = asRow (m ((c : Thread nD τ).loc main_arg4)) := by
  funext i
  obtain ⟨z, j, rfl⟩ : ∃ (z : Fin 1) (j : Fin 3840), i = ix2 z j := ⟨i 0, i 1, eq_ix2 i⟩
  show Gen.V m c main_v0 (ix2 z j) = _
  entry_read
  unfold asRow
  pointwise
/-- the first norm's weight, -/
theorem row_1 : XNm m c = asRow (m ((c : Thread nD τ).loc main_arg5)) := by
  funext i
  obtain ⟨z, j, rfl⟩ : ∃ (z : Fin 1) (j : Fin 3840), i = ix2 z j := ⟨i 0, i 1, eq_ix2 i⟩
  show Gen.V m c main_v1 (ix2 z j) = _
  entry_read
  unfold asRow
  pointwise
/-- the second norm's, -/
theorem row_2 : XFm m c = asRow (m ((c : Thread nD τ).loc main_arg6)) := by
  funext i
  obtain ⟨z, j, rfl⟩ : ∃ (z : Fin 1) (j : Fin 3840), i = ix2 z j := ⟨i 0, i 1, eq_ix2 i⟩
  show Gen.V m c main_v2 (ix2 z j) = _
  entry_read
  unfold asRow
  pointwise
/-- the scales of the gate and up columns, -/
theorem row_3 : XQm m c = asRowG (m ((c : Thread nD τ).loc main_arg8)) := by
  funext i
  obtain ⟨z, j, rfl⟩ : ∃ (z : Fin 1) (j : Fin 30720), i = ix2 z j := ⟨i 0, i 1, eq_ix2 i⟩
  show Gen.V m c main_v3 (ix2 z j) = _
  entry_read
  unfold asRowG
  pointwise
/-- the scales of the down projection's columns, -/
theorem row_4 : XSm m c = asRow (m ((c : Thread nD τ).loc main_arg10)) := by
  funext i
  obtain ⟨z, j, rfl⟩ : ∃ (z : Fin 1) (j : Fin 3840), i = ix2 z j := ⟨i 0, i 1, eq_ix2 i⟩
  show Gen.V m c main_v4 (ix2 z j) = _
  entry_read
  unfold asRow
  pointwise
/-- and the last norm's weight. -/
theorem row_5 : XPm m c = asRow (m ((c : Thread nD τ).loc main_arg11)) := by
  funext i
  obtain ⟨z, j, rfl⟩ : ∃ (z : Fin 1) (j : Fin 3840), i = ix2 z j := ⟨i 0, i 1, eq_ix2 i⟩
  show Gen.V m c main_v5 (ix2 z j) = _
  entry_read
  unfold asRow
  pointwise

/-- The argument arrays. -/
abbrev a0 : Vec Ideal S6x4x3840 .bf16 := m ((c : Thread nD τ).loc main_arg0)
abbrev a1 : Vec Ideal S8x32x512 .fp8e4m3 := m ((c : Thread nD τ).loc main_arg1)
abbrev a2 : Vec Ideal S24x128 .f32 := m ((c : Thread nD τ).loc main_arg2)
abbrev a3 : Vec Ideal S4096x3840 .fp8e4m3 := m ((c : Thread nD τ).loc main_arg3)
abbrev a4 : Vec Ideal Cert.KernelIdeal.S3840 .f32 := m ((c : Thread nD τ).loc main_arg4)
abbrev a5 : Vec Ideal Cert.KernelIdeal.S3840 .f32 := m ((c : Thread nD τ).loc main_arg5)
abbrev a6 : Vec Ideal Cert.KernelIdeal.S3840 .f32 := m ((c : Thread nD τ).loc main_arg6)
abbrev a7 : Vec Ideal S3840x30720 .fp8e4m3 := m ((c : Thread nD τ).loc main_arg7)
abbrev a8 : Vec Ideal Cert.KernelIdeal.S30720 .f32 := m ((c : Thread nD τ).loc main_arg8)
abbrev a9 : Vec Ideal S15360x3840 .fp8e4m3 := m ((c : Thread nD τ).loc main_arg9)
abbrev a10 : Vec Ideal Cert.KernelIdeal.S3840 .f32 := m ((c : Thread nD τ).loc main_arg10)
abbrev a11 : Vec Ideal Cert.KernelIdeal.S3840 .f32 := m ((c : Thread nD τ).loc main_arg11)

/-- The weights' contents at the kernel's start, and the staged blocks in their places. -/
theorem wo_eq : XOm m c = a3 m c := V_main_arg3 m c
theorem gu_eq : XGm m c = a7 m c := V_main_arg7 m c
theorem dn_eq : XWm m c = a9 m c := V_main_arg9 m c
theorem stage0 : gR m c t0_0 = stX c (st0 t0_0) (a0 m c) := congrArg (st0 t0_0).view.rep (block0 m c t0_0)
theorem stage1 : gA m c t0_0 = stZ c (st1 t0_0) (a1 m c) := congrArg (st1 t0_0).view.rep (block1 m c t0_0)
theorem stage2 : gS m c t0_0 = stT c (st2 t0_0) (a2 m c) := congrArg (st2 t0_0).view.rep (block2 m c t0_0)

/-- The residual is the reference's, of the argument arrays. -/
theorem residual : resid (r1m m c) (r2m m c) (r3m m c)
    = Cert.ReferenceIdeal.Gen.k0_pay9 (F := Ideal) (a1 m c) (a2 m c) (a3 m c) (a4 m c) (a0 m c) (a5 m c) := by
  unfold resid r1m r2m r3m
  rw [stage0, stage1, stage2, wo_eq, row_0, row_1]
  exact resid_eq c (st0 t0_0) (st1 t0_0) (st2 t0_0) (a0 m c) (a1 m c) (a2 m c) (a3 m c) (a4 m c) (a5 m c)

/-- So are its rows' sums of squares. -/
theorem squares : sumSq (Cert.ReferenceIdeal.Gen.k0_pay9 (F := Ideal) (a1 m c) (a2 m c) (a3 m c) (a4 m c) (a0 m c) (a5 m c))
    = Cert.ReferenceIdeal.Gen.k0_pay10 (F := Ideal) (a1 m c) (a2 m c) (a3 m c) (a4 m c) (a0 m c) (a5 m c) := by
  unfold sumSq Cert.ReferenceIdeal.Gen.k0_pay10
  rfl

theorem oR_eq : oR m c = Cert.Proof.Reference.G13 (a0 m c) (a1 m c) (a2 m c) (a3 m c) (a4 m c) (a5 m c) (a6 m c) (a7 m c) (a8 m c) (a9 m c) (a10 m c) (a11 m c) := by
  unfold oR
  rw [stage1, stage2, wo_eq, row_0]
  exact oOf_eq c (st1 t0_0) (st2 t0_0) (a1 m c) (a2 m c) (a3 m c) (a4 m c)

theorem hidR_eq : hidR m c = Cert.Proof.Reference.G12 (a0 m c) (a1 m c) (a2 m c) (a3 m c) (a4 m c) (a5 m c) (a6 m c) (a7 m c) (a8 m c) (a9 m c) (a10 m c) (a11 m c) := by
  unfold hidR
  rw [row_2, row_3, gu_eq, row_4, dn_eq, row_5]
  refine (hid_eq c (r1m m c) (r2m m c) (r3m m c) (a6 m c) (a7 m c) (a8 m c) (a9 m c) (a10 m c) (a11 m c)).trans ?_
  unfold refG refU refT Cert.Proof.Reference.G12
  rw [residual, squares]

theorem dR_eq : dR m c = Cert.Proof.Reference.G14 (a0 m c) (a1 m c) (a2 m c) (a3 m c) (a4 m c) (a5 m c) (a6 m c) (a7 m c) (a8 m c) (a9 m c) (a10 m c) (a11 m c) := by
  unfold dR
  rw [row_2, row_3, gu_eq, row_4, dn_eq]
  refine (d_eq c (r1m m c) (r2m m c) (r3m m c) (a6 m c) (a7 m c) (a8 m c) (a9 m c) (a10 m c)).trans ?_
  unfold refG refU refT Cert.Proof.Reference.G14
  rw [residual, squares]

theorem fcR_eq : fcR m c = Cert.Proof.Reference.G15 (a0 m c) (a1 m c) (a2 m c) (a3 m c) (a4 m c) (a5 m c) (a6 m c) (a7 m c) (a8 m c) (a9 m c) (a10 m c) (a11 m c) := by
  unfold fcR
  rw [row_2]
  refine (fcodes_eq (r1m m c) (r2m m c) (r3m m c) (a6 m c)).trans ?_
  unfold rCode Cert.Proof.Reference.G15
  rw [residual, squares]

theorem fsR_eq : fsR m c = Cert.Proof.Reference.G16 (a0 m c) (a1 m c) (a2 m c) (a3 m c) (a4 m c) (a5 m c) (a6 m c) (a7 m c) (a8 m c) (a9 m c) (a10 m c) (a11 m c) := by
  unfold fsR
  rw [row_2]
  refine (fscales_eq (r1m m c) (r2m m c) (r3m m c) (a6 m c)).trans ?_
  unfold rScale Cert.Proof.Reference.G16
  rw [residual, squares]

theorem codR_eq : codR m c = Cert.Proof.Reference.G17 (a0 m c) (a1 m c) (a2 m c) (a3 m c) (a4 m c) (a5 m c) (a6 m c) (a7 m c) (a8 m c) (a9 m c) (a10 m c) (a11 m c) := by
  unfold codR
  rw [row_2, row_3, gu_eq]
  refine (codes_eq c (r1m m c) (r2m m c) (r3m m c) (a6 m c) (a7 m c) (a8 m c)).trans ?_
  unfold refG refU refT Cert.Proof.Reference.G17
  rw [residual, squares]

theorem sclR_eq : sclR m c = Cert.Proof.Reference.G18 (a0 m c) (a1 m c) (a2 m c) (a3 m c) (a4 m c) (a5 m c) (a6 m c) (a7 m c) (a8 m c) (a9 m c) (a10 m c) (a11 m c) := by
  unfold sclR
  rw [row_2, row_3, gu_eq]
  refine (scales_eq c (r1m m c) (r2m m c) (r3m m c) (a6 m c) (a7 m c) (a8 m c)).trans ?_
  unfold refG refU refT Cert.Proof.Reference.G18
  rw [residual, squares]

end Cert.Proof.Values
end
-- ==== Proof.lean ====
/-
  The claim, from the runs: the kernel as written and at the ideal instance, the reference, and the equations between
  their results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.Run
public import proofs.«01_k».proof.Proof.RefRun
public import proofs.«01_k».proof.Proof.Equation

@[expose] public section

noncomputable section

namespace Cert.Proof

open Idealize.ShloMosaic Idealize.SL.Sem

/-- The kernel runs, keeps its arguments, and ends with every semaphore at zero. -/
theorem kernel_frame : Cert.quiescent_Kernel (hKernel := Cert.Kernel.Gen.facts) := fun m g _ =>
  (θ_run _ _ _).mono (fun _ h => ⟨fun c => (h.1 c).2.2.2.2.2.2.2, h.2⟩) (Cert.Proof.Kernel.run m g)

theorem kernelIdeal_frame : Cert.quiescent_KernelIdeal (hKernelIdeal := Cert.KernelIdeal.Gen.facts) := fun m g _ =>
  (θ_run _ _ _).mono (fun _ h => ⟨fun c => (h.1 c).2.2.2.2.2.2.2, h.2⟩) (Cert.Proof.KernelIdeal.run m g)

theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.Proof.KernelIdeal.hidR m c, fun c => Cert.Proof.KernelIdeal.oR m c, fun c => Cert.Proof.KernelIdeal.dR m c,
    fun c => Cert.Proof.KernelIdeal.fcR m c, fun c => Cert.Proof.KernelIdeal.fsR m c,
    fun c => Cert.Proof.KernelIdeal.codR m c, fun c => Cert.Proof.KernelIdeal.sclR m c, ?_, ?_⟩
  · exact (θ_run _ _ _).mono (fun _ h => h.1) (Cert.Proof.KernelIdeal.run m g)
  · refine (θ_run _ _ _).mono (fun _ h c => ?_) (Cert.Proof.Reference.run m' g')
    obtain ⟨h0, h1, h2, h3, h4, h5, h6, hk⟩ := h c
    obtain ⟨e0, e1, e2, e3, e4, e5, e6, e7, e8, e9, e10, e11⟩ := hagree c
    simp only [e0, e1, e2, e3, e4, e5, e6, e7, e8, e9, e10, e11] at h0 h1 h2 h3 h4 h5 h6
    exact ⟨h0.trans (Values.hidR_eq m c).symm, h1.trans (Values.oR_eq m c).symm, h2.trans (Values.dR_eq m c).symm,
      h3.trans (Values.fcR_eq m c).symm, h4.trans (Values.fsR_eq m c).symm,
      h5.trans (Values.codR_eq m c).symm, h6.trans (Values.sclR_eq m c).symm, hk⟩

theorem claim : Cert.Claim := ⟨Cert.Kernel.Gen.facts, Cert.KernelIdeal.Gen.facts, Cert.ReferenceIdeal.Gen.facts,
  kernel_frame, kernelIdeal_frame, fun m g _ => Cert.ReferenceIdeal.Gen.frame m g, trivial, algebraic⟩

end Cert.Proof

end
